-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_gates [hPre_routed_gates : Cert.Pre_routed_gates.Facts] (m : (ℓ : Loc Cert.KernelIdeal.nD Cert.KernelIdeal.τ Cert.KernelIdeal.sig) → Buf (Elt Ideal) ℓ) : Prop :=
  ∀ c : Dev Cert.KernelIdeal.nD,
    (Cert.Pre_routed_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_gates [hPre_routed_gates : Cert.Pre_routed_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_router [hPre_finite_router : Cert.Pre_finite_router.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_router.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_router [hPre_finite_router : Cert.Pre_finite_router.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_router.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_modulation [hPre_finite_modulation : Cert.Pre_finite_modulation.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_modulation.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_modulation [hPre_finite_modulation : Cert.Pre_finite_modulation.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_modulation.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_routed_gates [hKernelIdeal : Cert.KernelIdeal.Facts] [hPre_routed_gates : Cert.Pre_routed_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routed_gates [hReferenceIdeal : Cert.ReferenceIdeal.Facts] [hPre_routed_gates : Cert.Pre_routed_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Kernel3Ideal_pre_finite_router [hKernel3Ideal : Cert.Kernel3Ideal.Facts] [hPre_finite_router : Cert.Pre_finite_router.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_router m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Reference3Ideal_pre_finite_router [hReference3Ideal : Cert.Reference3Ideal.Facts] [hPre_finite_router : Cert.Pre_finite_router.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_router m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite_modulation [hKernel4Ideal : Cert.Kernel4Ideal.Facts] [hPre_finite_modulation : Cert.Pre_finite_modulation.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_modulation m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite_modulation [hReference4Ideal : Cert.Reference4Ideal.Facts] [hPre_finite_modulation : Cert.Pre_finite_modulation.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_modulation m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal_pre_routed_gates [hKernelIdeal : Cert.KernelIdeal.Facts] [hReferenceIdeal : Cert.ReferenceIdeal.Facts] [hPre_routed_gates : Cert.Pre_routed_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v25)) (v1 : (c : Dev Cert.Kernel2Ideal.nD) → Buf (Elt Ideal) ((c.tc : Thread Cert.Kernel2Ideal.nD Cert.Kernel2Ideal.τ).loc Cert.Kernel2Ideal.main_v26)) (v2 : (c : Dev Cert.Kernel2Ideal.nD) → Buf (Elt Ideal) ((c.tc : Thread Cert.Kernel2Ideal.nD Cert.Kernel2Ideal.τ).loc Cert.Kernel2Ideal.main_v28)) (v3 : (c : Dev Cert.Kernel2Ideal.nD) → Buf (Elt Ideal) ((c.tc : Thread Cert.Kernel2Ideal.nD Cert.Kernel2Ideal.τ).loc Cert.Kernel2Ideal.main_v30)) (v4 : (c : Dev Cert.Kernel2Ideal.nD) → Buf (Elt Ideal) ((c.tc : Thread Cert.Kernel2Ideal.nD Cert.Kernel2Ideal.τ).loc Cert.Kernel2Ideal.main_v23_0)) (v5 : (c : Dev Cert.Kernel2Ideal.nD) → Buf (Elt Ideal) ((c.tc : Thread Cert.Kernel2Ideal.nD Cert.Kernel2Ideal.τ).loc Cert.Kernel2Ideal.main_v23_3)) (v6 : (c : Dev Cert.Kernel2Ideal.nD) → Buf (Elt Ideal) ((c.tc : Thread Cert.Kernel2Ideal.nD Cert.Kernel2Ideal.τ).loc Cert.Kernel2Ideal.main_v23_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25) = v0 c
          ∧ r.2.mem ((c.tc : Thread Cert.Kernel2Ideal.nD Cert.Kernel2Ideal.τ).loc Cert.Kernel2Ideal.main_v26) = v1 c
          ∧ r.2.mem ((c.tc : Thread Cert.Kernel2Ideal.nD Cert.Kernel2Ideal.τ).loc Cert.Kernel2Ideal.main_v28) = v2 c
          ∧ r.2.mem ((c.tc : Thread Cert.Kernel2Ideal.nD Cert.Kernel2Ideal.τ).loc Cert.Kernel2Ideal.main_v30) = v3 c
          ∧ r.2.mem ((c.tc : Thread Cert.Kernel2Ideal.nD Cert.Kernel2Ideal.τ).loc Cert.Kernel2Ideal.main_v23_0) = v4 c
          ∧ r.2.mem ((c.tc : Thread Cert.Kernel2Ideal.nD Cert.Kernel2Ideal.τ).loc Cert.Kernel2Ideal.main_v23_3) = v5 c
          ∧ r.2.mem ((c.tc : Thread Cert.Kernel2Ideal.nD Cert.Kernel2Ideal.τ).loc Cert.Kernel2Ideal.main_v23_4) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v125) = v0 c
          ∧ r.2.mem ((c.tc : Thread Cert.Reference2Ideal.nD Cert.Reference2Ideal.τ).loc Cert.Reference2Ideal.main_v126) = v1 c
          ∧ r.2.mem ((c.tc : Thread Cert.Reference2Ideal.nD Cert.Reference2Ideal.τ).loc Cert.Reference2Ideal.main_v127) = v2 c
          ∧ r.2.mem ((c.tc : Thread Cert.Reference2Ideal.nD Cert.Reference2Ideal.τ).loc Cert.Reference2Ideal.main_v128) = v3 c
          ∧ r.2.mem ((c.tc : Thread Cert.Reference2Ideal.nD Cert.Reference2Ideal.τ).loc Cert.Reference2Ideal.main_v133) = v4 c
          ∧ r.2.mem ((c.tc : Thread Cert.Reference2Ideal.nD Cert.Reference2Ideal.τ).loc Cert.Reference2Ideal.main_v135) = v5 c
          ∧ r.2.mem ((c.tc : Thread Cert.Reference2Ideal.nD Cert.Reference2Ideal.τ).loc Cert.Reference2Ideal.main_v139) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_router [hKernel3Ideal : Cert.Kernel3Ideal.Facts] [hReference3Ideal : Cert.Reference3Ideal.Facts] [hPre_finite_router : Cert.Pre_finite_router.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_router m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v171) = v0 c
          ∧ r.2.mem ((c.tc : Thread Cert.Reference3Ideal.nD Cert.Reference3Ideal.τ).loc Cert.Reference3Ideal.main_v172) = v1 c
          ∧ r.2.mem ((c.tc : Thread Cert.Reference3Ideal.nD Cert.Reference3Ideal.τ).loc Cert.Reference3Ideal.main_v170) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal_pre_finite_modulation [hKernel4Ideal : Cert.Kernel4Ideal.Facts] [hReference4Ideal : Cert.Reference4Ideal.Facts] [hPre_finite_modulation : Cert.Pre_finite_modulation.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_modulation m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_routed_gates : Cert.Pre_routed_gates.Facts) (hPre_finite_router : Cert.Pre_finite_router.Facts) (hPre_finite_modulation : Cert.Pre_finite_modulation.Facts),
    quiescent_Kernel (hKernel := hKernel)
    ∧ quiescent_KernelIdeal (hKernelIdeal := hKernelIdeal)
    ∧ quiescent_KernelIdeal_pre_routed_gates (hKernelIdeal := hKernelIdeal) (hPre_routed_gates := hPre_routed_gates)
    ∧ quiescent_ReferenceIdeal (hReferenceIdeal := hReferenceIdeal)
    ∧ quiescent_ReferenceIdeal_pre_routed_gates (hReferenceIdeal := hReferenceIdeal) (hPre_routed_gates := hPre_routed_gates)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_router (hKernel3Ideal := hKernel3Ideal) (hPre_finite_router := hPre_finite_router)
    ∧ quiescent_Reference3Ideal (hReference3Ideal := hReference3Ideal)
    ∧ quiescent_Reference3Ideal_pre_finite_router (hReference3Ideal := hReference3Ideal) (hPre_finite_router := hPre_finite_router)
    ∧ quiescent_Kernel4 (hKernel4 := hKernel4)
    ∧ quiescent_Kernel4Ideal (hKernel4Ideal := hKernel4Ideal)
    ∧ quiescent_Kernel4Ideal_pre_finite_modulation (hKernel4Ideal := hKernel4Ideal) (hPre_finite_modulation := hPre_finite_modulation)
    ∧ quiescent_Reference4Ideal (hReference4Ideal := hReference4Ideal)
    ∧ quiescent_Reference4Ideal_pre_finite_modulation (hReference4Ideal := hReference4Ideal) (hPre_finite_modulation := hPre_finite_modulation)
    ∧ preserves_Kernel_KernelIdeal
    ∧ algebraic_KernelIdeal_ReferenceIdeal_pre_routed_gates (hKernelIdeal := hKernelIdeal) (hReferenceIdeal := hReferenceIdeal) (hPre_routed_gates := hPre_routed_gates)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_router (hKernel3Ideal := hKernel3Ideal) (hReference3Ideal := hReference3Ideal) (hPre_finite_router := hPre_finite_router)
    ∧ preserves_Kernel4_Kernel4Ideal
    ∧ algebraic_Kernel4Ideal_Reference4Ideal_pre_finite_modulation (hKernel4Ideal := hKernel4Ideal) (hReference4Ideal := hReference4Ideal) (hPre_finite_modulation := hPre_finite_modulation)
-- ==== Pre_finite_modulation.lean ====
abbrev S8x1024 : Shape := ⟨2, ![8, 1024]⟩
abbrev S1024x6144 : Shape := ⟨2, ![1024, 6144]⟩
abbrev S6144 : Shape := ⟨1, ![6144]⟩
abbrev S64 : Shape := ⟨1, ![64]⟩
abbrev S1024x8 : Shape := ⟨2, ![1024, 8]⟩
abbrev S1024x6160 : Shape := ⟨2, ![1024, 6160]⟩
abbrev S_ : Shape := ⟨0, ![]⟩

class Facts : Prop where
  transposes_S8x1024_S1024x8_1_0 : S8x1024.Transposes [1, 0] S1024x8
  concatenates_S1024x8_S1024x8_S1024x6144_S1024x6160_d1 : Shape.Concatenates [S1024x8, S1024x8, S1024x6144] S1024x6160 1
  bcast_S_S1024x6160 : S_.BroadcastsInDim S1024x6160 (![] : Fin 0 → Fin S1024x6160.rank)

variable [Facts]

def fn {F : FTy → Type} [FloatOps F] (main_arg0 : FVec F S8x1024 .f32) (main_arg1 : FVec F S8x1024 .f32) (main_arg2 : FVec F S1024x6144 .f32) (main_arg3 : FVec F S6144 .f32) (main_arg4 : FVec F S64 .f32) (main_arg5 : FVec F S64 .f32) (main_arg6 : FVec F S64 .f32) (main_arg7 : FVec F S64 .f32) : IVec S1024x6160 1 :=
  let main_v0 : FVec F S1024x8 .f32 := (transpose S1024x8 [1, 0] · transposes_S8x1024_S1024x8_1_0) main_arg0
  let main_v1 : FVec F S1024x8 .f32 := (transpose S1024x8 [1, 0] · transposes_S8x1024_S1024x8_1_0) main_arg1
  let main_v2 : FVec F S1024x6160 .f32 := concatenate S1024x6160 1 [⟨S1024x8, main_v0⟩, ⟨S1024x8, main_v1⟩, ⟨S1024x6144, main_arg2⟩] concatenates_S1024x8_S1024x8_S1024x6144_S1024x6160_d1
  let main_v3 : FVec F S1024x6160 .f32 := Host.absf main_v2
  let main_cst : FVec F S_ .f32 := constant S_ .f32 0x7F800000#32
  let main_v4 : FVec F S1024x6160 .f32 := broadcastInDim S1024x6160 ![] bcast_S_S1024x6160 main_cst
  let main_v5 : IVec S1024x6160 1 := cmpf .olt main_v3 main_v4
  main_v5
-- ==== Pre_finite_router.lean ====
abbrev S8x2048x1024 : Shape := ⟨3, ![8, 2048, 1024]⟩
abbrev S16384x1024 : Shape := ⟨2, ![16384, 1024]⟩
abbrev S16x6144 : Shape := ⟨2, ![16, 6144]⟩
abbrev S1024 : Shape := ⟨1, ![1024]⟩
abbrev S1024x8192 : Shape := ⟨2, ![1024, 8192]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S16x1024 : Shape := ⟨2, ![16, 1024]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x8192 : Shape := ⟨3, ![8, 2048, 8192]⟩
abbrev S8 : Shape := ⟨1, ![8]⟩
abbrev S16384x4 : Shape := ⟨2, ![16384, 4]⟩
abbrev S1x4 : Shape := ⟨2, ![1, 4]⟩
abbrev S16384 : Shape := ⟨1, ![16384]⟩
abbrev S16384x1 : Shape := ⟨2, ![16384, 1]⟩
abbrev S16384x32 : Shape := ⟨2, ![16384, 32]⟩
abbrev S1x32 : Shape := ⟨2, ![1, 32]⟩
abbrev S16384x4x8 : Shape := ⟨3, ![16384, 4, 8]⟩
abbrev S16384x4x1 : Shape := ⟨3, ![16384, 4, 1]⟩
abbrev S16384x8 : Shape := ⟨2, ![16384, 8]⟩
abbrev S1x8 : Shape := ⟨2, ![1, 8]⟩
abbrev S16384x1x8 : Shape := ⟨3, ![16384, 1, 8]⟩
abbrev S16384x95 : Shape := ⟨2, ![16384, 95]⟩
abbrev S16384x128 : Shape := ⟨2, ![16384, 128]⟩
abbrev S4x1024 : Shape := ⟨2, ![4, 1024]⟩
abbrev S32x1024 : Shape := ⟨2, ![32, 1024]⟩
abbrev S16420x1024 : Shape := ⟨2, ![16420, 1024]⟩

class Facts : Prop where
  slices_S16x6144_S16x1024_0_0 : S16x6144.Slices ![0, 0] S16x1024
  slices_S16x6144_S16x1024_0_1024 : S16x6144.Slices ![0, 1024] S16x1024
  slices_S16x6144_S16x1024_0_2048 : S16x6144.Slices ![0, 2048] S16x1024
  slices_S16x6144_S16x1024_0_3072 : S16x6144.Slices ![0, 3072] S16x1024
  slices_S16x6144_S16x1024_0_4096 : S16x6144.Slices ![0, 4096] S16x1024
  slices_S16x6144_S16x1024_0_5120 : S16x6144.Slices ![0, 5120] S16x1024
  slices_S16x1024_S8x1024_0_0 : S16x1024.Slices ![0, 0] S8x1024
  bcast_S8x1024_S8x1x1024_0_2 : S8x1024.BroadcastsInDim S8x1x1024 (![0, 2] : Fin 2 → Fin S8x1x1024.rank)
  reducesTo_S8x2048x1024_S8x2048_d2 : S8x2048x1024.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x1x1024 : S_.BroadcastsInDim S8x1x1024 (![] : Fin 0 → Fin S8x1x1024.rank)
  bcast_S8x1x1024_S8x2048x1024_0_1_2 : S8x1x1024.BroadcastsInDim S8x2048x1024 (![0, 1, 2] : Fin 3 → Fin S8x2048x1024.rank)
  slices_S8x2048x8192_S8x2048x1024_0_0_6144 : S8x2048x8192.Slices ![0, 0, 6144] S8x2048x1024
  bcast_S_S8x2048x1024 : S_.BroadcastsInDim S8x2048x1024 (![] : Fin 0 → Fin S8x2048x1024.rank)
  slices_S8x2048x8192_S8x2048x1024_0_0_7168 : S8x2048x8192.Slices ![0, 0, 7168] S8x2048x1024
  bitsLt_bf16_f32 : FTy.bits .bf16 < FTy.bits .f32
  shapeCasts_S16384x1024_S8x2048x1024 : S16384x1024.ShapeCasts S8x2048x1024
  shapeCasts_S8x2048x1024_S16384x1024 : S8x2048x1024.ShapeCasts S16384x1024
  bcast_S4_S1x4_1 : S4.BroadcastsInDim S1x4 (![1] : Fin 1 → Fin S1x4.rank)
  bcast_S1x4_S16384x4_0_1 : S1x4.BroadcastsInDim S16384x4 (![0, 1] : Fin 2 → Fin S16384x4.rank)
  reducesTo_S16384x4_S16384_d1 : S16384x4.ReducesTo [1] S16384
  bcast_S16384_S16384x1_0 : S16384.BroadcastsInDim S16384x1 (![0] : Fin 1 → Fin S16384x1.rank)
  bcast_S16384x1_S16384x4_0_1 : S16384x1.BroadcastsInDim S16384x4 (![0, 1] : Fin 2 → Fin S16384x4.rank)
  bcast_S4_S16384x4_1 : S4.BroadcastsInDim S16384x4 (![1] : Fin 1 → Fin S16384x4.rank)
  bcast_S_S16384x4 : S_.BroadcastsInDim S16384x4 (![] : Fin 0 → Fin S16384x4.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  shapeCasts_S16384x32_S16384x4x8 : S16384x32.ShapeCasts S16384x4x8
  bcast_S16384x4_S16384x4x1_0_1 : S16384x4.BroadcastsInDim S16384x4x1 (![0, 1] : Fin 2 → Fin S16384x4x1.rank)
  bcast_S16384x4x1_S16384x4x8_0_1_2 : S16384x4x1.BroadcastsInDim S16384x4x8 (![0, 1, 2] : Fin 3 → Fin S16384x4x8.rank)
  bcast_S_S16384x4x8 : S_.BroadcastsInDim S16384x4x8 (![] : Fin 0 → Fin S16384x4x8.rank)
  reducesTo_S16384x4x8_S16384x8_d1 : S16384x4x8.ReducesTo [1] S16384x8
  reducesTo_S16384x8_S16384_d1 : S16384x8.ReducesTo [1] S16384
  bcast_S16384x1_S16384x8_0_1 : S16384x1.BroadcastsInDim S16384x8 (![0, 1] : Fin 2 → Fin S16384x8.rank)
  bcast_S8_S16384x8_1 : S8.BroadcastsInDim S16384x8 (![1] : Fin 1 → Fin S16384x8.rank)
  bcast_S_S16384x8 : S_.BroadcastsInDim S16384x8 (![] : Fin 0 → Fin S16384x8.rank)
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S16384x8_S16384x1x8_0_2 : S16384x8.BroadcastsInDim S16384x1x8 (![0, 2] : Fin 2 → Fin S16384x1x8.rank)
  bcast_S16384x1x8_S16384x4x8_0_1_2 : S16384x1x8.BroadcastsInDim S16384x4x8 (![0, 1, 2] : Fin 3 → Fin S16384x4x8.rank)
  shapeCasts_S16384x4x8_S16384x32 : S16384x4x8.ShapeCasts S16384x32
  bcast_S_S16384x95 : S_.BroadcastsInDim S16384x95 (![] : Fin 0 → Fin S16384x95.rank)
  concatenates_S16384x32_S16384x1_S16384x95_S16384x128_d1 : Shape.Concatenates [S16384x32, S16384x1, S16384x95] S16384x128 1
  transposes_S1024x4_S4x1024_1_0 : S1024x4.Transposes [1, 0] S4x1024
  transposes_S1024x32_S32x1024_1_0 : S1024x32.Transposes [1, 0] S32x1024
  concatenates_S16384x1024_S4x1024_S32x1024_S16420x1024_d0 : Shape.Concatenates [S16384x1024, S4x1024, S32x1024] S16420x1024 0
  bcast_S_S16420x1024 : S_.BroadcastsInDim S16420x1024 (![] : Fin 0 → Fin S16420x1024.rank)
  dot_S8x2048x1024_S1024x8192_S8x2048x8192_2_0_01_1_n_n_wf : DotDims.WF S8x2048x1024 S1024x8192 S8x2048x8192 [2] [0] [0, 1] [1] [] []
  dot_S8x2048x1024_S1024x1024_S8x2048x1024_2_0_01_1_n_n_wf : DotDims.WF S8x2048x1024 S1024x1024 S8x2048x1024 [2] [0] [0, 1] [1] [] []
  dot_S16384x1024_S1024x4_S16384x4_1_0_0_1_n_n_wf : DotDims.WF S16384x1024 S1024x4 S16384x4 [1] [0] [0] [1] [] []
  dot_S16384x1024_S1024x32_S16384x32_1_0_0_1_n_n_wf : DotDims.WF S16384x1024 S1024x32 S16384x32 [1] [0] [0] [1] [] []

variable [Facts]

def dot_S8x2048x1024_S1024x8192_S8x2048x8192_2_0_01_1_n_n : DotDims S8x2048x1024 S1024x8192 S8x2048x8192 where
  lhsContracting := [2]
  rhsContracting := [0]
  lhsNonContracting := [0, 1]
  rhsNonContracting := [1]
  lhsBatch := []
  rhsBatch := []
  wf := dot_S8x2048x1024_S1024x8192_S8x2048x8192_2_0_01_1_n_n_wf
def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S16384x1024_S1024x4_S16384x4_1_0_0_1_n_n : DotDims S16384x1024 S1024x4 S16384x4 where
  lhsContracting := [1]
  rhsContracting := [0]
  lhsNonContracting := [0]
  rhsNonContracting := [1]
  lhsBatch := []
  rhsBatch := []
  wf := dot_S16384x1024_S1024x4_S16384x4_1_0_0_1_n_n_wf
def dot_S16384x1024_S1024x32_S16384x32_1_0_0_1_n_n : DotDims S16384x1024 S1024x32 S16384x32 where
  lhsContracting := [1]
  rhsContracting := [0]
  lhsNonContracting := [0]
  rhsNonContracting := [1]
  lhsBatch := []
  rhsBatch := []
  wf := dot_S16384x1024_S1024x32_S16384x32_1_0_0_1_n_n_wf
def fn_where {F : FTy → Type} [FloatOps F] (arg0 : IVec S16384x4 1) (arg1 : FVec F S4 .f32) (arg2 : FVec F S_ .f32) : FVec F S16384x4 .f32 :=
  let v0 : FVec F S_ .f32 := id arg2
  let v1 : FVec F S16384x4 .f32 := broadcastInDim S16384x4 ![1] bcast_S4_S16384x4_1 arg1
  let v2 : FVec F S16384x4 .f32 := broadcastInDim S16384x4 ![] bcast_S_S16384x4 v0
  let v3 : FVec F S16384x4 .f32 := select arg0 v1 v2
  v3

def fn_where_0 {F : FTy → Type} [FloatOps F] (arg0 : IVec S16384x4x1 1) (arg1 : FVec F S16384x4x8 .f32) (arg2 : FVec F S_ .f32) : FVec F S16384x4x8 .f32 :=
  let v0 : FVec F S_ .f32 := id arg2
  let v1 : IVec S16384x4x8 1 := broadcastInDim S16384x4x8 ![0, 1, 2] bcast_S16384x4x1_S16384x4x8_0_1_2 arg0
  let v2 : FVec F S16384x4x8 .f32 := broadcastInDim S16384x4x8 ![] bcast_S_S16384x4x8 v0
  let v3 : FVec F S16384x4x8 .f32 := select v1 arg1 v2
  v3

def fn_where_1 {F : FTy → Type} [FloatOps F] (arg0 : IVec S16384x8 1) (arg1 : FVec F S8 .f32) (arg2 : FVec F S_ .f32) : FVec F S16384x8 .f32 :=
  let v0 : FVec F S_ .f32 := id arg2
  let v1 : FVec F S16384x8 .f32 := broadcastInDim S16384x8 ![1] bcast_S8_S16384x8_1 arg1
  let v2 : FVec F S16384x8 .f32 := broadcastInDim S16384x8 ![] bcast_S_S16384x8 v0
  let v3 : FVec F S16384x8 .f32 := select arg0 v1 v2
  v3

def fn_where_2 {F : FTy → Type} [FloatOps F] (arg0 : IVec S16384x8 1) (arg1 : FVec F S_ .f32) (arg2 : FVec F S16384x8 .f32) : FVec F S16384x8 .f32 :=
  let v0 : FVec F S_ .f32 := id arg1
  let v1 : FVec F S16384x8 .f32 := broadcastInDim S16384x8 ![] bcast_S_S16384x8 v0
  let v2 : FVec F S16384x8 .f32 := select arg0 v1 arg2
  v2

def fn_where_3 {F : FTy → Type} [FloatOps F] (arg0 : IVec S16384x8 1) (arg1 : FVec F S16384x1 .f32) (arg2 : FVec F S_ .f32) : FVec F S16384x8 .f32 :=
  let v0 : FVec F S_ .f32 := id arg2
  let v1 : FVec F S16384x8 .f32 := broadcastInDim S16384x8 ![0, 1] bcast_S16384x1_S16384x8_0_1 arg1
  let v2 : FVec F S16384x8 .f32 := broadcastInDim S16384x8 ![] bcast_S_S16384x8 v0
  let v3 : FVec F S16384x8 .f32 := select arg0 v1 v2
  v3

def fn_where_4 {F : FTy → Type} [FloatOps F] (arg0 : IVec S16384x4x1 1) (arg1 : FVec F S16384x1x8 .f32) (arg2 : FVec F S_ .f32) : FVec F S16384x4x8 .f32 :=
  let v0 : FVec F S_ .f32 := id arg2
  let v1 : IVec S16384x4x8 1 := broadcastInDim S16384x4x8 ![0, 1, 2] bcast_S16384x4x1_S16384x4x8_0_1_2 arg0
  let v2 : FVec F S16384x4x8 .f32 := broadcastInDim S16384x4x8 ![0, 1, 2] bcast_S16384x1x8_S16384x4x8_0_1_2 arg1
  let v3 : FVec F S16384x4x8 .f32 := broadcastInDim S16384x4x8 ![] bcast_S_S16384x4x8 v0
  let v4 : FVec F S16384x4x8 .f32 := select v1 v2 v3
  v4

def fn_part8 {F : FTy → Type} [FloatOps F] (main_arg10 : FVec F S1024x4 .f32) (main_arg12 : FVec F S1024x32 .f32) (main_v62 : FVec F S8x2048x1024 .f32) (main_v82 : FVec F S16384x1024 .f32) (main_v104 : FVec F S16384x1 .f32) (main_v160 : FVec F S16384x8 .f32) (main_v161 : FVec F S1x4 .f32) : IVec S16420x1024 1 :=
  let main_v162 : FVec F S16384x4 .f32 := broadcastInDim S16384x4 ![0, 1] bcast_S1x4_S16384x4_0_1 main_v161
  let main_v163 : FVec F S16384x4 .f32 := broadcastInDim S16384x4 ![0, 1] bcast_S16384x1_S16384x4_0_1 main_v104
  let main_v164 : IVec S16384x4 1 := cmpf .oeq main_v162 main_v163
  let main_v165 : IVec S16384x4x1 1 := broadcastInDim S16384x4x1 ![0, 1] bcast_S16384x4_S16384x4x1_0_1 main_v164
  let main_v166 : FVec F S16384x1x8 .f32 := broadcastInDim S16384x1x8 ![0, 2] bcast_S16384x8_S16384x1x8_0_2 main_v160
  let main_cst_29 : FVec F S_ .f32 := constant S_ .f32 0x00000000#32
  let main_v167 : FVec F S16384x4x8 .f32 := fn_where_4 (F := F) main_v165 main_v166 main_cst_29
  let main_v168 : FVec F S16384x32 .f32 := shapeCast S16384x32 main_v167 shapeCasts_S16384x4x8_S16384x32
  let main_cst_30 : FVec F S_ .f32 := constant S_ .f32 0x00000000#32
  let main_v169 : FVec F S16384x95 .f32 := broadcastInDim S16384x95 ![] bcast_S_S16384x95 main_cst_30
  let main_v170 : FVec F S16384x128 .f32 := concatenate S16384x128 1 [⟨S16384x32, main_v168⟩, ⟨S16384x1, main_v104⟩, ⟨S16384x95, main_v169⟩] concatenates_S16384x32_S16384x1_S16384x95_S16384x128_d1
  let main_v171 : FVec F S16384x1024 .f32 := shapeCast S16384x1024 main_v62 shapeCasts_S8x2048x1024_S16384x1024
  let main_v172 : FVec F S16384x1024 .bf16 := (truncf .bf16 · bitsLt_bf16_f32) main_v82
  let main_v173 : FVec F S16384x1024 .f32 := (extf .f32 · bitsLt_bf16_f32) main_v172
  let main_v174 : FVec F S4x1024 .f32 := (transpose S4x1024 [1, 0] · transposes_S1024x4_S4x1024_1_0) main_arg10
  let main_v175 : FVec F S32x1024 .f32 := (transpose S32x1024 [1, 0] · transposes_S1024x32_S32x1024_1_0) main_arg12
  let main_v176 : FVec F S16420x1024 .f32 := concatenate S16420x1024 0 [⟨S16384x1024, main_v173⟩, ⟨S4x1024, main_v174⟩, ⟨S32x1024, main_v175⟩] concatenates_S16384x1024_S4x1024_S32x1024_S16420x1024_d0
  let main_v177 : FVec F S16420x1024 .f32 := Host.absf main_v176
  let main_cst_31 : FVec F S_ .f32 := constant S_ .f32 0x7F800000#32
  let main_v178 : FVec F S16420x1024 .f32 := broadcastInDim S16420x1024 ![] bcast_S_S16420x1024 main_cst_31
  let main_v179 : IVec S16420x1024 1 := cmpf .olt main_v177 main_v178
  main_v179

def fn_part7 {F : FTy → Type} [FloatOps F] (main_arg10 : FVec F S1024x4 .f32) (main_arg12 : FVec F S1024x32 .f32) (main_v62 : FVec F S8x2048x1024 .f32) (main_v82 : FVec F S16384x1024 .f32) (main_v83 : FVec F S4 .f32) (main_v84 : FVec F S8 .f32) (main_v99 : FVec F S16384x1 .f32) (main_v104 : FVec F S16384x1 .f32) (main_v127 : FVec F S16384x1 .f32) (main_v132 : FVec F S16384x1 .f32) (main_v139 : FVec F S16384x1 .f32) (main_v141 : IVec S16384x8 1) : IVec S16420x1024 1 :=
  let main_cst_25 : FVec F S_ .f32 := constant S_ .f32 0x41000000#32
  let main_v142 : FVec F S16384x8 .f32 := fn_where_1 (F := F) main_v141 main_v84 main_cst_25
  let main_cst_26 : FVec F S_ .f32 := constant S_ .f32 0x7F800000#32
  let main_v143 : FVec F S16384 .f32 := (fun x v => Host.reduce FloatOps.minimumf x v reducesTo_S16384x8_S16384_d1 h_S_) main_v142 main_cst_26
  let main_v144 : FVec F S16384x1 .f32 := broadcastInDim S16384x1 ![0] bcast_S16384_S16384x1_0 main_v143
  let main_v145 : FVec F S1x8 .f32 := broadcastInDim S1x8 ![1] bcast_S8_S1x8_1 main_v84
  let main_v146 : FVec F S16384x8 .f32 := broadcastInDim S16384x8 ![0, 1] bcast_S1x8_S16384x8_0_1 main_v145
  let main_v147 : FVec F S16384x8 .f32 := broadcastInDim S16384x8 ![0, 1] bcast_S16384x1_S16384x8_0_1 main_v132
  let main_v148 : IVec S16384x8 1 := cmpf .oeq main_v146 main_v147
  let main_cst_27 : FVec F S_ .f32 := constant S_ .f32 0x00000000#32
  let main_v149 : FVec F S16384x8 .f32 := fn_where_3 (F := F) main_v148 main_v127 main_cst_27
  let main_v150 : FVec F S1x8 .f32 := broadcastInDim S1x8 ![1] bcast_S8_S1x8_1 main_v84
  let main_v151 : FVec F S16384x8 .f32 := broadcastInDim S16384x8 ![0, 1] bcast_S1x8_S16384x8_0_1 main_v150
  let main_v152 : FVec F S16384x8 .f32 := broadcastInDim S16384x8 ![0, 1] bcast_S16384x1_S16384x8_0_1 main_v144
  let main_v153 : IVec S16384x8 1 := cmpf .oeq main_v151 main_v152
  let main_cst_28 : FVec F S_ .f32 := constant S_ .f32 0x00000000#32
  let main_v154 : FVec F S16384x8 .f32 := fn_where_3 (F := F) main_v153 main_v139 main_cst_28
  let main_v155 : FVec F S16384x8 .f32 := addf main_v149 main_v154
  let main_v156 : FVec F S16384x1 .f32 := addf main_v127 main_v139
  let main_v157 : FVec F S16384x8 .f32 := broadcastInDim S16384x8 ![0, 1] bcast_S16384x1_S16384x8_0_1 main_v156
  let main_v158 : FVec F S16384x8 .f32 := Host.divf main_v155 main_v157
  let main_v159 : FVec F S16384x8 .f32 := broadcastInDim S16384x8 ![0, 1] bcast_S16384x1_S16384x8_0_1 main_v99
  let main_v160 : FVec F S16384x8 .f32 := mulf main_v158 main_v159
  let main_v161 : FVec F S1x4 .f32 := broadcastInDim S1x4 ![1] bcast_S4_S1x4_1 main_v83
  fn_part8 (F := F) main_arg10 main_arg12 main_v62 main_v82 main_v104 main_v160 main_v161

def fn_part6 {F : FTy → Type} [FloatOps F] (main_arg10 : FVec F S1024x4 .f32) (main_arg12 : FVec F S1024x32 .f32) (main_v62 : FVec F S8x2048x1024 .f32) (main_v82 : FVec F S16384x1024 .f32) (main_v83 : FVec F S4 .f32) (main_v84 : FVec F S8 .f32) (main_v99 : FVec F S16384x1 .f32) (main_v104 : FVec F S16384x1 .f32) (main_v121 : FVec F S16384x8 .f32) (main_v122 : FVec F S16384 .f32) : IVec S16420x1024 1 :=
  let main_v123 : FVec F S16384x1 .f32 := broadcastInDim S16384x1 ![0] bcast_S16384_S16384x1_0 main_v122
  let main_v124 : FVec F S16384x8 .f32 := broadcastInDim S16384x8 ![0, 1] bcast_S16384x1_S16384x8_0_1 main_v123
  let main_v125 : FVec F S16384x8 .f32 := Host.divf main_v121 main_v124
  let main_cst_20 : FVec F S_ .f32 := constant S_ .f32 0xFF800000#32
  let main_v126 : FVec F S16384 .f32 := (fun x v => Host.reduce FloatOps.maximumf x v reducesTo_S16384x8_S16384_d1 h_S_) main_v125 main_cst_20
  let main_v127 : FVec F S16384x1 .f32 := broadcastInDim S16384x1 ![0] bcast_S16384_S16384x1_0 main_v126
  let main_v128 : FVec F S16384x8 .f32 := broadcastInDim S16384x8 ![0, 1] bcast_S16384x1_S16384x8_0_1 main_v127
  let main_v129 : IVec S16384x8 1 := cmpf .oeq main_v125 main_v128
  let main_cst_21 : FVec F S_ .f32 := constant S_ .f32 0x41000000#32
  let main_v130 : FVec F S16384x8 .f32 := fn_where_1 (F := F) main_v129 main_v84 main_cst_21
  let main_cst_22 : FVec F S_ .f32 := constant S_ .f32 0x7F800000#32
  let main_v131 : FVec F S16384 .f32 := (fun x v => Host.reduce FloatOps.minimumf x v reducesTo_S16384x8_S16384_d1 h_S_) main_v130 main_cst_22
  let main_v132 : FVec F S16384x1 .f32 := broadcastInDim S16384x1 ![0] bcast_S16384_S16384x1_0 main_v131
  let main_v133 : FVec F S1x8 .f32 := broadcastInDim S1x8 ![1] bcast_S8_S1x8_1 main_v84
  let main_v134 : FVec F S16384x8 .f32 := broadcastInDim S16384x8 ![0, 1] bcast_S1x8_S16384x8_0_1 main_v133
  let main_v135 : FVec F S16384x8 .f32 := broadcastInDim S16384x8 ![0, 1] bcast_S16384x1_S16384x8_0_1 main_v132
  let main_v136 : IVec S16384x8 1 := cmpf .oeq main_v134 main_v135
  let main_cst_23 : FVec F S_ .f32 := constant S_ .f32 0xBF800000#32
  let main_v137 : FVec F S16384x8 .f32 := fn_where_2 (F := F) main_v136 main_cst_23 main_v125
  let main_cst_24 : FVec F S_ .f32 := constant S_ .f32 0xFF800000#32
  let main_v138 : FVec F S16384 .f32 := (fun x v => Host.reduce FloatOps.maximumf x v reducesTo_S16384x8_S16384_d1 h_S_) main_v137 main_cst_24
  let main_v139 : FVec F S16384x1 .f32 := broadcastInDim S16384x1 ![0] bcast_S16384_S16384x1_0 main_v138
  let main_v140 : FVec F S16384x8 .f32 := broadcastInDim S16384x8 ![0, 1] bcast_S16384x1_S16384x8_0_1 main_v139
  let main_v141 : IVec S16384x8 1 := cmpf .oeq main_v137 main_v140
  fn_part7 (F := F) main_arg10 main_arg12 main_v62 main_v82 main_v83 main_v84 main_v99 main_v104 main_v127 main_v132 main_v139 main_v141

def fn_part5 {F : FTy → Type} [FloatOps F] (main_arg10 : FVec F S1024x4 .f32) (main_arg12 : FVec F S1024x32 .f32) (main_arg13 : FVec F S32 .f32) (main_v62 : FVec F S8x2048x1024 .f32) (main_v82 : FVec F S16384x1024 .f32) (main_v83 : FVec F S4 .f32) (main_v84 : FVec F S8 .f32) (main_v99 : FVec F S16384x1 .f32) (main_v102 : FVec F S16384x4 .f32) (main_cst_15 : FVec F S_ .f32) : IVec S16420x1024 1 :=
  let main_v103 : FVec F S16384 .f32 := (fun x v => Host.reduce FloatOps.minimumf x v reducesTo_S16384x4_S16384_d1 h_S_) main_v102 main_cst_15
  let main_v104 : FVec F S16384x1 .f32 := broadcastInDim S16384x1 ![0] bcast_S16384_S16384x1_0 main_v103
  let main_v105 : FVec F S16384x32 .f32 := (fun l r => Host.dotGeneral dot_S16384x1024_S1024x32_S16384x32_1_0_0_1_n_n none l r) main_v82 main_arg12
  let main_v106 : FVec F S1x32 .f32 := broadcastInDim S1x32 ![1] bcast_S32_S1x32_1 main_arg13
  let main_v107 : FVec F S16384x32 .f32 := broadcastInDim S16384x32 ![0, 1] bcast_S1x32_S16384x32_0_1 main_v106
  let main_v108 : FVec F S16384x32 .f32 := addf main_v105 main_v107
  let main_v109 : FVec F S16384x4x8 .f32 := shapeCast S16384x4x8 main_v108 shapeCasts_S16384x32_S16384x4x8
  let main_v110 : FVec F S1x4 .f32 := broadcastInDim S1x4 ![1] bcast_S4_S1x4_1 main_v83
  let main_v111 : FVec F S16384x4 .f32 := broadcastInDim S16384x4 ![0, 1] bcast_S1x4_S16384x4_0_1 main_v110
  let main_v112 : FVec F S16384x4 .f32 := broadcastInDim S16384x4 ![0, 1] bcast_S16384x1_S16384x4_0_1 main_v104
  let main_v113 : IVec S16384x4 1 := cmpf .oeq main_v111 main_v112
  let main_v114 : IVec S16384x4x1 1 := broadcastInDim S16384x4x1 ![0, 1] bcast_S16384x4_S16384x4x1_0_1 main_v113
  let main_cst_16 : FVec F S_ .f32 := constant S_ .f32 0x00000000#32
  let main_v115 : FVec F S16384x4x8 .f32 := fn_where_0 (F := F) main_v114 main_v109 main_cst_16
  let main_cst_17 : FVec F S_ .f32 := constant S_ .f32 0x00000000#32
  let main_v116 : FVec F S16384x8 .f32 := (fun x v => Host.reduceAdd x v reducesTo_S16384x4x8_S16384x8_d1 h_S_) main_v115 main_cst_17
  let main_cst_18 : FVec F S_ .f32 := constant S_ .f32 0xFF800000#32
  let main_v117 : FVec F S16384 .f32 := (fun x v => Host.reduce FloatOps.maximumf x v reducesTo_S16384x8_S16384_d1 h_S_) main_v116 main_cst_18
  let main_v118 : FVec F S16384x1 .f32 := broadcastInDim S16384x1 ![0] bcast_S16384_S16384x1_0 main_v117
  let main_v119 : FVec F S16384x8 .f32 := broadcastInDim S16384x8 ![0, 1] bcast_S16384x1_S16384x8_0_1 main_v118
  let main_v120 : FVec F S16384x8 .f32 := subf main_v116 main_v119
  let main_v121 : FVec F S16384x8 .f32 := Host.exp main_v120
  let main_cst_19 : FVec F S_ .f32 := constant S_ .f32 0x00000000#32
  let main_v122 : FVec F S16384 .f32 := (fun x v => Host.reduceAdd x v reducesTo_S16384x8_S16384_d1 h_S_) main_v121 main_cst_19
  fn_part6 (F := F) main_arg10 main_arg12 main_v62 main_v82 main_v83 main_v84 main_v99 main_v104 main_v121 main_v122

def fn_part4 {F : FTy → Type} [FloatOps F] (main_arg10 : FVec F S1024x4 .f32) (main_arg11 : FVec F S4 .f32) (main_arg12 : FVec F S1024x32 .f32) (main_arg13 : FVec F S32 .f32) (main_v62 : FVec F S8x2048x1024 .f32) (main_v82 : FVec F S16384x1024 .f32) (main_v83 : FVec F S4 .f32) : IVec S16420x1024 1 :=
  let main_v84 : FVec F S8 .f32 := sitofp .f32 (iotaInDim S8 32 0)
  let main_v85 : FVec F S16384x4 .f32 := (fun l r => Host.dotGeneral dot_S16384x1024_S1024x4_S16384x4_1_0_0_1_n_n none l r) main_v82 main_arg10
  let main_v86 : FVec F S1x4 .f32 := broadcastInDim S1x4 ![1] bcast_S4_S1x4_1 main_arg11
  let main_v87 : FVec F S16384x4 .f32 := broadcastInDim S16384x4 ![0, 1] bcast_S1x4_S16384x4_0_1 main_v86
  let main_v88 : FVec F S16384x4 .f32 := addf main_v85 main_v87
  let main_cst_11 : FVec F S_ .f32 := constant S_ .f32 0xFF800000#32
  let main_v89 : FVec F S16384 .f32 := (fun x v => Host.reduce FloatOps.maximumf x v reducesTo_S16384x4_S16384_d1 h_S_) main_v88 main_cst_11
  let main_v90 : FVec F S16384x1 .f32 := broadcastInDim S16384x1 ![0] bcast_S16384_S16384x1_0 main_v89
  let main_v91 : FVec F S16384x4 .f32 := broadcastInDim S16384x4 ![0, 1] bcast_S16384x1_S16384x4_0_1 main_v90
  let main_v92 : FVec F S16384x4 .f32 := subf main_v88 main_v91
  let main_v93 : FVec F S16384x4 .f32 := Host.exp main_v92
  let main_cst_12 : FVec F S_ .f32 := constant S_ .f32 0x00000000#32
  let main_v94 : FVec F S16384 .f32 := (fun x v => Host.reduceAdd x v reducesTo_S16384x4_S16384_d1 h_S_) main_v93 main_cst_12
  let main_v95 : FVec F S16384x1 .f32 := broadcastInDim S16384x1 ![0] bcast_S16384_S16384x1_0 main_v94
  let main_v96 : FVec F S16384x4 .f32 := broadcastInDim S16384x4 ![0, 1] bcast_S16384x1_S16384x4_0_1 main_v95
  let main_v97 : FVec F S16384x4 .f32 := Host.divf main_v93 main_v96
  let main_cst_13 : FVec F S_ .f32 := constant S_ .f32 0xFF800000#32
  let main_v98 : FVec F S16384 .f32 := (fun x v => Host.reduce FloatOps.maximumf x v reducesTo_S16384x4_S16384_d1 h_S_) main_v97 main_cst_13
  let main_v99 : FVec F S16384x1 .f32 := broadcastInDim S16384x1 ![0] bcast_S16384_S16384x1_0 main_v98
  let main_v100 : FVec F S16384x4 .f32 := broadcastInDim S16384x4 ![0, 1] bcast_S16384x1_S16384x4_0_1 main_v99
  let main_v101 : IVec S16384x4 1 := cmpf .oeq main_v97 main_v100
  let main_cst_14 : FVec F S_ .f32 := constant S_ .f32 0x40800000#32
  let main_v102 : FVec F S16384x4 .f32 := fn_where (F := F) main_v101 main_v83 main_cst_14
  let main_cst_15 : FVec F S_ .f32 := constant S_ .f32 0x7F800000#32
  fn_part5 (F := F) main_arg10 main_arg12 main_arg13 main_v62 main_v82 main_v83 main_v84 main_v99 main_v102 main_cst_15

def fn_part3 {F : FTy → Type} [FloatOps F] (main_arg5 : FVec F S1024 .f32) (main_arg10 : FVec F S1024x4 .f32) (main_arg11 : FVec F S4 .f32) (main_arg12 : FVec F S1024x32 .f32) (main_arg13 : FVec F S32 .f32) (main_v13 : FVec F S8x1x1024 .f32) (main_v15 : FVec F S8x1x1024 .f32) (main_v62 : FVec F S8x2048x1024 .f32) (main_v63 : FVec F S8x2048x1024 .f32) : IVec S16420x1024 1 :=
  let main_cst_7 : FVec F S_ .f32 := constant S_ .f32 0x00000000#32
  let main_v64 : FVec F S8x2048 .f32 := (fun x v => Host.reduceAdd x v reducesTo_S8x2048x1024_S8x2048_d2 h_S_) main_v63 main_cst_7
  let main_v65 : FVec F S8x2048x1 .f32 := broadcastInDim S8x2048x1 ![0, 1] bcast_S8x2048_S8x2048x1_0_1 main_v64
  let main_cst_8 : FVec F S_ .f32 := constant S_ .f32 0x44800000#32
  let main_v66 : FVec F S8x2048x1 .f32 := broadcastInDim S8x2048x1 ![] bcast_S_S8x2048x1 main_cst_8
  let main_v67 : FVec F S8x2048x1 .f32 := Host.divf main_v65 main_v66
  let main_cst_9 : FVec F S_ .f32 := constant S_ .f32 0x358637BD#32
  let main_v68 : FVec F S8x2048x1 .f32 := broadcastInDim S8x2048x1 ![] bcast_S_S8x2048x1 main_cst_9
  let main_v69 : FVec F S8x2048x1 .f32 := addf main_v67 main_v68
  let main_v70 : FVec F S8x2048x1 .f32 := Host.rsqrt main_v69
  let main_v71 : FVec F S8x2048x1024 .f32 := broadcastInDim S8x2048x1024 ![0, 1, 2] bcast_S8x2048x1_S8x2048x1024_0_1_2 main_v70
  let main_v72 : FVec F S8x2048x1024 .f32 := mulf main_v62 main_v71
  let main_v73 : FVec F S1x1x1024 .f32 := broadcastInDim S1x1x1024 ![2] bcast_S1024_S1x1x1024_2 main_arg5
  let main_v74 : FVec F S8x2048x1024 .f32 := broadcastInDim S8x2048x1024 ![0, 1, 2] bcast_S1x1x1024_S8x2048x1024_0_1_2 main_v73
  let main_v75 : FVec F S8x2048x1024 .f32 := mulf main_v72 main_v74
  let main_cst_10 : FVec F S_ .f32 := constant S_ .f32 0x3F800000#32
  let main_v76 : FVec F S8x1x1024 .f32 := broadcastInDim S8x1x1024 ![] bcast_S_S8x1x1024 main_cst_10
  let main_v77 : FVec F S8x1x1024 .f32 := addf main_v76 main_v15
  let main_v78 : FVec F S8x2048x1024 .f32 := broadcastInDim S8x2048x1024 ![0, 1, 2] bcast_S8x1x1024_S8x2048x1024_0_1_2 main_v77
  let main_v79 : FVec F S8x2048x1024 .f32 := mulf main_v75 main_v78
  let main_v80 : FVec F S8x2048x1024 .f32 := broadcastInDim S8x2048x1024 ![0, 1, 2] bcast_S8x1x1024_S8x2048x1024_0_1_2 main_v13
  let main_v81 : FVec F S8x2048x1024 .f32 := addf main_v79 main_v80
  let main_v82 : FVec F S16384x1024 .f32 := shapeCast S16384x1024 main_v81 shapeCasts_S8x2048x1024_S16384x1024
  let main_v83 : FVec F S4 .f32 := sitofp .f32 (iotaInDim S4 32 0)
  fn_part4 (F := F) main_arg10 main_arg11 main_arg12 main_arg13 main_v62 main_v82 main_v83

def fn_part2 {F : FTy → Type} [FloatOps F] (main_arg0 : FVec F S8x2048x1024 .f32) (main_arg1 : FVec F S16384x1024 .bf16) (main_arg2 : FVec F S16384x1024 .bf16) (main_arg5 : FVec F S1024 .f32) (main_arg7 : FVec F S1024x1024 .f32) (main_arg8 : FVec F S1024x1024 .f32) (main_arg9 : FVec F S1024x1024 .f32) (main_arg10 : FVec F S1024x4 .f32) (main_arg11 : FVec F S4 .f32) (main_arg12 : FVec F S1024x32 .f32) (main_arg13 : FVec F S32 .f32) (main_v11 : FVec F S8x1x1024 .f32) (main_v13 : FVec F S8x1x1024 .f32) (main_v15 : FVec F S8x1x1024 .f32) (main_v35 : FVec F S8x2048x8192 .f32) (main_v40 : FVec F S8x2048x1024 .f32) (main_v41 : FVec F S8x2048x1024 .f32) : IVec S16420x1024 1 :=
  let main_v42 : FVec F S8x2048x1024 .f32 := Host.divf main_v41 main_v40
  let main_v43 : FVec F S8x2048x1024 .f32 := (extractStridedSlice S8x2048x1024 ![0, 0, 7168] · slices_S8x2048x8192_S8x2048x1024_0_0_7168) main_v35
  let main_v44 : FVec F S8x2048x1024 .f32 := Host.negf main_v43
  let main_v45 : FVec F S8x2048x1024 .f32 := Host.exp main_v44
  let main_cst_5 : FVec F S_ .f32 := constant S_ .f32 0x3F800000#32
  let main_v46 : FVec F S8x2048x1024 .f32 := broadcastInDim S8x2048x1024 ![] bcast_S_S8x2048x1024 main_cst_5
  let main_v47 : FVec F S8x2048x1024 .f32 := addf main_v46 main_v45
  let main_cst_6 : FVec F S_ .f32 := constant S_ .f32 0x3F800000#32
  let main_v48 : FVec F S8x2048x1024 .f32 := broadcastInDim S8x2048x1024 ![] bcast_S_S8x2048x1024 main_cst_6
  let main_v49 : FVec F S8x2048x1024 .f32 := Host.divf main_v48 main_v47
  let main_v50 : FVec F S16384x1024 .f32 := (extf .f32 · bitsLt_bf16_f32) main_arg1
  let main_v51 : FVec F S8x2048x1024 .f32 := shapeCast S8x2048x1024 main_v50 shapeCasts_S16384x1024_S8x2048x1024
  let main_v52 : FVec F S16384x1024 .f32 := (extf .f32 · bitsLt_bf16_f32) main_arg2
  let main_v53 : FVec F S8x2048x1024 .f32 := shapeCast S8x2048x1024 main_v52 shapeCasts_S16384x1024_S8x2048x1024
  let main_v54 : FVec F S8x2048x1024 .f32 := (fun l r => Host.dotGeneral dot_S8x2048x1024_S1024x1024_S8x2048x1024_2_0_01_1_n_n none l r) main_v51 main_arg7
  let main_v55 : FVec F S8x2048x1024 .f32 := mulf main_v42 main_v54
  let main_v56 : FVec F S8x2048x1024 .f32 := (fun l r => Host.dotGeneral dot_S8x2048x1024_S1024x1024_S8x2048x1024_2_0_01_1_n_n none l r) main_v53 main_arg8
  let main_v57 : FVec F S8x2048x1024 .f32 := mulf main_v49 main_v56
  let main_v58 : FVec F S8x2048x1024 .f32 := addf main_v55 main_v57
  let main_v59 : FVec F S8x2048x1024 .f32 := (fun l r => Host.dotGeneral dot_S8x2048x1024_S1024x1024_S8x2048x1024_2_0_01_1_n_n none l r) main_v58 main_arg9
  let main_v60 : FVec F S8x2048x1024 .f32 := broadcastInDim S8x2048x1024 ![0, 1, 2] bcast_S8x1x1024_S8x2048x1024_0_1_2 main_v11
  let main_v61 : FVec F S8x2048x1024 .f32 := mulf main_v60 main_v59
  let main_v62 : FVec F S8x2048x1024 .f32 := addf main_arg0 main_v61
  let main_v63 : FVec F S8x2048x1024 .f32 := mulf main_v62 main_v62
  fn_part3 (F := F) main_arg5 main_arg10 main_arg11 main_arg12 main_arg13 main_v13 main_v15 main_v62 main_v63

def fn_part1 {F : FTy → Type} [FloatOps F] (main_arg0 : FVec F S8x2048x1024 .f32) (main_arg1 : FVec F S16384x1024 .bf16) (main_arg2 : FVec F S16384x1024 .bf16) (main_arg4 : FVec F S1024 .f32) (main_arg5 : FVec F S1024 .f32) (main_arg6 : FVec F S1024x8192 .f32) (main_arg7 : FVec F S1024x1024 .f32) (main_arg8 : FVec F S1024x1024 .f32) (main_arg9 : FVec F S1024x1024 .f32) (main_arg10 : FVec F S1024x4 .f32) (main_arg11 : FVec F S4 .f32) (main_arg12 : FVec F S1024x32 .f32) (main_arg13 : FVec F S32 .f32) (main_v7 : FVec F S8x1x1024 .f32) (main_v9 : FVec F S8x1x1024 .f32) (main_v11 : FVec F S8x1x1024 .f32) (main_v13 : FVec F S8x1x1024 .f32) (main_v15 : FVec F S8x1x1024 .f32) (main_v20 : FVec F S8x2048x1 .f32) (main_cst_1 : FVec F S_ .f32) : IVec S16420x1024 1 :=
  let main_v21 : FVec F S8x2048x1 .f32 := broadcastInDim S8x2048x1 ![] bcast_S_S8x2048x1 main_cst_1
  let main_v22 : FVec F S8x2048x1 .f32 := addf main_v20 main_v21
  let main_v23 : FVec F S8x2048x1 .f32 := Host.rsqrt main_v22
  let main_v24 : FVec F S8x2048x1024 .f32 := broadcastInDim S8x2048x1024 ![0, 1, 2] bcast_S8x2048x1_S8x2048x1024_0_1_2 main_v23
  let main_v25 : FVec F S8x2048x1024 .f32 := mulf main_arg0 main_v24
  let main_v26 : FVec F S1x1x1024 .f32 := broadcastInDim S1x1x1024 ![2] bcast_S1024_S1x1x1024_2 main_arg4
  let main_v27 : FVec F S8x2048x1024 .f32 := broadcastInDim S8x2048x1024 ![0, 1, 2] bcast_S1x1x1024_S8x2048x1024_0_1_2 main_v26
  let main_v28 : FVec F S8x2048x1024 .f32 := mulf main_v25 main_v27
  let main_cst_2 : FVec F S_ .f32 := constant S_ .f32 0x3F800000#32
  let main_v29 : FVec F S8x1x1024 .f32 := broadcastInDim S8x1x1024 ![] bcast_S_S8x1x1024 main_cst_2
  let main_v30 : FVec F S8x1x1024 .f32 := addf main_v29 main_v9
  let main_v31 : FVec F S8x2048x1024 .f32 := broadcastInDim S8x2048x1024 ![0, 1, 2] bcast_S8x1x1024_S8x2048x1024_0_1_2 main_v30
  let main_v32 : FVec F S8x2048x1024 .f32 := mulf main_v28 main_v31
  let main_v33 : FVec F S8x2048x1024 .f32 := broadcastInDim S8x2048x1024 ![0, 1, 2] bcast_S8x1x1024_S8x2048x1024_0_1_2 main_v7
  let main_v34 : FVec F S8x2048x1024 .f32 := addf main_v32 main_v33
  let main_v35 : FVec F S8x2048x8192 .f32 := (fun l r => Host.dotGeneral dot_S8x2048x1024_S1024x8192_S8x2048x8192_2_0_01_1_n_n none l r) main_v34 main_arg6
  let main_v36 : FVec F S8x2048x1024 .f32 := (extractStridedSlice S8x2048x1024 ![0, 0, 6144] · slices_S8x2048x8192_S8x2048x1024_0_0_6144) main_v35
  let main_v37 : FVec F S8x2048x1024 .f32 := Host.negf main_v36
  let main_v38 : FVec F S8x2048x1024 .f32 := Host.exp main_v37
  let main_cst_3 : FVec F S_ .f32 := constant S_ .f32 0x3F800000#32
  let main_v39 : FVec F S8x2048x1024 .f32 := broadcastInDim S8x2048x1024 ![] bcast_S_S8x2048x1024 main_cst_3
  let main_v40 : FVec F S8x2048x1024 .f32 := addf main_v39 main_v38
  let main_cst_4 : FVec F S_ .f32 := constant S_ .f32 0x3F800000#32
  let main_v41 : FVec F S8x2048x1024 .f32 := broadcastInDim S8x2048x1024 ![] bcast_S_S8x2048x1024 main_cst_4
  fn_part2 (F := F) main_arg0 main_arg1 main_arg2 main_arg5 main_arg7 main_arg8 main_arg9 main_arg10 main_arg11 main_arg12 main_arg13 main_v11 main_v13 main_v15 main_v35 main_v40 main_v41

def fn {F : FTy → Type} [FloatOps F] (main_arg0 : FVec F S8x2048x1024 .f32) (main_arg1 : FVec F S16384x1024 .bf16) (main_arg2 : FVec F S16384x1024 .bf16) (main_arg3 : FVec F S16x6144 .f32) (main_arg4 : FVec F S1024 .f32) (main_arg5 : FVec F S1024 .f32) (main_arg6 : FVec F S1024x8192 .f32) (main_arg7 : FVec F S1024x1024 .f32) (main_arg8 : FVec F S1024x1024 .f32) (main_arg9 : FVec F S1024x1024 .f32) (main_arg10 : FVec F S1024x4 .f32) (main_arg11 : FVec F S4 .f32) (main_arg12 : FVec F S1024x32 .f32) (main_arg13 : FVec F S32 .f32) : IVec S16420x1024 1 :=
  let main_v0 : FVec F S16x1024 .f32 := (extractStridedSlice S16x1024 ![0, 0] · slices_S16x6144_S16x1024_0_0) main_arg3
  let main_v1 : FVec F S16x1024 .f32 := (extractStridedSlice S16x1024 ![0, 1024] · slices_S16x6144_S16x1024_0_1024) main_arg3
  let main_v2 : FVec F S16x1024 .f32 := (extractStridedSlice S16x1024 ![0, 2048] · slices_S16x6144_S16x1024_0_2048) main_arg3
  let main_v3 : FVec F S16x1024 .f32 := (extractStridedSlice S16x1024 ![0, 3072] · slices_S16x6144_S16x1024_0_3072) main_arg3
  let main_v4 : FVec F S16x1024 .f32 := (extractStridedSlice S16x1024 ![0, 4096] · slices_S16x6144_S16x1024_0_4096) main_arg3
  let main_v5 : FVec F S16x1024 .f32 := (extractStridedSlice S16x1024 ![0, 5120] · slices_S16x6144_S16x1024_0_5120) main_arg3
  let main_v6 : FVec F S8x1024 .f32 := (extractStridedSlice S8x1024 ![0, 0] · slices_S16x1024_S8x1024_0_0) main_v0
  let main_v7 : FVec F S8x1x1024 .f32 := broadcastInDim S8x1x1024 ![0, 2] bcast_S8x1024_S8x1x1024_0_2 main_v6
  let main_v8 : FVec F S8x1024 .f32 := (extractStridedSlice S8x1024 ![0, 0] · slices_S16x1024_S8x1024_0_0) main_v1
  let main_v9 : FVec F S8x1x1024 .f32 := broadcastInDim S8x1x1024 ![0, 2] bcast_S8x1024_S8x1x1024_0_2 main_v8
  let main_v10 : FVec F S8x1024 .f32 := (extractStridedSlice S8x1024 ![0, 0] · slices_S16x1024_S8x1024_0_0) main_v2
  let main_v11 : FVec F S8x1x1024 .f32 := broadcastInDim S8x1x1024 ![0, 2] bcast_S8x1024_S8x1x1024_0_2 main_v10
  let main_v12 : FVec F S8x1024 .f32 := (extractStridedSlice S8x1024 ![0, 0] · slices_S16x1024_S8x1024_0_0) main_v3
  let main_v13 : FVec F S8x1x1024 .f32 := broadcastInDim S8x1x1024 ![0, 2] bcast_S8x1024_S8x1x1024_0_2 main_v12
  let main_v14 : FVec F S8x1024 .f32 := (extractStridedSlice S8x1024 ![0, 0] · slices_S16x1024_S8x1024_0_0) main_v4
  let main_v15 : FVec F S8x1x1024 .f32 := broadcastInDim S8x1x1024 ![0, 2] bcast_S8x1024_S8x1x1024_0_2 main_v14
  let main_v16 : FVec F S8x2048x1024 .f32 := mulf main_arg0 main_arg0
  let main_cst : FVec F S_ .f32 := constant S_ .f32 0x00000000#32
  let main_v17 : FVec F S8x2048 .f32 := (fun x v => Host.reduceAdd x v reducesTo_S8x2048x1024_S8x2048_d2 h_S_) main_v16 main_cst
  let main_v18 : FVec F S8x2048x1 .f32 := broadcastInDim S8x2048x1 ![0, 1] bcast_S8x2048_S8x2048x1_0_1 main_v17
  let main_cst_0 : FVec F S_ .f32 := constant S_ .f32 0x44800000#32
  let main_v19 : FVec F S8x2048x1 .f32 := broadcastInDim S8x2048x1 ![] bcast_S_S8x2048x1 main_cst_0
  let main_v20 : FVec F S8x2048x1 .f32 := Host.divf main_v18 main_v19
  let main_cst_1 : FVec F S_ .f32 := constant S_ .f32 0x358637BD#32
  fn_part1 (F := F) main_arg0 main_arg1 main_arg2 main_arg4 main_arg5 main_arg6 main_arg7 main_arg8 main_arg9 main_arg10 main_arg11 main_arg12 main_arg13 main_v7 main_v9 main_v11 main_v13 main_v15 main_v20 main_cst_1
-- ==== Pre_routed_gates.lean ====
abbrev S16384x1024 : Shape := ⟨2, ![16384, 1024]⟩
abbrev S16384x128 : Shape := ⟨2, ![16384, 128]⟩
abbrev S16x6144 : Shape := ⟨2, ![16, 6144]⟩
abbrev S32x1024x256 : Shape := ⟨3, ![32, 1024, 256]⟩
abbrev S32x256x1024 : Shape := ⟨3, ![32, 256, 1024]⟩
abbrev S16384x32 : Shape := ⟨2, ![16384, 32]⟩
abbrev S_ : Shape := ⟨0, ![]⟩
abbrev S16384x1 : Shape := ⟨2, ![16384, 1]⟩

class Facts : Prop where
  slices_S16384x128_S16384x32_0_0 : S16384x128.Slices ![0, 0] S16384x32
  bcast_S_S16384x32 : S_.BroadcastsInDim S16384x32 (![] : Fin 0 → Fin S16384x32.rank)
  slices_S16384x128_S16384x1_0_32 : S16384x128.Slices ![0, 32] S16384x1
  bcast_S16384x1_S16384x32_0_1 : S16384x1.BroadcastsInDim S16384x32 (![0, 1] : Fin 2 → Fin S16384x32.rank)

variable [Facts]

def fn {F : FTy → Type} [FloatOps F] (main_arg0 : FVec F S16384x1024 .f32) (main_arg1 : FVec F S16384x1024 .bf16) (main_arg2 : FVec F S16384x128 .f32) (main_arg3 : FVec F S16x6144 .f32) (main_arg4 : FVec F S32x1024x256 .f32) (main_arg5 : FVec F S32x1024x256 .f32) (main_arg6 : FVec F S32x256x1024 .f32) : IVec S16384x32 1 :=
  let main_v0 : FVec F S16384x32 .f32 := (extractStridedSlice S16384x32 ![0, 0] · slices_S16384x128_S16384x32_0_0) main_arg2
  let main_v1 : IVec S16384x32 32 := iotaInDim S16384x32 32 1
  let main_c : IVec S_ 32 := constantI S_ 32 3#32
  let main_v2 : IVec S16384x32 32 := broadcastInDim S16384x32 ![] bcast_S_S16384x32 main_c
  let main_v3 : IVec S16384x32 32 := Host.shrsi main_v1 main_v2
  let main_v4 : FVec F S16384x32 .f32 := sitofp .f32 main_v3
  let main_v5 : FVec F S16384x1 .f32 := (extractStridedSlice S16384x1 ![0, 32] · slices_S16384x128_S16384x1_0_32) main_arg2
  let main_v6 : FVec F S16384x32 .f32 := broadcastInDim S16384x32 ![0, 1] bcast_S16384x1_S16384x32_0_1 main_v5
  let main_v7 : IVec S16384x32 1 := cmpf .oeq main_v6 main_v4
  let main_v8 : FVec F S16384x32 .f32 := Host.absf main_v0
  let main_cst : FVec F S_ .f32 := constant S_ .f32 0x7F800000#32
  let main_v9 : FVec F S16384x32 .f32 := broadcastInDim S16384x32 ![] bcast_S_S16384x32 main_cst
  let main_v10 : IVec S16384x32 1 := cmpf .olt main_v8 main_v9
  let main_v11 : IVec S16384x32 1 := andi main_v7 main_v10
  let main_cst_0 : FVec F S_ .f32 := constant S_ .f32 0x00000000#32
  let main_v12 : FVec F S16384x32 .f32 := broadcastInDim S16384x32 ![] bcast_S_S16384x32 main_cst_0
  let main_v13 : IVec S16384x32 1 := cmpf .oeq main_v0 main_v12
  let main_v14 : IVec S16384x32 1 := ori main_v11 main_v13
  main_v14
-- ==== Kernel.lean ====
abbrev S16384x1024 : Shape := ⟨2, ![16384, 1024]⟩
abbrev S16384x128 : Shape := ⟨2, ![16384, 128]⟩
abbrev S16x6144 : Shape := ⟨2, ![16, 6144]⟩
abbrev S32x1024x256 : Shape := ⟨3, ![32, 1024, 256]⟩
abbrev S32x256x1024 : Shape := ⟨3, ![32, 256, 1024]⟩
abbrev S16x1x6144 : Shape := ⟨3, ![16, 1, 6144]⟩
abbrev S1x1x6144 : Shape := ⟨3, ![1, 1, 6144]⟩
abbrev S1024x1024 : Shape := ⟨2, ![1024, 1024]⟩
abbrev S1024x128 : Shape := ⟨2, ![1024, 128]⟩
abbrev S8x1024x256 : Shape := ⟨3, ![8, 1024, 256]⟩
abbrev S8x256x1024 : Shape := ⟨3, ![8, 256, 1024]⟩
abbrev S4x8x1024 : Shape := ⟨3, ![4, 8, 1024]⟩
abbrev S1x128 : Shape := ⟨2, ![1, 128]⟩
abbrev S1024x1 : Shape := ⟨2, ![1024, 1]⟩
abbrev S128x1024 : Shape := ⟨2, ![128, 1024]⟩
abbrev S1x1024 : Shape := ⟨2, ![1, 1024]⟩
abbrev S8x1024 : Shape := ⟨2, ![8, 1024]⟩
abbrev S1x8x1024 : Shape := ⟨3, ![1, 8, 1024]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S1024 : Shape := ⟨1, ![1024]⟩
abbrev S384x1024 : Shape := ⟨2, ![384, 1024]⟩
abbrev S1024x384 : Shape := ⟨2, ![1024, 384]⟩
abbrev S384x128 : Shape := ⟨2, ![384, 128]⟩
abbrev S384 : Shape := ⟨1, ![384]⟩
abbrev S384x1 : Shape := ⟨2, ![384, 1]⟩
abbrev S1x1024x256 : Shape := ⟨3, ![1, 1024, 256]⟩
abbrev S1024x256 : Shape := ⟨2, ![1024, 256]⟩
abbrev S384x256 : Shape := ⟨2, ![384, 256]⟩
abbrev S1x256x1024 : Shape := ⟨3, ![1, 256, 1024]⟩
abbrev S256x1024 : Shape := ⟨2, ![256, 1024]⟩
abbrev S128x128 : Shape := ⟨2, ![128, 128]⟩
abbrev S128x1 : Shape := ⟨2, ![128, 1]⟩
abbrev S128x256 : Shape := ⟨2, ![128, 256]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S1x1x1024 : Shape := ⟨3, ![1, 1, 1024]⟩

abbrev nBuf : Space → Nat
  | .hbm => 12
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x128, .f32⟩
  | .hbm, ⟨3, _⟩ => ⟨S16x6144, .f32⟩
  | .hbm, ⟨4, _⟩ => ⟨S32x1024x256, .f32⟩
  | .hbm, ⟨5, _⟩ => ⟨S32x1024x256, .f32⟩
  | .hbm, ⟨6, _⟩ => ⟨S32x256x1024, .f32⟩
  | .hbm, ⟨7, _⟩ => ⟨S16x1x6144, .f32⟩
  | .hbm, ⟨8, _⟩ => ⟨S32x1024x256, .bf16⟩
  | .hbm, ⟨9, _⟩ => ⟨S32x1024x256, .bf16⟩
  | .hbm, ⟨10, _⟩ => ⟨S32x256x1024, .bf16⟩
  | .hbm, ⟨11, _⟩ => ⟨S16384x1024, .f32⟩
  | .local _ .vmem, ⟨0, _⟩ => ⟨S1x1x6144, .f32⟩
  | .local _ .vmem, ⟨1, _⟩ => ⟨S1x1x6144, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .f32⟩
  | .local _ .vmem, ⟨6, _⟩ => ⟨S1024x128, .f32⟩
  | .local _ .vmem, ⟨7, _⟩ => ⟨S8x1024x256, .bf16⟩
  | .local _ .vmem, ⟨8, _⟩ => ⟨S8x1024x256, .bf16⟩
  | .local _ .vmem, ⟨9, _⟩ => ⟨S8x1024x256, .bf16⟩
  | .local _ .vmem, ⟨10, _⟩ => ⟨S8x1024x256, .bf16⟩
  | .local _ .vmem, ⟨11, _⟩ => ⟨S8x256x1024, .bf16⟩
  | .local _ .vmem, ⟨12, _⟩ => ⟨S8x256x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x128, .bf16⟩
  | .local _ .vmem, ⟨16, _⟩ => ⟨S1024x128, .f32⟩
  | .local _ .vmem, ⟨17, _⟩ => ⟨S4x8x1024, .f32⟩
  | .local _ .vmem, ⟨18, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 4], ![false, false]⟩

@[reducible] def k0_t1_loop (v14 : BitVec 32) : Scf.Loop 32 :=
  let c0_i32_13 : BitVec 32 := 0#32
  let c0_i32_7 : BitVec 32 := 0#32
  let v23 : BitVec 1 := Scalar.cmpi .sgt v14 c0_i32_7
  let v24 : BitVec 32 := Scalar.extui v23
  let c0_i32_8 : BitVec 32 := 0#32
  let v25 : BitVec 1 := Scalar.cmpi .slt v14 c0_i32_8
  let v26 : BitVec 32 := Scalar.extui v25
  let v27 : BitVec 32 := Scalar.subi v24 v26
  let c384_i32 : BitVec 32 := 384#32
  let c0_i32_9 : BitVec 32 := 0#32
  let v28 : BitVec 1 := Scalar.cmpi .sgt c384_i32 c0_i32_9
  let v29 : BitVec 32 := Scalar.extui v28
  let c0_i32_10 : BitVec 32 := 0#32
  let v30 : BitVec 1 := Scalar.cmpi .slt c384_i32 c0_i32_10
  let v31 : BitVec 32 := Scalar.extui v30
  let v32 : BitVec 32 := Scalar.subi v29 v31
  let v33 : BitVec 1 := Scalar.cmpi .ne v27 v32
  let v34 : BitVec 32 := Scalar.remsi v14 c384_i32
  let c0_i32_11 : BitVec 32 := 0#32
  let v35 : BitVec 1 := Scalar.cmpi .ne v34 c0_i32_11
  let v36 : BitVec 1 := Scalar.andi v33 v35
  let v22 : BitVec 32 := Scalar.divsi v14 c384_i32
  let c1_i32 : BitVec 32 := 1#32
  let v37 : BitVec 32 := Scalar.subi v22 c1_i32
  let v38 : BitVec 32 := Scalar.select v36 v37 v22
  let v39 : BitVec 32 := Scalar.subi v38 c0_i32_13
  let c1_i32_14 : BitVec 32 := 1#32
  let v41 : BitVec 32 := Scalar.divsi v39 c1_i32_14
  let v42 : BitVec 32 := Scalar.muli v41 c1_i32_14
  let v43 : BitVec 32 := Scalar.addi c0_i32_13 v42
  let c1_i32_15 : BitVec 32 := 1#32
  ⟨c0_i32_13, v43, c1_i32_15⟩

def k0_off1 (i : grid0.Coords) : Fin 3 → Nat :=
  let arg1 : BitVec 32 := BitVec.ofNat 32 (i 1).val
  let v66 : Index := Scalar.indexCast arg1
  let c0_27 : Index := 0#32
  let c0_28 : Index := 0#32
  ![v66.toNat, 0, 0]
@[reducible] def k0_t2_loop (v14 : BitVec 32) : Scf.Loop 32 :=
  let c0_i32_13 : BitVec 32 := 0#32
  let c0_i32_7 : BitVec 32 := 0#32
  let v23 : BitVec 1 := Scalar.cmpi .sgt v14 c0_i32_7
  let v24 : BitVec 32 := Scalar.extui v23
  let c0_i32_8 : BitVec 32 := 0#32
  let v25 : BitVec 1 := Scalar.cmpi .slt v14 c0_i32_8
  let v26 : BitVec 32 := Scalar.extui v25
  let v27 : BitVec 32 := Scalar.subi v24 v26
  let c384_i32 : BitVec 32 := 384#32
  let c0_i32_9 : BitVec 32 := 0#32
  let v28 : BitVec 1 := Scalar.cmpi .sgt c384_i32 c0_i32_9
  let v29 : BitVec 32 := Scalar.extui v28
  let c0_i32_10 : BitVec 32 := 0#32
  let v30 : BitVec 1 := Scalar.cmpi .slt c384_i32 c0_i32_10
  let v31 : BitVec 32 := Scalar.extui v30
  let v32 : BitVec 32 := Scalar.subi v29 v31
  let v33 : BitVec 1 := Scalar.cmpi .ne v27 v32
  let v34 : BitVec 32 := Scalar.remsi v14 c384_i32
  let c0_i32_11 : BitVec 32 := 0#32
  let v35 : BitVec 1 := Scalar.cmpi .ne v34 c0_i32_11
  let v36 : BitVec 1 := Scalar.andi v33 v35
  let v22 : BitVec 32 := Scalar.divsi v14 c384_i32
  let c1_i32 : BitVec 32 := 1#32
  let v37 : BitVec 32 := Scalar.subi v22 c1_i32
  let v38 : BitVec 32 := Scalar.select v36 v37 v22
  let v39 : BitVec 32 := Scalar.subi v38 c0_i32_13
  let c1_i32_14 : BitVec 32 := 1#32
  let v41 : BitVec 32 := Scalar.divsi v39 c1_i32_14
  let v42 : BitVec 32 := Scalar.muli v41 c1_i32_14
  let v43 : BitVec 32 := Scalar.addi c0_i32_13 v42
  let v40 : BitVec 32 := Scalar.addi c0_i32_13 v39
  let c1_i32_16 : BitVec 32 := 1#32
  ⟨v43, v40, c1_i32_16⟩

def k0_chk1 (v14 : BitVec 32) : Prop :=
  ((k0_t1_loop v14).OK) ∧
  ((k0_t2_loop v14).OK)
theorem k0_t1_ok : ∀ (v14 : BitVec 32) (k0_hw1 : k0_chk1 v14), (k0_t1_loop v14).OK := fun v14 k0_hw1 => k0_hw1.1
theorem k0_t2_ok : ∀ (v14 : BitVec 32) (k0_hw1 : k0_chk1 v14), (k0_t2_loop v14).OK := fun v14 k0_hw1 => k0_hw1.2

def k0_off2 (i : grid0.Coords) : Fin 3 → Nat :=
  let arg1 : BitVec 32 := BitVec.ofNat 32 (i 1).val
  let v66 : Index := Scalar.indexCast arg1
  let c0_27 : Index := 0#32
  let c0_28 : Index := 0#32
  ![v66.toNat, 0, 0]
def k0_off3 (i : grid0.Coords) : Fin 3 → Nat :=
  let arg1 : BitVec 32 := BitVec.ofNat 32 (i 1).val
  let v66 : Index := Scalar.indexCast arg1
  let c0_27 : Index := 0#32
  let c0_28 : Index := 0#32
  ![v66.toNat, 0, 0]
def k0_off4 (i : grid0.Coords) : Fin 3 → Nat :=
  let arg1 : BitVec 32 := BitVec.ofNat 32 (i 1).val
  let v66 : Index := Scalar.indexCast arg1
  let c0_27 : Index := 0#32
  let c0_28 : Index := 0#32
  ![v66.toNat, 0, 0]
def k0_off5 (i : grid0.Coords) : Fin 3 → Nat :=
  let arg1 : BitVec 32 := BitVec.ofNat 32 (i 1).val
  let v66 : Index := Scalar.indexCast arg1
  let c0_27 : Index := 0#32
  let c0_28 : Index := 0#32
  ![v66.toNat, 0, 0]
def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S8x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S16384x1024 : Shape := ⟨2, ![16384, 1024]⟩
abbrev S16384x128 : Shape := ⟨2, ![16384, 128]⟩
abbrev S16x6144 : Shape := ⟨2, ![16, 6144]⟩
abbrev S32x1024x256 : Shape := ⟨3, ![32, 1024, 256]⟩
abbrev S32x256x1024 : Shape := ⟨3, ![32, 256, 1024]⟩
abbrev S16x1024 : Shape := ⟨2, ![16, 1024]⟩
abbrev S8x1024 : Shape := ⟨2, ![8, 1024]⟩
abbrev S16384x32x256 : Shape := ⟨3, ![16384, 32, 256]⟩
abbrev S_ : Shape := ⟨0, ![]⟩
abbrev S16384x32 : Shape := ⟨2, ![16384, 32]⟩
abbrev S16384x32x1 : Shape := ⟨3, ![16384, 32, 1]⟩
abbrev S8x2048x1024 : Shape := ⟨3, ![8, 2048, 1024]⟩
abbrev S8x1x1024 : Shape := ⟨3, ![8, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x128, .f32⟩
  | .hbm, ⟨3, _⟩ => ⟨S16x6144, .f32⟩
  | .hbm, ⟨4, _⟩ => ⟨S32x1024x256, .f32⟩
  | .hbm, ⟨5, _⟩ => ⟨S32x1024x256, .f32⟩
  | .hbm, ⟨6, _⟩ => ⟨S32x256x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S8x1024, .f32⟩
  | .hbm, ⟨14, _⟩ => ⟨S16384x1024, .f32⟩
  | .hbm, ⟨15, _⟩ => ⟨S16384x32x256, .f32⟩
  | .hbm, ⟨16, _⟩ => ⟨S16384x32x256, .f32⟩
  | .hbm, ⟨17, _⟩ => ⟨S16384x32x256, .f32⟩
  | .hbm, ⟨18, _⟩ => ⟨S16384x32x256, .f32⟩
  | .hbm, ⟨19, _⟩ => ⟨S_, .f32⟩
  | .hbm, ⟨20, _⟩ => ⟨S16384x32x256, .f32⟩
  | .hbm, ⟨21, _⟩ => ⟨S16384x32x256, .f32⟩
  | .hbm, ⟨22, _⟩ => ⟨S_, .f32⟩
  | .hbm, ⟨23, _⟩ => ⟨S16384x32x256, .f32⟩
  | .hbm, ⟨24, _⟩ => ⟨S16384x32x256, .f32⟩
  | .hbm, ⟨25, _⟩ => ⟨S16384x32x256, .f32⟩
  | .hbm, ⟨26, _⟩ => ⟨S16384x32x256, .f32⟩
  | .hbm, ⟨27, _⟩ => ⟨S16384x32, .f32⟩
  | .hbm, ⟨28, _⟩ => ⟨S16384x32x1, .f32⟩
  | .hbm, ⟨29, _⟩ => ⟨S16384x32x256, .f32⟩
  | .hbm, ⟨30, _⟩ => ⟨S16384x32x256, .f32⟩
  | .hbm, ⟨31, _⟩ => ⟨S16384x1024, .f32⟩
  | .hbm, ⟨32, _⟩ => ⟨S8x2048x1024, .f32⟩
  | .hbm, ⟨33, _⟩ => ⟨S8x1x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Kernel2.lean ====
abbrev S8x2048x1024 : Shape := ⟨3, ![8, 2048, 1024]⟩
abbrev S16x6144 : Shape := ⟨2, ![16, 6144]⟩
abbrev S1024 : Shape := ⟨1, ![1024]⟩
abbrev S1024x8192 : Shape := ⟨2, ![1024, 8192]⟩
abbrev S64 : Shape := ⟨1, ![64]⟩
abbrev S16x1x6144 : Shape := ⟨3, ![16, 1, 6144]⟩
abbrev S16384x1024 : Shape := ⟨2, ![16384, 1024]⟩
abbrev S2048 : Shape := ⟨1, ![2048]⟩
abbrev S8 : Shape := ⟨1, ![8]⟩
abbrev S_ : Shape := ⟨0, ![]⟩
abbrev S8x1 : Shape := ⟨2, ![8, 1]⟩
abbrev S1x2048 : Shape := ⟨2, ![1, 2048]⟩
abbrev S8x2048 : Shape := ⟨2, ![8, 2048]⟩
abbrev S1x1024 : Shape := ⟨2, ![1, 1024]⟩
abbrev S64x1 : Shape := ⟨2, ![64, 1]⟩
abbrev S64x128 : Shape := ⟨2, ![64, 128]⟩
abbrev S8x1024x2048 : Shape := ⟨3, ![8, 1024, 2048]⟩
abbrev S1x1x6144 : Shape := ⟨3, ![1, 1, 6144]⟩
abbrev S512x1024 : Shape := ⟨2, ![512, 1024]⟩
abbrev S1024x6144 : Shape := ⟨2, ![1024, 6144]⟩
abbrev S8x512 : Shape := ⟨2, ![8, 512]⟩
abbrev S1x1024x512 : Shape := ⟨3, ![1, 1024, 512]⟩
abbrev S2x512x1024 : Shape := ⟨3, ![2, 512, 1024]⟩
abbrev S1x1x1024 : Shape := ⟨3, ![1, 1, 1024]⟩
abbrev S512 : Shape := ⟨1, ![512]⟩
abbrev S512x1 : Shape := ⟨2, ![512, 1]⟩
abbrev S1024x1024 : Shape := ⟨2, ![1024, 1024]⟩
abbrev S1x512x1024 : Shape := ⟨3, ![1, 512, 1024]⟩
abbrev S1024x512 : Shape := ⟨2, ![1024, 512]⟩
abbrev S64x512 : Shape := ⟨2, ![64, 512]⟩
abbrev S1x512 : Shape := ⟨2, ![1, 512]⟩
abbrev S48x512 : Shape := ⟨2, ![48, 512]⟩
abbrev S8x16x64x2048 : Shape := ⟨4, ![8, 16, 64, 2048]⟩
abbrev S8x2048x16x64 : Shape := ⟨4, ![8, 2048, 16, 64]⟩
abbrev S8x2048x8x128 : Shape := ⟨4, ![8, 2048, 8, 128]⟩

abbrev nBuf : Space → Nat
  | .hbm => 45
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S16x6144, .f32⟩
  | .hbm, ⟨2, _⟩ => ⟨S1024, .f32⟩
  | .hbm, ⟨3, _⟩ => ⟨S1024x8192, .f32⟩
  | .hbm, ⟨4, _⟩ => ⟨S64, .f32⟩
  | .hbm, ⟨5, _⟩ => ⟨S64, .f32⟩
  | .hbm, ⟨6, _⟩ => ⟨S16x1x6144, .f32⟩
  | .hbm, ⟨7, _⟩ => ⟨S16384x1024, .f32⟩
  | .hbm, ⟨8, _⟩ => ⟨S2048, .i32⟩
  | .hbm, ⟨9, _⟩ => ⟨S1024x8192, .bf16⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S8x1, .f32⟩
  | .hbm, ⟨19, _⟩ => ⟨S2048, .f32⟩
  | .hbm, ⟨20, _⟩ => ⟨S1x2048, .f32⟩
  | .hbm, ⟨21, _⟩ => ⟨S8x2048, .f32⟩
  | .hbm, ⟨22, _⟩ => ⟨S8x2048, .f32⟩
  | .hbm, ⟨23, _⟩ => ⟨S8x2048, .f32⟩
  | .hbm, ⟨24, _⟩ => ⟨S8x2048, .f32⟩
  | .hbm, ⟨25, _⟩ => ⟨S8x2048, .f32⟩
  | .hbm, ⟨26, _⟩ => ⟨S1x1024, .f32⟩
  | .hbm, ⟨27, _⟩ => ⟨S64x1, .f32⟩
  | .hbm, ⟨28, _⟩ => ⟨S64x128, .f32⟩
  | .hbm, ⟨29, _⟩ => ⟨S64x1, .f32⟩
  | .hbm, ⟨30, _⟩ => ⟨S64x128, .f32⟩
  | .hbm, ⟨31, _⟩ => ⟨S8x1024x2048, .bf16⟩
  | .hbm, ⟨32, _⟩ => ⟨S8x1024x2048, .f32⟩
  | .hbm, ⟨33, _⟩ => ⟨S16384x1024, .f32⟩
  | .hbm, ⟨34, _⟩ => ⟨S8x1024x2048, .bf16⟩
  | .hbm, ⟨35, _⟩ => ⟨S8x1024x2048, .bf16⟩
  | .hbm, ⟨36, _⟩ => ⟨S8x1024x2048, .f32⟩
  | .hbm, ⟨37, _⟩ => ⟨S8x1024x2048, .f32⟩
  | .hbm, ⟨38, _⟩ => ⟨S8x16x64x2048, .f32⟩
  | .hbm, ⟨39, _⟩ => ⟨S8x2048x16x64, .f32⟩
  | .hbm, ⟨40, _⟩ => ⟨S8x2048x8x128, .f32⟩
  | .hbm, ⟨41, _⟩ => ⟨S8x16x64x2048, .f32⟩
  | .hbm, ⟨42, _⟩ => ⟨S8x2048x16x64, .f32⟩
  | .hbm, ⟨43, _⟩ => ⟨S8x16x64x2048, .f32⟩
  | .hbm, ⟨44, _⟩ => ⟨S8x2048x16x64, .f32⟩
  | .local _ .vmem, ⟨0, _⟩ => ⟨S1x1x6144, .f32⟩
  | .local _ .vmem, ⟨1, _⟩ => ⟨S1x1x6144, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x6144, .bf16⟩
  | .local _ .vmem, ⟨6, _⟩ => ⟨S64x128, .f32⟩
  | .local _ .vmem, ⟨7, _⟩ => ⟨S64x128, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .f32⟩
  | .local _ .vmem, ⟨15, _⟩ => ⟨S1x1024x512, .f32⟩
  | .local _ .vmem, ⟨16, _⟩ => ⟨S512x1024, .f32⟩
  | .local _ .vmem, ⟨17, _⟩ => ⟨S512x1024, .f32⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .f32⟩
  | .local _ .vmem, ⟨23, _⟩ => ⟨S1x1024x512, .f32⟩
  | .local _ .vmem, ⟨24, _⟩ => ⟨S1x1024x512, .f32⟩
  | .local _ .vmem, ⟨25, _⟩ => ⟨S1x1024x512, .f32⟩
  | .local _ .vmem, ⟨26, _⟩ => ⟨S512x1024, .bf16⟩
  | .local _ .vmem, ⟨27, _⟩ => ⟨S2x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v23_3 : Ref sig .tc := ⟨.hbm, 34, rfl⟩
abbrev main_v23_4 : Ref sig .tc := ⟨.hbm, 35, rfl⟩
abbrev main_v23_5 : Ref sig .tc := ⟨.hbm, 36, rfl⟩
abbrev main_v23_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x1x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S8x2048x1024 : Shape := ⟨3, ![8, 2048, 1024]⟩
abbrev S16x6144 : Shape := ⟨2, ![16, 6144]⟩
abbrev S1024 : Shape := ⟨1, ![1024]⟩
abbrev S1024x8192 : Shape := ⟨2, ![1024, 8192]⟩
abbrev S64 : Shape := ⟨1, ![64]⟩
abbrev S16x1024 : Shape := ⟨2, ![16, 1024]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x8192 : Shape := ⟨3, ![8, 2048, 8192]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩
abbrev S1x1x1x64 : Shape := ⟨4, ![1, 1, 1, 64]⟩
abbrev S8 : Shape := ⟨1, ![8]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S8x2048x16x8 : Shape := ⟨4, ![8, 2048, 16, 8]⟩
abbrev S8x2048x16x48 : Shape := ⟨4, ![8, 2048, 16, 48]⟩
abbrev S8x2048x8x128 : Shape := ⟨4, ![8, 2048, 8, 128]⟩
abbrev S8x1024x2048 : Shape := ⟨3, ![8, 1024, 2048]⟩

abbrev nBuf : Space → Nat
  | .hbm => 162
  | .vmem => 0
  | .smem => 0
  | _ => 0

abbrev hbmTy0_0 (i : Nat) : BufTy := match i % 128 with
  | 0 => ⟨S8x2048x1024, .f32⟩
  | 1 => ⟨S16x6144, .f32⟩
  | 2 => ⟨S1024, .f32⟩
  | 3 => ⟨S1024x8192, .f32⟩
  | 4 => ⟨S64, .f32⟩
  | 5 => ⟨S64, .f32⟩
  | 6 => ⟨S16x1024, .f32⟩
  | 7 => ⟨S16x1024, .f32⟩
  | 8 => ⟨S16x1024, .f32⟩
  | 9 => ⟨S16x1024, .f32⟩
  | 10 => ⟨S16x1024, .f32⟩
  | 11 => ⟨S16x1024, .f32⟩
  | 12 => ⟨S8x1024, .f32⟩
  | 13 => ⟨S8x1x1024, .f32⟩
  | 14 => ⟨S8x1024, .f32⟩
  | 15 => ⟨S8x1x1024, .f32⟩
  | 16 => ⟨S8x2048x1024, .f32⟩
  | 17 => ⟨S_, .f32⟩
  | 18 => ⟨S8x2048, .f32⟩
  | 19 => ⟨S8x2048x1, .f32⟩
  | 20 => ⟨S_, .f32⟩
  | 21 => ⟨S8x2048x1, .f32⟩
  | 22 => ⟨S8x2048x1, .f32⟩
  | 23 => ⟨S_, .f32⟩
  | 24 => ⟨S8x2048x1, .f32⟩
  | 25 => ⟨S8x2048x1, .f32⟩
  | 26 => ⟨S8x2048x1, .f32⟩
  | 27 => ⟨S8x2048x1024, .f32⟩
  | 28 => ⟨S8x2048x1024, .f32⟩
  | 29 => ⟨S1x1x1024, .f32⟩
  | 30 => ⟨S8x2048x1024, .f32⟩
  | 31 => ⟨S8x2048x1024, .f32⟩
  | 32 => ⟨S_, .f32⟩
  | 33 => ⟨S8x1x1024, .f32⟩
  | 34 => ⟨S8x1x1024, .f32⟩
  | 35 => ⟨S8x2048x1024, .f32⟩
  | 36 => ⟨S8x2048x1024, .f32⟩
  | 37 => ⟨S8x2048x1024, .f32⟩
  | 38 => ⟨S8x2048x1024, .f32⟩
  | 39 => ⟨S8x2048x8192, .f32⟩
  | 40 => ⟨S8x2048x1024, .f32⟩
  | 41 => ⟨S8x2048x1024, .f32⟩
  | 42 => ⟨S8x2048x1024, .f32⟩
  | 43 => ⟨S8x2048x1024, .f32⟩
  | 44 => ⟨S8x2048x1024, .f32⟩
  | 45 => ⟨S8x2048x1024, .f32⟩
  | 46 => ⟨S8x2048x16x64, .f32⟩
  | 47 => ⟨S8x2048x16x64, .f32⟩
  | 48 => ⟨S_, .f32⟩
  | 49 => ⟨S8x2048x16, .f32⟩
  | 50 => ⟨S8x2048x16x1, .f32⟩
  | 51 => ⟨S_, .f32⟩
  | 52 => ⟨S8x2048x16x1, .f32⟩
  | 53 => ⟨S8x2048x16x1, .f32⟩
  | 54 => ⟨S_, .f32⟩
  | 55 => ⟨S8x2048x16x1, .f32⟩
  | 56 => ⟨S8x2048x16x1, .f32⟩
  | 57 => ⟨S8x2048x16x1, .f32⟩
  | 58 => ⟨S8x2048x16x64, .f32⟩
  | 59 => ⟨S8x2048x16x64, .f32⟩
  | 60 => ⟨S1x1x1x64, .f32⟩
  | 61 => ⟨S8x2048x16x64, .f32⟩
  | 62 => ⟨S8x2048x16x64, .f32⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .f32⟩
  | 70 => ⟨S8, .f32⟩
  | 71 => ⟨S2048, .i32⟩
  | 72 => ⟨S2048, .f32⟩
  | 73 => ⟨S2048x1, .f32⟩
  | 74 => ⟨S1x8, .f32⟩
  | 75 => ⟨S2048x8, .f32⟩
  | 76 => ⟨S2048x8, .f32⟩
  | 77 => ⟨S2048x8, .f32⟩
  | 78 => ⟨S2048x8, .f32⟩
  | 79 => ⟨S1x2048x1x8, .f32⟩
  | 80 => ⟨S2048x8, .f32⟩
  | 81 => ⟨S1x2048x1x8, .f32⟩
  | 82 => ⟨S8x2048x16x8, .f32⟩
  | 83 => ⟨S8x2048x16x8, .f32⟩
  | 84 => ⟨S8x2048x16x8, .f32⟩
  | 85 => ⟨S8x2048x16x8, .f32⟩
  | 86 => ⟨S8x2048x16x8, .f32⟩
  | 87 => ⟨S8x2048x16x8, .f32⟩
  | 88 => ⟨S8x2048x16x8, .f32⟩
  | 89 => ⟨S8x2048x16x8, .f32⟩
  | 90 => ⟨S8x2048x16x8, .f32⟩
  | 91 => ⟨S8x2048x16x8, .f32⟩
  | 92 => ⟨S8x2048x16x8, .f32⟩
  | 93 => ⟨S8x2048x16x8, .f32⟩
  | 94 => ⟨S8x2048x16x48, .f32⟩
  | 95 => ⟨S8x2048x16x64, .f32⟩
  | 96 => ⟨S8x2048x16x64, .f32⟩
  | 97 => ⟨S8x2048x16x64, .f32⟩
  | 98 => ⟨S_, .f32⟩
  | 99 => ⟨S8x2048x16, .f32⟩
  | 100 => ⟨S8x2048x16x1, .f32⟩
  | 101 => ⟨S_, .f32⟩
  | 102 => ⟨S8x2048x16x1, .f32⟩
  | 103 => ⟨S8x2048x16x1, .f32⟩
  | 104 => ⟨S_, .f32⟩
  | 105 => ⟨S8x2048x16x1, .f32⟩
  | 106 => ⟨S8x2048x16x1, .f32⟩
  | 107 => ⟨S8x2048x16x1, .f32⟩
  | 108 => ⟨S8x2048x16x64, .f32⟩
  | 109 => ⟨S8x2048x16x64, .f32⟩
  | 110 => ⟨S1x1x1x64, .f32⟩
  | 111 => ⟨S8x2048x16x64, .f32⟩
  | 112 => ⟨S8x2048x16x64, .f32⟩
  | 113 => ⟨S8, .f32⟩
  | 114 => ⟨S_, .f32⟩
  | 115 => ⟨S8, .f32⟩
  | 116 => ⟨S8, .f32⟩
  | 117 => ⟨S_, .f32⟩
  | 118 => ⟨S8, .f32⟩
  | 119 => ⟨S8, .f32⟩
  | 120 => ⟨S8, .f32⟩
  | 121 => ⟨S2048, .i32⟩
  | 122 => ⟨S2048, .f32⟩
  | 123 => ⟨S2048x1, .f32⟩
  | 124 => ⟨S1x8, .f32⟩
  | 125 => ⟨S2048x8, .f32⟩
  | 126 => ⟨S2048x8, .f32⟩
  | 127 => ⟨S2048x8, .f32⟩
  | _ => ⟨S8x2048x1024, .f32⟩

abbrev hbmTy0_1 (i : Nat) : BufTy := match i % 128 with
  | 0 => ⟨S2048x8, .f32⟩
  | 1 => ⟨S1x2048x1x8, .f32⟩
  | 2 => ⟨S2048x8, .f32⟩
  | 3 => ⟨S1x2048x1x8, .f32⟩
  | 4 => ⟨S8x2048x16x8, .f32⟩
  | 5 => ⟨S8x2048x16x8, .f32⟩
  | 6 => ⟨S8x2048x16x8, .f32⟩
  | 7 => ⟨S8x2048x16x8, .f32⟩
  | 8 => ⟨S8x2048x16x8, .f32⟩
  | 9 => ⟨S8x2048x16x8, .f32⟩
  | 10 => ⟨S8x2048x16x8, .f32⟩
  | 11 => ⟨S8x2048x16x8, .f32⟩
  | 12 => ⟨S8x2048x16x8, .f32⟩
  | 13 => ⟨S8x2048x16x8, .f32⟩
  | 14 => ⟨S8x2048x16x8, .f32⟩
  | 15 => ⟨S8x2048x16x8, .f32⟩
  | 16 => ⟨S8x2048x16x48, .f32⟩
  | 17 => ⟨S8x2048x16x64, .f32⟩
  | 18 => ⟨S8x2048x8x128, .f32⟩
  | 19 => ⟨S8x2048x16x64, .f32⟩
  | 20 => ⟨S8x2048x16x64, .f32⟩
  | 21 => ⟨S_, .f32⟩
  | 22 => ⟨S8x2048x16x64, .f32⟩
  | 23 => ⟨S8x2048x16x64, .f32⟩
  | 24 => ⟨S8x2048x1024, .f32⟩
  | 25 => ⟨S8x1024x2048, .f32⟩
  | 26 => ⟨S8x1024x2048, .bf16⟩
  | 27 => ⟨S8x1024x2048, .f32⟩
  | 28 => ⟨S8x1024x2048, .bf16⟩
  | 29 => ⟨S_, .f32⟩
  | 30 => ⟨S8x2048x1024, .f32⟩
  | 31 => ⟨S8x2048x1024, .f32⟩
  | 32 => ⟨S8x1024x2048, .f32⟩
  | 33 => ⟨S8x1024x2048, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_8 : Ref sig .tc := ⟨.hbm, 98, rfl⟩
abbrev main_v83 : Ref sig .tc := ⟨.hbm, 99, rfl⟩
abbrev main_v84 : Ref sig .tc := ⟨.hbm, 100, rfl⟩
abbrev main_cst_9 : Ref sig .tc := ⟨.hbm, 101, rfl⟩
abbrev main_v85 : Ref sig .tc := ⟨.hbm, 102, rfl⟩
abbrev main_v86 : Ref sig .tc := ⟨.hbm, 103, rfl⟩
abbrev main_cst_10 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_cst_11 : Ref sig .tc := ⟨.hbm, 114, rfl⟩
abbrev main_v96 : Ref sig .tc := ⟨.hbm, 115, rfl⟩
abbrev main_v97 : Ref sig .tc := ⟨.hbm, 116, rfl⟩
abbrev main_cst_12 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_cst_13 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_cst_14 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩

abbrev nD : Nat := 1
abbrev τ : Topo := Topo.v7x

variable {F : FTy → Type} [FloatOps F]
-- ==== Kernel3.lean ====
abbrev S8x2048x1024 : Shape := ⟨3, ![8, 2048, 1024]⟩
abbrev S16384x1024 : Shape := ⟨2, ![16384, 1024]⟩
abbrev S16x6144 : Shape := ⟨2, ![16, 6144]⟩
abbrev S1024 : Shape := ⟨1, ![1024]⟩
abbrev S1024x8192 : Shape := ⟨2, ![1024, 8192]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S16x1x6144 : Shape := ⟨3, ![16, 1, 6144]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S1x128 : Shape := ⟨2, ![1, 128]⟩
abbrev S1x1024 : Shape := ⟨2, ![1, 1024]⟩
abbrev S16384x128 : Shape := ⟨2, ![16384, 128]⟩
abbrev S1x1x6144 : Shape := ⟨3, ![1, 1, 6144]⟩
abbrev S512x1024 : Shape := ⟨2, ![512, 1024]⟩
abbrev S1024x2048 : Shape := ⟨2, ![1024, 2048]⟩
abbrev S512x128 : Shape := ⟨2, ![512, 128]⟩
abbrev S1x1x1024 : Shape := ⟨3, ![1, 1, 1024]⟩
abbrev S512 : Shape := ⟨1, ![512]⟩
abbrev S512x1 : Shape := ⟨2, ![512, 1]⟩

abbrev nBuf : Space → Nat
  | .hbm => 38
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .bf16⟩
  | .hbm, ⟨2, _⟩ => ⟨S16384x1024, .bf16⟩
  | .hbm, ⟨3, _⟩ => ⟨S16x6144, .f32⟩
  | .hbm, ⟨4, _⟩ => ⟨S1024, .f32⟩
  | .hbm, ⟨5, _⟩ => ⟨S1024, .f32⟩
  | .hbm, ⟨6, _⟩ => ⟨S1024x8192, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S16x1x6144, .f32⟩
  | .hbm, ⟨15, _⟩ => ⟨S1024x36, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S36, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S16384x1024, .f32⟩
  | .hbm, ⟨25, _⟩ => ⟨S1024x8192, .bf16⟩
  | .hbm, ⟨26, _⟩ => ⟨S1024x1024, .bf16⟩
  | .hbm, ⟨27, _⟩ => ⟨S1024x1024, .bf16⟩
  | .hbm, ⟨28, _⟩ => ⟨S1024x1024, .bf16⟩
  | .hbm, ⟨29, _⟩ => ⟨S1024x128, .bf16⟩
  | .hbm, ⟨30, _⟩ => ⟨S1024x128, .f32⟩
  | .hbm, ⟨31, _⟩ => ⟨S1024x128, .f32⟩
  | .hbm, ⟨32, _⟩ => ⟨S1024x128, .bf16⟩
  | .hbm, ⟨33, _⟩ => ⟨S1x1024, .f32⟩
  | .hbm, ⟨34, _⟩ => ⟨S1x1024, .f32⟩
  | .hbm, ⟨35, _⟩ => ⟨S16384x1024, .f32⟩
  | .hbm, ⟨36, _⟩ => ⟨S16384x1024, .bf16⟩
  | .hbm, ⟨37, _⟩ => ⟨S16384x128, .f32⟩
  | .local _ .vmem, ⟨0, _⟩ => ⟨S1x1x6144, .f32⟩
  | .local _ .vmem, ⟨1, _⟩ => ⟨S1x1x6144, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x2048, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x128, .bf16⟩
  | .local _ .vmem, ⟨15, _⟩ => ⟨S1024x128, .bf16⟩
  | .local _ .vmem, ⟨16, _⟩ => ⟨S1x128, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x128, .f32⟩
  | .local _ .vmem, ⟨22, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_call0_v0 : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_call1_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17_0 : Ref sig .tc := ⟨.hbm, 35, rfl⟩
abbrev main_v17_1 : Ref sig .tc := ⟨.hbm, 36, rfl⟩
abbrev main_v17_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S8x2048x1024 : Shape := ⟨3, ![8, 2048, 1024]⟩
abbrev S16384x1024 : Shape := ⟨2, ![16384, 1024]⟩
abbrev S16x6144 : Shape := ⟨2, ![16, 6144]⟩
abbrev S1024 : Shape := ⟨1, ![1024]⟩
abbrev S1024x8192 : Shape := ⟨2, ![1024, 8192]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S16x1024 : Shape := ⟨2, ![16, 1024]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x8192 : Shape := ⟨3, ![8, 2048, 8192]⟩
abbrev S8 : Shape := ⟨1, ![8]⟩
abbrev S16384x4 : Shape := ⟨2, ![16384, 4]⟩
abbrev S1x4 : Shape := ⟨2, ![1, 4]⟩
abbrev S16384 : Shape := ⟨1, ![16384]⟩
abbrev S16384x1 : Shape := ⟨2, ![16384, 1]⟩
abbrev S16384x32 : Shape := ⟨2, ![16384, 32]⟩
abbrev S1x32 : Shape := ⟨2, ![1, 32]⟩
abbrev S16384x4x8 : Shape := ⟨3, ![16384, 4, 8]⟩
abbrev S16384x4x1 : Shape := ⟨3, ![16384, 4, 1]⟩
abbrev S16384x8 : Shape := ⟨2, ![16384, 8]⟩
abbrev S1x8 : Shape := ⟨2, ![1, 8]⟩
abbrev S16384x1x8 : Shape := ⟨3, ![16384, 1, 8]⟩
abbrev S16384x95 : Shape := ⟨2, ![16384, 95]⟩
abbrev S16384x128 : Shape := ⟨2, ![16384, 128]⟩

abbrev nBuf : Space → Nat
  | .hbm => 243
  | .vmem => 0
  | .smem => 0
  | _ => 0

abbrev hbmTy0_0 (i : Nat) : BufTy := match i % 128 with
  | 0 => ⟨S8x2048x1024, .f32⟩
  | 1 => ⟨S16384x1024, .bf16⟩
  | 2 => ⟨S16384x1024, .bf16⟩
  | 3 => ⟨S16x6144, .f32⟩
  | 4 => ⟨S1024, .f32⟩
  | 5 => ⟨S1024, .f32⟩
  | 6 => ⟨S1024x8192, .f32⟩
  | 7 => ⟨S1024x1024, .f32⟩
  | 8 => ⟨S1024x1024, .f32⟩
  | 9 => ⟨S1024x1024, .f32⟩
  | 10 => ⟨S1024x4, .f32⟩
  | 11 => ⟨S4, .f32⟩
  | 12 => ⟨S1024x32, .f32⟩
  | 13 => ⟨S32, .f32⟩
  | 14 => ⟨S16x1024, .f32⟩
  | 15 => ⟨S16x1024, .f32⟩
  | 16 => ⟨S16x1024, .f32⟩
  | 17 => ⟨S16x1024, .f32⟩
  | 18 => ⟨S16x1024, .f32⟩
  | 19 => ⟨S16x1024, .f32⟩
  | 20 => ⟨S8x1024, .f32⟩
  | 21 => ⟨S8x1x1024, .f32⟩
  | 22 => ⟨S8x1024, .f32⟩
  | 23 => ⟨S8x1x1024, .f32⟩
  | 24 => ⟨S8x1024, .f32⟩
  | 25 => ⟨S8x1x1024, .f32⟩
  | 26 => ⟨S8x1024, .f32⟩
  | 27 => ⟨S8x1x1024, .f32⟩
  | 28 => ⟨S8x1024, .f32⟩
  | 29 => ⟨S8x1x1024, .f32⟩
  | 30 => ⟨S8x2048x1024, .f32⟩
  | 31 => ⟨S_, .f32⟩
  | 32 => ⟨S8x2048, .f32⟩
  | 33 => ⟨S8x2048x1, .f32⟩
  | 34 => ⟨S_, .f32⟩
  | 35 => ⟨S8x2048x1, .f32⟩
  | 36 => ⟨S8x2048x1, .f32⟩
  | 37 => ⟨S_, .f32⟩
  | 38 => ⟨S8x2048x1, .f32⟩
  | 39 => ⟨S8x2048x1, .f32⟩
  | 40 => ⟨S8x2048x1, .f32⟩
  | 41 => ⟨S8x2048x1024, .f32⟩
  | 42 => ⟨S8x2048x1024, .f32⟩
  | 43 => ⟨S1x1x1024, .f32⟩
  | 44 => ⟨S8x2048x1024, .f32⟩
  | 45 => ⟨S8x2048x1024, .f32⟩
  | 46 => ⟨S_, .f32⟩
  | 47 => ⟨S8x1x1024, .f32⟩
  | 48 => ⟨S8x1x1024, .f32⟩
  | 49 => ⟨S8x2048x1024, .f32⟩
  | 50 => ⟨S8x2048x1024, .f32⟩
  | 51 => ⟨S8x2048x1024, .f32⟩
  | 52 => ⟨S8x2048x1024, .f32⟩
  | 53 => ⟨S8x2048x8192, .f32⟩
  | 54 => ⟨S8x2048x1024, .f32⟩
  | 55 => ⟨S8x2048x1024, .f32⟩
  | 56 => ⟨S8x2048x1024, .f32⟩
  | 57 => ⟨S_, .f32⟩
  | 58 => ⟨S8x2048x1024, .f32⟩
  | 59 => ⟨S8x2048x1024, .f32⟩
  | 60 => ⟨S_, .f32⟩
  | 61 => ⟨S8x2048x1024, .f32⟩
  | 62 => ⟨S8x2048x1024, .f32⟩
  | 63 => ⟨S8x2048x1024, .f32⟩
  | 64 => ⟨S8x2048x1024, .f32⟩
  | 65 => ⟨S8x2048x1024, .f32⟩
  | 66 => ⟨S_, .f32⟩
  | 67 => ⟨S8x2048x1024, .f32⟩
  | 68 => ⟨S8x2048x1024, .f32⟩
  | 69 => ⟨S_, .f32⟩
  | 70 => ⟨S8x2048x1024, .f32⟩
  | 71 => ⟨S8x2048x1024, .f32⟩
  | 72 => ⟨S16384x1024, .f32⟩
  | 73 => ⟨S8x2048x1024, .f32⟩
  | 74 => ⟨S16384x1024, .f32⟩
  | 75 => ⟨S8x2048x1024, .f32⟩
  | 76 => ⟨S8x2048x1024, .f32⟩
  | 77 => ⟨S8x2048x1024, .f32⟩
  | 78 => ⟨S8x2048x1024, .f32⟩
  | 79 => ⟨S8x2048x1024, .f32⟩
  | 80 => ⟨S8x2048x1024, .f32⟩
  | 81 => ⟨S8x2048x1024, .f32⟩
  | 82 => ⟨S8x2048x1024, .f32⟩
  | 83 => ⟨S8x2048x1024, .f32⟩
  | 84 => ⟨S8x2048x1024, .f32⟩
  | 85 => ⟨S8x2048x1024, .f32⟩
  | 86 => ⟨S_, .f32⟩
  | 87 => ⟨S8x2048, .f32⟩
  | 88 => ⟨S8x2048x1, .f32⟩
  | 89 => ⟨S_, .f32⟩
  | 90 => ⟨S8x2048x1, .f32⟩
  | 91 => ⟨S8x2048x1, .f32⟩
  | 92 => ⟨S_, .f32⟩
  | 93 => ⟨S8x2048x1, .f32⟩
  | 94 => ⟨S8x2048x1, .f32⟩
  | 95 => ⟨S8x2048x1, .f32⟩
  | 96 => ⟨S8x2048x1024, .f32⟩
  | 97 => ⟨S8x2048x1024, .f32⟩
  | 98 => ⟨S1x1x1024, .f32⟩
  | 99 => ⟨S8x2048x1024, .f32⟩
  | 100 => ⟨S8x2048x1024, .f32⟩
  | 101 => ⟨S_, .f32⟩
  | 102 => ⟨S8x1x1024, .f32⟩
  | 103 => ⟨S8x1x1024, .f32⟩
  | 104 => ⟨S8x2048x1024, .f32⟩
  | 105 => ⟨S8x2048x1024, .f32⟩
  | 106 => ⟨S8x2048x1024, .f32⟩
  | 107 => ⟨S8x2048x1024, .f32⟩
  | 108 => ⟨S16384x1024, .f32⟩
  | 109 => ⟨S4, .f32⟩
  | 110 => ⟨S8, .f32⟩
  | 111 => ⟨S16384x4, .f32⟩
  | 112 => ⟨S1x4, .f32⟩
  | 113 => ⟨S16384x4, .f32⟩
  | 114 => ⟨S16384x4, .f32⟩
  | 115 => ⟨S_, .f32⟩
  | 116 => ⟨S16384, .f32⟩
  | 117 => ⟨S16384x1, .f32⟩
  | 118 => ⟨S16384x4, .f32⟩
  | 119 => ⟨S16384x4, .f32⟩
  | 120 => ⟨S16384x4, .f32⟩
  | 121 => ⟨S_, .f32⟩
  | 122 => ⟨S16384, .f32⟩
  | 123 => ⟨S16384x1, .f32⟩
  | 124 => ⟨S16384x4, .f32⟩
  | 125 => ⟨S16384x4, .f32⟩
  | 126 => ⟨S_, .f32⟩
  | 127 => ⟨S16384, .f32⟩
  | _ => ⟨S8x2048x1024, .f32⟩

abbrev hbmTy0_1 (i : Nat) : BufTy := match i % 128 with
  | 0 => ⟨S16384x1, .f32⟩
  | 1 => ⟨S16384x4, .f32⟩
  | 2 => ⟨S16384x4, .i1⟩
  | 3 => ⟨S_, .f32⟩
  | 4 => ⟨S_, .f32⟩
  | 5 => ⟨S16384x4, .f32⟩
  | 6 => ⟨S16384x4, .f32⟩
  | 7 => ⟨S16384x4, .f32⟩
  | 8 => ⟨S_, .f32⟩
  | 9 => ⟨S16384, .f32⟩
  | 10 => ⟨S16384x1, .f32⟩
  | 11 => ⟨S16384x32, .f32⟩
  | 12 => ⟨S1x32, .f32⟩
  | 13 => ⟨S16384x32, .f32⟩
  | 14 => ⟨S16384x32, .f32⟩
  | 15 => ⟨S16384x4x8, .f32⟩
  | 16 => ⟨S1x4, .f32⟩
  | 17 => ⟨S16384x4, .f32⟩
  | 18 => ⟨S16384x4, .f32⟩
  | 19 => ⟨S16384x4, .i1⟩
  | 20 => ⟨S16384x4x1, .i1⟩
  | 21 => ⟨S_, .f32⟩
  | 22 => ⟨S_, .f32⟩
  | 23 => ⟨S16384x4x8, .i1⟩
  | 24 => ⟨S16384x4x8, .f32⟩
  | 25 => ⟨S16384x4x8, .f32⟩
  | 26 => ⟨S_, .f32⟩
  | 27 => ⟨S16384x8, .f32⟩
  | 28 => ⟨S_, .f32⟩
  | 29 => ⟨S16384, .f32⟩
  | 30 => ⟨S16384x1, .f32⟩
  | 31 => ⟨S16384x8, .f32⟩
  | 32 => ⟨S16384x8, .f32⟩
  | 33 => ⟨S16384x8, .f32⟩
  | 34 => ⟨S_, .f32⟩
  | 35 => ⟨S16384, .f32⟩
  | 36 => ⟨S16384x1, .f32⟩
  | 37 => ⟨S16384x8, .f32⟩
  | 38 => ⟨S16384x8, .f32⟩
  | 39 => ⟨S_, .f32⟩
  | 40 => ⟨S16384, .f32⟩
  | 41 => ⟨S16384x1, .f32⟩
  | 42 => ⟨S16384x8, .f32⟩
  | 43 => ⟨S16384x8, .i1⟩
  | 44 => ⟨S_, .f32⟩
  | 45 => ⟨S_, .f32⟩
  | 46 => ⟨S16384x8, .f32⟩
  | 47 => ⟨S16384x8, .f32⟩
  | 48 => ⟨S16384x8, .f32⟩
  | 49 => ⟨S_, .f32⟩
  | 50 => ⟨S16384, .f32⟩
  | 51 => ⟨S16384x1, .f32⟩
  | 52 => ⟨S1x8, .f32⟩
  | 53 => ⟨S16384x8, .f32⟩
  | 54 => ⟨S16384x8, .f32⟩
  | 55 => ⟨S16384x8, .i1⟩
  | 56 => ⟨S_, .f32⟩
  | 57 => ⟨S_, .f32⟩
  | 58 => ⟨S16384x8, .f32⟩
  | 59 => ⟨S16384x8, .f32⟩
  | 60 => ⟨S_, .f32⟩
  | 61 => ⟨S16384, .f32⟩
  | 62 => ⟨S16384x1, .f32⟩
  | 63 => ⟨S16384x8, .f32⟩
  | 64 => ⟨S16384x8, .i1⟩
  | 65 => ⟨S_, .f32⟩
  | 66 => ⟨S_, .f32⟩
  | 67 => ⟨S16384x8, .f32⟩
  | 68 => ⟨S16384x8, .f32⟩
  | 69 => ⟨S16384x8, .f32⟩
  | 70 => ⟨S_, .f32⟩
  | 71 => ⟨S16384, .f32⟩
  | 72 => ⟨S16384x1, .f32⟩
  | 73 => ⟨S1x8, .f32⟩
  | 74 => ⟨S16384x8, .f32⟩
  | 75 => ⟨S16384x8, .f32⟩
  | 76 => ⟨S16384x8, .i1⟩
  | 77 => ⟨S_, .f32⟩
  | 78 => ⟨S_, .f32⟩
  | 79 => ⟨S16384x8, .f32⟩
  | 80 => ⟨S16384x8, .f32⟩
  | 81 => ⟨S16384x8, .f32⟩
  | 82 => ⟨S1x8, .f32⟩
  | 83 => ⟨S16384x8, .f32⟩
  | 84 => ⟨S16384x8, .f32⟩
  | 85 => ⟨S16384x8, .i1⟩
  | 86 => ⟨S_, .f32⟩
  | 87 => ⟨S_, .f32⟩
  | 88 => ⟨S16384x8, .f32⟩
  | 89 => ⟨S16384x8, .f32⟩
  | 90 => ⟨S16384x8, .f32⟩
  | 91 => ⟨S16384x8, .f32⟩
  | 92 => ⟨S16384x1, .f32⟩
  | 93 => ⟨S16384x8, .f32⟩
  | 94 => ⟨S16384x8, .f32⟩
  | 95 => ⟨S16384x8, .f32⟩
  | 96 => ⟨S16384x8, .f32⟩
  | 97 => ⟨S1x4, .f32⟩
  | 98 => ⟨S16384x4, .f32⟩
  | 99 => ⟨S16384x4, .f32⟩
  | 100 => ⟨S16384x4, .i1⟩
  | 101 => ⟨S16384x4x1, .i1⟩
  | 102 => ⟨S16384x1x8, .f32⟩
  | 103 => ⟨S_, .f32⟩
  | 104 => ⟨S_, .f32⟩
  | 105 => ⟨S16384x4x8, .i1⟩
  | 106 => ⟨S16384x4x8, .f32⟩
  | 107 => ⟨S16384x4x8, .f32⟩
  | 108 => ⟨S16384x4x8, .f32⟩
  | 109 => ⟨S16384x32, .f32⟩
  | 110 => ⟨S_, .f32⟩
  | 111 => ⟨S16384x95, .f32⟩
  | 112 => ⟨S16384x128, .f32⟩
  | 113 => ⟨S16384x1024, .f32⟩
  | 114 => ⟨S16384x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_7 : Ref sig .tc := ⟨.hbm, 86, rfl⟩
abbrev main_v64 : Ref sig .tc := ⟨.hbm, 87, rfl⟩
abbrev main_v65 : Ref sig .tc := ⟨.hbm, 88, rfl⟩
abbrev main_cst_8 : Ref sig .tc := ⟨.hbm, 89, rfl⟩
abbrev main_v66 : Ref sig .tc := ⟨.hbm, 90, rfl⟩
abbrev main_v67 : Ref sig .tc := ⟨.hbm, 91, rfl⟩
abbrev main_cst_9 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_10 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_11 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_12 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_13 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_14 : Ref sig .tc := ⟨.hbm, 131, rfl⟩
abbrev main_call0_v0 : Ref sig .tc := ⟨.hbm, 132, rfl⟩
abbrev main_call0_v1 : Ref sig .tc := ⟨.hbm, 133, rfl⟩
abbrev main_call0_v2 : Ref sig .tc := ⟨.hbm, 134, rfl⟩
abbrev main_v102 : Ref sig .tc := ⟨.hbm, 135, rfl⟩
abbrev main_cst_15 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_16 : Ref sig .tc := ⟨.hbm, 149, rfl⟩
abbrev main_call1_v0 : Ref sig .tc := ⟨.hbm, 150, rfl⟩
abbrev main_call1_v1 : Ref sig .tc := ⟨.hbm, 151, rfl⟩
abbrev main_call1_v2 : Ref sig .tc := ⟨.hbm, 152, rfl⟩
abbrev main_v115 : Ref sig .tc := ⟨.hbm, 153, rfl⟩
abbrev main_cst_17 : Ref sig .tc := ⟨.hbm, 154, rfl⟩
abbrev main_v116 : Ref sig .tc := ⟨.hbm, 155, rfl⟩
abbrev main_cst_18 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_19 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_20 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_21 : Ref sig .tc := ⟨.hbm, 172, rfl⟩
abbrev main_call2_v0 : Ref sig .tc := ⟨.hbm, 173, rfl⟩
abbrev main_call2_v1 : Ref sig .tc := ⟨.hbm, 174, rfl⟩
abbrev main_call2_v2 : Ref sig .tc := ⟨.hbm, 175, rfl⟩
abbrev main_v130 : Ref sig .tc := ⟨.hbm, 176, rfl⟩
abbrev main_cst_22 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_cst_23 : Ref sig .tc := ⟨.hbm, 184, rfl⟩
abbrev main_call3_v0 : Ref sig .tc := ⟨.hbm, 185, rfl⟩
abbrev main_call3_v1 : Ref sig .tc := ⟨.hbm, 186, rfl⟩
abbrev main_v137 : Ref sig .tc := ⟨.hbm, 187, rfl⟩
abbrev main_cst_24 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_25 : Ref sig .tc := ⟨.hbm, 193, rfl⟩
abbrev main_call4_v0 : Ref sig .tc := ⟨.hbm, 194, rfl⟩
abbrev main_call4_v1 : Ref sig .tc := ⟨.hbm, 195, rfl⟩
abbrev main_call4_v2 : Ref sig .tc := ⟨.hbm, 196, rfl⟩
abbrev main_v142 : Ref sig .tc := ⟨.hbm, 197, rfl⟩
abbrev main_cst_26 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_cst_27 : Ref sig .tc := ⟨.hbm, 205, rfl⟩
abbrev main_call5_v0 : Ref sig .tc := ⟨.hbm, 206, rfl⟩
abbrev main_call5_v1 : Ref sig .tc := ⟨.hbm, 207, rfl⟩
abbrev main_call5_v2 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_cst_28 : Ref sig .tc := ⟨.hbm, 214, rfl⟩
abbrev main_call6_v0 : Ref sig .tc := ⟨.hbm, 215, rfl⟩
abbrev main_call6_v1 : Ref sig .tc := ⟨.hbm, 216, rfl⟩
abbrev main_call6_v2 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_cst_29 : Ref sig .tc := ⟨.hbm, 231, rfl⟩
abbrev main_call7_v0 : Ref sig .tc := ⟨.hbm, 232, rfl⟩
abbrev main_call7_v1 : Ref sig .tc := ⟨.hbm, 233, rfl⟩
abbrev main_call7_v2 : Ref sig .tc := ⟨.hbm, 234, rfl⟩
abbrev main_call7_v3 : Ref sig .tc := ⟨.hbm, 235, rfl⟩
abbrev main_v167 : Ref sig .tc := ⟨.hbm, 236, rfl⟩
abbrev main_v168 : Ref sig .tc := ⟨.hbm, 237, rfl⟩
abbrev main_cst_30 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩

abbrev nD : Nat := 1
abbrev τ : Topo := Topo.v7x

variable {F : FTy → Type} [FloatOps F]
-- ==== Kernel4.lean ====
abbrev S8x1024 : Shape := ⟨2, ![8, 1024]⟩
abbrev S1024x6144 : Shape := ⟨2, ![1024, 6144]⟩
abbrev S6144 : Shape := ⟨1, ![6144]⟩
abbrev S64 : Shape := ⟨1, ![64]⟩
abbrev S16x1024 : Shape := ⟨2, ![16, 1024]⟩
abbrev S1x64 : Shape := ⟨2, ![1, 64]⟩
abbrev S4x64 : Shape := ⟨2, ![4, 64]⟩
abbrev S1x6144 : Shape := ⟨2, ![1, 6144]⟩
abbrev S16x6144 : Shape := ⟨2, ![16, 6144]⟩
abbrev S8x128 : Shape := ⟨2, ![8, 128]⟩
abbrev S1024x1024 : Shape := ⟨2, ![1024, 1024]⟩
abbrev S1x1024 : Shape := ⟨2, ![1, 1024]⟩
abbrev S1 : Shape := ⟨1, ![1]⟩
abbrev S1x1 : Shape := ⟨2, ![1, 1]⟩

abbrev nBuf : Space → Nat
  | .hbm => 17
  | .vmem => 9
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S1024x6144, .f32⟩
  | .hbm, ⟨3, _⟩ => ⟨S6144, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S16x1024, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S4x64, .f32⟩
  | .hbm, ⟨14, _⟩ => ⟨S1x6144, .f32⟩
  | .hbm, ⟨15, _⟩ => ⟨S16x6144, .f32⟩
  | .hbm, ⟨16, _⟩ => ⟨S8x128, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S4x64, .f32⟩
  | .local _ .vmem, ⟨6, _⟩ => ⟨S16x1024, .f32⟩
  | .local _ .vmem, ⟨7, _⟩ => ⟨S16x1024, .f32⟩
  | .local _ .vmem, ⟨8, _⟩ => ⟨S8x128, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference4Ideal.lean ====
abbrev S8x1024 : Shape := ⟨2, ![8, 1024]⟩
abbrev S1024x6144 : Shape := ⟨2, ![1024, 6144]⟩
abbrev S6144 : Shape := ⟨1, ![6144]⟩
abbrev S64 : Shape := ⟨1, ![64]⟩
abbrev S_ : Shape := ⟨0, ![]⟩
abbrev S8x6144 : Shape := ⟨2, ![8, 6144]⟩
abbrev S1x6144 : Shape := ⟨2, ![1, 6144]⟩
abbrev S16x6144 : Shape := ⟨2, ![16, 6144]⟩
abbrev S8x128 : Shape := ⟨2, ![8, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S1024x6144, .f32⟩
  | .hbm, ⟨3, _⟩ => ⟨S6144, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x6144, .f32⟩
  | .hbm, ⟨18, _⟩ => ⟨S1x6144, .f32⟩
  | .hbm, ⟨19, _⟩ => ⟨S8x6144, .f32⟩
  | .hbm, ⟨20, _⟩ => ⟨S8x6144, .f32⟩
  | .hbm, ⟨21, _⟩ => ⟨S8x1024, .f32⟩
  | .hbm, ⟨22, _⟩ => ⟨S8x1024, .f32⟩
  | .hbm, ⟨23, _⟩ => ⟨S_, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S8x6144, .f32⟩
  | .hbm, ⟨31, _⟩ => ⟨S1x6144, .f32⟩
  | .hbm, ⟨32, _⟩ => ⟨S8x6144, .f32⟩
  | .hbm, ⟨33, _⟩ => ⟨S8x6144, .f32⟩
  | .hbm, ⟨34, _⟩ => ⟨S64, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S16x6144, .f32⟩
  | .hbm, ⟨46, _⟩ => ⟨S8x128, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_1 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩

abbrev nD : Nat := 1
abbrev τ : Topo := Topo.v7x

variable {F : FTy → Type} [FloatOps F]
-- ==== Proof.Words.lean ====
module

public import proofs.«01_k».proof.Proof.Gen.KernelIdeal.Skeleton
public import Idealize.ShloMosaic.Lib.Tactic
public import Idealize.ShloMosaic.Lib.WordCmp

@[expose] public section

noncomputable section

namespace Cert.KernelIdeal.Moe

open Idealize.ShloMosaic Idealize.ShloMosaic.TcCoe
open Cert.KernelIdeal Cert.KernelIdeal.Gen

/-- The number of full chunks of 384 rows in a group of `n` rows, as the kernel computes the floor quotient. -/
def fullW (n : BitVec 32) : BitVec 32 :=
  Scalar.select
    (Scalar.andi
      (Scalar.cmpi .ne
        (Scalar.subi (Scalar.extui (Scalar.cmpi .sgt n 0#32)) (Scalar.extui (Scalar.cmpi .slt n 0#32)) : BitVec 32)
        (Scalar.subi (Scalar.extui (Scalar.cmpi .sgt 384#32 0#32)) (Scalar.extui (Scalar.cmpi .slt 384#32 0#32))))
      (Scalar.cmpi .ne (Scalar.remsi n 384#32) 0#32))
    (Scalar.subi (Scalar.divsi n 384#32) 1#32) (Scalar.divsi n 384#32)

theorem ub_word (x : BitVec 32) : Scalar.addi 0#32 (Scalar.muli (Scalar.divsi (Scalar.subi x 0#32) 1#32) 1#32) = x := by
  simp [Scalar.addi, Scalar.muli, Scalar.divsi, Scalar.subi, IntOp.addi, IntOp.muli, IntOp.divsi, IntOp.subi]
  intro h; simp [IntOp.SDivCorner] at h

theorem t1_eq (n : BitVec 32) : k0_t1_loop n = ⟨0#32, fullW n, 1#32⟩ := by
  show (⟨0#32, Scalar.addi 0#32 (Scalar.muli (Scalar.divsi (Scalar.subi (fullW n) 0#32) 1#32) 1#32), 1#32⟩ : Scf.Loop 32) = _
  rw [ub_word]

theorem t2_eq (n : BitVec 32) : k0_t2_loop n = ⟨fullW n, fullW n, 1#32⟩ := by
  show (⟨Scalar.addi 0#32 (Scalar.muli (Scalar.divsi (Scalar.subi (fullW n) 0#32) 1#32) 1#32), Scalar.addi 0#32 (Scalar.subi (fullW n) 0#32), 1#32⟩ : Scf.Loop 32) = _
  rw [ub_word]
  simp [Scalar.addi, Scalar.subi, IntOp.addi, IntOp.subi]

theorem t2_trips (n : BitVec 32) : (k0_t2_loop n).trips = 0 := by
  rw [t2_eq]; simp [Scf.trips]

/-- Both counted loops have a meaning whatever the word read. -/
theorem chk_all (n : BitVec 32) : k0_chk1 n := by
  refine ⟨?_, ?_⟩
  · rw [t1_eq]
    refine ⟨(by decide : 0 < (1#32 : BitVec 32).toInt), ?_⟩
    have h := (fullW n).toInt_lt
    have h1 : (1#32 : BitVec 32).toInt = 1 := by decide
    simp only [Scf.trips, h1]
    have h0 : (0#32 : BitVec 32).toInt = 0 := by decide
    rw [h0]; omega
  · rw [t2_eq]
    refine ⟨(by decide : 0 < (1#32 : BitVec 32).toInt), ?_⟩
    have h := (fullW n).toInt_lt
    have h1 : (1#32 : BitVec 32).toInt = 1 := by decide
    simp only [Scf.trips, h1]
    omega

theorem fullW_ofNat : ∀ n : Fin 1025, fullW (BitVec.ofNat 32 n.val) = BitVec.ofNat 32 (n.val / 384) := by
  decide +kernel

end Cert.KernelIdeal.Moe

end
-- ==== Proof.Chunk.lean ====
module

public import proofs.«01_k».proof.Proof.Gen.KernelIdeal.Loops
public import proofs.«01_k».proof.Proof.Gen.KernelIdeal.Frame

@[expose] public section

set_option maxRecDepth 16384
set_option maxHeartbeats 4000000

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- The ragged end of a group's rows, in one block of 128. -/
def tail128 (i : grid0.Coords) (arg2 : Memref sig .tc .vmem S1x1x6144 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S8x1024x256 .bf16) (harg6 : arg6.IsWhole) (arg7 : Memref sig .tc .vmem S8x1024x256 .bf16) (harg7 : arg7.IsWhole) (arg8 : Memref sig .tc .vmem S8x256x1024 .bf16) (harg8 : arg8.IsWhole) (arg9 : Memref sig .tc .vmem S1024x1024 .f32) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S4x8x1024 .f32) (harg12 : arg12.IsWhole) (arg13 : Memref sig .tc .vmem S1x128 .f32) (harg13 : arg13.IsWhole) (arg1 : BitVec 32) (v21 : FVec F S1024x1 .f32) (v38 : BitVec 32) : Prog (TpuEff nD τ sig (Elt F) Λ₀ .tc) PUnit := do
  let ⟨v74, v89, v92, v94, v95, v104⟩ : Σ' (v74 : IVec S128x128 32) (v89 : FVec F S1024x128 .bf16) (v92 : FVec F S128x1024 .bf16) (v94 : FVec F S128x128 .f32) (v95 : FVec F S128x1024 .f32), FVec F S128 .f32 ← k0_part17 i arg2 harg2 arg3 harg3 arg4 harg4 arg5 harg5 arg6 harg6 arg7 harg7 arg8 harg8 arg9 harg9 arg10 harg10 arg11 harg11 arg12 harg12 arg13 harg13 arg1 v21 v38
  let ⟨v125, v135, v138, v140⟩ : Σ' (v125 : FVec F S128x1024 .f32) (v135 : FVec F S128x1 .f32) (v138 : FVec F S128x256 .f32), FVec F S128x256 .f32 ← k0_part18 i arg2 harg2 arg3 harg3 arg4 harg4 arg5 harg5 arg6 harg6 arg7 harg7 arg8 harg8 arg9 harg9 arg10 harg10 arg11 harg11 arg12 harg12 arg13 harg13 arg1 v74 v92 v94 v95 v104
  let ⟨v155, v165, v174, v176, cst_87⟩ : Σ' (v155 : FVec F S128x1024 .f32) (v165 : FVec F S128x1 .f32) (v174 : FVec F S128x256 .f32) (v176 : FVec F S1024x256 .bf16), FVec F S128x256 .f32 ← k0_part19 i arg2 harg2 arg3 harg3 arg4 harg4 arg5 harg5 arg6 harg6 arg7 harg7 arg8 harg8 arg9 harg9 arg10 harg10 arg11 harg11 arg12 harg12 arg13 harg13 arg1 v74 v92 v94 v125 v135 v138 v140
  let ⟨v185, v211, v213, cst_109⟩ : Σ' (v185 : FVec F S128x1024 .f32) (v211 : FVec F S128x256 .bf16) (v213 : FVec F S256x1024 .bf16), FVec F S128x1024 .f32 ← k0_part20 i arg2 harg2 arg3 harg3 arg4 harg4 arg5 harg5 arg6 harg6 arg7 harg7 arg8 harg8 arg9 harg9 arg10 harg10 arg11 harg11 arg12 harg12 arg13 harg13 arg1 v74 v92 v94 v155 v165 v174 v176 cst_87
  let ⟨v245, v251⟩ : Σ' (v245 : FVec F S128x1024 .f32), IVec S128x128 1 ← k0_part21 i arg2 harg2 arg3 harg3 arg4 harg4 arg5 harg5 arg6 harg6 arg7 harg7 arg8 harg8 arg9 harg9 arg10 harg10 arg11 harg11 arg12 harg12 arg13 harg13 arg1 v74 v92 v94 v185 v211 v213 cst_109
  let ⟨v275, v285, v287⟩ : Σ' (v275 : FVec F S128x1024 .f32) (v285 : FVec F S128x1 .f32), FVec F S1024x256 .bf16 ← k0_part22 i arg2 harg2 arg3 harg3 arg4 harg4 arg5 harg5 arg6 harg6 arg7 harg7 arg8 harg8 arg9 harg9 arg10 harg10 arg11 harg11 arg12 harg12 arg13 harg13 arg1 v74 v92 v94 v245 v251
  let ⟨v305, v315, v324⟩ : Σ' (v305 : FVec F S128x1024 .f32) (v315 : FVec F S128x1 .f32), FVec F S128x256 .f32 ← k0_part23 i arg2 harg2 arg3 harg3 arg4 harg4 arg5 harg5 arg6 harg6 arg7 harg7 arg8 harg8 arg9 harg9 arg10 harg10 arg11 harg11 arg12 harg12 arg13 harg13 arg1 v74 v92 v94 v275 v285 v287
  let v325 : Vec F S1x1024x256 .bf16 ← Prog.lift (.load arg7 (Rect.unit (s := S8x1024x256) ![7, 0, 0] S1x1024x256.size inb_S8x1024x256_S1x1024x256_7_0_0).toLoadRect (View.loadsAt_vmem h_S1x1024x256))
  let v332 : Vec F S1x256x1024 .bf16 ← Prog.lift (.load arg8 (Rect.unit (s := S8x256x1024) ![7, 0, 0] S1x256x1024.size inb_S8x256x1024_S1x256x1024_7_0_0).toLoadRect (View.loadsAt_vmem h_S1x256x1024))
  let v336 : Vec F S1024x1024 .f32 ← Prog.lift (.load arg9 (Rect.unit (s := S1024x1024) ![0, 0] S1024x1024.size inb_S1024x1024_S1024x1024_0_0).toLoadRect (View.loadsAt_vmem h_S1024x1024))
  let v341 : Vec F S1024x1024 .f32 ← Prog.lift (.load arg9 (Rect.unit (s := S1024x1024) ![0, 0] S1024x1024.size inb_S1024x1024_S1024x1024_0_0).toLoadRect (View.loadsAt_vmem h_S1024x1024))
  Prog.lift (.store arg9 (Rect.unit (s := S1024x1024) ![0, 0] S1024x1024.size inb_S1024x1024_S1024x1024_0_0) (k0_pay3 v89 v92 v305 v315 v324 v325 v332 v336) Finset.univ (View.stores_vmem_bits_univ h_S1024x1024 rfl) (.inl rfl))
  pure ⟨⟩

/-- What that block of 128 rows leaves in the running output. -/
def chunk128 (i : grid0.Coords) (arg1 : BitVec 32)  (v21 : FVec F S1024x1 .f32) (v38 : BitVec 32)
    (X4 : Vec F S1024x1024 .bf16) (X6 X7 : Vec F S8x1024x256 .bf16) (X8 : Vec F S8x256x1024 .bf16) (X10 : Vec F S1024x128 .bf16) (X12 : Vec F S4x8x1024 .f32) (X9 : Vec F S1024x1024 .f32) : FVec F S1024x1024 .f32 :=
  let v67 : Vec F S1x8x1024 .f32 := View.ld (Val := Elt F) X12 (Rect.unit (s := S4x8x1024) (k0_off3 i) S1x8x1024.size (k0_off3_inb i))
  let v74 : IVec S128x128 32 := iota .tc S128x128 32 [1] iota_S128x128_d1_w32
  let v90 : Vec F S1024x1024 .bf16 := View.ld (Val := Elt F) X4 (Rect.unit (s := S1024x1024) ![0, 0] S1024x1024.size inb_S1024x1024_S1024x1024_0_0)
  let v93 : Vec F S1024x128 .bf16 := View.ld (Val := Elt F) X10 (Rect.unit (s := S1024x128) ![0, 0] S1024x128.size inb_S1024x128_S1024x128_0_0)
  let v89 := k0_pay73 v21 v38
  let v92 := k0_pay74 v38 v67 v90
  let v94 := k0_pay75 v38 v67 v93
  let v95 := k0_pay76 (F := F)
  let v104 := k0_pay77 arg1 v38 v67 v93
  let v106 : Vec F S1x1024x256 .bf16 := View.ld (Val := Elt F) X6 (Rect.unit (s := S8x1024x256) ![0, 0, 0] S1x1024x256.size inb_S8x1024x256_S1x1024x256_0_0_0)
  let v115 : Vec F S1x1024x256 .bf16 := View.ld (Val := Elt F) X7 (Rect.unit (s := S8x1024x256) ![0, 0, 0] S1x1024x256.size inb_S8x1024x256_S1x1024x256_0_0_0)
  let v122 : Vec F S1x256x1024 .bf16 := View.ld (Val := Elt F) X8 (Rect.unit (s := S8x256x1024) ![0, 0, 0] S1x256x1024.size inb_S8x256x1024_S1x256x1024_0_0_0)
  let v136 : Vec F S1x1024x256 .bf16 := View.ld (Val := Elt F) X6 (Rect.unit (s := S8x1024x256) ![1, 0, 0] S1x1024x256.size inb_S8x1024x256_S1x1024x256_1_0_0)
  let v125 := k0_pay78 v92 v95 v104 v106 v115 v122
  let v135 := k0_pay79 arg1 v74 v94
  let v138 := k0_pay80 v92 v136
  let v140 := k0_pay81 v92 v136
  let v145 : Vec F S1x1024x256 .bf16 := View.ld (Val := Elt F) X7 (Rect.unit (s := S8x1024x256) ![1, 0, 0] S1x1024x256.size inb_S8x1024x256_S1x1024x256_1_0_0)
  let v152 : Vec F S1x256x1024 .bf16 := View.ld (Val := Elt F) X8 (Rect.unit (s := S8x256x1024) ![1, 0, 0] S1x256x1024.size inb_S8x256x1024_S1x256x1024_1_0_0)
  let v166 : Vec F S1x1024x256 .bf16 := View.ld (Val := Elt F) X6 (Rect.unit (s := S8x1024x256) ![2, 0, 0] S1x1024x256.size inb_S8x1024x256_S1x1024x256_2_0_0)
  let v175 : Vec F S1x1024x256 .bf16 := View.ld (Val := Elt F) X7 (Rect.unit (s := S8x1024x256) ![2, 0, 0] S1x1024x256.size inb_S8x1024x256_S1x1024x256_2_0_0)
  let cst_87 : FVec F S128x256 .f32 := constant S128x256 .f32 0x00000000#32
  let v155 := k0_pay82 v92 v125 v135 v138 v140 v145 v152
  let v165 := k0_pay83 arg1 v74 v94
  let v174 := k0_pay84 v92 v166
  let v176 := k0_pay85 v175
  let v182 : Vec F S1x256x1024 .bf16 := View.ld (Val := Elt F) X8 (Rect.unit (s := S8x256x1024) ![2, 0, 0] S1x256x1024.size inb_S8x256x1024_S1x256x1024_2_0_0)
  let v196 : Vec F S1x1024x256 .bf16 := View.ld (Val := Elt F) X6 (Rect.unit (s := S8x1024x256) ![3, 0, 0] S1x1024x256.size inb_S8x1024x256_S1x1024x256_3_0_0)
  let v205 : Vec F S1x1024x256 .bf16 := View.ld (Val := Elt F) X7 (Rect.unit (s := S8x1024x256) ![3, 0, 0] S1x1024x256.size inb_S8x1024x256_S1x1024x256_3_0_0)
  let v212 : Vec F S1x256x1024 .bf16 := View.ld (Val := Elt F) X8 (Rect.unit (s := S8x256x1024) ![3, 0, 0] S1x256x1024.size inb_S8x256x1024_S1x256x1024_3_0_0)
  let cst_109 : FVec F S128x1024 .f32 := constant S128x1024 .f32 0x00000000#32
  let v185 := k0_pay86 v92 v155 v165 v174 v176 cst_87 v182
  let v211 := k0_pay87 arg1 v74 v92 v94 v196 v205
  let v213 := k0_pay88 v212
  let v226 : Vec F S1x1024x256 .bf16 := View.ld (Val := Elt F) X6 (Rect.unit (s := S8x1024x256) ![4, 0, 0] S1x1024x256.size inb_S8x1024x256_S1x1024x256_4_0_0)
  let v235 : Vec F S1x1024x256 .bf16 := View.ld (Val := Elt F) X7 (Rect.unit (s := S8x1024x256) ![4, 0, 0] S1x1024x256.size inb_S8x1024x256_S1x1024x256_4_0_0)
  let v242 : Vec F S1x256x1024 .bf16 := View.ld (Val := Elt F) X8 (Rect.unit (s := S8x256x1024) ![4, 0, 0] S1x256x1024.size inb_S8x256x1024_S1x256x1024_4_0_0)
  let v245 := k0_pay89 arg1 v74 v92 v94 v185 v211 v213 cst_109 v226 v235 v242
  let v251 := k0_pay90 arg1 v74
  let v256 : Vec F S1x1024x256 .bf16 := View.ld (Val := Elt F) X6 (Rect.unit (s := S8x1024x256) ![5, 0, 0] S1x1024x256.size inb_S8x1024x256_S1x1024x256_5_0_0)
  let v265 : Vec F S1x1024x256 .bf16 := View.ld (Val := Elt F) X7 (Rect.unit (s := S8x1024x256) ![5, 0, 0] S1x1024x256.size inb_S8x1024x256_S1x1024x256_5_0_0)
  let v272 : Vec F S1x256x1024 .bf16 := View.ld (Val := Elt F) X8 (Rect.unit (s := S8x256x1024) ![5, 0, 0] S1x256x1024.size inb_S8x256x1024_S1x256x1024_5_0_0)
  let v286 : Vec F S1x1024x256 .bf16 := View.ld (Val := Elt F) X6 (Rect.unit (s := S8x1024x256) ![6, 0, 0] S1x1024x256.size inb_S8x1024x256_S1x1024x256_6_0_0)
  let v275 := k0_pay91 v92 v94 v245 v251 v256 v265 v272
  let v285 := k0_pay92 arg1 v74 v94
  let v287 := k0_pay93 v286
  let v295 : Vec F S1x1024x256 .bf16 := View.ld (Val := Elt F) X7 (Rect.unit (s := S8x1024x256) ![6, 0, 0] S1x1024x256.size inb_S8x1024x256_S1x1024x256_6_0_0)
  let v302 : Vec F S1x256x1024 .bf16 := View.ld (Val := Elt F) X8 (Rect.unit (s := S8x256x1024) ![6, 0, 0] S1x256x1024.size inb_S8x256x1024_S1x256x1024_6_0_0)
  let v316 : Vec F S1x1024x256 .bf16 := View.ld (Val := Elt F) X6 (Rect.unit (s := S8x1024x256) ![7, 0, 0] S1x1024x256.size inb_S8x1024x256_S1x1024x256_7_0_0)
  let v305 := k0_pay94 v92 v275 v285 v287 v295 v302
  let v315 := k0_pay95 arg1 v74 v94
  let v324 := k0_pay96 v92 v316
  let v325 : Vec F S1x1024x256 .bf16 := View.ld (Val := Elt F) X7 (Rect.unit (s := S8x1024x256) ![7, 0, 0] S1x1024x256.size inb_S8x1024x256_S1x1024x256_7_0_0)
  let v332 : Vec F S1x256x1024 .bf16 := View.ld (Val := Elt F) X8 (Rect.unit (s := S8x256x1024) ![7, 0, 0] S1x256x1024.size inb_S8x256x1024_S1x256x1024_7_0_0)
  let v336 : Vec F S1024x1024 .f32 := View.ld (Val := Elt F) X9 (Rect.unit (s := S1024x1024) ![0, 0] S1024x1024.size inb_S1024x1024_S1024x1024_0_0)
  k0_pay3 v89 v92 v305 v315 v324 v325 v332 v336

/-- The ragged end of a group's rows, in one block of 256. -/
def tail256 (i : grid0.Coords) (arg2 : Memref sig .tc .vmem S1x1x6144 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S8x1024x256 .bf16) (harg6 : arg6.IsWhole) (arg7 : Memref sig .tc .vmem S8x1024x256 .bf16) (harg7 : arg7.IsWhole) (arg8 : Memref sig .tc .vmem S8x256x1024 .bf16) (harg8 : arg8.IsWhole) (arg9 : Memref sig .tc .vmem S1024x1024 .f32) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S4x8x1024 .f32) (harg12 : arg12.IsWhole) (arg13 : Memref sig .tc .vmem S1x128 .f32) (harg13 : arg13.IsWhole) (arg1 : BitVec 32) (v21 : FVec F S1024x1 .f32) (v38 : BitVec 32) : Prog (TpuEff nD τ sig (Elt F) Λ₀ .tc) PUnit := do
  let ⟨v74, v89, v92, v94, v95, v104⟩ : Σ' (v74 : IVec S256x128 32) (v89 : FVec F S1024x256 .bf16) (v92 : FVec F S256x1024 .bf16) (v94 : FVec F S256x128 .f32) (v95 : FVec F S256x1024 .f32), FVec F S256 .f32 ← k0_part24 i arg2 harg2 arg3 harg3 arg4 harg4 arg5 harg5 arg6 harg6 arg7 harg7 arg8 harg8 arg9 harg9 arg10 harg10 arg11 harg11 arg12 harg12 arg13 harg13 arg1 v21 v38
  let ⟨v125, v135, v138, v140⟩ : Σ' (v125 : FVec F S256x1024 .f32) (v135 : FVec F S256x1 .f32) (v138 : FVec F S256x256 .f32), FVec F S256x256 .f32 ← k0_part25 i arg2 harg2 arg3 harg3 arg4 harg4 arg5 harg5 arg6 harg6 arg7 harg7 arg8 harg8 arg9 harg9 arg10 harg10 arg11 harg11 arg12 harg12 arg13 harg13 arg1 v74 v92 v94 v95 v104
  let ⟨v155, v165, v174, v176, cst_87⟩ : Σ' (v155 : FVec F S256x1024 .f32) (v165 : FVec F S256x1 .f32) (v174 : FVec F S256x256 .f32) (v176 : FVec F S1024x256 .bf16), FVec F S256x256 .f32 ← k0_part26 i arg2 harg2 arg3 harg3 arg4 harg4 arg5 harg5 arg6 harg6 arg7 harg7 arg8 harg8 arg9 harg9 arg10 harg10 arg11 harg11 arg12 harg12 arg13 harg13 arg1 v74 v92 v94 v125 v135 v138 v140
  let ⟨v185, v211, v213, cst_109⟩ : Σ' (v185 : FVec F S256x1024 .f32) (v211 : FVec F S256x256 .bf16) (v213 : FVec F S256x1024 .bf16), FVec F S256x1024 .f32 ← k0_part27 i arg2 harg2 arg3 harg3 arg4 harg4 arg5 harg5 arg6 harg6 arg7 harg7 arg8 harg8 arg9 harg9 arg10 harg10 arg11 harg11 arg12 harg12 arg13 harg13 arg1 v74 v92 v94 v155 v165 v174 v176 cst_87
  let ⟨v245, v251⟩ : Σ' (v245 : FVec F S256x1024 .f32), IVec S256x128 1 ← k0_part28 i arg2 harg2 arg3 harg3 arg4 harg4 arg5 harg5 arg6 harg6 arg7 harg7 arg8 harg8 arg9 harg9 arg10 harg10 arg11 harg11 arg12 harg12 arg13 harg13 arg1 v74 v92 v94 v185 v211 v213 cst_109
  let ⟨v275, v285, v287⟩ : Σ' (v275 : FVec F S256x1024 .f32) (v285 : FVec F S256x1 .f32), FVec F S1024x256 .bf16 ← k0_part29 i arg2 harg2 arg3 harg3 arg4 harg4 arg5 harg5 arg6 harg6 arg7 harg7 arg8 harg8 arg9 harg9 arg10 harg10 arg11 harg11 arg12 harg12 arg13 harg13 arg1 v74 v92 v94 v245 v251
  let ⟨v305, v315, v324⟩ : Σ' (v305 : FVec F S256x1024 .f32) (v315 : FVec F S256x1 .f32), FVec F S256x256 .f32 ← k0_part30 i arg2 harg2 arg3 harg3 arg4 harg4 arg5 harg5 arg6 harg6 arg7 harg7 arg8 harg8 arg9 harg9 arg10 harg10 arg11 harg11 arg12 harg12 arg13 harg13 arg1 v74 v92 v94 v275 v285 v287
  let v325 : Vec F S1x1024x256 .bf16 ← Prog.lift (.load arg7 (Rect.unit (s := S8x1024x256) ![7, 0, 0] S1x1024x256.size inb_S8x1024x256_S1x1024x256_7_0_0).toLoadRect (View.loadsAt_vmem h_S1x1024x256))
  let v332 : Vec F S1x256x1024 .bf16 ← Prog.lift (.load arg8 (Rect.unit (s := S8x256x1024) ![7, 0, 0] S1x256x1024.size inb_S8x256x1024_S1x256x1024_7_0_0).toLoadRect (View.loadsAt_vmem h_S1x256x1024))
  let v336 : Vec F S1024x1024 .f32 ← Prog.lift (.load arg9 (Rect.unit (s := S1024x1024) ![0, 0] S1024x1024.size inb_S1024x1024_S1024x1024_0_0).toLoadRect (View.loadsAt_vmem h_S1024x1024))
  let v341 : Vec F S1024x1024 .f32 ← Prog.lift (.load arg9 (Rect.unit (s := S1024x1024) ![0, 0] S1024x1024.size inb_S1024x1024_S1024x1024_0_0).toLoadRect (View.loadsAt_vmem h_S1024x1024))
  Prog.lift (.store arg9 (Rect.unit (s := S1024x1024) ![0, 0] S1024x1024.size inb_S1024x1024_S1024x1024_0_0) (k0_pay4 v89 v92 v305 v315 v324 v325 v332 v336) Finset.univ (View.stores_vmem_bits_univ h_S1024x1024 rfl) (.inl rfl))
  pure ⟨⟩

/-- What that block of 256 rows leaves in the running output. -/
def chunk256 (i : grid0.Coords) (arg1 : BitVec 32)  (v21 : FVec F S1024x1 .f32) (v38 : BitVec 32)
    (X4 : Vec F S1024x1024 .bf16) (X6 X7 : Vec F S8x1024x256 .bf16) (X8 : Vec F S8x256x1024 .bf16) (X10 : Vec F S1024x128 .bf16) (X12 : Vec F S4x8x1024 .f32) (X9 : Vec F S1024x1024 .f32) : FVec F S1024x1024 .f32 :=
  let v67 : Vec F S1x8x1024 .f32 := View.ld (Val := Elt F) X12 (Rect.unit (s := S4x8x1024) (k0_off4 i) S1x8x1024.size (k0_off4_inb i))
  let v74 : IVec S256x128 32 := iota .tc S256x128 32 [1] iota_S256x128_d1_w32
  let v90 : Vec F S1024x1024 .bf16 := View.ld (Val := Elt F) X4 (Rect.unit (s := S1024x1024) ![0, 0] S1024x1024.size inb_S1024x1024_S1024x1024_0_0)
  let v93 : Vec F S1024x128 .bf16 := View.ld (Val := Elt F) X10 (Rect.unit (s := S1024x128) ![0, 0] S1024x128.size inb_S1024x128_S1024x128_0_0)
  let v89 := k0_pay99 v21 v38
  let v92 := k0_pay100 v38 v67 v90
  let v94 := k0_pay101 v38 v67 v93
  let v95 := k0_pay102 (F := F)
  let v104 := k0_pay103 arg1 v38 v67 v93
  let v106 : Vec F S1x1024x256 .bf16 := View.ld (Val := Elt F) X6 (Rect.unit (s := S8x1024x256) ![0, 0, 0] S1x1024x256.size inb_S8x1024x256_S1x1024x256_0_0_0)
  let v115 : Vec F S1x1024x256 .bf16 := View.ld (Val := Elt F) X7 (Rect.unit (s := S8x1024x256) ![0, 0, 0] S1x1024x256.size inb_S8x1024x256_S1x1024x256_0_0_0)
  let v122 : Vec F S1x256x1024 .bf16 := View.ld (Val := Elt F) X8 (Rect.unit (s := S8x256x1024) ![0, 0, 0] S1x256x1024.size inb_S8x256x1024_S1x256x1024_0_0_0)
  let v136 : Vec F S1x1024x256 .bf16 := View.ld (Val := Elt F) X6 (Rect.unit (s := S8x1024x256) ![1, 0, 0] S1x1024x256.size inb_S8x1024x256_S1x1024x256_1_0_0)
  let v125 := k0_pay104 v92 v95 v104 v106 v115 v122
  let v135 := k0_pay105 arg1 v74 v94
  let v138 := k0_pay106 v92 v136
  let v140 := k0_pay107 v92 v136
  let v145 : Vec F S1x1024x256 .bf16 := View.ld (Val := Elt F) X7 (Rect.unit (s := S8x1024x256) ![1, 0, 0] S1x1024x256.size inb_S8x1024x256_S1x1024x256_1_0_0)
  let v152 : Vec F S1x256x1024 .bf16 := View.ld (Val := Elt F) X8 (Rect.unit (s := S8x256x1024) ![1, 0, 0] S1x256x1024.size inb_S8x256x1024_S1x256x1024_1_0_0)
  let v166 : Vec F S1x1024x256 .bf16 := View.ld (Val := Elt F) X6 (Rect.unit (s := S8x1024x256) ![2, 0, 0] S1x1024x256.size inb_S8x1024x256_S1x1024x256_2_0_0)
  let v175 : Vec F S1x1024x256 .bf16 := View.ld (Val := Elt F) X7 (Rect.unit (s := S8x1024x256) ![2, 0, 0] S1x1024x256.size inb_S8x1024x256_S1x1024x256_2_0_0)
  let cst_87 : FVec F S256x256 .f32 := constant S256x256 .f32 0x00000000#32
  let v155 := k0_pay108 v92 v125 v135 v138 v140 v145 v152
  let v165 := k0_pay109 arg1 v74 v94
  let v174 := k0_pay110 v92 v166
  let v176 := k0_pay111 v175
  let v182 : Vec F S1x256x1024 .bf16 := View.ld (Val := Elt F) X8 (Rect.unit (s := S8x256x1024) ![2, 0, 0] S1x256x1024.size inb_S8x256x1024_S1x256x1024_2_0_0)
  let v196 : Vec F S1x1024x256 .bf16 := View.ld (Val := Elt F) X6 (Rect.unit (s := S8x1024x256) ![3, 0, 0] S1x1024x256.size inb_S8x1024x256_S1x1024x256_3_0_0)
  let v205 : Vec F S1x1024x256 .bf16 := View.ld (Val := Elt F) X7 (Rect.unit (s := S8x1024x256) ![3, 0, 0] S1x1024x256.size inb_S8x1024x256_S1x1024x256_3_0_0)
  let v212 : Vec F S1x256x1024 .bf16 := View.ld (Val := Elt F) X8 (Rect.unit (s := S8x256x1024) ![3, 0, 0] S1x256x1024.size inb_S8x256x1024_S1x256x1024_3_0_0)
  let cst_109 : FVec F S256x1024 .f32 := constant S256x1024 .f32 0x00000000#32
  let v185 := k0_pay112 v92 v155 v165 v174 v176 cst_87 v182
  let v211 := k0_pay113 arg1 v74 v92 v94 v196 v205
  let v213 := k0_pay114 v212
  let v226 : Vec F S1x1024x256 .bf16 := View.ld (Val := Elt F) X6 (Rect.unit (s := S8x1024x256) ![4, 0, 0] S1x1024x256.size inb_S8x1024x256_S1x1024x256_4_0_0)
  let v235 : Vec F S1x1024x256 .bf16 := View.ld (Val := Elt F) X7 (Rect.unit (s := S8x1024x256) ![4, 0, 0] S1x1024x256.size inb_S8x1024x256_S1x1024x256_4_0_0)
  let v242 : Vec F S1x256x1024 .bf16 := View.ld (Val := Elt F) X8 (Rect.unit (s := S8x256x1024) ![4, 0, 0] S1x256x1024.size inb_S8x256x1024_S1x256x1024_4_0_0)
  let v245 := k0_pay115 arg1 v74 v92 v94 v185 v211 v213 cst_109 v226 v235 v242
  let v251 := k0_pay116 arg1 v74
  let v256 : Vec F S1x1024x256 .bf16 := View.ld (Val := Elt F) X6 (Rect.unit (s := S8x1024x256) ![5, 0, 0] S1x1024x256.size inb_S8x1024x256_S1x1024x256_5_0_0)
  let v265 : Vec F S1x1024x256 .bf16 := View.ld (Val := Elt F) X7 (Rect.unit (s := S8x1024x256) ![5, 0, 0] S1x1024x256.size inb_S8x1024x256_S1x1024x256_5_0_0)
  let v272 : Vec F S1x256x1024 .bf16 := View.ld (Val := Elt F) X8 (Rect.unit (s := S8x256x1024) ![5, 0, 0] S1x256x1024.size inb_S8x256x1024_S1x256x1024_5_0_0)
  let v286 : Vec F S1x1024x256 .bf16 := View.ld (Val := Elt F) X6 (Rect.unit (s := S8x1024x256) ![6, 0, 0] S1x1024x256.size inb_S8x1024x256_S1x1024x256_6_0_0)
  let v275 := k0_pay117 v92 v94 v245 v251 v256 v265 v272
  let v285 := k0_pay118 arg1 v74 v94
  let v287 := k0_pay119 v286
  let v295 : Vec F S1x1024x256 .bf16 := View.ld (Val := Elt F) X7 (Rect.unit (s := S8x1024x256) ![6, 0, 0] S1x1024x256.size inb_S8x1024x256_S1x1024x256_6_0_0)
  let v302 : Vec F S1x256x1024 .bf16 := View.ld (Val := Elt F) X8 (Rect.unit (s := S8x256x1024) ![6, 0, 0] S1x256x1024.size inb_S8x256x1024_S1x256x1024_6_0_0)
  let v316 : Vec F S1x1024x256 .bf16 := View.ld (Val := Elt F) X6 (Rect.unit (s := S8x1024x256) ![7, 0, 0] S1x1024x256.size inb_S8x1024x256_S1x1024x256_7_0_0)
  let v305 := k0_pay120 v92 v275 v285 v287 v295 v302
  let v315 := k0_pay121 arg1 v74 v94
  let v324 := k0_pay122 v92 v316
  let v325 : Vec F S1x1024x256 .bf16 := View.ld (Val := Elt F) X7 (Rect.unit (s := S8x1024x256) ![7, 0, 0] S1x1024x256.size inb_S8x1024x256_S1x1024x256_7_0_0)
  let v332 : Vec F S1x256x1024 .bf16 := View.ld (Val := Elt F) X8 (Rect.unit (s := S8x256x1024) ![7, 0, 0] S1x256x1024.size inb_S8x256x1024_S1x256x1024_7_0_0)
  let v336 : Vec F S1024x1024 .f32 := View.ld (Val := Elt F) X9 (Rect.unit (s := S1024x1024) ![0, 0] S1024x1024.size inb_S1024x1024_S1024x1024_0_0)
  k0_pay4 v89 v92 v305 v315 v324 v325 v332 v336

/-- The ragged end of a group's rows, in one block of 384. -/
def tail384 (i : grid0.Coords) (arg2 : Memref sig .tc .vmem S1x1x6144 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S8x1024x256 .bf16) (harg6 : arg6.IsWhole) (arg7 : Memref sig .tc .vmem S8x1024x256 .bf16) (harg7 : arg7.IsWhole) (arg8 : Memref sig .tc .vmem S8x256x1024 .bf16) (harg8 : arg8.IsWhole) (arg9 : Memref sig .tc .vmem S1024x1024 .f32) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S4x8x1024 .f32) (harg12 : arg12.IsWhole) (arg13 : Memref sig .tc .vmem S1x128 .f32) (harg13 : arg13.IsWhole) (arg1 : BitVec 32) (v21 : FVec F S1024x1 .f32) (v38 : BitVec 32) : Prog (TpuEff nD τ sig (Elt F) Λ₀ .tc) PUnit := do
  let ⟨v74, v89, v92, v94, v95, v104⟩ : Σ' (v74 : IVec S384x128 32) (v89 : FVec F S1024x384 .bf16) (v92 : FVec F S384x1024 .bf16) (v94 : FVec F S384x128 .f32) (v95 : FVec F S384x1024 .f32), FVec F S384 .f32 ← k0_part31 i arg2 harg2 arg3 harg3 arg4 harg4 arg5 harg5 arg6 harg6 arg7 harg7 arg8 harg8 arg9 harg9 arg10 harg10 arg11 harg11 arg12 harg12 arg13 harg13 arg1 v21 v38
  let ⟨v125, v135, v138, v140⟩ : Σ' (v125 : FVec F S384x1024 .f32) (v135 : FVec F S384x1 .f32) (v138 : FVec F S384x256 .f32), FVec F S384x256 .f32 ← k0_part32 i arg2 harg2 arg3 harg3 arg4 harg4 arg5 harg5 arg6 harg6 arg7 harg7 arg8 harg8 arg9 harg9 arg10 harg10 arg11 harg11 arg12 harg12 arg13 harg13 arg1 v74 v92 v94 v95 v104
  let ⟨v155, v165, v174, v176, cst_87⟩ : Σ' (v155 : FVec F S384x1024 .f32) (v165 : FVec F S384x1 .f32) (v174 : FVec F S384x256 .f32) (v176 : FVec F S1024x256 .bf16), FVec F S384x256 .f32 ← k0_part33 i arg2 harg2 arg3 harg3 arg4 harg4 arg5 harg5 arg6 harg6 arg7 harg7 arg8 harg8 arg9 harg9 arg10 harg10 arg11 harg11 arg12 harg12 arg13 harg13 arg1 v74 v92 v94 v125 v135 v138 v140
  let ⟨v185, v211, v213, cst_109⟩ : Σ' (v185 : FVec F S384x1024 .f32) (v211 : FVec F S384x256 .bf16) (v213 : FVec F S256x1024 .bf16), FVec F S384x1024 .f32 ← k0_part34 i arg2 harg2 arg3 harg3 arg4 harg4 arg5 harg5 arg6 harg6 arg7 harg7 arg8 harg8 arg9 harg9 arg10 harg10 arg11 harg11 arg12 harg12 arg13 harg13 arg1 v74 v92 v94 v155 v165 v174 v176 cst_87
  let ⟨v245, v251⟩ : Σ' (v245 : FVec F S384x1024 .f32), IVec S384x128 1 ← k0_part35 i arg2 harg2 arg3 harg3 arg4 harg4 arg5 harg5 arg6 harg6 arg7 harg7 arg8 harg8 arg9 harg9 arg10 harg10 arg11 harg11 arg12 harg12 arg13 harg13 arg1 v74 v92 v94 v185 v211 v213 cst_109
  let ⟨v275, v285, v287⟩ : Σ' (v275 : FVec F S384x1024 .f32) (v285 : FVec F S384x1 .f32), FVec F S1024x256 .bf16 ← k0_part36 i arg2 harg2 arg3 harg3 arg4 harg4 arg5 harg5 arg6 harg6 arg7 harg7 arg8 harg8 arg9 harg9 arg10 harg10 arg11 harg11 arg12 harg12 arg13 harg13 arg1 v74 v92 v94 v245 v251
  let ⟨v305, v315, v324⟩ : Σ' (v305 : FVec F S384x1024 .f32) (v315 : FVec F S384x1 .f32), FVec F S384x256 .f32 ← k0_part37 i arg2 harg2 arg3 harg3 arg4 harg4 arg5 harg5 arg6 harg6 arg7 harg7 arg8 harg8 arg9 harg9 arg10 harg10 arg11 harg11 arg12 harg12 arg13 harg13 arg1 v74 v92 v94 v275 v285 v287
  let v325 : Vec F S1x1024x256 .bf16 ← Prog.lift (.load arg7 (Rect.unit (s := S8x1024x256) ![7, 0, 0] S1x1024x256.size inb_S8x1024x256_S1x1024x256_7_0_0).toLoadRect (View.loadsAt_vmem h_S1x1024x256))
  let v332 : Vec F S1x256x1024 .bf16 ← Prog.lift (.load arg8 (Rect.unit (s := S8x256x1024) ![7, 0, 0] S1x256x1024.size inb_S8x256x1024_S1x256x1024_7_0_0).toLoadRect (View.loadsAt_vmem h_S1x256x1024))
  let v336 : Vec F S1024x1024 .f32 ← Prog.lift (.load arg9 (Rect.unit (s := S1024x1024) ![0, 0] S1024x1024.size inb_S1024x1024_S1024x1024_0_0).toLoadRect (View.loadsAt_vmem h_S1024x1024))
  let v341 : Vec F S1024x1024 .f32 ← Prog.lift (.load arg9 (Rect.unit (s := S1024x1024) ![0, 0] S1024x1024.size inb_S1024x1024_S1024x1024_0_0).toLoadRect (View.loadsAt_vmem h_S1024x1024))
  Prog.lift (.store arg9 (Rect.unit (s := S1024x1024) ![0, 0] S1024x1024.size inb_S1024x1024_S1024x1024_0_0) (k0_pay5 v89 v92 v305 v315 v324 v325 v332 v336) Finset.univ (View.stores_vmem_bits_univ h_S1024x1024 rfl) (.inl rfl))
  pure ⟨⟩

/-- What that block of 384 rows leaves in the running output. -/
def chunk384 (i : grid0.Coords) (arg1 : BitVec 32)  (v21 : FVec F S1024x1 .f32) (v38 : BitVec 32)
    (X4 : Vec F S1024x1024 .bf16) (X6 X7 : Vec F S8x1024x256 .bf16) (X8 : Vec F S8x256x1024 .bf16) (X10 : Vec F S1024x128 .bf16) (X12 : Vec F S4x8x1024 .f32) (X9 : Vec F S1024x1024 .f32) : FVec F S1024x1024 .f32 :=
  let v67 : Vec F S1x8x1024 .f32 := View.ld (Val := Elt F) X12 (Rect.unit (s := S4x8x1024) (k0_off5 i) S1x8x1024.size (k0_off5_inb i))
  let v74 : IVec S384x128 32 := iota .tc S384x128 32 [1] iota_S384x128_d1_w32
  let v90 : Vec F S1024x1024 .bf16 := View.ld (Val := Elt F) X4 (Rect.unit (s := S1024x1024) ![0, 0] S1024x1024.size inb_S1024x1024_S1024x1024_0_0)
  let v93 : Vec F S1024x128 .bf16 := View.ld (Val := Elt F) X10 (Rect.unit (s := S1024x128) ![0, 0] S1024x128.size inb_S1024x128_S1024x128_0_0)
  let v89 := k0_pay125 v21 v38
  let v92 := k0_pay126 v38 v67 v90
  let v94 := k0_pay127 v38 v67 v93
  let v95 := k0_pay128 (F := F)
  let v104 := k0_pay129 arg1 v38 v67 v93
  let v106 : Vec F S1x1024x256 .bf16 := View.ld (Val := Elt F) X6 (Rect.unit (s := S8x1024x256) ![0, 0, 0] S1x1024x256.size inb_S8x1024x256_S1x1024x256_0_0_0)
  let v115 : Vec F S1x1024x256 .bf16 := View.ld (Val := Elt F) X7 (Rect.unit (s := S8x1024x256) ![0, 0, 0] S1x1024x256.size inb_S8x1024x256_S1x1024x256_0_0_0)
  let v122 : Vec F S1x256x1024 .bf16 := View.ld (Val := Elt F) X8 (Rect.unit (s := S8x256x1024) ![0, 0, 0] S1x256x1024.size inb_S8x256x1024_S1x256x1024_0_0_0)
  let v136 : Vec F S1x1024x256 .bf16 := View.ld (Val := Elt F) X6 (Rect.unit (s := S8x1024x256) ![1, 0, 0] S1x1024x256.size inb_S8x1024x256_S1x1024x256_1_0_0)
  let v125 := k0_pay130 v92 v95 v104 v106 v115 v122
  let v135 := k0_pay131 arg1 v74 v94
  let v138 := k0_pay132 v92 v136
  let v140 := k0_pay133 v92 v136
  let v145 : Vec F S1x1024x256 .bf16 := View.ld (Val := Elt F) X7 (Rect.unit (s := S8x1024x256) ![1, 0, 0] S1x1024x256.size inb_S8x1024x256_S1x1024x256_1_0_0)
  let v152 : Vec F S1x256x1024 .bf16 := View.ld (Val := Elt F) X8 (Rect.unit (s := S8x256x1024) ![1, 0, 0] S1x256x1024.size inb_S8x256x1024_S1x256x1024_1_0_0)
  let v166 : Vec F S1x1024x256 .bf16 := View.ld (Val := Elt F) X6 (Rect.unit (s := S8x1024x256) ![2, 0, 0] S1x1024x256.size inb_S8x1024x256_S1x1024x256_2_0_0)
  let v175 : Vec F S1x1024x256 .bf16 := View.ld (Val := Elt F) X7 (Rect.unit (s := S8x1024x256) ![2, 0, 0] S1x1024x256.size inb_S8x1024x256_S1x1024x256_2_0_0)
  let cst_87 : FVec F S384x256 .f32 := constant S384x256 .f32 0x00000000#32
  let v155 := k0_pay134 v92 v125 v135 v138 v140 v145 v152
  let v165 := k0_pay135 arg1 v74 v94
  let v174 := k0_pay136 v92 v166
  let v176 := k0_pay137 v175
  let v182 : Vec F S1x256x1024 .bf16 := View.ld (Val := Elt F) X8 (Rect.unit (s := S8x256x1024) ![2, 0, 0] S1x256x1024.size inb_S8x256x1024_S1x256x1024_2_0_0)
  let v196 : Vec F S1x1024x256 .bf16 := View.ld (Val := Elt F) X6 (Rect.unit (s := S8x1024x256) ![3, 0, 0] S1x1024x256.size inb_S8x1024x256_S1x1024x256_3_0_0)
  let v205 : Vec F S1x1024x256 .bf16 := View.ld (Val := Elt F) X7 (Rect.unit (s := S8x1024x256) ![3, 0, 0] S1x1024x256.size inb_S8x1024x256_S1x1024x256_3_0_0)
  let v212 : Vec F S1x256x1024 .bf16 := View.ld (Val := Elt F) X8 (Rect.unit (s := S8x256x1024) ![3, 0, 0] S1x256x1024.size inb_S8x256x1024_S1x256x1024_3_0_0)
  let cst_109 : FVec F S384x1024 .f32 := constant S384x1024 .f32 0x00000000#32
  let v185 := k0_pay138 v92 v155 v165 v174 v176 cst_87 v182
  let v211 := k0_pay139 arg1 v74 v92 v94 v196 v205
  let v213 := k0_pay140 v212
  let v226 : Vec F S1x1024x256 .bf16 := View.ld (Val := Elt F) X6 (Rect.unit (s := S8x1024x256) ![4, 0, 0] S1x1024x256.size inb_S8x1024x256_S1x1024x256_4_0_0)
  let v235 : Vec F S1x1024x256 .bf16 := View.ld (Val := Elt F) X7 (Rect.unit (s := S8x1024x256) ![4, 0, 0] S1x1024x256.size inb_S8x1024x256_S1x1024x256_4_0_0)
  let v242 : Vec F S1x256x1024 .bf16 := View.ld (Val := Elt F) X8 (Rect.unit (s := S8x256x1024) ![4, 0, 0] S1x256x1024.size inb_S8x256x1024_S1x256x1024_4_0_0)
  let v245 := k0_pay141 arg1 v74 v92 v94 v185 v211 v213 cst_109 v226 v235 v242
  let v251 := k0_pay142 arg1 v74
  let v256 : Vec F S1x1024x256 .bf16 := View.ld (Val := Elt F) X6 (Rect.unit (s := S8x1024x256) ![5, 0, 0] S1x1024x256.size inb_S8x1024x256_S1x1024x256_5_0_0)
  let v265 : Vec F S1x1024x256 .bf16 := View.ld (Val := Elt F) X7 (Rect.unit (s := S8x1024x256) ![5, 0, 0] S1x1024x256.size inb_S8x1024x256_S1x1024x256_5_0_0)
  let v272 : Vec F S1x256x1024 .bf16 := View.ld (Val := Elt F) X8 (Rect.unit (s := S8x256x1024) ![5, 0, 0] S1x256x1024.size inb_S8x256x1024_S1x256x1024_5_0_0)
  let v286 : Vec F S1x1024x256 .bf16 := View.ld (Val := Elt F) X6 (Rect.unit (s := S8x1024x256) ![6, 0, 0] S1x1024x256.size inb_S8x1024x256_S1x1024x256_6_0_0)
  let v275 := k0_pay143 v92 v94 v245 v251 v256 v265 v272
  let v285 := k0_pay144 arg1 v74 v94
  let v287 := k0_pay145 v286
  let v295 : Vec F S1x1024x256 .bf16 := View.ld (Val := Elt F) X7 (Rect.unit (s := S8x1024x256) ![6, 0, 0] S1x1024x256.size inb_S8x1024x256_S1x1024x256_6_0_0)
  let v302 : Vec F S1x256x1024 .bf16 := View.ld (Val := Elt F) X8 (Rect.unit (s := S8x256x1024) ![6, 0, 0] S1x256x1024.size inb_S8x256x1024_S1x256x1024_6_0_0)
  let v316 : Vec F S1x1024x256 .bf16 := View.ld (Val := Elt F) X6 (Rect.unit (s := S8x1024x256) ![7, 0, 0] S1x1024x256.size inb_S8x1024x256_S1x1024x256_7_0_0)
  let v305 := k0_pay146 v92 v275 v285 v287 v295 v302
  let v315 := k0_pay147 arg1 v74 v94
  let v324 := k0_pay148 v92 v316
  let v325 : Vec F S1x1024x256 .bf16 := View.ld (Val := Elt F) X7 (Rect.unit (s := S8x1024x256) ![7, 0, 0] S1x1024x256.size inb_S8x1024x256_S1x1024x256_7_0_0)
  let v332 : Vec F S1x256x1024 .bf16 := View.ld (Val := Elt F) X8 (Rect.unit (s := S8x256x1024) ![7, 0, 0] S1x256x1024.size inb_S8x256x1024_S1x256x1024_7_0_0)
  let v336 : Vec F S1024x1024 .f32 := View.ld (Val := Elt F) X9 (Rect.unit (s := S1024x1024) ![0, 0] S1024x1024.size inb_S1024x1024_S1024x1024_0_0)
  k0_pay5 v89 v92 v305 v315 v324 v325 v332 v336

/-- What one whole block of 384 rows leaves in the running output. -/
def chunkT (i : grid0.Coords) (arg1 : BitVec 32) (v14 : BitVec 32) (v21 : FVec F S1024x1 .f32) (k0_t1 : Fin (k0_t1_loop v14).trips)
    (X4 : Vec F S1024x1024 .bf16) (X6 X7 : Vec F S8x1024x256 .bf16) (X8 : Vec F S8x256x1024 .bf16) (X10 : Vec F S1024x128 .bf16) (X12 : Vec F S4x8x1024 .f32) (X9 : Vec F S1024x1024 .f32) : FVec F S1024x1024 .f32 :=
  let v67 : Vec F S1x8x1024 .f32 := View.ld (Val := Elt F) X12 (Rect.unit (s := S4x8x1024) (k0_off1 i) S1x8x1024.size (k0_off1_inb i))
  let v74 : IVec S384x128 32 := iota .tc S384x128 32 [1] iota_S384x128_d1_w32
  let v90 : Vec F S1024x1024 .bf16 := View.ld (Val := Elt F) X4 (Rect.unit (s := S1024x1024) ![0, 0] S1024x1024.size inb_S1024x1024_S1024x1024_0_0)
  let v93 : Vec F S1024x128 .bf16 := View.ld (Val := Elt F) X10 (Rect.unit (s := S1024x128) ![0, 0] S1024x128.size inb_S1024x128_S1024x128_0_0)
  let v89 := k0_pay21 v14 v21 0#32 1#32 k0_t1
  let v92 := k0_pay22 v14 0#32 1#32 k0_t1 v67 v90
  let v94 := k0_pay23 v14 0#32 1#32 k0_t1 v67 v93
  let v95 := k0_pay24 (F := F)
  let v103 := k0_pay25 arg1 v14 0#32 1#32 k0_t1 v67 v93
  let v106 : Vec F S1x1024x256 .bf16 := View.ld (Val := Elt F) X6 (Rect.unit (s := S8x1024x256) ![0, 0, 0] S1x1024x256.size inb_S8x1024x256_S1x1024x256_0_0_0)
  let v115 : Vec F S1x1024x256 .bf16 := View.ld (Val := Elt F) X7 (Rect.unit (s := S8x1024x256) ![0, 0, 0] S1x1024x256.size inb_S8x1024x256_S1x1024x256_0_0_0)
  let v122 : Vec F S1x256x1024 .bf16 := View.ld (Val := Elt F) X8 (Rect.unit (s := S8x256x1024) ![0, 0, 0] S1x256x1024.size inb_S8x256x1024_S1x256x1024_0_0_0)
  let v136 : Vec F S1x1024x256 .bf16 := View.ld (Val := Elt F) X6 (Rect.unit (s := S8x1024x256) ![1, 0, 0] S1x1024x256.size inb_S8x1024x256_S1x1024x256_1_0_0)
  let v125 := k0_pay26 v92 v95 v103 v106 v115 v122
  let v135 := k0_pay27 arg1 v74 v94
  let v138 := k0_pay28 v92 v136
  let v139 := k0_pay29 (F := F)
  let v145 : Vec F S1x1024x256 .bf16 := View.ld (Val := Elt F) X7 (Rect.unit (s := S8x1024x256) ![1, 0, 0] S1x1024x256.size inb_S8x1024x256_S1x1024x256_1_0_0)
  let v152 : Vec F S1x256x1024 .bf16 := View.ld (Val := Elt F) X8 (Rect.unit (s := S8x256x1024) ![1, 0, 0] S1x256x1024.size inb_S8x256x1024_S1x256x1024_1_0_0)
  let v166 : Vec F S1x1024x256 .bf16 := View.ld (Val := Elt F) X6 (Rect.unit (s := S8x1024x256) ![2, 0, 0] S1x1024x256.size inb_S8x1024x256_S1x1024x256_2_0_0)
  let v175 : Vec F S1x1024x256 .bf16 := View.ld (Val := Elt F) X7 (Rect.unit (s := S8x1024x256) ![2, 0, 0] S1x1024x256.size inb_S8x1024x256_S1x1024x256_2_0_0)
  let v155 := k0_pay30 v92 v125 v135 v138 v139 v145 v152
  let v165 := k0_pay31 arg1 v74 v94
  let v174 := k0_pay32 v92 v166
  let v176 := k0_pay33 v175
  let v182 : Vec F S1x256x1024 .bf16 := View.ld (Val := Elt F) X8 (Rect.unit (s := S8x256x1024) ![2, 0, 0] S1x256x1024.size inb_S8x256x1024_S1x256x1024_2_0_0)
  let v196 : Vec F S1x1024x256 .bf16 := View.ld (Val := Elt F) X6 (Rect.unit (s := S8x1024x256) ![3, 0, 0] S1x1024x256.size inb_S8x1024x256_S1x1024x256_3_0_0)
  let v205 : Vec F S1x1024x256 .bf16 := View.ld (Val := Elt F) X7 (Rect.unit (s := S8x1024x256) ![3, 0, 0] S1x1024x256.size inb_S8x1024x256_S1x1024x256_3_0_0)
  let v212 : Vec F S1x256x1024 .bf16 := View.ld (Val := Elt F) X8 (Rect.unit (s := S8x256x1024) ![3, 0, 0] S1x256x1024.size inb_S8x256x1024_S1x256x1024_3_0_0)
  let v185 := k0_pay34 v92 v155 v165 v174 v176 v182
  let v211 := k0_pay35 arg1 v74 v92 v94 v196 v205
  let v213 := k0_pay36 v212
  let v226 : Vec F S1x1024x256 .bf16 := View.ld (Val := Elt F) X6 (Rect.unit (s := S8x1024x256) ![4, 0, 0] S1x1024x256.size inb_S8x1024x256_S1x1024x256_4_0_0)
  let v235 : Vec F S1x1024x256 .bf16 := View.ld (Val := Elt F) X7 (Rect.unit (s := S8x1024x256) ![4, 0, 0] S1x1024x256.size inb_S8x1024x256_S1x1024x256_4_0_0)
  let v242 : Vec F S1x256x1024 .bf16 := View.ld (Val := Elt F) X8 (Rect.unit (s := S8x256x1024) ![4, 0, 0] S1x256x1024.size inb_S8x256x1024_S1x256x1024_4_0_0)
  let v245 := k0_pay37 arg1 v74 v92 v94 v185 v211 v213 v226 v235 v242
  let v247 := k0_pay38 v74
  let v250 := k0_pay39 arg1
  let v256 : Vec F S1x1024x256 .bf16 := View.ld (Val := Elt F) X6 (Rect.unit (s := S8x1024x256) ![5, 0, 0] S1x1024x256.size inb_S8x1024x256_S1x1024x256_5_0_0)
  let v265 : Vec F S1x1024x256 .bf16 := View.ld (Val := Elt F) X7 (Rect.unit (s := S8x1024x256) ![5, 0, 0] S1x1024x256.size inb_S8x1024x256_S1x1024x256_5_0_0)
  let v272 : Vec F S1x256x1024 .bf16 := View.ld (Val := Elt F) X8 (Rect.unit (s := S8x256x1024) ![5, 0, 0] S1x256x1024.size inb_S8x256x1024_S1x256x1024_5_0_0)
  let v286 : Vec F S1x1024x256 .bf16 := View.ld (Val := Elt F) X6 (Rect.unit (s := S8x1024x256) ![6, 0, 0] S1x1024x256.size inb_S8x1024x256_S1x1024x256_6_0_0)
  let v275 := k0_pay40 v92 v94 v245 v247 v250 v256 v265 v272
  let v285 := k0_pay41 arg1 v74 v94
  let v295 : Vec F S1x1024x256 .bf16 := View.ld (Val := Elt F) X7 (Rect.unit (s := S8x1024x256) ![6, 0, 0] S1x1024x256.size inb_S8x1024x256_S1x1024x256_6_0_0)
  let v302 : Vec F S1x256x1024 .bf16 := View.ld (Val := Elt F) X8 (Rect.unit (s := S8x256x1024) ![6, 0, 0] S1x256x1024.size inb_S8x256x1024_S1x256x1024_6_0_0)
  let v316 : Vec F S1x1024x256 .bf16 := View.ld (Val := Elt F) X6 (Rect.unit (s := S8x1024x256) ![7, 0, 0] S1x1024x256.size inb_S8x1024x256_S1x1024x256_7_0_0)
  let v305 := k0_pay42 v92 v275 v285 v286 v295 v302
  let v315 := k0_pay43 arg1 v74 v94
  let v324 := k0_pay44 v92 v316
  let v325 : Vec F S1x1024x256 .bf16 := View.ld (Val := Elt F) X7 (Rect.unit (s := S8x1024x256) ![7, 0, 0] S1x1024x256.size inb_S8x1024x256_S1x1024x256_7_0_0)
  let v332 : Vec F S1x256x1024 .bf16 := View.ld (Val := Elt F) X8 (Rect.unit (s := S8x256x1024) ![7, 0, 0] S1x256x1024.size inb_S8x256x1024_S1x256x1024_7_0_0)
  let v336 : Vec F S1024x1024 .f32 := View.ld (Val := Elt F) X9 (Rect.unit (s := S1024x1024) ![0, 0] S1024x1024.size inb_S1024x1024_S1024x1024_0_0)
  k0_pay1 v89 v92 v305 v315 v324 v325 v332 v336

/-- Whether the `r` rows left after the whole blocks are more than `lo` and at most `hi`: the condition of a ragged end. -/
def rag (r lo hi : BitVec 32) : BitVec 1 := Scalar.cmpi .ne (Scalar.extui (Scalar.andi (Scalar.cmpi .sgt r lo) (Scalar.cmpi .sle r hi)) : BitVec 32) 0#32

/-- Whether a group number is the given word. -/
def grp (a b : BitVec 32) : BitVec 1 := Scalar.cmpi .ne (Scalar.extui (Scalar.cmpi .eq a b) : BitVec 32) 0#32

/-- The end of a trip: after the last group the gated residual. -/
def fin (i : grid0.Coords) (arg2 : Memref sig .tc .vmem S1x1x6144 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S8x1024x256 .bf16) (harg6 : arg6.IsWhole) (arg7 : Memref sig .tc .vmem S8x1024x256 .bf16) (harg7 : arg7.IsWhole) (arg8 : Memref sig .tc .vmem S8x256x1024 .bf16) (harg8 : arg8.IsWhole) (arg9 : Memref sig .tc .vmem S1024x1024 .f32) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S4x8x1024 .f32) (harg12 : arg12.IsWhole) (arg13 : Memref sig .tc .vmem S1x128 .f32) (harg13 : arg13.IsWhole) (arg1 : BitVec 32) : Prog (TpuEff nD τ sig (Elt F) Λ₀ .tc) PUnit :=
  if k0_h5 : grp arg1 3#32 = 1#1 then do
    let v64 : Vec F S1024x1024 .f32 ← Prog.lift (.load arg3 (Rect.unit (s := S1024x1024) ![0, 0] S1024x1024.size inb_S1024x1024_S1024x1024_0_0).toLoadRect (View.loadsAt_vmem h_S1024x1024))
    let v65 : Vec F S1x1x1024 .f32 ← Prog.lift (.load arg2 (Rect.unit (s := S1x1x6144) ![0, 0, 5120] S1x1x1024.size inb_S1x1x6144_S1x1x1024_0_0_5120).toLoadRect (View.loadsAt_vmem h_S1x1x1024))
    let v67 : Vec F S1024x1024 .f32 ← Prog.lift (.load arg9 (Rect.unit (s := S1024x1024) ![0, 0] S1024x1024.size inb_S1024x1024_S1024x1024_0_0).toLoadRect (View.loadsAt_vmem h_S1024x1024))
    let v72 : Vec F S1024x1024 .f32 ← Prog.lift (.load arg9 (Rect.unit (s := S1024x1024) ![0, 0] S1024x1024.size inb_S1024x1024_S1024x1024_0_0).toLoadRect (View.loadsAt_vmem h_S1024x1024))
    Prog.lift (.store arg9 (Rect.unit (s := S1024x1024) ![0, 0] S1024x1024.size inb_S1024x1024_S1024x1024_0_0) (k0_pay6 v64 v65 v67) Finset.univ (View.stores_vmem_bits_univ h_S1024x1024 rfl) (.inl rfl))
    pure ⟨⟩
  else pure ⟨⟩

/-- From the largest ragged end on. -/
def kC (i : grid0.Coords) (arg2 : Memref sig .tc .vmem S1x1x6144 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S8x1024x256 .bf16) (harg6 : arg6.IsWhole) (arg7 : Memref sig .tc .vmem S8x1024x256 .bf16) (harg7 : arg7.IsWhole) (arg8 : Memref sig .tc .vmem S8x256x1024 .bf16) (harg8 : arg8.IsWhole) (arg9 : Memref sig .tc .vmem S1024x1024 .f32) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S4x8x1024 .f32) (harg12 : arg12.IsWhole) (arg13 : Memref sig .tc .vmem S1x128 .f32) (harg13 : arg13.IsWhole) (arg1 : BitVec 32) (v21 : FVec F S1024x1 .f32) (v38 r : BitVec 32) : Prog (TpuEff nD τ sig (Elt F) Λ₀ .tc) PUnit :=
  if rag r 256#32 384#32 = 1#1 then tail384 i arg2 harg2 arg3 harg3 arg4 harg4 arg5 harg5 arg6 harg6 arg7 harg7 arg8 harg8 arg9 harg9 arg10 harg10 arg11 harg11 arg12 harg12 arg13 harg13 arg1 v21 v38 >>= fun _ => fin i arg2 harg2 arg3 harg3 arg4 harg4 arg5 harg5 arg6 harg6 arg7 harg7 arg8 harg8 arg9 harg9 arg10 harg10 arg11 harg11 arg12 harg12 arg13 harg13 arg1 else fin i arg2 harg2 arg3 harg3 arg4 harg4 arg5 harg5 arg6 harg6 arg7 harg7 arg8 harg8 arg9 harg9 arg10 harg10 arg11 harg11 arg12 harg12 arg13 harg13 arg1

/-- From the middle ragged end on. -/
def kB (i : grid0.Coords) (arg2 : Memref sig .tc .vmem S1x1x6144 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S8x1024x256 .bf16) (harg6 : arg6.IsWhole) (arg7 : Memref sig .tc .vmem S8x1024x256 .bf16) (harg7 : arg7.IsWhole) (arg8 : Memref sig .tc .vmem S8x256x1024 .bf16) (harg8 : arg8.IsWhole) (arg9 : Memref sig .tc .vmem S1024x1024 .f32) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S4x8x1024 .f32) (harg12 : arg12.IsWhole) (arg13 : Memref sig .tc .vmem S1x128 .f32) (harg13 : arg13.IsWhole) (arg1 : BitVec 32) (v21 : FVec F S1024x1 .f32) (v38 r : BitVec 32) : Prog (TpuEff nD τ sig (Elt F) Λ₀ .tc) PUnit :=
  if rag r 128#32 256#32 = 1#1 then tail256 i arg2 harg2 arg3 harg3 arg4 harg4 arg5 harg5 arg6 harg6 arg7 harg7 arg8 harg8 arg9 harg9 arg10 harg10 arg11 harg11 arg12 harg12 arg13 harg13 arg1 v21 v38 >>= fun _ => kC i arg2 harg2 arg3 harg3 arg4 harg4 arg5 harg5 arg6 harg6 arg7 harg7 arg8 harg8 arg9 harg9 arg10 harg10 arg11 harg11 arg12 harg12 arg13 harg13 arg1 v21 v38 r else kC i arg2 harg2 arg3 harg3 arg4 harg4 arg5 harg5 arg6 harg6 arg7 harg7 arg8 harg8 arg9 harg9 arg10 harg10 arg11 harg11 arg12 harg12 arg13 harg13 arg1 v21 v38 r

/-- From the smallest ragged end on. -/
def kA (i : grid0.Coords) (arg2 : Memref sig .tc .vmem S1x1x6144 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S8x1024x256 .bf16) (harg6 : arg6.IsWhole) (arg7 : Memref sig .tc .vmem S8x1024x256 .bf16) (harg7 : arg7.IsWhole) (arg8 : Memref sig .tc .vmem S8x256x1024 .bf16) (harg8 : arg8.IsWhole) (arg9 : Memref sig .tc .vmem S1024x1024 .f32) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S4x8x1024 .f32) (harg12 : arg12.IsWhole) (arg13 : Memref sig .tc .vmem S1x128 .f32) (harg13 : arg13.IsWhole) (arg1 : BitVec 32) (v21 : FVec F S1024x1 .f32) (v38 r : BitVec 32) : Prog (TpuEff nD τ sig (Elt F) Λ₀ .tc) PUnit :=
  if rag r 0#32 128#32 = 1#1 then tail128 i arg2 harg2 arg3 harg3 arg4 harg4 arg5 harg5 arg6 harg6 arg7 harg7 arg8 harg8 arg9 harg9 arg10 harg10 arg11 harg11 arg12 harg12 arg13 harg13 arg1 v21 v38 >>= fun _ => kB i arg2 harg2 arg3 harg3 arg4 harg4 arg5 harg5 arg6 harg6 arg7 harg7 arg8 harg8 arg9 harg9 arg10 harg10 arg11 harg11 arg12 harg12 arg13 harg13 arg1 v21 v38 r else kB i arg2 harg2 arg3 harg3 arg4 harg4 arg5 harg5 arg6 harg6 arg7 harg7 arg8 harg8 arg9 harg9 arg10 harg10 arg11 harg11 arg12 harg12 arg13 harg13 arg1 v21 v38 r

/-- The whole body by its regions. -/
def moe3 (i : grid0.Coords) (arg2 : Memref sig .tc .vmem S1x1x6144 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S8x1024x256 .bf16) (harg6 : arg6.IsWhole) (arg7 : Memref sig .tc .vmem S8x1024x256 .bf16) (harg7 : arg7.IsWhole) (arg8 : Memref sig .tc .vmem S8x256x1024 .bf16) (harg8 : arg8.IsWhole) (arg9 : Memref sig .tc .vmem S1024x1024 .f32) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S4x8x1024 .f32) (harg12 : arg12.IsWhole) (arg13 : Memref sig .tc .vmem S1x128 .f32) (harg13 : arg13.IsWhole) : Prog (TpuEff nD τ sig (Elt F) Λ₀ .tc) PUnit :=
  k0_part38 i arg2 harg2 arg3 harg3 arg4 harg4 arg5 harg5 arg6 harg6 arg7 harg7 arg8 harg8 arg9 harg9 arg10 harg10 arg11 harg11 arg12 harg12 arg13 harg13 >>= fun p =>
  Scf.Loop.for (k0_t1_loop p.2.1) (k0_t1_ok p.2.1 p.2.2.1) ⟨⟩ (k0_t1_body i arg2 harg2 arg3 harg3 arg4 harg4 arg5 harg5 arg6 harg6 arg7 harg7 arg8 harg8 arg9 harg9 arg10 harg10 arg11 harg11 arg12 harg12 arg13 harg13 p.1 p.2.1 p.2.2.1 p.2.2.2.1) >>= fun _ =>
  Scf.Loop.for (k0_t2_loop p.2.1) (k0_t2_ok p.2.1 p.2.2.1) ⟨⟩ (k0_t2_body i arg2 harg2 arg3 harg3 arg4 harg4 arg5 harg5 arg6 harg6 arg7 harg7 arg8 harg8 arg9 harg9 arg10 harg10 arg11 harg11 arg12 harg12 arg13 harg13 p.1 p.2.1 p.2.2.1 p.2.2.2.1 (Scalar.addi 0#32 (Scalar.muli (Scalar.divsi (Scalar.subi p.2.2.2.2 0#32) 1#32) 1#32))) >>= fun _ =>
  kA i arg2 harg2 arg3 harg3 arg4 harg4 arg5 harg5 arg6 harg6 arg7 harg7 arg8 harg8 arg9 harg9 arg10 harg10 arg11 harg11 arg12 harg12 arg13 harg13 p.1 p.2.2.2.1 p.2.2.2.2 (Scalar.subi p.2.1 (Scalar.muli p.2.2.2.2 384#32))

set_option maxRecDepth 65536 in
theorem moe3_eq : cc0_moe_skel (F := F) = moe3 (F := F) := rfl

end Cert.KernelIdeal.Moe

end
-- ==== Proof.Steps.lean ====
module

public import proofs.«01_k».proof.Proof.Gen.KernelIdeal.Loops
public import proofs.«01_k».proof.Proof.Gen.KernelIdeal.Frame
public import Idealize.ShloMosaic.Lib.VecWindow
public import proofs.«01_k».proof.Proof.Words
public import proofs.«01_k».proof.Proof.Chunk

@[expose] public section

set_option maxRecDepth 16384
set_option maxHeartbeats 4000000

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- What a block of rows reads and changes: the token tile, the three weight stacks, the packed gates, the ranks by row, and the running output. -/
def St (c : Dev nD) (arg4 : Memref sig .tc .vmem S1024x1024 .bf16) (arg6 arg7 : Memref sig .tc .vmem S8x1024x256 .bf16) (arg8 : Memref sig .tc .vmem S8x256x1024 .bf16) (arg9 : Memref sig .tc .vmem S1024x1024 .f32) (arg10 : Memref sig .tc .vmem S1024x128 .bf16) (arg12 : Memref sig .tc .vmem S4x8x1024 .f32) (X4 : Vec F S1024x1024 .bf16) (X6 X7 : Vec F S8x1024x256 .bf16) (X8 : Vec F S8x256x1024 .bf16) (X10 : Vec F S1024x128 .bf16) (X12 : Vec F S4x8x1024 .f32) (X9 : Vec F S1024x1024 .f32) : sProp 𝕄G :=
  iprop(owns (c : Thread nD τ) arg4 fullShare X4 ∗ owns (c : Thread nD τ) arg6 fullShare X6 ∗ owns (c : Thread nD τ) arg7 fullShare X7 ∗ owns (c : Thread nD τ) arg8 fullShare X8
    ∗ owns (c : Thread nD τ) arg10 fullShare X10 ∗ owns (c : Thread nD τ) arg12 fullShare X12 ∗ owns (c : Thread nD τ) arg9 fullShare X9)

section

variable (𝒱 : Variants) (c : Dev nD) (bd : Option 𝒱.V) (E : Set ℕ) (i : grid0.Coords)
  (arg2 : Memref sig .tc .vmem S1x1x6144 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S8x1024x256 .bf16) (harg6 : arg6.IsWhole) (arg7 : Memref sig .tc .vmem S8x1024x256 .bf16) (harg7 : arg7.IsWhole) (arg8 : Memref sig .tc .vmem S8x256x1024 .bf16) (harg8 : arg8.IsWhole) (arg9 : Memref sig .tc .vmem S1024x1024 .f32) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S4x8x1024 .f32) (harg12 : arg12.IsWhole) (arg13 : Memref sig .tc .vmem S1x128 .f32) (harg13 : arg13.IsWhole)

theorem wp_trip (arg1 v14 : BitVec 32) (h : k0_chk1 v14) (v21 : FVec F S1024x1 .f32) (k : Fin (k0_t1_loop v14).trips) (X4 : Vec F S1024x1024 .bf16) (X6 X7 : Vec F S8x1024x256 .bf16) (X8 : Vec F S8x256x1024 .bf16) (X10 : Vec F S1024x128 .bf16) (X12 : Vec F S4x8x1024 .f32) (X9 : Vec F S1024x1024 .f32) :
    St c arg4 arg6 arg7 arg8 arg9 arg10 arg12 X4 X6 X7 X8 X10 X12 X9
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg1 v14 h v21 k PUnit.unit)
          (fun _ => St c arg4 arg6 arg7 arg8 arg9 arg10 arg12 X4 X6 X7 X8 X10 X12 (chunkT i arg1 v14 v21 k X4 X6 X7 X8 X10 X12 X9)) := by
  unfold k0_t1_body St owns
  iintro ⟨⟨%f4, %h4, H4⟩, ⟨%f6, %h6, H6⟩, ⟨%f7, %h7, H7⟩, ⟨%f8, %h8, H8⟩, ⟨%f10, %h10, H10⟩, ⟨%f12, %h12, H12⟩, ⟨%f9, %h9, H9⟩⟩
  subst h4 h6 h7 h8 h10 h12 h9
  sl_exec
  sl_step
  isplitl [H4]; iexists _; isplit; ipureintro; rfl; iexact H4
  isplitl [H6]; iexists _; isplit; ipureintro; rfl; iexact H6
  isplitl [H7]; iexists _; isplit; ipureintro; rfl; iexact H7
  isplitl [H8]; iexists _; isplit; ipureintro; rfl; iexact H8
  isplitl [H10]; iexists _; isplit; ipureintro; rfl; iexact H10
  isplitl [H12]; iexists _; isplit; ipureintro; rfl; iexact H12
  iexists _
  isplit; rotate_left
  · iexact H9
  · ipureintro; exact (View.read_writes_full _ _ _ _ _).trans rfl

theorem wp_tail128 (arg1 v38 : BitVec 32) (v21 : FVec F S1024x1 .f32) (X4 : Vec F S1024x1024 .bf16) (X6 X7 : Vec F S8x1024x256 .bf16) (X8 : Vec F S8x256x1024 .bf16) (X10 : Vec F S1024x128 .bf16) (X12 : Vec F S4x8x1024 .f32) (X9 : Vec F S1024x1024 .f32) :
    St c arg4 arg6 arg7 arg8 arg9 arg10 arg12 X4 X6 X7 X8 X10 X12 X9
      ⊢ wp frame (wpE (defs₀ (F := F)) 𝒱 (c : Thread nD τ) bd) E (tail128 (F := F) i arg2 harg2 arg3 harg3 arg4 harg4 arg5 harg5 arg6 harg6 arg7 harg7 arg8 harg8 arg9 harg9 arg10 harg10 arg11 harg11 arg12 harg12 arg13 harg13 arg1 v21 v38)
          (fun _ => St c arg4 arg6 arg7 arg8 arg9 arg10 arg12 X4 X6 X7 X8 X10 X12 (chunk128 i arg1 v21 v38 X4 X6 X7 X8 X10 X12 X9)) := by
  unfold tail128 St owns
  iintro ⟨⟨%f4, %h4, H4⟩, ⟨%f6, %h6, H6⟩, ⟨%f7, %h7, H7⟩, ⟨%f8, %h8, H8⟩, ⟨%f10, %h10, H10⟩, ⟨%f12, %h12, H12⟩, ⟨%f9, %h9, H9⟩⟩
  subst h4 h6 h7 h8 h10 h12 h9
  sl_exec
  sl_step
  isplitl [H4]; iexists _; isplit; ipureintro; rfl; iexact H4
  isplitl [H6]; iexists _; isplit; ipureintro; rfl; iexact H6
  isplitl [H7]; iexists _; isplit; ipureintro; rfl; iexact H7
  isplitl [H8]; iexists _; isplit; ipureintro; rfl; iexact H8
  isplitl [H10]; iexists _; isplit; ipureintro; rfl; iexact H10
  isplitl [H12]; iexists _; isplit; ipureintro; rfl; iexact H12
  iexists _
  isplit; rotate_left
  · iexact H9
  · ipureintro; exact (View.read_writes_full _ _ _ _ _).trans rfl

theorem wp_tail256 (arg1 v38 : BitVec 32) (v21 : FVec F S1024x1 .f32) (X4 : Vec F S1024x1024 .bf16) (X6 X7 : Vec F S8x1024x256 .bf16) (X8 : Vec F S8x256x1024 .bf16) (X10 : Vec F S1024x128 .bf16) (X12 : Vec F S4x8x1024 .f32) (X9 : Vec F S1024x1024 .f32) :
    St c arg4 arg6 arg7 arg8 arg9 arg10 arg12 X4 X6 X7 X8 X10 X12 X9
      ⊢ wp frame (wpE (defs₀ (F := F)) 𝒱 (c : Thread nD τ) bd) E (tail256 (F := F) i arg2 harg2 arg3 harg3 arg4 harg4 arg5 harg5 arg6 harg6 arg7 harg7 arg8 harg8 arg9 harg9 arg10 harg10 arg11 harg11 arg12 harg12 arg13 harg13 arg1 v21 v38)
          (fun _ => St c arg4 arg6 arg7 arg8 arg9 arg10 arg12 X4 X6 X7 X8 X10 X12 (chunk256 i arg1 v21 v38 X4 X6 X7 X8 X10 X12 X9)) := by
  unfold tail256 St owns
  iintro ⟨⟨%f4, %h4, H4⟩, ⟨%f6, %h6, H6⟩, ⟨%f7, %h7, H7⟩, ⟨%f8, %h8, H8⟩, ⟨%f10, %h10, H10⟩, ⟨%f12, %h12, H12⟩, ⟨%f9, %h9, H9⟩⟩
  subst h4 h6 h7 h8 h10 h12 h9
  sl_exec
  sl_step
  isplitl [H4]; iexists _; isplit; ipureintro; rfl; iexact H4
  isplitl [H6]; iexists _; isplit; ipureintro; rfl; iexact H6
  isplitl [H7]; iexists _; isplit; ipureintro; rfl; iexact H7
  isplitl [H8]; iexists _; isplit; ipureintro; rfl; iexact H8
  isplitl [H10]; iexists _; isplit; ipureintro; rfl; iexact H10
  isplitl [H12]; iexists _; isplit; ipureintro; rfl; iexact H12
  iexists _
  isplit; rotate_left
  · iexact H9
  · ipureintro; exact (View.read_writes_full _ _ _ _ _).trans rfl

theorem wp_tail384 (arg1 v38 : BitVec 32) (v21 : FVec F S1024x1 .f32) (X4 : Vec F S1024x1024 .bf16) (X6 X7 : Vec F S8x1024x256 .bf16) (X8 : Vec F S8x256x1024 .bf16) (X10 : Vec F S1024x128 .bf16) (X12 : Vec F S4x8x1024 .f32) (X9 : Vec F S1024x1024 .f32) :
    St c arg4 arg6 arg7 arg8 arg9 arg10 arg12 X4 X6 X7 X8 X10 X12 X9
      ⊢ wp frame (wpE (defs₀ (F := F)) 𝒱 (c : Thread nD τ) bd) E (tail384 (F := F) i arg2 harg2 arg3 harg3 arg4 harg4 arg5 harg5 arg6 harg6 arg7 harg7 arg8 harg8 arg9 harg9 arg10 harg10 arg11 harg11 arg12 harg12 arg13 harg13 arg1 v21 v38)
          (fun _ => St c arg4 arg6 arg7 arg8 arg9 arg10 arg12 X4 X6 X7 X8 X10 X12 (chunk384 i arg1 v21 v38 X4 X6 X7 X8 X10 X12 X9)) := by
  unfold tail384 St owns
  iintro ⟨⟨%f4, %h4, H4⟩, ⟨%f6, %h6, H6⟩, ⟨%f7, %h7, H7⟩, ⟨%f8, %h8, H8⟩, ⟨%f10, %h10, H10⟩, ⟨%f12, %h12, H12⟩, ⟨%f9, %h9, H9⟩⟩
  subst h4 h6 h7 h8 h10 h12 h9
  sl_exec
  sl_step
  isplitl [H4]; iexists _; isplit; ipureintro; rfl; iexact H4
  isplitl [H6]; iexists _; isplit; ipureintro; rfl; iexact H6
  isplitl [H7]; iexists _; isplit; ipureintro; rfl; iexact H7
  isplitl [H8]; iexists _; isplit; ipureintro; rfl; iexact H8
  isplitl [H10]; iexists _; isplit; ipureintro; rfl; iexact H10
  isplitl [H12]; iexists _; isplit; ipureintro; rfl; iexact H12
  iexists _
  isplit; rotate_left
  · iexact H9
  · ipureintro; exact (View.read_writes_full _ _ _ _ _).trans rfl

end

end Cert.KernelIdeal.Moe

end
-- ==== Proof.Body.lean ====
module

public import proofs.«01_k».proof.Proof.Gen.KernelIdeal.Loops
public import Idealize.ShloMosaic.Lib.VecWindow
public import Idealize.ShloMosaic.Lib.ValueIdxCore
public import proofs.«01_k».proof.Proof.Gen.KernelIdeal.Frame
public import proofs.«01_k».proof.Proof.Words
public import proofs.«01_k».proof.Proof.Chunk
public import proofs.«01_k».proof.Proof.Steps

@[expose] public section

set_option maxRecDepth 16384
set_option maxHeartbeats 4000000

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F]

local notation "𝕄G" => MT nD τ sig Unit (Elt F) ℕ (UR sig nD τ) ℕ

/-- The lane numbers of a gate tile. -/
abbrev lanes : IVec S1024x128 32 := iota .tc S1024x128 32 [1] iota_S1024x128_d1_w32

/-- Which token of a gate tile goes to which group. -/
abbrev memV (G : Vec F S1024x128 .f32) : FVec F S1024x128 .f32 := k0_pay9 lanes G

/-- A gate tile packed in three rounded parts. -/
abbrev packV (G : Vec F S1024x128 .f32) : FVec F S1024x128 .bf16 := k0_pay8 lanes G

/-- Each token's place among its group's tokens. -/
abbrev rankV (G : Vec F S1024x128 .f32) : FVec F S1024x128 .f32 := k0_pay12 (memV G) k0_pay10

/-- The places again with the tokens along the lanes: eight equal rows to a group. -/
def rankT (G : Vec F S1024x128 .f32) : Vec F S4x8x1024 .f32 := fun y =>
  if (y 0).val = 0 then k0_pay14 (memV G) k0_pay10 (ix3 (0 : Fin 1) (y 1 : Fin 8) (y 2 : Fin 1024))
  else if (y 0).val = 1 then k0_pay15 (memV G) k0_pay10 (ix3 (0 : Fin 1) (y 1 : Fin 8) (y 2 : Fin 1024))
  else if (y 0).val = 2 then k0_pay16 (memV G) k0_pay10 (ix3 (0 : Fin 1) (y 1 : Fin 8) (y 2 : Fin 1024))
  else k0_pay17 (memV G) k0_pay10 (ix3 (0 : Fin 1) (y 1 : Fin 8) (y 2 : Fin 1024))

/-- How many tokens each group has. -/
abbrev cntV (G : Vec F S1024x128 .f32) : FVec F S1x128 .f32 := k0_pay149 (k0_pay18 (memV G))

/-- The word of one group's count. -/
abbrev cntW (i : grid0.Coords) (X13 : Vec F S1x128 .f32) : BitVec 32 := Scalar.fptosi 32 (k0_pay150 i X13)

/-- One group's places. -/
abbrev rankC (i : grid0.Coords) (X11 : Vec F S1024x128 .f32) : FVec F S1024x1 .f32 := k0_pay151 i X11

/-- The output after `k` whole blocks. -/
def loopY (i : grid0.Coords) (a n : BitVec 32) (col : FVec F S1024x1 .f32) (X4 : Vec F S1024x1024 .bf16) (X6 X7 : Vec F S8x1024x256 .bf16) (X8 : Vec F S8x256x1024 .bf16) (X10 : Vec F S1024x128 .bf16) (X12 : Vec F S4x8x1024 .f32) (X9 : Vec F S1024x1024 .f32) : ℕ → FVec F S1024x1024 .f32
  | 0 => X9
  | k + 1 => if h : k < (k0_t1_loop n).trips then chunkT i a n col ⟨k, h⟩ X4 X6 X7 X8 X10 X12 (loopY i a n col X4 X6 X7 X8 X10 X12 X9 k) else loopY i a n col X4 X6 X7 X8 X10 X12 X9 k

/-- The output after one group: whole blocks, then the ragged end. -/
def groupY (i : grid0.Coords) (a n : BitVec 32) (col : FVec F S1024x1 .f32) (X4 : Vec F S1024x1024 .bf16) (X6 X7 : Vec F S8x1024x256 .bf16) (X8 : Vec F S8x256x1024 .bf16) (X10 : Vec F S1024x128 .bf16) (X12 : Vec F S4x8x1024 .f32) (X9 : Vec F S1024x1024 .f32) : FVec F S1024x1024 .f32 :=
  let r := Scalar.subi n (Scalar.muli (fullW n) 384#32)
  let Y0 := loopY i a n col X4 X6 X7 X8 X10 X12 X9 (k0_t1_loop n).trips
  let Y1 := if rag r 0#32 128#32 = 1#1 then chunk128 i a col (fullW n) X4 X6 X7 X8 X10 X12 Y0 else Y0
  let Y2 := if rag r 128#32 256#32 = 1#1 then chunk256 i a col (fullW n) X4 X6 X7 X8 X10 X12 Y1 else Y1
  if rag r 256#32 384#32 = 1#1 then chunk384 i a col (fullW n) X4 X6 X7 X8 X10 X12 Y2 else Y2

/-- The gated residual after the last group. -/
def finY (a : BitVec 32) (X2 : Vec F S1x1x6144 .f32) (X3 : Vec F S1024x1024 .f32) (Y : Vec F S1024x1024 .f32) : FVec F S1024x1024 .f32 :=
  if grp a 3#32 = 1#1 then k0_pay6 X3 (View.ld (Val := Elt F) X2 (Rect.unit (s := S1x1x6144) ![0, 0, 5120] S1x1x1024.size inb_S1x1x6144_S1x1x1024_0_0_5120)) Y else Y

/-- Four stores, one to each slab, leave the four payloads. -/
theorem read_four {sp : Space} {κ : Kind} (v : View sig κ sp S4x8x1024 .f32) (f : v.ty.Contents (Elt F)) (G : Vec F S1024x128 .f32) (e : FVec F S1024x1024 .bf16) (he : e = k0_pay10) (m : FVec F S1024x128 .f32) (hm : m = memV G) :
    v.read (Elt F) (v.writes (Elt F) f
      [⟨Rect.unit ![3, 0, 0] S1x8x1024.size inb_S4x8x1024_S1x8x1024_3_0_0, k0_pay17 m e⟩,
        ⟨Rect.unit ![2, 0, 0] S1x8x1024.size inb_S4x8x1024_S1x8x1024_2_0_0, k0_pay16 m e⟩,
        ⟨Rect.unit ![1, 0, 0] S1x8x1024.size inb_S4x8x1024_S1x8x1024_1_0_0, k0_pay15 m e⟩,
        ⟨Rect.unit ![0, 0, 0] S1x8x1024.size inb_S4x8x1024_S1x8x1024_0_0_0, k0_pay14 m e⟩]) = rankT G := by
  subst he hm
  funext y
  have hx : ∀ o : ℕ, (y 0).val = o → ∀ a, (y a).val = (![o, 0, 0] : Fin 3 → ℕ) a + ((ix3 (0 : Fin 1) (y 1 : Fin 8) (y 2 : Fin 1024) : S1x8x1024.Idx) a).val := by
    intro o ho a
    match a with
    | ⟨0, _⟩ => exact ho
    | ⟨1, _⟩ => exact (Nat.zero_add _).symm
    | ⟨2, _⟩ => exact (Nat.zero_add _).symm
  have hn : ∀ o : ℕ, (y 0).val ≠ o → (y 0).val < (![o, 0, 0] : Fin 3 → ℕ) 0 ∨ (![o, 0, 0] : Fin 3 → ℕ) 0 + S1x8x1024.size 0 ≤ (y 0).val := by
    intro o ho
    show (y 0).val < o ∨ o + 1 ≤ (y 0).val
    omega
  have hlt : (y 0).val < 4 := (y 0).isLt
  unfold rankT
  by_cases h3 : (y 0).val = 3
  · refine (View.read_writes_cons_unit_of_mem (size := S1x8x1024.size) v f _ _ _ y (ix3 (0 : Fin 1) (y 1 : Fin 8) (y 2 : Fin 1024)) rfl (hx 3 h3)).trans ?_
    rw [if_neg (by omega), if_neg (by omega), if_neg (by omega)]
  refine (View.read_writes_cons_unit_of_not_mem v f _ _ _ y rfl 0 (hn 3 h3)).trans ?_
  by_cases h2 : (y 0).val = 2
  · refine (View.read_writes_cons_unit_of_mem (size := S1x8x1024.size) v f _ _ _ y (ix3 (0 : Fin 1) (y 1 : Fin 8) (y 2 : Fin 1024)) rfl (hx 2 h2)).trans ?_
    rw [if_neg (by omega), if_neg (by omega), if_pos h2]
  refine (View.read_writes_cons_unit_of_not_mem v f _ _ _ y rfl 0 (hn 2 h2)).trans ?_
  by_cases h1 : (y 0).val = 1
  · refine (View.read_writes_cons_unit_of_mem (size := S1x8x1024.size) v f _ _ _ y (ix3 (0 : Fin 1) (y 1 : Fin 8) (y 2 : Fin 1024)) rfl (hx 1 h1)).trans ?_
    rw [if_neg (by omega), if_pos h1]
  refine (View.read_writes_cons_unit_of_not_mem v f _ _ _ y rfl 0 (hn 1 h1)).trans ?_
  have h0 : (y 0).val = 0 := by omega
  refine (View.read_writes_cons_unit_of_mem (size := S1x8x1024.size) v f _ _ _ y (ix3 (0 : Fin 1) (y 1 : Fin 8) (y 2 : Fin 1024)) rfl (hx 0 h0)).trans ?_
  rw [if_pos h0]

section

variable (𝒱 : Variants) (c : Dev nD) (bd : Option 𝒱.V) (E : Set ℕ) (i : grid0.Coords)
  (arg2 : Memref sig .tc .vmem S1x1x6144 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S8x1024x256 .bf16) (harg6 : arg6.IsWhole) (arg7 : Memref sig .tc .vmem S8x1024x256 .bf16) (harg7 : arg7.IsWhole) (arg8 : Memref sig .tc .vmem S8x256x1024 .bf16) (harg8 : arg8.IsWhole) (arg9 : Memref sig .tc .vmem S1024x1024 .f32) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S4x8x1024 .f32) (harg12 : arg12.IsWhole) (arg13 : Memref sig .tc .vmem S1x128 .f32) (harg13 : arg13.IsWhole)

theorem wp_part38_first (h1 : grp (BitVec.ofNat 32 (i 1).val) 0#32 = 1#1) (X5 : Vec F S1024x128 .f32) :
    iprop(owns (c : Thread nD τ) arg5 fullShare X5 ∗ (∃ f : Vec F S1024x1024 .f32, owns (c : Thread nD τ) arg9 fullShare f) ∗ (∃ f : Vec F S1024x128 .bf16, owns (c : Thread nD τ) arg10 fullShare f) ∗ (∃ f : Vec F S1024x128 .f32, owns (c : Thread nD τ) arg11 fullShare f) ∗ (∃ f : Vec F S4x8x1024 .f32, owns (c : Thread nD τ) arg12 fullShare f) ∗ (∃ f : Vec F S1x128 .f32, owns (c : Thread nD τ) arg13 fullShare f))
      ⊢ wp frame (wpE (defs₀ (F := F)) 𝒱 (c : Thread nD τ) bd) E (k0_part38 (F := F) i arg2 harg2 arg3 harg3 arg4 harg4 arg5 harg5 arg6 harg6 arg7 harg7 arg8 harg8 arg9 harg9 arg10 harg10 arg11 harg11 arg12 harg12 arg13 harg13)
          (fun p => (iprop(⌜p.1 = BitVec.ofNat 32 (i 1).val ∧ p.2.1 = cntW i (cntV X5) ∧ p.2.2.2.1 = rankC i (rankV X5) ∧ p.2.2.2.2 = fullW (cntW i (cntV X5))⌝ ∗
            owns (c : Thread nD τ) arg5 fullShare X5 ∗ owns (c : Thread nD τ) arg9 fullShare (k0_pay7 (F := F)) ∗ owns (c : Thread nD τ) arg10 fullShare (packV X5) ∗ owns (c : Thread nD τ) arg11 fullShare (rankV X5) ∗ owns (c : Thread nD τ) arg12 fullShare (rankT X5) ∗ owns (c : Thread nD τ) arg13 fullShare (cntV X5)) : sProp 𝕄G)) := by
  unfold owns
  iintro ⟨⟨%f5, %h5, H5⟩, ⟨%g9, %f9, %h9, H9⟩, ⟨%g10, %f10, %h10, H10⟩, ⟨%g11, %f11, %h11, H11⟩, ⟨%g12, %f12, %h12, H12⟩, ⟨%g13, %f13, %h13, H13⟩⟩
  subst h5
  rw [k0_part38_eq_skeleton]; unfold k0_part38_skel
  have h1' : Scalar.cmpi .ne (Scalar.extui (Scalar.cmpi .eq (BitVec.ofNat 32 (i 1).val) 0#32) : BitVec 32) 0#32 = 1#1 := h1
  have hc : ∀ n : BitVec 32, k0_chk1 n := chk_all
  sl_exec
  have hG : View.readAt (Elt F) arg5.view (Rect.unit (s := S1024x128) ![0, 0] S1024x128.size inb_S1024x128_S1024x128_0_0).toLoadRect f5 = View.read (Elt F) arg5.view f5 := View.readAt_full _ _ _
  have e13 : View.read (Elt F) arg13.view (arg13.view.writes (Elt F) f13 (wp_part38_first.sl.H13_1 c arg5 f5)) = cntV (View.read (Elt F) arg5.view f5) :=
    (View.read_writes_full _ _ _ _ _).trans (congrArg cntV hG)
  have e13' : wp_part38_first.sl.v14 c i arg5 arg13 f5 = cntW i (cntV (View.read (Elt F) arg5.view f5)) :=
    congrArg (cntW i) ((View.readAt_writes_full _ _ _ _ _ _).trans (congrArg cntV hG))
  have e11 : View.read (Elt F) arg11.view (arg11.view.writes (Elt F) f11 (wp_part38_first.sl.H11_1 c arg5 f5)) = rankV (View.read (Elt F) arg5.view f5) :=
    (View.read_writes_full _ _ _ _ _).trans (congrArg rankV hG)
  have e11' : k0_pay151 i (wp_part38_first.sl.v17 c arg5 arg11 f5) = rankC i (rankV (View.read (Elt F) arg5.view f5)) :=
    congrArg (rankC i) ((View.readAt_writes_full _ _ _ _ _ _).trans (congrArg rankV hG))
  have em : wp_part38_first.sl.r c arg5 f5 = memV (View.read (Elt F) arg5.view f5) := congrArg memV hG
  have ew : wp_part38_first.sl.v38 c i arg5 arg13 f5 = fullW (cntW i (cntV (View.read (Elt F) arg5.view f5))) := congrArg fullW e13'
  rw [em]
  sl_step
  isplitr
  · ipureintro; exact ⟨rfl, e13', e11', ew⟩
  isplitl [H5]; iexists _; isplit; ipureintro; rfl; iexact H5
  isplitl [H9]
  · iexists _; isplit; rotate_left; iexact H9; ipureintro; exact View.read_writes_full _ _ _ _ _
  isplitl [H10]
  · iexists _; isplit; rotate_left; iexact H10; ipureintro; exact (View.read_writes_full _ _ _ _ _).trans (congrArg packV hG)
  isplitl [H11]
  · iexists _; isplit; rotate_left; iexact H11; ipureintro; exact e11
  isplitl [H12]
  · iexists _; isplit; rotate_left; iexact H12; ipureintro; exact read_four _ _ _ _ rfl _ rfl
  iexists _; isplit; rotate_left; iexact H13; ipureintro; exact e13

theorem wp_part38_later (h1 : ¬ grp (BitVec.ofNat 32 (i 1).val) 0#32 = 1#1) (X11 : Vec F S1024x128 .f32) (X13 : Vec F S1x128 .f32) :
    iprop(owns (c : Thread nD τ) arg11 fullShare X11 ∗ owns (c : Thread nD τ) arg13 fullShare X13)
      ⊢ wp frame (wpE (defs₀ (F := F)) 𝒱 (c : Thread nD τ) bd) E (k0_part38 (F := F) i arg2 harg2 arg3 harg3 arg4 harg4 arg5 harg5 arg6 harg6 arg7 harg7 arg8 harg8 arg9 harg9 arg10 harg10 arg11 harg11 arg12 harg12 arg13 harg13)
          (fun p => (iprop(⌜p.1 = BitVec.ofNat 32 (i 1).val ∧ p.2.1 = cntW i X13 ∧ p.2.2.2.1 = rankC i X11 ∧ p.2.2.2.2 = fullW (cntW i X13)⌝ ∗
            owns (c : Thread nD τ) arg11 fullShare X11 ∗ owns (c : Thread nD τ) arg13 fullShare X13) : sProp 𝕄G)) := by
  unfold owns
  iintro ⟨⟨%f11, %h11, H11⟩, ⟨%f13, %h13, H13⟩⟩
  subst h11 h13
  rw [k0_part38_eq_skeleton]; unfold k0_part38_skel
  have h1' : ¬ Scalar.cmpi .ne (Scalar.extui (Scalar.cmpi .eq (BitVec.ofNat 32 (i 1).val) 0#32) : BitVec 32) 0#32 = 1#1 := h1
  have hc : ∀ n : BitVec 32, k0_chk1 n := chk_all
  have e11 : View.readAt (Elt F) arg11.view (Rect.unit (s := S1024x128) ![0, 0] S1024x128.size inb_S1024x128_S1024x128_0_0).toLoadRect f11 = View.read (Elt F) arg11.view f11 := View.readAt_full _ _ _
  have e13 : View.readAt (Elt F) arg13.view (Rect.unit (s := S1x128) ![0, 0] S1x128.size inb_S1x128_S1x128_0_0).toLoadRect f13 = View.read (Elt F) arg13.view f13 := View.readAt_full _ _ _
  sl_exec
  sl_step
  isplitr
  · ipureintro; exact ⟨rfl, rfl, rfl, rfl⟩
  isplitl [H11]
  · iexists _; isplit; ipureintro; rfl; iexact H11
  iexists _; isplit; ipureintro; rfl; iexact H13

theorem wp_fin (arg1 : BitVec 32) (X2 : Vec F S1x1x6144 .f32) (X3 : Vec F S1024x1024 .f32) (X4 : Vec F S1024x1024 .bf16) (X6 X7 : Vec F S8x1024x256 .bf16) (X8 : Vec F S8x256x1024 .bf16) (X10 : Vec F S1024x128 .bf16) (X12 : Vec F S4x8x1024 .f32) (X9 : Vec F S1024x1024 .f32) :
    iprop(iprop(owns (c : Thread nD τ) arg2 fullShare X2 ∗ owns (c : Thread nD τ) arg3 fullShare X3) ∗ St c arg4 arg6 arg7 arg8 arg9 arg10 arg12 X4 X6 X7 X8 X10 X12 X9)
      ⊢ wp frame (wpE (defs₀ (F := F)) 𝒱 (c : Thread nD τ) bd) E (fin (F := F) i arg2 harg2 arg3 harg3 arg4 harg4 arg5 harg5 arg6 harg6 arg7 harg7 arg8 harg8 arg9 harg9 arg10 harg10 arg11 harg11 arg12 harg12 arg13 harg13 arg1)
          (fun _ => iprop(iprop(owns (c : Thread nD τ) arg2 fullShare X2 ∗ owns (c : Thread nD τ) arg3 fullShare X3) ∗ St c arg4 arg6 arg7 arg8 arg9 arg10 arg12 X4 X6 X7 X8 X10 X12 (finY arg1 X2 X3 X9))) := by
  unfold fin finY
  by_cases h5 : grp arg1 3#32 = 1#1
  · rw [dif_pos h5, if_pos h5]
    unfold St owns
    iintro ⟨⟨⟨%f2, %h2, H2⟩, ⟨%f3, %h3, H3⟩⟩, HA, HB, HC, HD, HE, HF, ⟨%f9, %h9, H9⟩⟩
    subst h2 h3 h9
    have e3 : View.readAt (Elt F) arg3.view (Rect.unit (s := S1024x1024) ![0, 0] S1024x1024.size inb_S1024x1024_S1024x1024_0_0).toLoadRect f3 = View.read (Elt F) arg3.view f3 := View.readAt_full _ _ _
    have e9 : View.readAt (Elt F) arg9.view (Rect.unit (s := S1024x1024) ![0, 0] S1024x1024.size inb_S1024x1024_S1024x1024_0_0).toLoadRect f9 = View.read (Elt F) arg9.view f9 := View.readAt_full _ _ _
    sl_exec
    sl_step
    isplitl [H2 H3]
    · isplitl [H2]
      · iexists _; isplit; ipureintro; rfl; iexact H2
      · iexists _; isplit; ipureintro; rfl; iexact H3
    isplitl [HA]; iexact HA
    isplitl [HB]; iexact HB
    isplitl [HC]; iexact HC
    isplitl [HD]; iexact HD
    isplitl [HE]; iexact HE
    isplitl [HF]; iexact HF
    iexists _; isplit; rotate_left; iexact H9; ipureintro
    exact (View.read_writes_full _ _ _ _ _).trans rfl
  · rw [dif_neg h5, if_neg h5]
    iintro H
    sl_step
    iexact H

/-- An optional step before a rest. -/
theorem wp_opt {α : Type} (S : α → sProp 𝕄G) (R : sProp 𝕄G) (p : Prop) [Decidable p] (t rest : Prog (TpuEff nD τ sig (Elt F) Λ₀ .tc) PUnit) (f g : α → α)
    (ht : ∀ Y, S Y ⊢ wp frame (wpE (defs₀ (F := F)) 𝒱 (c : Thread nD τ) bd) E t (fun _ => S (f Y))) (hr : ∀ Z, iprop(R ∗ S Z) ⊢ wp frame (wpE (defs₀ (F := F)) 𝒱 (c : Thread nD τ) bd) E rest (fun _ => iprop(R ∗ S (g Z)))) (Y : α) :
    iprop(R ∗ S Y) ⊢ wp frame (wpE (defs₀ (F := F)) 𝒱 (c : Thread nD τ) bd) E (if p then t >>= fun _ => rest else rest) (fun _ => iprop(R ∗ S (g (if p then f Y else Y)))) := by
  by_cases hp : p
  · simp only [if_pos hp]
    rw [wp_bind]
    iintro ⟨HR, HS⟩
    iapply (wp_wand_r _ _ _ (Q := fun _ => S (f Y)))
    isplitl [HS]
    · iapply (ht Y); iexact HS
    iintro %_ HS
    iapply (hr (f Y))
    isplitl [HR] <;> iassumption
  · simp only [if_neg hp]
    exact hr Y

theorem wp_kA (a w r : BitVec 32) (col : FVec F S1024x1 .f32) (X2 : Vec F S1x1x6144 .f32) (X3 : Vec F S1024x1024 .f32) (X4 : Vec F S1024x1024 .bf16) (X6 X7 : Vec F S8x1024x256 .bf16) (X8 : Vec F S8x256x1024 .bf16) (X10 : Vec F S1024x128 .bf16) (X12 : Vec F S4x8x1024 .f32) (X9 : Vec F S1024x1024 .f32) :
    iprop(iprop(owns (c : Thread nD τ) arg2 fullShare X2 ∗ owns (c : Thread nD τ) arg3 fullShare X3) ∗ St c arg4 arg6 arg7 arg8 arg9 arg10 arg12 X4 X6 X7 X8 X10 X12 X9)
      ⊢ wp frame (wpE (defs₀ (F := F)) 𝒱 (c : Thread nD τ) bd) E (kA (F := F) i arg2 harg2 arg3 harg3 arg4 harg4 arg5 harg5 arg6 harg6 arg7 harg7 arg8 harg8 arg9 harg9 arg10 harg10 arg11 harg11 arg12 harg12 arg13 harg13 a col w r)
          (fun _ => iprop(iprop(owns (c : Thread nD τ) arg2 fullShare X2 ∗ owns (c : Thread nD τ) arg3 fullShare X3) ∗ St c arg4 arg6 arg7 arg8 arg9 arg10 arg12 X4 X6 X7 X8 X10 X12 (finY a X2 X3
            (let Y1 := if rag r 0#32 128#32 = 1#1 then chunk128 i a col w X4 X6 X7 X8 X10 X12 X9 else X9
             let Y2 := if rag r 128#32 256#32 = 1#1 then chunk256 i a col w X4 X6 X7 X8 X10 X12 Y1 else Y1
             if rag r 256#32 384#32 = 1#1 then chunk384 i a col w X4 X6 X7 X8 X10 X12 Y2 else Y2)))) := by
  have hC := fun Y => wp_opt 𝒱 c bd E (fun Y => St c arg4 arg6 arg7 arg8 arg9 arg10 arg12 X4 X6 X7 X8 X10 X12 Y) iprop(owns (c : Thread nD τ) arg2 fullShare X2 ∗ owns (c : Thread nD τ) arg3 fullShare X3) (rag r 256#32 384#32 = 1#1) (tail384 (F := F) i arg2 harg2 arg3 harg3 arg4 harg4 arg5 harg5 arg6 harg6 arg7 harg7 arg8 harg8 arg9 harg9 arg10 harg10 arg11 harg11 arg12 harg12 arg13 harg13 a col w) (fin i arg2 harg2 arg3 harg3 arg4 harg4 arg5 harg5 arg6 harg6 arg7 harg7 arg8 harg8 arg9 harg9 arg10 harg10 arg11 harg11 arg12 harg12 arg13 harg13 a)
    (fun Y => chunk384 i a col w X4 X6 X7 X8 X10 X12 Y) (fun Y => finY a X2 X3 Y)
    (fun Y => wp_tail384 𝒱 c bd E i arg2 harg2 arg3 harg3 arg4 harg4 arg5 harg5 arg6 harg6 arg7 harg7 arg8 harg8 arg9 harg9 arg10 harg10 arg11 harg11 arg12 harg12 arg13 harg13 a w col X4 X6 X7 X8 X10 X12 Y) (fun Z => wp_fin 𝒱 c bd E i arg2 harg2 arg3 harg3 arg4 harg4 arg5 harg5 arg6 harg6 arg7 harg7 arg8 harg8 arg9 harg9 arg10 harg10 arg11 harg11 arg12 harg12 arg13 harg13 a X2 X3 X4 X6 X7 X8 X10 X12 Z) Y
  have hB := fun Y => wp_opt 𝒱 c bd E (fun Y => St c arg4 arg6 arg7 arg8 arg9 arg10 arg12 X4 X6 X7 X8 X10 X12 Y) iprop(owns (c : Thread nD τ) arg2 fullShare X2 ∗ owns (c : Thread nD τ) arg3 fullShare X3) (rag r 128#32 256#32 = 1#1) (tail256 (F := F) i arg2 harg2 arg3 harg3 arg4 harg4 arg5 harg5 arg6 harg6 arg7 harg7 arg8 harg8 arg9 harg9 arg10 harg10 arg11 harg11 arg12 harg12 arg13 harg13 a col w) (kC i arg2 harg2 arg3 harg3 arg4 harg4 arg5 harg5 arg6 harg6 arg7 harg7 arg8 harg8 arg9 harg9 arg10 harg10 arg11 harg11 arg12 harg12 arg13 harg13 a col w r)
    (fun Y => chunk256 i a col w X4 X6 X7 X8 X10 X12 Y) _
    (fun Y => wp_tail256 𝒱 c bd E i arg2 harg2 arg3 harg3 arg4 harg4 arg5 harg5 arg6 harg6 arg7 harg7 arg8 harg8 arg9 harg9 arg10 harg10 arg11 harg11 arg12 harg12 arg13 harg13 a w col X4 X6 X7 X8 X10 X12 Y) hC Y
  exact wp_opt 𝒱 c bd E (fun Y => St c arg4 arg6 arg7 arg8 arg9 arg10 arg12 X4 X6 X7 X8 X10 X12 Y) iprop(owns (c : Thread nD τ) arg2 fullShare X2 ∗ owns (c : Thread nD τ) arg3 fullShare X3) (rag r 0#32 128#32 = 1#1) (tail128 (F := F) i arg2 harg2 arg3 harg3 arg4 harg4 arg5 harg5 arg6 harg6 arg7 harg7 arg8 harg8 arg9 harg9 arg10 harg10 arg11 harg11 arg12 harg12 arg13 harg13 a col w) (kB i arg2 harg2 arg3 harg3 arg4 harg4 arg5 harg5 arg6 harg6 arg7 harg7 arg8 harg8 arg9 harg9 arg10 harg10 arg11 harg11 arg12 harg12 arg13 harg13 a col w r)
    (fun Y => chunk128 i a col w X4 X6 X7 X8 X10 X12 Y) _
    (fun Y => wp_tail128 𝒱 c bd E i arg2 harg2 arg3 harg3 arg4 harg4 arg5 harg5 arg6 harg6 arg7 harg7 arg8 harg8 arg9 harg9 arg10 harg10 arg11 harg11 arg12 harg12 arg13 harg13 a w col X4 X6 X7 X8 X10 X12 Y) hB X9

theorem wp_loop (a n : BitVec 32) (h : k0_chk1 n) (col : FVec F S1024x1 .f32) (X4 : Vec F S1024x1024 .bf16) (X6 X7 : Vec F S8x1024x256 .bf16) (X8 : Vec F S8x256x1024 .bf16) (X10 : Vec F S1024x128 .bf16) (X12 : Vec F S4x8x1024 .f32) (X9 : Vec F S1024x1024 .f32) :
    St c arg4 arg6 arg7 arg8 arg9 arg10 arg12 X4 X6 X7 X8 X10 X12 X9
      ⊢ wp frame (wpE (defs₀ (F := F)) 𝒱 (c : Thread nD τ) bd) E (Scf.Loop.for (k0_t1_loop n) (k0_t1_ok n h) PUnit.unit (k0_t1_body (F := F) i arg2 harg2 arg3 harg3 arg4 harg4 arg5 harg5 arg6 harg6 arg7 harg7 arg8 harg8 arg9 harg9 arg10 harg10 arg11 harg11 arg12 harg12 arg13 harg13 a n h col))
          (fun _ => St c arg4 arg6 arg7 arg8 arg9 arg10 arg12 X4 X6 X7 X8 X10 X12 (loopY i a n col X4 X6 X7 X8 X10 X12 X9 (k0_t1_loop n).trips)) := by
  refine BI.BIBase.Entails.trans ?_ (Scf.wp_for _ _ _ _ _ _ (k0_t1_ok n h) PUnit.unit (k0_t1_body (F := F) i arg2 harg2 arg3 harg3 arg4 harg4 arg5 harg5 arg6 harg6 arg7 harg7 arg8 harg8 arg9 harg9 arg10 harg10 arg11 harg11 arg12 harg12 arg13 harg13 a n h col)
    (fun k _ => St c arg4 arg6 arg7 arg8 arg9 arg10 arg12 X4 X6 X7 X8 X10 X12 (loopY i a n col X4 X6 X7 X8 X10 X12 X9 k)) (fun k acc => ?_))
  · iintro H
    isplitl [H]
    · iexact H
    · iintro %_ H; iexact H
  · have e : loopY i a n col X4 X6 X7 X8 X10 X12 X9 (k.val + 1) = chunkT i a n col k X4 X6 X7 X8 X10 X12 (loopY i a n col X4 X6 X7 X8 X10 X12 X9 k.val) := by
      conv_lhs => unfold loopY
      exact dif_pos k.isLt
    rw [e]
    exact wp_trip 𝒱 c bd E i arg2 harg2 arg3 harg3 arg4 harg4 arg5 harg5 arg6 harg6 arg7 harg7 arg8 harg8 arg9 harg9 arg10 harg10 arg11 harg11 arg12 harg12 arg13 harg13 a n h col k X4 X6 X7 X8 X10 X12 _

theorem wp_loop2 (a n w : BitVec 32) (h : k0_chk1 n) (col : FVec F S1024x1 .f32) (S : sProp 𝕄G) :
    S ⊢ wp frame (wpE (defs₀ (F := F)) 𝒱 (c : Thread nD τ) bd) E (Scf.Loop.for (k0_t2_loop n) (k0_t2_ok n h) PUnit.unit (k0_t2_body (F := F) i arg2 harg2 arg3 harg3 arg4 harg4 arg5 harg5 arg6 harg6 arg7 harg7 arg8 harg8 arg9 harg9 arg10 harg10 arg11 harg11 arg12 harg12 arg13 harg13 a n h col w))
          (fun _ => S) := by
  refine BI.BIBase.Entails.trans ?_ (Scf.wp_for _ _ _ _ _ _ (k0_t2_ok n h) PUnit.unit (k0_t2_body (F := F) i arg2 harg2 arg3 harg3 arg4 harg4 arg5 harg5 arg6 harg6 arg7 harg7 arg8 harg8 arg9 harg9 arg10 harg10 arg11 harg11 arg12 harg12 arg13 harg13 a n h col w)
    (fun k _ => S) (fun k acc => ?_))
  · iintro H
    isplitl [H]
    · iexact H
    · iintro %_ H; iexact H
  · have hk : k.val < (k0_t2_loop n).trips := k.isLt
    rw [t2_trips] at hk
    exact absurd hk (Nat.not_lt_zero _)

/-- The body after the group's numbers are read. -/
theorem wp_rest (a n : BitVec 32) (h : k0_chk1 n) (w w' : BitVec 32) (hw : w = fullW n) (col : FVec F S1024x1 .f32) (X2 : Vec F S1x1x6144 .f32) (X3 : Vec F S1024x1024 .f32) (X4 : Vec F S1024x1024 .bf16) (X6 X7 : Vec F S8x1024x256 .bf16) (X8 : Vec F S8x256x1024 .bf16) (X10 : Vec F S1024x128 .bf16) (X12 : Vec F S4x8x1024 .f32) (X9 : Vec F S1024x1024 .f32) :
    iprop(iprop(owns (c : Thread nD τ) arg2 fullShare X2 ∗ owns (c : Thread nD τ) arg3 fullShare X3) ∗ St c arg4 arg6 arg7 arg8 arg9 arg10 arg12 X4 X6 X7 X8 X10 X12 X9)
      ⊢ wp frame (wpE (defs₀ (F := F)) 𝒱 (c : Thread nD τ) bd) E (Scf.Loop.for (k0_t1_loop n) (k0_t1_ok n h) PUnit.unit (k0_t1_body (F := F) i arg2 harg2 arg3 harg3 arg4 harg4 arg5 harg5 arg6 harg6 arg7 harg7 arg8 harg8 arg9 harg9 arg10 harg10 arg11 harg11 arg12 harg12 arg13 harg13 a n h col) >>= fun _ =>
          Scf.Loop.for (k0_t2_loop n) (k0_t2_ok n h) PUnit.unit (k0_t2_body (F := F) i arg2 harg2 arg3 harg3 arg4 harg4 arg5 harg5 arg6 harg6 arg7 harg7 arg8 harg8 arg9 harg9 arg10 harg10 arg11 harg11 arg12 harg12 arg13 harg13 a n h col w') >>= fun _ =>
          kA i arg2 harg2 arg3 harg3 arg4 harg4 arg5 harg5 arg6 harg6 arg7 harg7 arg8 harg8 arg9 harg9 arg10 harg10 arg11 harg11 arg12 harg12 arg13 harg13 a col w (Scalar.subi n (Scalar.muli w 384#32)))
          (fun _ => iprop(iprop(owns (c : Thread nD τ) arg2 fullShare X2 ∗ owns (c : Thread nD τ) arg3 fullShare X3) ∗ St c arg4 arg6 arg7 arg8 arg9 arg10 arg12 X4 X6 X7 X8 X10 X12 (finY a X2 X3 (groupY i a n col X4 X6 X7 X8 X10 X12 X9)))) := by
  subst hw
  rw [wp_bind]
  iintro ⟨HR, HS⟩
  iapply (wp_wand_r _ _ _ (Q := fun _ => St c arg4 arg6 arg7 arg8 arg9 arg10 arg12 X4 X6 X7 X8 X10 X12 (loopY i a n col X4 X6 X7 X8 X10 X12 X9 (k0_t1_loop n).trips)))
  isplitl [HS]
  · iapply (wp_loop 𝒱 c bd E i arg2 harg2 arg3 harg3 arg4 harg4 arg5 harg5 arg6 harg6 arg7 harg7 arg8 harg8 arg9 harg9 arg10 harg10 arg11 harg11 arg12 harg12 arg13 harg13 a n h col X4 X6 X7 X8 X10 X12 X9); iexact HS
  iintro %_ HS
  rw [wp_bind]
  iapply (wp_wand_r _ _ _ (Q := fun _ => St c arg4 arg6 arg7 arg8 arg9 arg10 arg12 X4 X6 X7 X8 X10 X12 (loopY i a n col X4 X6 X7 X8 X10 X12 X9 (k0_t1_loop n).trips)))
  isplitl [HS]
  · iapply (wp_loop2 𝒱 c bd E i arg2 harg2 arg3 harg3 arg4 harg4 arg5 harg5 arg6 harg6 arg7 harg7 arg8 harg8 arg9 harg9 arg10 harg10 arg11 harg11 arg12 harg12 arg13 harg13 a n w' h col _); iexact HS
  iintro %_ HS
  iapply (wp_kA 𝒱 c bd E i arg2 harg2 arg3 harg3 arg4 harg4 arg5 harg5 arg6 harg6 arg7 harg7 arg8 harg8 arg9 harg9 arg10 harg10 arg11 harg11 arg12 harg12 arg13 harg13 a (fullW n) (Scalar.subi n (Scalar.muli (fullW n) 384#32)) col X2 X3 X4 X6 X7 X8 X10 X12 _)
  isplitl [HR] <;> iassumption

end

end Cert.KernelIdeal.Moe

end
-- ==== Proof.Run.lean ====
module

public import proofs.«01_k».proof.Proof.Gen.KernelIdeal.Loops
public import proofs.«01_k».proof.Proof.Gen.KernelIdeal.Frame
public import proofs.«01_k».proof.Proof.Body

@[expose] public section

set_option maxRecDepth 16384
set_option maxHeartbeats 4000000

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
open Idealize.ShloMosaic.ValueIdx

variable {F : FTy → Type} [FloatOps F]

local notation "𝕄G" => MT nD τ sig Unit (Elt F) ℕ (UR sig nD τ) ℕ

section

variable (𝒱 : Variants) (c : Dev nD) (bd : Option 𝒱.V) (E : Set ℕ) (i : grid0.Coords)
  (arg2 : Memref sig .tc .vmem S1x1x6144 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S8x1024x256 .bf16) (harg6 : arg6.IsWhole) (arg7 : Memref sig .tc .vmem S8x1024x256 .bf16) (harg7 : arg7.IsWhole) (arg8 : Memref sig .tc .vmem S8x256x1024 .bf16) (harg8 : arg8.IsWhole) (arg9 : Memref sig .tc .vmem S1024x1024 .f32) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S4x8x1024 .f32) (harg12 : arg12.IsWhole) (arg13 : Memref sig .tc .vmem S1x128 .f32) (harg13 : arg13.IsWhole)
  (X2 : Vec F S1x1x6144 .f32) (X3 : Vec F S1024x1024 .f32) (X4 : Vec F S1024x1024 .bf16) (X5 : Vec F S1024x128 .f32) (X6 X7 : Vec F S8x1024x256 .bf16) (X8 : Vec F S8x256x1024 .bf16)

/-- The body at the first group of a tile. -/
theorem wp_moe_first (h1 : grp (BitVec.ofNat 32 (i 1).val) 0#32 = 1#1) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ (∃ f : Vec F S1024x1024 .f32, owns (c : Thread nD τ) arg9 fullShare f) ∗ (∃ f : Vec F S1024x128 .bf16, owns (c : Thread nD τ) arg10 fullShare f) ∗ (∃ f : Vec F S1024x128 .f32, owns (c : Thread nD τ) arg11 fullShare f) ∗ (∃ f : Vec F S4x8x1024 .f32, owns (c : Thread nD τ) arg12 fullShare f) ∗ (∃ f : Vec F S1x128 .f32, owns (c : Thread nD τ) arg13 fullShare f))
      ⊢ wp frame (wpE (defs₀ (F := F)) 𝒱 (c : Thread nD τ) bd) E (cc0_moe (F := F) i arg2 harg2 arg3 harg3 arg4 harg4 arg5 harg5 arg6 harg6 arg7 harg7 arg8 harg8 arg9 harg9 arg10 harg10 arg11 harg11 arg12 harg12 arg13 harg13)
          (fun _ => (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare (finY (BitVec.ofNat 32 (i 1).val) X2 X3 (groupY i (BitVec.ofNat 32 (i 1).val) (cntW i (cntV X5)) (rankC i (rankV X5)) X4 X6 X7 X8 (packV X5) (rankT X5) (k0_pay7 (F := F)))) ∗ owns (c : Thread nD τ) arg10 fullShare (packV X5) ∗ owns (c : Thread nD τ) arg11 fullShare (rankV X5) ∗ owns (c : Thread nD τ) arg12 fullShare (rankT X5) ∗ owns (c : Thread nD τ) arg13 fullShare (cntV X5)) : sProp 𝕄G)) := by
  rw [cc0_moe_eq_skeleton, moe3_eq]; unfold moe3
  rw [wp_bind]
  iintro ⟨H2, H3, H4, H5, H6, H7, H8, H9, H10, H11, H12, H13⟩
  iapply (wp_wand_r _ _ _ (Q := fun p => (iprop(⌜p.1 = BitVec.ofNat 32 (i 1).val ∧ p.2.1 = cntW i (cntV X5) ∧ p.2.2.2.1 = rankC i (rankV X5) ∧ p.2.2.2.2 = fullW (cntW i (cntV X5))⌝ ∗ owns (c : Thread nD τ) arg5 fullShare X5 ∗ owns (c : Thread nD τ) arg9 fullShare (k0_pay7 (F := F)) ∗ owns (c : Thread nD τ) arg10 fullShare (packV X5) ∗ owns (c : Thread nD τ) arg11 fullShare (rankV X5) ∗ owns (c : Thread nD τ) arg12 fullShare (rankT X5) ∗ owns (c : Thread nD τ) arg13 fullShare (cntV X5)) : sProp 𝕄G)))
  isplitl [H5 H9 H10 H11 H12 H13]
  · iapply (wp_part38_first 𝒱 c bd E i arg2 harg2 arg3 harg3 arg4 harg4 arg5 harg5 arg6 harg6 arg7 harg7 arg8 harg8 arg9 harg9 arg10 harg10 arg11 harg11 arg12 harg12 arg13 harg13 h1 X5)
    isplitl [H5]; iexact H5
    isplitl [H9]; iexact H9
    isplitl [H10]; iexact H10
    isplitl [H11]; iexact H11
    isplitl [H12]; iexact H12
    iexact H13
  iintro %p ⟨%hp, HP⟩
  obtain ⟨pa, pn, ph, pc, pw⟩ := p
  obtain ⟨ha, hn, hc, hw⟩ := hp
  dsimp only at ha hn hc hw
  subst ha hn hc
  icases HP with ⟨H5, H9, H10, H11, H12, H13⟩
  iapply (wp_wand_r _ _ _ (Q := fun _ => iprop(iprop(owns (c : Thread nD τ) arg2 fullShare X2 ∗ owns (c : Thread nD τ) arg3 fullShare X3) ∗ St c arg4 arg6 arg7 arg8 arg9 arg10 arg12 X4 X6 X7 X8 (packV X5) (rankT X5) (finY (BitVec.ofNat 32 (i 1).val) X2 X3 (groupY i (BitVec.ofNat 32 (i 1).val) (cntW i (cntV X5)) (rankC i (rankV X5)) X4 X6 X7 X8 (packV X5) (rankT X5) (k0_pay7 (F := F)))))))
  isplitl [H2 H3 H4 H6 H7 H8 H9 H10 H12]
  · iapply (wp_rest 𝒱 c bd E i arg2 harg2 arg3 harg3 arg4 harg4 arg5 harg5 arg6 harg6 arg7 harg7 arg8 harg8 arg9 harg9 arg10 harg10 arg11 harg11 arg12 harg12 arg13 harg13 (BitVec.ofNat 32 (i 1).val) (cntW i (cntV X5)) ph pw _ hw (rankC i (rankV X5)) X2 X3 X4 X6 X7 X8 (packV X5) (rankT X5) (k0_pay7 (F := F)))
    unfold St
    isplitl [H2 H3]
    · isplitl [H2] <;> iassumption
    isplitl [H4]; iexact H4
    isplitl [H6]; iexact H6
    isplitl [H7]; iexact H7
    isplitl [H8]; iexact H8
    isplitl [H10]; iexact H10
    isplitl [H12]; iexact H12
    iexact H9
  iintro %_ HS
  unfold St
  icases HS with ⟨⟨H2, H3⟩, H4, H6, H7, H8, H10, H12, H9⟩
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  iexact H13

/-- The body at a later group of a tile. -/
theorem wp_moe_later (h1 : ¬ grp (BitVec.ofNat 32 (i 1).val) 0#32 = 1#1) (X9 : Vec F S1024x1024 .f32) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare (packV X5) ∗ owns (c : Thread nD τ) arg11 fullShare (rankV X5) ∗ owns (c : Thread nD τ) arg12 fullShare (rankT X5) ∗ owns (c : Thread nD τ) arg13 fullShare (cntV X5))
      ⊢ wp frame (wpE (defs₀ (F := F)) 𝒱 (c : Thread nD τ) bd) E (cc0_moe (F := F) i arg2 harg2 arg3 harg3 arg4 harg4 arg5 harg5 arg6 harg6 arg7 harg7 arg8 harg8 arg9 harg9 arg10 harg10 arg11 harg11 arg12 harg12 arg13 harg13)
          (fun _ => (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare (finY (BitVec.ofNat 32 (i 1).val) X2 X3 (groupY i (BitVec.ofNat 32 (i 1).val) (cntW i (cntV X5)) (rankC i (rankV X5)) X4 X6 X7 X8 (packV X5) (rankT X5) X9)) ∗ owns (c : Thread nD τ) arg10 fullShare (packV X5) ∗ owns (c : Thread nD τ) arg11 fullShare (rankV X5) ∗ owns (c : Thread nD τ) arg12 fullShare (rankT X5) ∗ owns (c : Thread nD τ) arg13 fullShare (cntV X5)) : sProp 𝕄G)) := by
  rw [cc0_moe_eq_skeleton, moe3_eq]; unfold moe3
  rw [wp_bind]
  iintro ⟨H2, H3, H4, H5, H6, H7, H8, H9, H10, H11, H12, H13⟩
  iapply (wp_wand_r _ _ _ (Q := fun p => (iprop(⌜p.1 = BitVec.ofNat 32 (i 1).val ∧ p.2.1 = cntW i (cntV X5) ∧ p.2.2.2.1 = rankC i (rankV X5) ∧ p.2.2.2.2 = fullW (cntW i (cntV X5))⌝ ∗ owns (c : Thread nD τ) arg11 fullShare (rankV X5) ∗ owns (c : Thread nD τ) arg13 fullShare (cntV X5)) : sProp 𝕄G)))
  isplitl [H11 H13]
  · iapply (wp_part38_later 𝒱 c bd E i arg2 harg2 arg3 harg3 arg4 harg4 arg5 harg5 arg6 harg6 arg7 harg7 arg8 harg8 arg9 harg9 arg10 harg10 arg11 harg11 arg12 harg12 arg13 harg13 h1 (rankV X5) (cntV X5))
    isplitl [H11]; iexact H11
    iexact H13
  iintro %p ⟨%hp, HP⟩
  obtain ⟨pa, pn, ph, pc, pw⟩ := p
  obtain ⟨ha, hn, hc, hw⟩ := hp
  dsimp only at ha hn hc hw
  subst ha hn hc
  icases HP with ⟨H11, H13⟩
  iapply (wp_wand_r _ _ _ (Q := fun _ => iprop(iprop(owns (c : Thread nD τ) arg2 fullShare X2 ∗ owns (c : Thread nD τ) arg3 fullShare X3) ∗ St c arg4 arg6 arg7 arg8 arg9 arg10 arg12 X4 X6 X7 X8 (packV X5) (rankT X5) (finY (BitVec.ofNat 32 (i 1).val) X2 X3 (groupY i (BitVec.ofNat 32 (i 1).val) (cntW i (cntV X5)) (rankC i (rankV X5)) X4 X6 X7 X8 (packV X5) (rankT X5) X9)))))
  isplitl [H2 H3 H4 H6 H7 H8 H9 H10 H12]
  · iapply (wp_rest 𝒱 c bd E i arg2 harg2 arg3 harg3 arg4 harg4 arg5 harg5 arg6 harg6 arg7 harg7 arg8 harg8 arg9 harg9 arg10 harg10 arg11 harg11 arg12 harg12 arg13 harg13 (BitVec.ofNat 32 (i 1).val) (cntW i (cntV X5)) ph pw _ hw (rankC i (rankV X5)) X2 X3 X4 X6 X7 X8 (packV X5) (rankT X5) X9)
    unfold St
    isplitl [H2 H3]
    · isplitl [H2] <;> iassumption
    isplitl [H4]; iexact H4
    isplitl [H6]; iexact H6
    isplitl [H7]; iexact H7
    isplitl [H8]; iexact H8
    isplitl [H10]; iexact H10
    isplitl [H12]; iexact H12
    iexact H9
  iintro %_ HS
  unfold St
  icases HS with ⟨⟨H2, H3⟩, H4, H6, H7, H8, H10, H12, H9⟩
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  iexact H13

end

end Cert.KernelIdeal.Moe

end
-- ==== Proof.Tiles.lean ====
module

public import proofs.«01_k».proof.Proof.Gen.KernelIdeal.Loops
public import proofs.«01_k».proof.Proof.Gen.KernelIdeal.Frame
public import proofs.«01_k».proof.Proof.Gen.KernelIdeal.Points
public import proofs.«01_k».proof.Proof.Run

@[expose] public section

set_option maxRecDepth 16384
set_option maxHeartbeats 4000000

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA FramePost)
open Cert.KernelIdeal Cert.KernelIdeal.Gen
open Idealize.ShloMosaic.ValueIdx

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-! ## The blocks of a grid point -/

/-- The block of window 0 at a grid point. -/
abbrev modB (c : Dev nD) (t : Fin cfg0.N) : Vec F S1x1x6144 .f32 := iblk m c 0 t

/-- The block of window 1 at a grid point. -/
abbrev x1B (c : Dev nD) (t : Fin cfg0.N) : Vec F S1024x1024 .f32 := iblk m c 1 t

/-- The block of window 2 at a grid point. -/
abbrev h2B (c : Dev nD) (t : Fin cfg0.N) : Vec F S1024x1024 .bf16 := iblk m c 2 t

/-- The block of window 3 at a grid point. -/
abbrev gateB (c : Dev nD) (t : Fin cfg0.N) : Vec F S1024x128 .f32 := iblk m c 3 t

/-- The block of window 4 at a grid point. -/
abbrev w1B (c : Dev nD) (t : Fin cfg0.N) : Vec F S8x1024x256 .bf16 := iblk m c 4 t

/-- The block of window 5 at a grid point. -/
abbrev w3B (c : Dev nD) (t : Fin cfg0.N) : Vec F S8x1024x256 .bf16 := iblk m c 5 t

/-- The block of window 6 at a grid point. -/
abbrev w2B (c : Dev nD) (t : Fin cfg0.N) : Vec F S8x256x1024 .bf16 := iblk m c 6 t

theorem ptN (t : Fin cfg0.N) : t.val < 64 := lt_of_lt_of_eq t.isLt N_0

theorem coord1 (t : Fin cfg0.N) : (grid0.coords t 1).val = t.val % 4 := by
  rw [Pipeline.Grid.coords_val t 1 (S := 1) (B := 4) (by decide) (by decide), Nat.div_one]

theorem coord0 (t : Fin cfg0.N) : (grid0.coords t 0).val = t.val / 4 := by
  have := ptN t
  rw [Pipeline.Grid.coords_val t 0 (S := 4) (B := 16) (by decide) (by decide), Nat.mod_eq_of_lt (by omega)]

theorem gate_index : ∀ t : Fin grid0.N, win0_3.index t 0 = t.val / 4 ∧ win0_3.index t 1 = 0 := by decide +kernel

/-- The gate tile, element by element. -/
theorem gateB_apply (c : Dev nD) (t : Fin cfg0.N) (y : S1024x128.Idx) :
    gateB m c t y = m ((c : Thread nD τ).loc main_arg2)
      (ix2 (⟨t.val / 4 * 1024 + (y 0).val, by have := ptN t; have : (y 0).val < 1024 := (y 0).isLt; show _ < 16384; omega⟩) (y 1) : S16384x128.Idx) := by
  unfold gateB iblk
  rw [View.read_apply]
  show V m c main_arg2 _ = m (c.tc.loc main_arg2) _
  rw [V_main_arg2]
  congr 1
  funext a
  apply Fin.ext
  match a with
  | ⟨0, _⟩ =>
    show win0_3.index t 0 * 1024 + 1 * (y 0).val = t.val / 4 * 1024 + (y 0).val
    rw [(gate_index t).1]; omega
  | ⟨1, _⟩ => show win0_3.index t 1 * 128 + 1 * (y 1).val = (y 1).val; rw [(gate_index t).2]; omega

/-- Within a tile the gate block does not change. -/
theorem gateB_same (c : Dev nD) (t t' : Fin cfg0.N) (h : t.val / 4 = t'.val / 4) : gateB m c t = gateB m c t' := by
  funext y; rw [gateB_apply, gateB_apply]; congr 2; exact Fin.ext (by show _ * 1024 + _ = _ * 1024 + _; rw [h])

/-! ## What the body leaves in the result's block -/

/-- The word of the group at a point. -/
abbrev grpW (t : Fin cfg0.N) : BitVec 32 := BitVec.ofNat 32 (grid0.coords t 1).val

/-- One point's work on the result's block. -/
def stepY (c : Dev nD) (t : Fin cfg0.N) (Y : Vec F S1024x1024 .f32) : Vec F S1024x1024 .f32 :=
  finY (grpW t) (modB m c t) (x1B m c t) (groupY (grid0.coords t) (grpW t)
    (cntW (grid0.coords t) (cntV (gateB m c t))) (rankC (grid0.coords t) (rankV (gateB m c t)))
    (h2B m c t) (w1B m c t) (w3B m c t) (w2B m c t) (packV (gateB m c t)) (rankT (gateB m c t)) Y)

/-- The result's block after each point. -/
def outAt (c : Dev nD) : (n : Nat) → n < cfg0.N → Vec F S1024x1024 .f32
  | 0, h => stepY m c ⟨0, h⟩ k0_pay7
  | n + 1, h => if (n + 1) % 4 = 0 then stepY m c ⟨n + 1, h⟩ k0_pay7 else stepY m c ⟨n + 1, h⟩ (outAt c n (Nat.lt_of_succ_lt h))

theorem outAt_first (c : Dev nD) (t : Fin cfg0.N) (h : t.val % 4 = 0) : outAt m c t.val t.isLt = stepY m c t k0_pay7 := by
  obtain ⟨n, hn⟩ := t
  cases n with
  | zero => rfl
  | succ n => exact if_pos h

theorem outAt_later (c : Dev nD) (t : Fin cfg0.N) (h : t.val % 4 ≠ 0) :
    outAt m c t.val t.isLt = stepY m c t (outAt m c (t.val - 1) (Nat.lt_of_le_of_lt (Nat.sub_le _ _) t.isLt)) := by
  obtain ⟨n, hn⟩ := t
  cases n with
  | zero => exact absurd rfl h
  | succ n => exact if_neg h

/-! ## The scratch buffers between points -/

/-- The scratch buffers hold the packed gates and ranks of the tile of point `t`. -/
def kept (c : Dev nD) (t : Fin cfg0.N) : sProp 𝕄G := iprop(owns (c : Thread nD τ) (Memref.whole cc0_scratch0) fullShare (packV (gateB m c t)) ∗ owns (c : Thread nD τ) (Memref.whole cc0_scratch1) fullShare (rankV (gateB m c t)) ∗ owns (c : Thread nD τ) (Memref.whole cc0_scratch2) fullShare (rankT (gateB m c t)) ∗ owns (c : Thread nD τ) (Memref.whole cc0_scratch3) fullShare (cntV (gateB m c t)))

/-- The scratch buffers hold anything. -/
def loose (c : Dev nD) : sProp 𝕄G := Pipeline.scopedRest (Ix := Unit) (Name := ℕ) (U := UR sig nD τ) (Lvl := ℕ) (Val := Elt F) spec0 c

theorem kept_loose (c : Dev nD) (t : Fin cfg0.N) : kept m c t ⊢ loose (F := F) c := by
  unfold kept loose
  rw [scopedRest0_eq]
  simp only [owns_whole]
  iintro ⟨H0, H1, H2, H3⟩
  isplitl [H0]; iexists _; iexact H0
  isplitl [H1]; iexists _; iexact H1
  isplitl [H2]; iexists _; iexact H2
  iexists _; iexact H3

theorem loose_open (c : Dev nD) : loose (F := F) c ⊢ (iprop((∃ f : Vec F S1024x128 .bf16, owns (c : Thread nD τ) (Memref.whole cc0_scratch0) fullShare f) ∗ (∃ f : Vec F S1024x128 .f32, owns (c : Thread nD τ) (Memref.whole cc0_scratch1) fullShare f) ∗ (∃ f : Vec F S4x8x1024 .f32, owns (c : Thread nD τ) (Memref.whole cc0_scratch2) fullShare f) ∗ (∃ f : Vec F S1x128 .f32, owns (c : Thread nD τ) (Memref.whole cc0_scratch3) fullShare f)) : sProp 𝕄G) := by
  unfold loose
  rw [scopedRest0_eq]
  simp only [owns_whole]
  iintro H
  iexact H

theorem kept_open (c : Dev nD) (t : Fin cfg0.N) : kept m c t ⊢ (iprop(owns (c : Thread nD τ) (Memref.whole cc0_scratch0) fullShare (packV (gateB m c t)) ∗ owns (c : Thread nD τ) (Memref.whole cc0_scratch1) fullShare (rankV (gateB m c t)) ∗ owns (c : Thread nD τ) (Memref.whole cc0_scratch2) fullShare (rankT (gateB m c t)) ∗ owns (c : Thread nD τ) (Memref.whole cc0_scratch3) fullShare (cntV (gateB m c t))) : sProp 𝕄G) := by
  unfold kept
  iintro H
  iexact H

theorem kept_close (c : Dev nD) (t : Fin cfg0.N) : (iprop(owns (c : Thread nD τ) (Memref.whole cc0_scratch0) fullShare (packV (gateB m c t)) ∗ owns (c : Thread nD τ) (Memref.whole cc0_scratch1) fullShare (rankV (gateB m c t)) ∗ owns (c : Thread nD τ) (Memref.whole cc0_scratch2) fullShare (rankT (gateB m c t)) ∗ owns (c : Thread nD τ) (Memref.whole cc0_scratch3) fullShare (cntV (gateB m c t))) : sProp 𝕄G) ⊢ kept m c t := by
  unfold kept
  iintro H
  iexact H

theorem predN (k : Fin (cfg0.N + 1)) (h : k.val % 4 ≠ 0) : k.val - 1 < cfg0.N := by
  have := k.isLt; omega

/-- The scratch buffers before point `k`. -/
def scr (c : Dev nD) (k : Fin (cfg0.N + 1)) : sProp 𝕄G :=
  if h : k.val % 4 = 0 then loose (F := F) c else kept m c ⟨k.val - 1, predN k h⟩

/-- The proof data. -/
def dats (_ : Fin 1) (c : Dev nD) : Dat τ (Elt F) Unit ℕ (UR sig nD τ) ℕ cfg0 c where
  A w := V m c (Pipeline.arrRef spec0 w)
  after w t := match w with
    | ⟨0, _⟩ => modB m c t
    | ⟨1, _⟩ => x1B m c t
    | ⟨2, _⟩ => h2B m c t
    | ⟨3, _⟩ => gateB m c t
    | ⟨4, _⟩ => w1B m c t
    | ⟨5, _⟩ => w3B m c t
    | ⟨6, _⟩ => w2B m c t
    | ⟨7, _⟩ => outAt m c t.val t.isLt
  Φ k := iprop(scr m c k ∗ ∃ r, prngReg c r)
  q _ := fullShare
  owed _ := 0

theorem grp_iff (t : Fin cfg0.N) : grp (BitVec.ofNat 32 (grid0.coords t 1).val) 0#32 = 1#1 ↔ t.val % 4 = 0 := by
  rw [coord1]
  have h : ∀ k : Fin 4, grp (BitVec.ofNat 32 k.val) 0#32 = 1#1 ↔ k.val = 0 := by decide
  exact h ⟨t.val % 4, Nat.mod_lt _ (by omega)⟩

theorem before7 (c : Dev nD) (t : Fin cfg0.N) (h : t.val % 4 ≠ 0) (d) :
    (dats m 0 c).before 7 t d = outAt m c (t.val - 1) (Nat.lt_of_le_of_lt (Nat.sub_le _ _) t.isLt) := by
  rw [Pipeline.Dat.before_out_kept (dats m 0 c) 7 rfl t (by omega)
    (by
      have := (flush0_7 ⟨t.val - 1, Nat.lt_of_le_of_lt (Nat.sub_le _ _) t.isLt⟩)
      cases hf : (cfg0.win 7).flush ⟨t.val - 1, Nat.lt_of_le_of_lt (Nat.sub_le _ _) t.isLt⟩ with
      | false => rfl
      | true => have := this.mp hf; simp only at this; omega)
    (fun _ => rfl) (fun _ _ => rfl) d]
  rfl

/-- At any point the scratch buffers can be taken as holding anything, and at a later point of a tile as kept. -/
theorem scr_any (c : Dev nD) (k : Fin (cfg0.N + 1)) : scr m c k ⊢ loose (F := F) c := by
  unfold scr
  split
  · iintro H; iexact H
  · exact kept_loose m c _

theorem scr_later (c : Dev nD) (t : Fin cfg0.N) (h : t.val % 4 ≠ 0) : scr m c t.castSucc ⊢ kept m c t := by
  unfold scr
  have h' : ¬ (t.castSucc.val % 4 = 0) := h
  rw [dif_neg h']
  unfold kept
  rw [gateB_same m c ⟨t.castSucc.val - 1, predN _ h'⟩ t (by show (t.val - 1) / 4 = t.val / 4; omega)]

theorem scr_succ (c : Dev nD) (t : Fin cfg0.N) : kept m c t ⊢ scr m c t.succ := by
  unfold scr
  split
  · exact kept_loose m c t
  · iintro H; iexact H

abbrev 𝒱₀ : Variants := Variants.none

/-- The body at a point, from the blocks of the windows and the scratch buffers. -/
theorem wp_point (c : Dev nD) (t : Fin cfg0.N) (Y : Vec F S1024x1024 .f32)
    (hY : t.val % 4 ≠ 0 → Y = outAt m c (t.val - 1) (Nat.lt_of_le_of_lt (Nat.sub_le _ _) t.isLt)) :
    iprop((owns (c : Thread nD τ) (st0_0 t) fullShare (modB m c t) ∗ owns (c : Thread nD τ) (st0_1 t) fullShare (x1B m c t) ∗ owns (c : Thread nD τ) (st0_2 t) fullShare (h2B m c t) ∗ owns (c : Thread nD τ) (st0_3 t) fullShare (gateB m c t) ∗ owns (c : Thread nD τ) (st0_4 t) fullShare (w1B m c t) ∗ owns (c : Thread nD τ) (st0_5 t) fullShare (w3B m c t) ∗ owns (c : Thread nD τ) (st0_6 t) fullShare (w2B m c t)) ∗ owns (c : Thread nD τ) (st0_7 t) fullShare Y ∗ scr m c t.castSucc)
      ⊢ wp frame (wpE (defs₀ (F := F)) 𝒱₀ (c : Thread nD τ) none) Set.univ (bodyAt0 (F := F) t)
          (fun _ => (iprop((owns (c : Thread nD τ) (st0_0 t) fullShare (modB m c t) ∗ owns (c : Thread nD τ) (st0_1 t) fullShare (x1B m c t) ∗ owns (c : Thread nD τ) (st0_2 t) fullShare (h2B m c t) ∗ owns (c : Thread nD τ) (st0_3 t) fullShare (gateB m c t) ∗ owns (c : Thread nD τ) (st0_4 t) fullShare (w1B m c t) ∗ owns (c : Thread nD τ) (st0_5 t) fullShare (w3B m c t) ∗ owns (c : Thread nD τ) (st0_6 t) fullShare (w2B m c t)) ∗ owns (c : Thread nD τ) (st0_7 t) fullShare (outAt m c t.val t.isLt) ∗ scr m c t.succ) : sProp 𝕄G)) := by
  iintro ⟨⟨H0, H1, H2, H3, H4, H5, H6⟩, H7, HS⟩
  iapply (wp_wand_r _ _ _ (Q := fun _ => (iprop((owns (c : Thread nD τ) (st0_0 t) fullShare (modB m c t) ∗ owns (c : Thread nD τ) (st0_1 t) fullShare (x1B m c t) ∗ owns (c : Thread nD τ) (st0_2 t) fullShare (h2B m c t) ∗ owns (c : Thread nD τ) (st0_3 t) fullShare (gateB m c t) ∗ owns (c : Thread nD τ) (st0_4 t) fullShare (w1B m c t) ∗ owns (c : Thread nD τ) (st0_5 t) fullShare (w3B m c t) ∗ owns (c : Thread nD τ) (st0_6 t) fullShare (w2B m c t)) ∗ owns (c : Thread nD τ) (st0_7 t) fullShare (outAt m c t.val t.isLt) ∗ kept m c t) : sProp 𝕄G)))
  isplitl [H0 H1 H2 H3 H4 H5 H6 H7 HS]
  · by_cases h : t.val % 4 = 0
    · rw [outAt_first m c t h]
      ihave HS := ((scr_any m c t.castSucc).trans (loose_open c)) $$ HS
      icases HS with ⟨⟨%f0, S0⟩, ⟨%f1, S1⟩, ⟨%f2, S2⟩, ⟨%f3, S3⟩⟩
      iapply (wp_wand_r _ _ _)
      isplitl [H0 H1 H2 H3 H4 H5 H6 H7 S0 S1 S2 S3]
      · iapply (wp_moe_first 𝒱₀ c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (modB m c t) (x1B m c t) (h2B m c t) (gateB m c t) (w1B m c t) (w3B m c t) (w2B m c t) ((grp_iff t).mpr h))
        isplitl [H0]; iexact H0
        isplitl [H1]; iexact H1
        isplitl [H2]; iexact H2
        isplitl [H3]; iexact H3
        isplitl [H4]; iexact H4
        isplitl [H5]; iexact H5
        isplitl [H6]; iexact H6
        isplitl [H7]; iexists _; iexact H7
        isplitl [S0]; iexists _; iexact S0
        isplitl [S1]; iexists _; iexact S1
        isplitl [S2]; iexists _; iexact S2
        iexists _; iexact S3
      iintro %_ ⟨H0, H1, H2, H3, H4, H5, H6, H7, S⟩
      isplitl [H0 H1 H2 H3 H4 H5 H6]
      · isplitl [H0]; iexact H0
        isplitl [H1]; iexact H1
        isplitl [H2]; iexact H2
        isplitl [H3]; iexact H3
        isplitl [H4]; iexact H4
        isplitl [H5]; iexact H5
        iexact H6
      isplitl [H7]; iexact H7
      iapply (kept_close m c t)
      iexact S
    · rw [outAt_later m c t h, ← hY h]
      ihave HS := ((scr_later m c t h).trans (kept_open m c t)) $$ HS
      icases HS with ⟨S0, S1, S2, S3⟩
      iapply (wp_wand_r _ _ _)
      isplitl [H0 H1 H2 H3 H4 H5 H6 H7 S0 S1 S2 S3]
      · iapply (wp_moe_later 𝒱₀ c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (modB m c t) (x1B m c t) (h2B m c t) (gateB m c t) (w1B m c t) (w3B m c t) (w2B m c t) (fun hh => h ((grp_iff t).mp hh)) Y)
        isplitl [H0]; iexact H0
        isplitl [H1]; iexact H1
        isplitl [H2]; iexact H2
        isplitl [H3]; iexact H3
        isplitl [H4]; iexact H4
        isplitl [H5]; iexact H5
        isplitl [H6]; iexact H6
        isplitl [H7]; iexact H7
        isplitl [S0]; iexact S0
        isplitl [S1]; iexact S1
        isplitl [S2]; iexact S2
        iexact S3
      iintro %_ ⟨H0, H1, H2, H3, H4, H5, H6, H7, S⟩
      isplitl [H0 H1 H2 H3 H4 H5 H6]
      · isplitl [H0]; iexact H0
        isplitl [H1]; iexact H1
        isplitl [H2]; iexact H2
        isplitl [H3]; iexact H3
        isplitl [H4]; iexact H4
        isplitl [H5]; iexact H5
        iexact H6
      isplitl [H7]; iexact H7
      iapply (kept_close m c t)
      iexact S
  iintro %_ ⟨HI, H7, HS⟩
  isplitl [HI]; iexact HI
  isplitl [H7]; iexact H7
  iapply (scr_succ m c t)
  iexact HS

theorem body_obligation (c : Dev nD) : BodyObligation (dats m 0 c) (defs₀ (F := F)) 𝒱₀ () Set.univ := fun t => by
  rw [bigSep_W0, bigSep_W0]
  rw [show (dats m 0 c).owesAt () t.succ = (dats m 0 c).owesAt () t.castSucc from rfl]
  rw [show (dats m 0 c).Φ t.castSucc = iprop(scr m c t.castSucc ∗ ∃ r, prngReg c r) from rfl,
    show (dats m 0 c).Φ t.succ = iprop(scr m c t.succ ∗ ∃ r, prngReg c r) from rfl]
  show _ ⊢ wp _ _ _ (bodyAt0 (F := F) t) _
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0_of m (dats m 0 c) rfl (fun _ => rfl) t d0]
  rw [before0_1_of m (dats m 0 c) rfl (fun _ => rfl) t d1]
  rw [before0_2_of m (dats m 0 c) rfl (fun _ => rfl) t d2]
  rw [before0_3_of m (dats m 0 c) rfl (fun _ => rfl) t d3]
  rw [before0_4_of m (dats m 0 c) rfl (fun _ => rfl) t d4]
  rw [before0_5_of m (dats m 0 c) rfl (fun _ => rfl) t d5]
  rw [before0_6_of m (dats m 0 c) rfl (fun _ => rfl) t d6]
  iapply (wp_wand_r _ _ _)
  isplitl [H0 H1 H2 H3 H4 H5 H6 H7 HS]
  · iapply (wp_point m c t ((dats m 0 c).before 7 t d7) (fun h => before7 m c t h d7))
    isplitl [H0 H1 H2 H3 H4 H5 H6]
    · isplitl [H0]; iexact H0
      isplitl [H1]; iexact H1
      isplitl [H2]; iexact H2
      isplitl [H3]; iexact H3
      isplitl [H4]; iexact H4
      isplitl [H5]; iexact H5
      iexact H6
    isplitl [H7]; iexact H7
    iexact HS
  iintro %_ ⟨⟨H0, H1, H2, H3, H4, H5, H6⟩, H7, HS⟩
  isplitl [HS Hg]
  · isplitl [HS]; iexact HS
    iexact Hg
  isplitl [Ho]; iexact Ho
  isplitl [H0]; iexact H0
  isplitl [H1]; iexact H1
  isplitl [H2]; iexact H2
  isplitl [H3]; iexact H3
  isplitl [H4]; iexact H4
  isplitl [H5]; iexact H5
  isplitl [H6]; iexact H6
  iexact H7

theorem share_eq (c : Dev nD) (w : Fin cfg0.W) : (dats m 0 c).share w = fullShare := by
  unfold Dat.share; split <;> rfl

/-- The run: it ends, the arrays hold what the points wrote back, every counter is zero. -/
theorem run_main : θ_run defs (onTc (τ := τ) (main (F := F))) (s₀ m ρ)
    (fun r => FramePost cfgs (dats m) 0 (V m) r ∧ r.2.sem = fun _ => 0) :=
  Pipeline.θ_run_frame_track cfgs (dats m) 0 launch0 defs₀ 𝒱₀ m ρ main
    (hbody := fun c => (body_obligation m c).loose) (hshare := share_eq m) (howed := fun _ _ => rfl)
    (V := V m) (hmain := hmain m 𝒱₀) (hA := fun _ _ => rfl)
    (hin := fun c => by
      rw [show (dats m 0 c).Φ 0 = iprop(loose (F := F) c ∗ ∃ r, prngReg c r) from rfl]; unfold loose ΦA
      iintro H; iexact H)
    (hout := fun c => by
      show iprop(scr m c (Fin.last cfg0.N) ∗ ∃ r, prngReg c r) ⊢ iprop(loose (F := F) c ∗ ∃ r, prngReg c r)
      iintro ⟨H, Hg⟩
      isplitl [H]
      · iapply (scr_any m c (Fin.last cfg0.N)); iexact H
      iexact Hg)
    (Q' := _) (hQ' := fun _ h => h)

end Cert.KernelIdeal.Moe

end
-- ==== Proof.Frames.lean ====
module

public import proofs.«01_k».proof.Defs
public import proofs.«01_k».proof.Proof.Tiles
public import proofs.«01_k».proof.Proof.Gen.ReferenceIdeal.Run
public import proofs.«01_k».proof.Proof.Gen.ReferenceIdeal
public import proofs.«01_k».proof.Proof.Gen.Kernel
public import proofs.«01_k».proof.Proof.Gen.KernelIdeal

@[expose] public section

noncomputable section

namespace Cert.Proof

open Idealize.ShloMosaic Idealize.ShloMosaic.TcCoe Idealize.SL.Sem

/-- The idealized kernel's frame, over any float values: the run's post read at the arguments. -/
theorem frame_any {F : FTy → Type} [FloatOps F]
    (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6))
      ∧ r.2.sem = fun _ => 0) :=
  (θ_run KernelIdeal.defs _ _).mono (fun _ h => ⟨fun c => ⟨
      ((h.1 c).1 1).trans (((KernelIdeal.Moe.dats m 0 c).arrAt_in 1 rfl _).trans (KernelIdeal.Gen.V_main_arg0 m c)),
      ((h.1 c).1 2).trans (((KernelIdeal.Moe.dats m 0 c).arrAt_in 2 rfl _).trans (KernelIdeal.Gen.V_main_arg1 m c)),
      ((h.1 c).1 3).trans (((KernelIdeal.Moe.dats m 0 c).arrAt_in 3 rfl _).trans (KernelIdeal.Gen.V_main_arg2 m c)),
      ((h.1 c).2 KernelIdeal.main_arg3 (Pipeline.mem_restRefs_of KernelIdeal.main_arg3 (by decide) (by decide))).trans (KernelIdeal.Gen.V_main_arg3 m c),
      ((h.1 c).2 KernelIdeal.main_arg4 (Pipeline.mem_restRefs_of KernelIdeal.main_arg4 (by decide) (by decide))).trans (KernelIdeal.Gen.V_main_arg4 m c),
      ((h.1 c).2 KernelIdeal.main_arg5 (Pipeline.mem_restRefs_of KernelIdeal.main_arg5 (by decide) (by decide))).trans (KernelIdeal.Gen.V_main_arg5 m c),
      ((h.1 c).2 KernelIdeal.main_arg6 (Pipeline.mem_restRefs_of KernelIdeal.main_arg6 (by decide) (by decide))).trans (KernelIdeal.Gen.V_main_arg6 m c)⟩, h.2⟩)
    (KernelIdeal.Moe.run_main m ρ)

theorem frame_ideal : Cert.quiescent_KernelIdeal := fun m ρ _ => frame_any (F := Ideal) m ρ

/-- The two printed body tables are one, label by label. -/
theorem table₀_eq : Kernel.defs₀ (F := Bits) = KernelIdeal.defs₀ (F := Bits) :=
  congrArg (Defs.onTc (nD := KernelIdeal.nD) (τ := KernelIdeal.τ) (sig := KernelIdeal.sig) (Val := Elt Bits) (Λ := KernelIdeal.Λ₀))
    (funext fun ℓ => funext fun a => match ℓ, a with
      | 0, (_, _) => rfl
      | ⟨_ + 1, h⟩, _ => absurd h (Nat.not_lt.2 (Nat.le_add_left _ _)))

theorem table_eq : Kernel.defs (F := Bits) = KernelIdeal.defs (F := Bits) :=
  congrArg (Pipeline.defs (KernelIdeal.pcfgs (F := Bits))) table₀_eq

theorem frame_kernel : Cert.quiescent_Kernel := fun m ρ _ => by
  have h := frame_any (F := Bits) m ρ
  rw [← table_eq] at h
  exact h

/-- The reference runs: its arguments end unchanged, every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Dense.lean ====
module

public import proofs.«01_k».proof.Proof.Chunk
public import Idealize.ShloMosaic.Lib.MatmulPlain
public import Idealize.ShloMosaic.Lib.ValueIdx
public import Idealize.ShloMosaic.Lib.Pointwise
public import Idealize.ShloMosaic.Lib.Pointwise.IndexVar

@[expose] public section

set_option maxRecDepth 16384
set_option maxHeartbeats 4000000

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-- A matrix of numbers. -/
abbrev M2 (a b : ℕ) : Type := (⟨2, ![a, b]⟩ : Shape).Idx → EReal

/-- The side conditions of one block of `n` rows. -/
structure Fits (n : ℕ) : Prop where
  bc : (⟨2, ![n, 1]⟩ : Shape).Broadcasts ⟨2, ![n, 256]⟩
  sc : (⟨1, ![n]⟩ : Shape).ShapeCasts ⟨2, ![n, 1]⟩
  rd : (⟨2, ![n, 128]⟩ : Shape).Reduces [1] ⟨1, ![n]⟩
  io : (⟨2, ![n, 128]⟩ : Shape).Iotas .tc 32 [1]

/-- Expert `e`'s first or third weight matrix. -/
def wUp (X : Vec Ideal S8x1024x256 .bf16) (e : ℕ) (h : ∀ a, (![e, 0, 0] : Fin 3 → ℕ) a + S1x1024x256.size a ≤ S8x1024x256.size a) : Vec Ideal S1x1024x256 .bf16 :=
  View.ld (Val := Elt Ideal) X (Rect.unit (s := S8x1024x256) ![e, 0, 0] S1x1024x256.size h)

/-- Expert `e`'s second weight matrix. -/
def wDn (X : Vec Ideal S8x256x1024 .bf16) (e : ℕ) (h : ∀ a, (![e, 0, 0] : Fin 3 → ℕ) a + S1x256x1024.size a ≤ S8x256x1024.size a) : Vec Ideal S1x256x1024 .bf16 :=
  View.ld (Val := Elt Ideal) X (Rect.unit (s := S8x256x1024) ![e, 0, 0] S1x256x1024.size h)

/-- One expert's gates for a block of `n` rows: the lanes holding that expert, summed. -/
def gateG (n : ℕ) (f : Fits n) (w : BitVec 32) (gg : M2 n 128) : M2 n 1 :=
  shapeCast ⟨2, ![n, 1]⟩ (multiReduction (F := Ideal) (φ := .f32) .add [1] ⟨1, ![n]⟩
    (select (cmpi .eq (andi (iota .tc ⟨2, ![n, 128]⟩ 32 [1] f.io) (broadcast ⟨2, ![n, 128]⟩ 31#32)) (broadcast ⟨2, ![n, 128]⟩ w)) gg
      (broadcast ⟨2, ![n, 128]⟩ (Scalar.ofBits (F := Ideal) .f32 0x00000000#32))) 0x00000000#32 f.rd (.inl rfl) rfl) f.sc

/-- One expert's up projection of a block of `n` rows. -/
def upG (n : ℕ) (xg : FVec Ideal ⟨2, ![n, 1024]⟩ .bf16) (w : Vec Ideal S1x1024x256 .bf16) : FVec Ideal ⟨2, ![n, 256]⟩ .f32 :=
  matmul (F := Ideal) (DotDims.plain n 1024 256) none xg
    (shapeCast S1024x256 w shapeCasts_S1x1024x256_S1024x256 : FVec Ideal S1024x256 .bf16) (constant ⟨2, ![n, 256]⟩ .f32 0x00000000#32)

/-- One expert's contribution added to a block of `n` rows. -/
def stepG (n : ℕ) (f : Fits n) (xg : FVec Ideal ⟨2, ![n, 1024]⟩ .bf16) (gc : FVec Ideal ⟨2, ![n, 1]⟩ .f32) (w1 w3 : Vec Ideal S1x1024x256 .bf16)
    (w2 : Vec Ideal S1x256x1024 .bf16) (acc : FVec Ideal ⟨2, ![n, 1024]⟩ .f32) : FVec Ideal ⟨2, ![n, 1024]⟩ .f32 :=
  addf acc (matmul (F := Ideal) (DotDims.plain n 256 1024) none
    (truncf .bf16 (mulf (mulf (divf (upG n xg w1)
        (addf (broadcast ⟨2, ![n, 256]⟩ (Scalar.ofBits (F := Ideal) .f32 0x3F800000#32))
          (exp (subf (broadcast ⟨2, ![n, 256]⟩ (Scalar.ofBits (F := Ideal) .f32 0x00000000#32)) (upG n xg w1))))) (upG n xg w3))
      (broadcastTo ⟨2, ![n, 256]⟩ gc f.bc)) bitsLt_bf16_f32)
    (shapeCast S256x1024 w2 shapeCasts_S1x256x1024_S256x1024 : FVec Ideal S256x1024 .bf16) (constant ⟨2, ![n, 1024]⟩ .f32 0x00000000#32))

/-- The rows of one block: the eight experts of the group, one after another. -/
def rowsG (n : ℕ) (f : Fits n) (a : BitVec 32) (xg : FVec Ideal ⟨2, ![n, 1024]⟩ .bf16) (gg : FVec Ideal ⟨2, ![n, 128]⟩ .f32)
    (X6 X7 : Vec Ideal S8x1024x256 .bf16) (X8 : Vec Ideal S8x256x1024 .bf16) : FVec Ideal ⟨2, ![n, 1024]⟩ .f32 :=
  let st (e : ℕ) h h' := stepG n f xg (gateG n f (Scalar.addi (Scalar.muli a 8#32) (BitVec.ofNat 32 e)) gg) (wUp X6 e h) (wUp X7 e h) (wDn X8 e h')
  st 7 inb_S8x1024x256_S1x1024x256_7_0_0 inb_S8x256x1024_S1x256x1024_7_0_0 <|
  st 6 inb_S8x1024x256_S1x1024x256_6_0_0 inb_S8x256x1024_S1x256x1024_6_0_0 <|
  st 5 inb_S8x1024x256_S1x1024x256_5_0_0 inb_S8x256x1024_S1x256x1024_5_0_0 <|
  st 4 inb_S8x1024x256_S1x1024x256_4_0_0 inb_S8x256x1024_S1x256x1024_4_0_0 <|
  st 3 inb_S8x1024x256_S1x1024x256_3_0_0 inb_S8x256x1024_S1x256x1024_3_0_0 <|
  st 2 inb_S8x1024x256_S1x1024x256_2_0_0 inb_S8x256x1024_S1x256x1024_2_0_0 <|
  st 1 inb_S8x1024x256_S1x1024x256_1_0_0 inb_S8x256x1024_S1x256x1024_1_0_0 <|
  st 0 inb_S8x1024x256_S1x1024x256_0_0_0 inb_S8x256x1024_S1x256x1024_0_0_0 <|
  broadcast ⟨2, ![n, 1024]⟩ (Scalar.ofBits (F := Ideal) .f32 0x00000000#32)

/-- One block of `n` rows: pick the rows of the tile, run the experts, put the rows back and add them to the output. -/
def chunkG (n : ℕ) (f : Fits n) (a : BitVec 32) (pick : FVec Ideal ⟨2, ![n, 1024]⟩ .bf16) (put : FVec Ideal ⟨2, ![1024, n]⟩ .bf16)
    (X4 : Vec Ideal S1024x1024 .bf16) (X6 X7 : Vec Ideal S8x1024x256 .bf16) (X8 : Vec Ideal S8x256x1024 .bf16) (X10 : Vec Ideal S1024x128 .bf16)
    (X9 : Vec Ideal S1024x1024 .f32) : FVec Ideal S1024x1024 .f32 :=
  addf (shapeCast S1024x1024 (View.ld (Val := Elt Ideal) X9 (Rect.unit (s := S1024x1024) ![0, 0] S1024x1024.size inb_S1024x1024_S1024x1024_0_0)) shapeCasts_S1024x1024_S1024x1024)
    (matmul (F := Ideal) (DotDims.plain 1024 n 1024) none put
      (truncf .bf16 (rowsG n f a
        (truncf .bf16 (matmul (F := Ideal) (φ₂ := .bf16) (DotDims.plain n 1024 1024) none pick (View.ld (Val := Elt Ideal) X4 (Rect.unit (s := S1024x1024) ![0, 0] S1024x1024.size inb_S1024x1024_S1024x1024_0_0)) (constant ⟨2, ![n, 1024]⟩ .f32 0x00000000#32)) bitsLt_bf16_f32)
        (matmul (F := Ideal) (φ₂ := .bf16) (DotDims.plain n 1024 128) none pick (View.ld (Val := Elt Ideal) X10 (Rect.unit (s := S1024x128) ![0, 0] S1024x128.size inb_S1024x128_S1024x128_0_0)) (constant ⟨2, ![n, 128]⟩ .f32 0x00000000#32))
        X6 X7 X8) bitsLt_bf16_f32) (constant S1024x1024 .f32 0x00000000#32))

theorem fits128 : Fits 128 := ⟨broadcasts_S128x1_S128x256, shapeCasts_S128_S128x1, reduces_S128x128_S128, iota_S128x128_d1_w32⟩
theorem fits256 : Fits 256 := ⟨broadcasts_S256x1_S256x256, shapeCasts_S256_S256x1, reduces_S256x128_S256, iota_S256x128_d1_w32⟩
theorem fits384 : Fits 384 := ⟨broadcasts_S384x1_S384x256, shapeCasts_S384_S384x1, reduces_S384x128_S384, iota_S384x128_d1_w32⟩

end Cert.KernelIdeal.Moe
-- ==== Proof.DenseVal.lean ====
module

public import proofs.«01_k».proof.Proof.Dense
public import Idealize.ShloMosaic.Lib.IdealHost
public import Idealize.ShloMosaic.Lib.Pointwise.IndexBridge

@[expose] public section

set_option maxRecDepth 16384
set_option maxHeartbeats 4000000

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

theorem one_word : Scalar.ofBits (F := Ideal) .f32 0x3F800000#32 = 1 := Ideal.ofBits_one_f32

theorem zero_word : Scalar.ofBits (F := Ideal) .f32 0x00000000#32 = 0 := Ideal.ofBits_zero_f32

/-- A plain product at an index. -/
theorem plain_apply (M K N : ℕ) {φ₁ φ₂ : FTy} (l : FVec Ideal ⟨2, ![M, K]⟩ φ₁) (r : FVec Ideal ⟨2, ![K, N]⟩ φ₂) (s : Fin M) (c : Fin N) :
    matmul (F := Ideal) (DotDims.plain M K N) none l r (constant ⟨2, ![M, N]⟩ .f32 0x00000000#32) (ix2 s c) = ∑ k : Fin K, l (ix2 s k) * r (ix2 k c) := by
  simp only [ix2_eq_valueIdx]
  refine (Idealize.ShloMosaic.Ideal.matmul_plain_apply none l r _ s c).trans ?_
  show Ideal.ofBits .f32 0x00000000#32 + _ = _
  rw [Ideal.ofBits_zero_f32, zero_add]

theorem wUp_apply (X : Vec Ideal S8x1024x256 .bf16) (e : ℕ) (h) (he : e < 8) (k : Fin 1024) (c : Fin 256) :
    (shapeCast S1024x256 (wUp X e h) shapeCasts_S1x1024x256_S1024x256 : FVec Ideal S1024x256 .bf16) (ix2 k c) = X (ix3 ⟨e, he⟩ k c) := by
  pointwise [wUp]

theorem wDn_apply (X : Vec Ideal S8x256x1024 .bf16) (e : ℕ) (h) (he : e < 8) (k : Fin 256) (c : Fin 1024) :
    (shapeCast S256x1024 (wDn X e h) shapeCasts_S1x256x1024_S256x1024 : FVec Ideal S256x1024 .bf16) (ix2 k c) = X (ix3 ⟨e, he⟩ k c) := by
  pointwise [wDn]

/-- A choice on two equal words. -/
theorem select_eq {α : Type} (x y : BitVec 32) (p q : α) : Scalar.select (IntOp.cmpi CmpIPredicate.eq x y) p q = if x = y then p else q := by
  show (if BitVec.ofBool (decide (x = y)) = 1#1 then p else q) = _
  by_cases h : x = y <;> simp [h]

theorem row_index {n : ℕ} (h : (⟨2, ![n, 1]⟩ : Shape).numel = (⟨1, ![n]⟩ : Shape).numel) (s : Fin n) :
    Shape.reshapeEquiv h (ix2 s (0 : Fin 1)) = ix1 s :=
  Shape.reshapeEquiv_eq_of_vals h _ _ s.val (s.val * 1 + 0) (rowMajor_val1 _) (rowMajor_val2 _ 1 rfl) (by omega)

theorem gateG_apply (n : ℕ) (f : Fits n) (w : BitVec 32) (gg : M2 n 128) (s : Fin n) :
    gateG n f w gg (ix2 s (0 : Fin 1)) = ∑ l : Fin 128, if (BitVec.ofNat 32 l.val &&& 31#32) = w then gg (ix2 s l) else 0 := by
  pointwise [gateG]
  simp only [row_index, select_eq]
  rfl

theorem spread_apply (n : ℕ) (f : Fits n) (x : M2 n 1) (s : Fin n) (c : Fin 256) : broadcastTo ⟨2, ![n, 256]⟩ x f.bc (ix2 s c) = x (ix2 s (0 : Fin 1)) := by
  pointwise
  by_cases hn : n = 1
  · subst hn; exact congrArg (fun q => x (ix2 q 0)) (Subsingleton.elim _ _)
  · exact congrArg (fun q => x (ix2 q 0)) (dif_neg hn)

/-- The hidden units of one expert: the gated linear unit of two projections. -/
def act (x : Fin 1024 → EReal) (u v : Fin 1024 → Fin 256 → EReal) (c : Fin 256) : EReal :=
  Ideal.div (∑ k, x k * u k c) (1 + Ideal.exp (0 - ∑ k, x k * u k c)) * ∑ k, x k * v k c

/-- One expert's output at one gate. -/
def expertV (x : Fin 1024 → EReal) (γ : EReal) (u v : Fin 1024 → Fin 256 → EReal) (w : Fin 256 → Fin 1024 → EReal) (d : Fin 1024) : EReal :=
  ∑ c, act x u v c * γ * w c d

theorem upE_apply (n : ℕ) (xg : FVec Ideal ⟨2, ![n, 1024]⟩ .bf16) (X : Vec Ideal S8x1024x256 .bf16) (e : ℕ) (h) (he : e < 8) (s : Fin n) (c : Fin 256) :
    upG n xg (wUp X e h) (ix2 s c) = ∑ k : Fin 1024, xg (ix2 s k) * X (ix3 ⟨e, he⟩ k c) := by
  unfold upG
  rw [plain_apply]
  exact Finset.sum_congr rfl fun k _ => by rw [wUp_apply X e h he]

theorem stepG_apply (n : ℕ) (f : Fits n) (xg : FVec Ideal ⟨2, ![n, 1024]⟩ .bf16) (gc : FVec Ideal ⟨2, ![n, 1]⟩ .f32) (X6 X7 : Vec Ideal S8x1024x256 .bf16)
    (X8 : Vec Ideal S8x256x1024 .bf16) (e : ℕ) (h h') (he : e < 8) (acc : FVec Ideal ⟨2, ![n, 1024]⟩ .f32) (s : Fin n) (d : Fin 1024) :
    stepG n f xg gc (wUp X6 e h) (wUp X7 e h) (wDn X8 e h') acc (ix2 s d) =
      acc (ix2 s d) + expertV (fun k => xg (ix2 s k)) (gc (ix2 s (0 : Fin 1))) (fun k c => X6 (ix3 ⟨e, he⟩ k c)) (fun k c => X7 (ix3 ⟨e, he⟩ k c))
        (fun c d => X8 (ix3 ⟨e, he⟩ c d)) d := by
  unfold stepG expertV act
  refine congrArg (acc (ix2 s d) + ·) ?_
  rw [plain_apply]
  refine Finset.sum_congr rfl fun c _ => ?_
  rw [wDn_apply X8 e h' he]
  refine congrArg (· * X8 (ix3 ⟨e, he⟩ c d)) ?_
  show Ideal.div (upG n xg (wUp X6 e h) (ix2 s c)) (Scalar.ofBits (F := Ideal) .f32 0x3F800000#32 + Ideal.exp (Scalar.ofBits (F := Ideal) .f32 0x00000000#32 - upG n xg (wUp X6 e h) (ix2 s c)))
    * upG n xg (wUp X7 e h) (ix2 s c) * broadcastTo ⟨2, ![n, 256]⟩ gc f.bc (ix2 s c) = _
  rw [upE_apply n xg X6 e h he, upE_apply n xg X7 e h he, spread_apply n f gc, one_word, zero_word]

/-- The gate an expert's lanes hold. -/
def laneGate (a : BitVec 32) (g : Fin 128 → EReal) (e : ℕ) : EReal :=
  ∑ l : Fin 128, if (BitVec.ofNat 32 l.val &&& 31#32) = Scalar.addi (Scalar.muli a 8#32) (BitVec.ofNat 32 e) then g l else 0

/-- One token's output of a group of eight experts. -/
def rowV (a : BitVec 32) (x : Fin 1024 → EReal) (g : Fin 128 → EReal) (X6 X7 : Vec Ideal S8x1024x256 .bf16) (X8 : Vec Ideal S8x256x1024 .bf16) (d : Fin 1024) : EReal :=
  ∑ e : Fin 8, expertV x (laneGate a g e.val) (fun k c => X6 (ix3 e k c)) (fun k c => X7 (ix3 e k c)) (fun c d => X8 (ix3 e c d)) d

theorem rowsG_apply (n : ℕ) (f : Fits n) (a : BitVec 32) (xg : FVec Ideal ⟨2, ![n, 1024]⟩ .bf16) (gg : FVec Ideal ⟨2, ![n, 128]⟩ .f32)
    (X6 X7 : Vec Ideal S8x1024x256 .bf16) (X8 : Vec Ideal S8x256x1024 .bf16) (s : Fin n) (d : Fin 1024) :
    rowsG n f a xg gg X6 X7 X8 (ix2 s d) = rowV a (fun k => xg (ix2 s k)) (fun l => gg (ix2 s l)) X6 X7 X8 d := by
  unfold rowsG rowV laneGate
  rw [Fin.sum_univ_eight]
  dsimp only
  rw [stepG_apply n f _ _ X6 X7 X8 7 _ _ (by decide), stepG_apply n f _ _ X6 X7 X8 6 _ _ (by decide), stepG_apply n f _ _ X6 X7 X8 5 _ _ (by decide),
    stepG_apply n f _ _ X6 X7 X8 4 _ _ (by decide), stepG_apply n f _ _ X6 X7 X8 3 _ _ (by decide), stepG_apply n f _ _ X6 X7 X8 2 _ _ (by decide),
    stepG_apply n f _ _ X6 X7 X8 1 _ _ (by decide), stepG_apply n f _ _ X6 X7 X8 0 _ _ (by decide)]
  simp only [gateG_apply]
  show Scalar.ofBits (F := Ideal) .f32 0x00000000#32 + _ + _ + _ + _ + _ + _ + _ + _ = _
  rw [zero_word, zero_add]
  rfl

/-- A sum with one place marked reads that place. -/
theorem sum_mark {n : ℕ} (P : Fin n → Prop) [DecidablePred P] (s : Fin n) (hs : ∀ t, P t ↔ t = s) (v : Fin n → EReal) :
    ∑ t, (if P t then (1 : EReal) else 0) * v t = v s := by
  rw [Finset.sum_eq_single s]
  · rw [if_pos ((hs s).2 rfl), one_mul]
  · intro t _ h; rw [if_neg (fun h' => h ((hs t).1 h')), zero_mul]
  · intro h; exact absurd (Finset.mem_univ s) h

/-- What one block of `n` rows adds: a token whose place lies in the block gets its group's output, the others nothing. -/
theorem chunkG_apply (n : ℕ) (f : Fits n) (a : BitVec 32) (ρ : Fin 1024 → EReal) (b : ℕ)
    (hρ : ∀ t t' : Fin 1024, ∀ k : ℕ, ρ t = (k : ℝ) → ρ t' = (k : ℝ) → t = t')
    (pick : FVec Ideal ⟨2, ![n, 1024]⟩ .bf16) (put : FVec Ideal ⟨2, ![1024, n]⟩ .bf16)
    (hpick : ∀ s t, pick (ix2 s t) = if ρ t = ((s.val + b : ℕ) : ℝ) then 1 else 0)
    (hput : ∀ t s, put (ix2 t s) = if ρ t = ((s.val + b : ℕ) : ℝ) then 1 else 0)
    (X4 : Vec Ideal S1024x1024 .bf16) (X6 X7 : Vec Ideal S8x1024x256 .bf16) (X8 : Vec Ideal S8x256x1024 .bf16) (X10 : Vec Ideal S1024x128 .bf16)
    (X9 : Vec Ideal S1024x1024 .f32) (t d : Fin 1024) :
    chunkG n f a pick put X4 X6 X7 X8 X10 X9 (ix2 t d) = X9 (ix2 t d) +
      if ∃ s : Fin n, ρ t = ((s.val + b : ℕ) : ℝ) then rowV a (fun k => X4 (ix2 t k)) (fun l => X10 (ix2 t l)) X6 X7 X8 d else 0 := by
  classical
  have e9 : (shapeCast S1024x1024 (View.ld (Val := Elt Ideal) X9 (Rect.unit (s := S1024x1024) ![0, 0] S1024x1024.size inb_S1024x1024_S1024x1024_0_0)) shapeCasts_S1024x1024_S1024x1024 : FVec Ideal S1024x1024 .f32) (ix2 t d) = X9 (ix2 t d) := by
    pointwise
  have e4 : ∀ k j, View.ld (Val := Elt Ideal) X4 (Rect.unit (s := S1024x1024) ![0, 0] S1024x1024.size inb_S1024x1024_S1024x1024_0_0) (ix2 k j) = X4 (ix2 k j) := by
    intro k j; pointwise
  have e10 : ∀ k j, View.ld (Val := Elt Ideal) X10 (Rect.unit (s := S1024x128) ![0, 0] S1024x128.size inb_S1024x128_S1024x128_0_0) (ix2 k j) = X10 (ix2 k j) := by
    intro k j; pointwise
  unfold chunkG
  refine (congrArg₂ (· + ·) e9 (plain_apply 1024 n 1024 put _ t d)).trans (congrArg (X9 (ix2 t d) + ·) ?_)
  simp only [hput]
  split
  · rename_i h
    obtain ⟨s, hs⟩ := h
    rw [sum_mark _ s (fun s' => ⟨fun h' => by
      have := h'.symm.trans hs
      have h2 : s'.val + b = s.val + b := by exact_mod_cast this
      exact Fin.ext (by omega), fun h' => h' ▸ hs⟩)]
    refine (rowsG_apply n f a _ _ X6 X7 X8 s d).trans ?_
    have hm : ∀ t' : Fin 1024, ρ t' = ((s.val + b : ℕ) : ℝ) ↔ t' = t := fun t' => ⟨fun h' => hρ t' t _ h' hs, fun h' => h' ▸ hs⟩
    congr 1
    · funext k
      refine (plain_apply n 1024 1024 (φ₁ := .bf16) (φ₂ := .bf16) pick _ s k).trans ?_
      exact (Finset.sum_congr rfl fun t' _ => congrArg₂ (· * ·) (hpick s t') (e4 t' k)).trans (sum_mark _ t hm fun t' => X4 (ix2 t' k))
    · funext k
      refine (plain_apply n 1024 128 (φ₁ := .bf16) (φ₂ := .bf16) pick _ s k).trans ?_
      exact (Finset.sum_congr rfl fun t' _ => congrArg₂ (· * ·) (hpick s t') (e10 t' k)).trans (sum_mark _ t hm fun t' => X10 (ix2 t' k))
  · rename_i h
    refine Finset.sum_eq_zero fun s _ => ?_
    rw [if_neg fun hs => h ⟨s, hs⟩, zero_mul]

end Cert.KernelIdeal.Moe
-- ==== Proof.Place.lean ====
module

public import proofs.«01_k».proof.Proof.DenseVal
public import Idealize.ShloMosaic.Lib.IdealHost
public import Idealize.ShloMosaic.Lib.Pointwise.IndexBridge
public import Idealize.ShloMosaic.Lib.Pipeline.Value

@[expose] public section

set_option maxRecDepth 16384
set_option maxHeartbeats 4000000

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-- The rows' places repeated down a block of `n` rows. -/
def pickG (n N : ℕ) (hi : (⟨2, ![n, 1024]⟩ : Shape).Iotas .tc 32 [0]) (z : EReal) (x : FVec Ideal S8x1024 .f32)
    (hc : Shape.Concatenates ((List.replicate N (⟨S8x1024, x⟩ : (s : Shape) × (s.Idx → Ideal .f32))).map (·.1)) ⟨2, ![n, 1024]⟩ 0) : FVec Ideal ⟨2, ![n, 1024]⟩ .bf16 :=
  truncf .bf16 (select (cmpf .oeq (concatenate ⟨2, ![n, 1024]⟩ 0 (List.replicate N (⟨S8x1024, x⟩ : (s : Shape) × (s.Idx → Ideal .f32))) hc : FVec Ideal ⟨2, ![n, 1024]⟩ .f32)
    (addf (sitofp .f32 (iota .tc ⟨2, ![n, 1024]⟩ 32 [0] hi)) (broadcast ⟨2, ![n, 1024]⟩ z)))
    (broadcast ⟨2, ![n, 1024]⟩ (Scalar.ofBits (F := Ideal) .f32 0x3F800000#32)) (broadcast ⟨2, ![n, 1024]⟩ (Scalar.ofBits (F := Ideal) .f32 0x00000000#32))) bitsLt_bf16_f32

/-- The same marks with the tokens down the rows. -/
def putG (n : ℕ) (hi : (⟨2, ![1024, n]⟩ : Shape).Iotas .tc 32 [1]) (hb : S1024x1.Broadcasts ⟨2, ![1024, n]⟩) (z : EReal) (col : FVec Ideal S1024x1 .f32) : FVec Ideal ⟨2, ![1024, n]⟩ .bf16 :=
  truncf .bf16 (select (cmpf .oeq (broadcastTo ⟨2, ![1024, n]⟩ col hb : FVec Ideal ⟨2, ![1024, n]⟩ .f32)
    (addf (sitofp .f32 (iota .tc ⟨2, ![1024, n]⟩ 32 [1] hi)) (broadcast ⟨2, ![1024, n]⟩ z)))
    (broadcast ⟨2, ![1024, n]⟩ (Scalar.ofBits (F := Ideal) .f32 0x3F800000#32)) (broadcast ⟨2, ![1024, n]⟩ (Scalar.ofBits (F := Ideal) .f32 0x00000000#32))) bitsLt_bf16_f32

/-- A choice on two equal numbers. -/
theorem select_oeq {α : Type} (x y : EReal) (p q : α) : Scalar.select (FloatOps.cmpf (F := Ideal) (φ := .f32) CmpFPredicate.oeq x y) p q = if x = y then p else q := by
  show (if BitVec.ofBool (decide (x = y)) = 1#1 then p else q) = _
  by_cases h : x = y <;> simp [h]

/-- A small number read off a word. -/
theorem small_word (s : ℕ) (h : s < 2 ^ 31) : ((BitVec.ofNat 32 s).toInt : ℝ) = (s : ℝ) := by
  have : (BitVec.ofNat 32 s).toInt = (s : ℤ) := by
    have e : (BitVec.ofNat 32 s).toNat = s := by rw [BitVec.toNat_ofNat]; exact Nat.mod_eq_of_lt (by omega)
    rw [BitVec.toInt_eq_toNat_of_lt (by omega), e]
  rw [this]; norm_cast

theorem pickG_apply (n N : ℕ) (hn : n ≤ 1024) (hi) (b : ℕ) (x : FVec Ideal S8x1024 .f32) (hc) (ρ : Fin 1024 → EReal) (hx : ∀ (r : Fin 8) t, x (ix2 r t) = ρ t) (s : Fin n) (t : Fin 1024) :
    pickG n N hi ((b : ℝ) : EReal) x hc (ix2 s t) = if ρ t = ((s.val + b : ℕ) : ℝ) then 1 else 0 := by
  have e1 : concatenate ⟨2, ![n, 1024]⟩ 0 (List.replicate N (⟨S8x1024, x⟩ : (s : Shape) × (s.Idx → Ideal .f32))) hc (ix2 s t) = ρ t := by
    refine (concatenate_replicate_apply 0 N x hc rfl (ix2 s t) (ix2 (⟨s.val % 8, Nat.mod_lt _ (by decide)⟩ : Fin 8) t) rfl ?_).trans (hx _ _)
    intro a ha
    match a with
    | ⟨0, _⟩ => exact absurd rfl ha
    | ⟨1, _⟩ => rfl
  have e2 : (((BitVec.ofNat 32 (0 * n + s.val)).toInt : ℝ) : EReal) + ((b : ℝ) : EReal) = ((s.val + b : ℕ) : ℝ) := by
    rw [Nat.zero_mul, Nat.zero_add, small_word _ (by have := s.isLt; omega)]
    norm_cast
  show Scalar.select (FloatOps.cmpf (F := Ideal) (φ := .f32) CmpFPredicate.oeq (concatenate ⟨2, ![n, 1024]⟩ 0 (List.replicate N (⟨S8x1024, x⟩ : (s : Shape) × (s.Idx → Ideal .f32))) hc (ix2 s t))
    ((((BitVec.ofNat 32 (0 * n + s.val)).toInt : ℝ) : EReal) + ((b : ℝ) : EReal))) (Scalar.ofBits (F := Ideal) .f32 0x3F800000#32) (Scalar.ofBits (F := Ideal) .f32 0x00000000#32) = _
  rw [select_oeq, e1, e2, one_word, zero_word]

theorem putG_apply (n : ℕ) (hn : n ≤ 1024) (hi hb) (b : ℕ) (col : FVec Ideal S1024x1 .f32) (ρ : Fin 1024 → EReal) (hx : ∀ t, col (ix2 t (0 : Fin 1)) = ρ t) (t : Fin 1024) (s : Fin n) :
    putG n hi hb ((b : ℝ) : EReal) col (ix2 t s) = if ρ t = ((s.val + b : ℕ) : ℝ) then 1 else 0 := by
  have e1 : broadcastTo ⟨2, ![1024, n]⟩ col hb (ix2 t s) = ρ t := by
    rw [← hx t]
    pointwise
  have e2 : (((BitVec.ofNat 32 (0 * n + s.val)).toInt : ℝ) : EReal) + ((b : ℝ) : EReal) = ((s.val + b : ℕ) : ℝ) := by
    rw [Nat.zero_mul, Nat.zero_add, small_word _ (by have := s.isLt; omega)]
    norm_cast
  show Scalar.select (FloatOps.cmpf (F := Ideal) (φ := .f32) CmpFPredicate.oeq (broadcastTo ⟨2, ![1024, n]⟩ col hb (ix2 t s))
    ((((BitVec.ofNat 32 (0 * n + s.val)).toInt : ℝ) : EReal) + ((b : ℝ) : EReal))) (Scalar.ofBits (F := Ideal) .f32 0x3F800000#32) (Scalar.ofBits (F := Ideal) .f32 0x00000000#32) = _
  rw [select_oeq, e1, e2, one_word, zero_word]

/-- What is asked of one group's places: the column, the slab of eight equal rows, and no place taken twice. -/
structure Places (g : Fin 4) (col : FVec Ideal S1024x1 .f32) (X12 : Vec Ideal S4x8x1024 .f32) (ρ : Fin 1024 → EReal) : Prop where
  col : ∀ t, col (ix2 t (0 : Fin 1)) = ρ t
  row : ∀ (r : Fin 8) t, X12 (ix3 g r t) = ρ t
  inj : ∀ t t' : Fin 1024, ∀ k : ℕ, ρ t = (k : ℝ) → ρ t' = (k : ℝ) → t = t'

/-- The slab a block reads, without its leading axis. -/
theorem slab_apply (g : Fin 4) (X12 : Vec Ideal S4x8x1024 .f32) (off : Fin 3 → ℕ) (ho : off = ![g.val, 0, 0]) (h : ∀ a, off a + S1x8x1024.size a ≤ S4x8x1024.size a) (r : Fin 8) (t : Fin 1024) :
    (shapeCast S8x1024 (View.ld (Val := Elt Ideal) X12 (Rect.unit (s := S4x8x1024) off S1x8x1024.size h)) shapeCasts_S1x8x1024_S8x1024 : FVec Ideal S8x1024 .f32) (ix2 r t) = X12 (ix3 g r t) := by
  subst ho
  have e : ∀ h' : S8x1024.numel = S1x8x1024.numel, Shape.reshapeEquiv h' (ix2 r t) = ix3 (0 : Fin 1) r t := fun h' =>
    Shape.reshapeEquiv_eq_of_vals h' _ _ (0 * 8192 + r.val * 1024 + t.val) (r.val * 1024 + t.val) (rowMajor_val3 _ 8192 1024 rfl rfl) (rowMajor_val2 _ 1024 rfl) (by omega)
  refine (Pointwise.shapeCast_apply _ _ _).trans ((congrArg _ (e _)).trans ?_)
  refine congrArg X12 (funext fun b => Fin.ext ?_)
  match b with
  | ⟨0, _⟩ => show g.val + 1 * 0 = g.val; omega
  | ⟨1, _⟩ => show 0 + 1 * r.val = r.val; omega
  | ⟨2, _⟩ => show 0 + 1 * t.val = t.val; omega

/-- A block's first place read off its word. -/
theorem word_base (w : BitVec 32) (b : ℕ) (h : w.toInt = b) : ((w.toInt : ℝ) : EReal) = ((b : ℝ) : EReal) := by
  rw [h]; norm_cast

/-- The slab's offsets. -/
theorem off_eq (i : grid0.Coords) (g : Fin 4) (hg : (i 1).val = g.val) : k0_off3 i = ![g.val, 0, 0] := by
  show ![(BitVec.ofNat 32 (i 1).val).toNat, 0, 0] = _
  rw [BitVec.toNat_ofNat, hg, Nat.mod_eq_of_lt (by omega)]

section
variable {g : Fin 4} {col : FVec Ideal S1024x1 .f32} {X12 : Vec Ideal S4x8x1024 .f32} {ρ : Fin 1024 → EReal} (P : Places g col X12 ρ)
  (a w : BitVec 32) (X4 : Vec Ideal S1024x1024 .bf16) (X6 X7 : Vec Ideal S8x1024x256 .bf16)
  (X8 : Vec Ideal S8x256x1024 .bf16) (X10 : Vec Ideal S1024x128 .bf16) (X9 : Vec Ideal S1024x1024 .f32) (t d : Fin 1024)
include P

/-- What a block of `n` rows from place `b` adds to the output. -/
theorem block_apply (n N : ℕ) (f : Fits n) (hn : n ≤ 1024) (b : ℕ) (z : EReal) (hz : z = (b : ℝ)) (off : Fin 3 → ℕ) (ho : off = ![g.val, 0, 0]) (h hi hi' hb hc) :
    chunkG n f a (pickG n N hi z (shapeCast S8x1024 (View.ld (Val := Elt Ideal) X12 (Rect.unit (s := S4x8x1024) off S1x8x1024.size h)) shapeCasts_S1x8x1024_S8x1024) hc)
      (putG n hi' hb z col) X4 X6 X7 X8 X10 X9 (ix2 t d) = X9 (ix2 t d) +
      if ∃ s : Fin n, ρ t = ((s.val + b : ℕ) : ℝ) then rowV a (fun k => X4 (ix2 t k)) (fun l => X10 (ix2 t l)) X6 X7 X8 d else 0 := by
  subst hz
  exact chunkG_apply n f a ρ b P.inj _ _ (fun s t => pickG_apply n N hn hi b _ hc ρ (fun r t => (slab_apply g X12 off ho h r t).trans (P.row r t)) s t) (fun t s => putG_apply n hn hi' hb b col ρ P.col t s) X4 X6 X7 X8 X10 X9 t d

variable (i : grid0.Coords) (hg : (i 1).val = g.val) (b : ℕ)
include hg

theorem chunk128_apply (hw : (Scalar.muli w 384#32).toInt = b) : chunk128 i a col w X4 X6 X7 X8 X10 X12 X9 (ix2 t d) = X9 (ix2 t d) +
    if ∃ s : Fin 128, ρ t = ((s.val + b : ℕ) : ℝ) then rowV a (fun k => X4 (ix2 t k)) (fun l => X10 (ix2 t l)) X6 X7 X8 d else 0 :=
  block_apply P a X4 X6 X7 X8 X10 X9 t d 128 16 fits128 (by decide) b _ (word_base _ b hw)
    (k0_off3 i) (off_eq i g hg) (k0_off3_inb i) iota_S128x1024_d0_w32 iota_S1024x128_d1_w32 broadcasts_S1024x1_S1024x128 concatenates_S8x1024_S8x1024_S8x1024_S8x1024_S8x1024_S8x1024_S8x1024_S8x1024_S8x1024_S8x1024_S8x1024_S8x1024_S8x1024_S8x1024_S8x1024_S8x1024_S128x1024_d0

theorem chunk256_apply (hw : (Scalar.muli w 384#32).toInt = b) : chunk256 i a col w X4 X6 X7 X8 X10 X12 X9 (ix2 t d) = X9 (ix2 t d) +
    if ∃ s : Fin 256, ρ t = ((s.val + b : ℕ) : ℝ) then rowV a (fun k => X4 (ix2 t k)) (fun l => X10 (ix2 t l)) X6 X7 X8 d else 0 :=
  block_apply P a X4 X6 X7 X8 X10 X9 t d 256 32 fits256 (by decide) b _ (word_base _ b hw)
    (k0_off4 i) (off_eq i g hg) (k0_off4_inb i) iota_S256x1024_d0_w32 iota_S1024x256_d1_w32 broadcasts_S1024x1_S1024x256 concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0

theorem chunk384_apply (hw : (Scalar.muli w 384#32).toInt = b) : chunk384 i a col w X4 X6 X7 X8 X10 X12 X9 (ix2 t d) = X9 (ix2 t d) +
    if ∃ s : Fin 384, ρ t = ((s.val + b : ℕ) : ℝ) then rowV a (fun k => X4 (ix2 t k)) (fun l => X10 (ix2 t l)) X6 X7 X8 d else 0 :=
  block_apply P a X4 X6 X7 X8 X10 X9 t d 384 48 fits384 (by decide) b _ (word_base _ b hw)
    (k0_off5 i) (off_eq i g hg) (k0_off5_inb i) iota_S384x1024_d0_w32 iota_S1024x384_d1_w32 broadcasts_S1024x1_S1024x384 concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S384x1024_d0

theorem chunkT_apply (k : Fin (k0_t1_loop w).trips) (hw : (Scalar.muli (Scf.iv 0#32 1#32 k) 384#32).toInt = b) : chunkT i a w col k X4 X6 X7 X8 X10 X12 X9 (ix2 t d) = X9 (ix2 t d) +
    if ∃ s : Fin 384, ρ t = ((s.val + b : ℕ) : ℝ) then rowV a (fun k => X4 (ix2 t k)) (fun l => X10 (ix2 t l)) X6 X7 X8 d else 0 :=
  block_apply P a X4 X6 X7 X8 X10 X9 t d 384 48 fits384 (by decide) b _ (word_base _ b hw)
    (k0_off1 i) (off_eq i g hg) (k0_off1_inb i) iota_S384x1024_d0_w32 iota_S1024x384_d1_w32 broadcasts_S1024x1_S1024x384 concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S384x1024_d0

end

end Cert.KernelIdeal.Moe
-- ==== Proof.Rank.lean ====
module

public import proofs.«01_k».proof.Proof.Place
public import proofs.«01_k».proof.Proof.Body
public import Idealize.ShloMosaic.Lib.IdealHost
public import Idealize.ShloMosaic.Lib.Pointwise.IndexBridge

@[expose] public section

set_option maxRecDepth 16384
set_option maxHeartbeats 4000000

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable (G : Vec Ideal S1024x128 .f32)

theorem neg_word : Ideal.ofBits .f32 0xBF800000#32 = ((-1 : ℝ) : EReal) := by
  simp [Ideal.ofBits, Ideal.ieee, -EReal.coe_mul, -EReal.coe_neg]; norm_num

theorem toInt_small (s : ℕ) (h : s < 2 ^ 31) : (BitVec.ofNat 32 s).toInt = (s : ℤ) := by
  have e : (BitVec.ofNat 32 s).toNat = s := by rw [BitVec.toNat_ofNat]; exact Nat.mod_eq_of_lt (by omega)
  rw [BitVec.toInt_eq_toNat_of_lt (by omega), e]

theorem slt_small (a b : ℕ) (ha : a < 2 ^ 31) (hb : b < 2 ^ 31) : IntOp.cmpi CmpIPredicate.slt (BitVec.ofNat 32 a) (BitVec.ofNat 32 b) = BitVec.ofBool (decide (a < b)) := by
  show BitVec.ofBool ((BitVec.ofNat 32 a).slt (BitVec.ofNat 32 b)) = _
  rw [BitVec.slt_eq_decide, toInt_small a ha, toInt_small b hb]
  simp

theorem select_bool {α : Type} (p : Prop) [Decidable p] (x y : α) : Scalar.select (BitVec.ofBool (decide p)) x y = if p then x else y := by
  show (if BitVec.ofBool (decide p) = 1#1 then x else y) = _
  by_cases h : p <;> simp [h]

theorem select_slt {α : Type} (a b : ℕ) (ha : a < 2 ^ 31) (hb : b < 2 ^ 31) (x y : α) :
    Scalar.select (IntOp.cmpi CmpIPredicate.slt (BitVec.ofNat 32 a) (BitVec.ofNat 32 b)) x y = if a < b then x else y := by
  rw [slt_small a b ha hb, select_bool]

theorem and_bool (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]

theorem memV_apply (t : Fin 1024) (l : Fin 128) : memV G (ix2 t l) = if l.val < 4 ∧ G (ix2 t (32 : Fin 128)) = (l.val : ℝ) then 1 else 0 := by
  have e : FloatOps.sitofp (F := Ideal) FTy.f32 (BitVec.ofNat 32 l.val) = ((l.val : ℝ) : EReal) := by
    show (((BitVec.ofNat 32 l.val).toInt : ℝ) : EReal) = _
    rw [small_word _ (by omega)]
  pointwise [memV, k0_pay9, lanes]
  rw [slt_small l.val 4 (by omega) (by omega), and_bool, select_bool, e]
  simp only [eq_comm]

theorem earlier_apply (t t' : Fin 1024) : (k0_pay10 : FVec Ideal S1024x1024 .bf16) (ix2 t t') = if t' < t then 1 else 0 := by
  pointwise [k0_pay10]
  rw [select_slt _ _ (by omega) (by omega)]
  rfl

theorem rankV_sum (t : Fin 1024) (l : Fin 128) : rankV G (ix2 t l) = if 0 < memV G (ix2 t l) then ∑ t', (k0_pay10 : FVec Ideal S1024x1024 .bf16) (ix2 t t') * memV G (ix2 t' l) else ((-1 : ℝ) : EReal) := by
  unfold rankV
  generalize memV G = m
  generalize (k0_pay10 : FVec Ideal S1024x1024 .bf16) = e
  pointwise [k0_pay12, k0_pay11]
  rw [neg_word]

theorem cntV_sum (l : Fin 128) : cntV G (ix2 (0 : Fin 1) l) = ∑ t, memV G (ix2 t l) := by
  unfold cntV
  generalize memV G = m
  pointwise [k0_pay149, k0_pay18]

/-- The token's group is `g`. -/
def member (g : ℕ) (t : Fin 1024) : Prop := G (ix2 t (32 : Fin 128)) = ((g : ℝ) : EReal)

open Classical in
/-- How many earlier tokens of the tile have the group. -/
def seat (g : ℕ) (t : Fin 1024) : ℕ := (Finset.univ.filter fun t' => t' < t ∧ member G g t').card

open Classical in
/-- How many tokens of the tile have the group. -/
def total (g : ℕ) : ℕ := (Finset.univ.filter fun t => member G g t).card

open Classical in
/-- A token's place in its group, minus one outside it. -/
def place (g : ℕ) (t : Fin 1024) : EReal := if member G g t then ((seat G g t : ℝ) : EReal) else ((-1 : ℝ) : EReal)

theorem sum_card {ι : Type} [Fintype ι] (p : ι → Prop) [DecidablePred p] : ∑ t, (if p t then (1 : EReal) else 0) = (((Finset.univ.filter p).card : ℝ) : EReal) := by
  rw [← Finset.sum_filter, Finset.sum_const, nsmul_one]
  norm_cast

open Classical in
theorem mem_apply (g : Fin 4) (t : Fin 1024) : memV G (ix2 t (⟨g.val, by omega⟩ : Fin 128)) = if member G g.val t then 1 else 0 := by
  rw [memV_apply]
  refine if_congr ?_ rfl rfl
  simp [member]

open Classical in
theorem rankV_apply (g : Fin 4) (t : Fin 1024) : rankV G (ix2 t (⟨g.val, by omega⟩ : Fin 128)) = place G g.val t := by
  rw [rankV_sum]
  simp only [mem_apply, earlier_apply]
  unfold place seat
  by_cases h : member G g.val t
  · rw [if_pos h, if_pos h, if_pos one_pos, ← sum_card]
    refine Finset.sum_congr rfl fun t' _ => ?_
    by_cases h1 : t' < t <;> by_cases h2 : member G g.val t' <;> simp [h1, h2]
  · rw [if_neg h, if_neg h, if_neg (lt_irrefl _)]

open Classical in
theorem cntV_apply (g : Fin 4) : cntV G (ix2 (0 : Fin 1) (⟨g.val, by omega⟩ : Fin 128)) = ((total G g.val : ℝ) : EReal) := by
  rw [cntV_sum]
  simp only [mem_apply]
  exact sum_card _

theorem seat_lt (g : ℕ) (t : Fin 1024) (h : member G g t) : seat G g t < total G g := by
  classical
  refine Finset.card_lt_card (Finset.ssubset_iff_of_subset (fun t' h' => ?_) |>.2 ⟨t, ?_, ?_⟩)
  · simp only [Finset.mem_filter] at h' ⊢; exact ⟨h'.1, h'.2.2⟩
  · simpa using h
  · simp

theorem total_le (g : ℕ) : total G g ≤ 1024 := by
  classical
  exact (Finset.card_le_univ _).trans (by simp)

theorem seat_mono (g : ℕ) (t t' : Fin 1024) (h : member G g t) (ht : t < t') : seat G g t < seat G g t' := by
  classical
  refine Finset.card_lt_card (Finset.ssubset_iff_of_subset (fun s h' => ?_) |>.2 ⟨t, ?_, ?_⟩)
  · simp only [Finset.mem_filter] at h' ⊢; exact ⟨h'.1, h'.2.1.trans ht, h'.2.2⟩
  · simpa using ⟨ht, h⟩
  · simp

theorem place_nat (g : ℕ) (t : Fin 1024) (k : ℕ) : place G g t = ((k : ℝ) : EReal) ↔ member G g t ∧ seat G g t = k := by
  unfold place
  split
  · rename_i h
    constructor
    · intro e; exact ⟨h, by exact_mod_cast e⟩
    · intro e; rw [e.2]
  · rename_i h
    constructor
    · intro e
      have e' : (-1 : ℝ) = (k : ℝ) := EReal.coe_eq_coe_iff.1 e
      have : (0 : ℝ) ≤ k := Nat.cast_nonneg k
      linarith
    · intro e; exact absurd e.1 h

theorem place_inj (g : ℕ) (t t' : Fin 1024) (k : ℕ) (h : place G g t = (k : ℝ)) (h' : place G g t' = (k : ℝ)) : t = t' := by
  rw [place_nat] at h h'
  rcases lt_trichotomy t t' with e | e | e
  · have := seat_mono G g t t' h.1 e; omega
  · exact e
  · have := seat_mono G g t' t h'.1 e; omega

theorem rankT_apply (g : Fin 4) (r : Fin 8) (t : Fin 1024) : rankT G (ix3 g r t) = place G g.val t := by
  rw [← rankV_apply]
  unfold rankV
  unfold rankT
  generalize memV G = m
  generalize (k0_pay10 : FVec Ideal S1024x1024 .bf16) = e
  simp only [← ix3_eq_valueIdx]
  match g with
  | ⟨0, _⟩ => pointwise [k0_pay14, k0_pay13, k0_pay12]
  | ⟨1, _⟩ => pointwise [k0_pay15, k0_pay13, k0_pay12]
  | ⟨2, _⟩ => pointwise [k0_pay16, k0_pay13, k0_pay12]
  | ⟨3, _⟩ => pointwise [k0_pay17, k0_pay13, k0_pay12]

theorem word_inj (a b : ℕ) (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

theorem rankC_apply (i : grid0.Coords) (g : Fin 4) (hg : (i 1).val = g.val) (X : Vec Ideal S1024x128 .f32) (t : Fin 1024) :
    rankC i X (ix2 t (0 : Fin 1)) = X (ix2 t (⟨g.val, by omega⟩ : Fin 128)) := by
  unfold rankC k0_pay151
  rw [hg]
  pointwise
  simp only [select_eq]
  rw [Finset.sum_eq_single (⟨g.val, by omega⟩ : Fin 128)]
  · rw [if_pos rfl]
  · intro l _ hl
    rw [if_neg]
    rw [word_inj _ _ (by omega) (by omega)]
    exact fun h => hl (Fin.ext h)
  · intro h; exact absurd (Finset.mem_univ _) h

theorem cntW_apply (i : grid0.Coords) (g : Fin 4) (hg : (i 1).val = g.val) (X : Vec Ideal S1x128 .f32) (n : ℕ) (hn : n ≤ 1024)
    (hX : X (ix2 (0 : Fin 1) (⟨g.val, by omega⟩ : Fin 128)) = ((n : ℝ) : EReal)) : cntW i X = BitVec.ofNat 32 n := by
  have e : k0_pay150 i X = ((n : ℝ) : EReal) := by
    rw [← hX]
    unfold k0_pay150
    rw [hg]
    pointwise
    simp only [select_eq]
    rw [Finset.sum_eq_single (⟨g.val, by omega⟩ : Fin 128)]
    · rw [if_pos rfl]
      simp
    · intro l _ hl
      rw [if_neg]
      rw [word_inj _ _ (by omega) (by omega)]
      exact fun h => hl (Fin.ext h)
    · intro h; exact absurd (Finset.mem_univ _) h
  unfold cntW
  rw [e]
  show BitVec.ofInt 32 (max (-(2 ^ 31 : ℕ)) (min ((2 ^ 31 : ℕ) - 1) (if (0 : ℝ) ≤ (n : ℝ) then ⌊(n : ℝ)⌋ else ⌈(n : ℝ)⌉))) = _
  rw [if_pos (Nat.cast_nonneg n), Int.floor_natCast, min_eq_right (by norm_num; omega), max_eq_right (by norm_num)]
  rfl

/-- What is asked of one token's gates. -/
def Routed (t : Fin 1024) : Prop := ∀ l : Fin 128, l.val < 32 → G (ix2 t l) ≠ ⊤ ∧ G (ix2 t l) ≠ ⊥

theorem packV_apply (t : Fin 1024) (h : Routed G t) (l : Fin 128) : packV G (ix2 t l) = if l.val < 32 then G (ix2 t l) else 0 := by
  have z : ∀ l : Fin 128, (if l.val < 32 then G (ix2 t l) else 0) - (if l.val < 32 then G (ix2 t l) else 0) = (0 : EReal) := by
    intro l
    by_cases hl : l.val < 32
    · rw [if_pos hl]
      exact EReal.sub_self (h l hl).1 (h l hl).2
    · rw [if_neg hl]; simp
  pointwise [packV, k0_pay8, lanes]
  rw [select_slt _ 32 (by omega) (by omega), select_slt _ 32 (by omega) (by omega), select_slt _ 32 (by omega) (by omega)]
  have z1 := z ⟨(l.val + 128 - 32) % 128, Nat.mod_lt _ (by decide)⟩
  have z2 := z ⟨(l.val + 128 - 64) % 128, Nat.mod_lt _ (by decide)⟩
  simp only at z1 z2
  rw [z1, z2]
  simp

theorem laneGate_apply (g : Fin 4) (t : Fin 1024) (h : Routed G t) (e : Fin 8) :
    laneGate (BitVec.ofNat 32 g.val) (fun l => packV G (ix2 t l)) e.val = G (ix2 t (⟨g.val * 8 + e.val, by omega⟩ : Fin 128)) := by
  have ew : ∀ l : Fin 128, ((BitVec.ofNat 32 l.val &&& 31#32) = Scalar.addi (Scalar.muli (BitVec.ofNat 32 g.val) 8#32) (BitVec.ofNat 32 e.val)) ↔ l.val % 32 = g.val * 8 + e.val := by
    intro l
    have h1 : (BitVec.ofNat 32 l.val &&& 31#32) = BitVec.ofNat 32 (l.val % 32) := by revert l; decide
    have h2 : Scalar.addi (Scalar.muli (BitVec.ofNat 32 g.val) 8#32) (BitVec.ofNat 32 e.val) = BitVec.ofNat 32 (g.val * 8 + e.val) := by revert g e; decide
    rw [h1, h2, word_inj _ _ (by omega) (by omega)]
  unfold laneGate
  simp only [ew, packV_apply G t h]
  rw [Finset.sum_eq_single (⟨g.val * 8 + e.val, by omega⟩ : Fin 128)]
  · have h32 : g.val * 8 + e.val < 32 := by omega
    rw [if_pos (show (g.val * 8 + e.val) % 32 = g.val * 8 + e.val from Nat.mod_eq_of_lt h32), if_pos h32]
  · intro l _ hl
    by_cases hm : l.val % 32 = g.val * 8 + e.val
    · rw [if_pos hm, if_neg]
      intro h32
      exact hl (Fin.ext (by show l.val = g.val * 8 + e.val; omega))
    · rw [if_neg hm]
  · intro h; exact absurd (Finset.mem_univ _) h

end Cert.KernelIdeal.Moe
-- ==== Proof.Group.lean ====
module

public import proofs.«01_k».proof.Proof.Rank
public import Idealize.ShloMosaic.Lib.IdealHost
public import Idealize.ShloMosaic.Lib.Pointwise.IndexBridge

@[expose] public section

set_option maxRecDepth 16384
set_option maxHeartbeats 4000000

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

theorem trips_eq (n : ℕ) (hn : n ≤ 1024) : (k0_t1_loop (BitVec.ofNat 32 n)).trips = n / 384 := by
  rw [t1_eq, fullW_ofNat ⟨n, by omega⟩]
  show Scf.trips 0#32 (BitVec.ofNat 32 (n / 384)) 1#32 = n / 384
  unfold Scf.trips
  rw [toInt_small _ (by omega), show (0#32 : BitVec 32).toInt = 0 from by decide, show (1#32 : BitVec 32).toInt = 1 from by decide]
  omega

theorem block_word : ∀ k : Fin 3, (Scalar.muli (BitVec.ofNat 32 k.val) 384#32).toInt = ((384 * k.val : ℕ) : ℤ) ∧
    (Scalar.muli (Scf.iv 0#32 1#32 k.val) 384#32).toInt = ((384 * k.val : ℕ) : ℤ) := by decide +kernel

/-- The ragged end's size picks one of three tails, or none. -/
theorem rag_ofNat : ∀ n : Fin 1025,
    (rag (Scalar.subi (BitVec.ofNat 32 n.val) (Scalar.muli (fullW (BitVec.ofNat 32 n.val)) 384#32)) 0#32 128#32 = 1#1 ↔ 0 < n.val % 384 ∧ n.val % 384 ≤ 128) ∧
    (rag (Scalar.subi (BitVec.ofNat 32 n.val) (Scalar.muli (fullW (BitVec.ofNat 32 n.val)) 384#32)) 128#32 256#32 = 1#1 ↔ 128 < n.val % 384 ∧ n.val % 384 ≤ 256) ∧
    (rag (Scalar.subi (BitVec.ofNat 32 n.val) (Scalar.muli (fullW (BitVec.ofNat 32 n.val)) 384#32)) 256#32 384#32 = 1#1 ↔ 256 < n.val % 384) := by
  decide +kernel

/-- Two exclusive additions of one number are one. -/
theorem add_cases (X V Z : EReal) (p q r : Prop) [Decidable p] [Decidable q] [Decidable r] (h : Z = (X + if p then V else 0) + if q then V else 0) (hr : r ↔ p ∨ q) (hx : ¬ (p ∧ q)) : Z = X + if r then V else 0 := by
  by_cases hp : p
  · have hq : ¬ q := fun hq => hx ⟨hp, hq⟩
    have hr' : r := hr.2 (Or.inl hp)
    rw [h, if_pos hp, if_neg hq, if_pos hr', add_zero]
  · by_cases hq : q
    · have hr' : r := hr.2 (Or.inr hq)
      rw [h, if_neg hp, if_pos hq, if_pos hr', add_zero]
    · have hr' : ¬ r := fun h => (hr.1 h).elim hp hq
      rw [h, if_neg hp, if_neg hq, if_neg hr', add_zero, add_zero]

section
variable (G : Vec Ideal S1024x128 .f32) {g : Fin 4} {col : FVec Ideal S1024x1 .f32} {X12 : Vec Ideal S4x8x1024 .f32} (P : Places g col X12 (place G g.val))
  (a : BitVec 32) (X4 : Vec Ideal S1024x1024 .bf16) (X6 X7 : Vec Ideal S8x1024x256 .bf16)
  (X8 : Vec Ideal S8x256x1024 .bf16) (X10 : Vec Ideal S1024x128 .bf16) (X9 : Vec Ideal S1024x1024 .f32) (t d : Fin 1024)
  (i : grid0.Coords) (hg : (i 1).val = g.val)
include P hg

theorem in_block (n b : ℕ) : (∃ s : Fin n, place G g.val t = ((s.val + b : ℕ) : ℝ)) ↔ member G g.val t ∧ b ≤ seat G g.val t ∧ seat G g.val t < b + n := by
  simp only [place_nat]
  constructor
  · rintro ⟨s, h, e⟩; have := s.isLt; exact ⟨h, by omega, by omega⟩
  · rintro ⟨h, h1, h2⟩; exact ⟨⟨seat G g.val t - b, by omega⟩, h, by show seat G g.val t = seat G g.val t - b + b; omega⟩

open Classical in
theorem loopY_apply (n : ℕ) (hn : n ≤ 1024) (k : ℕ) (hk : k ≤ n / 384) :
    loopY i a (BitVec.ofNat 32 n) col X4 X6 X7 X8 X10 X12 X9 k (ix2 t d) = X9 (ix2 t d) +
      if member G g.val t ∧ seat G g.val t < 384 * k then rowV a (fun k => X4 (ix2 t k)) (fun l => X10 (ix2 t l)) X6 X7 X8 d else 0 := by
  induction k with
  | zero => rw [if_neg (by omega)]; exact (add_zero _).symm
  | succ k ih =>
    have ih := ih (by omega)
    have hk' : k < (k0_t1_loop (BitVec.ofNat 32 n)).trips := by rw [trips_eq n hn]; omega
    rw [loopY, dif_pos hk']
    have hc := chunkT_apply P a (BitVec.ofNat 32 n) X4 X6 X7 X8 X10 (loopY i a (BitVec.ofNat 32 n) col X4 X6 X7 X8 X10 X12 X9 k) t d i hg (384 * k) ⟨k, hk'⟩
      (block_word ⟨k, by omega⟩).2
    rw [ih] at hc
    refine add_cases _ _ _ _ _ _ hc ?_ ?_
    · rw [in_block G P t i hg]
      constructor
      · rintro ⟨h, h1⟩
        by_cases h2 : seat G g.val t < 384 * k
        · exact Or.inl ⟨h, h2⟩
        · exact Or.inr ⟨h, by omega, by omega⟩
      · rintro (⟨h, h1⟩ | ⟨h, h1, h2⟩)
        · exact ⟨h, by omega⟩
        · exact ⟨h, by omega⟩
    · rw [in_block G P t i hg]
      rintro ⟨⟨_, h1⟩, _, h2, _⟩
      omega

open Classical in
/-- What one group adds to the output of a tile: its members' expert outputs. -/
theorem groupY_apply : groupY i a (BitVec.ofNat 32 (total G g.val)) col X4 X6 X7 X8 X10 X12 X9 (ix2 t d) = X9 (ix2 t d) +
      if member G g.val t then rowV a (fun k => X4 (ix2 t k)) (fun l => X10 (ix2 t l)) X6 X7 X8 d else 0 := by
  have hn := total_le G g.val
  have hs : member G g.val t → seat G g.val t < total G g.val := seat_lt G g.val t
  unfold groupY
  generalize total G g.val = n at hn hs ⊢
  obtain ⟨r1, r2, r3⟩ := rag_ofNat ⟨n, by omega⟩
  have h0 := loopY_apply G P a X4 X6 X7 X8 X10 X9 t d i hg n hn (n / 384) le_rfl
  have hb := (block_word ⟨n / 384, by omega⟩).1
  have hw : fullW (BitVec.ofNat 32 n) = BitVec.ofNat 32 (n / 384) := fullW_ofNat ⟨n, by omega⟩
  dsimp only at r1 r2 r3 hb ⊢
  rw [trips_eq n hn]
  generalize loopY i a (BitVec.ofNat 32 n) col X4 X6 X7 X8 X10 X12 X9 (n / 384) = Y0 at h0 ⊢
  have fin : ∀ (m : ℕ) (Z : EReal), n % 384 ≤ m → (Z = Y0 (ix2 t d) + if ∃ s : Fin m, place G g.val t = ((s.val + 384 * (n / 384) : ℕ) : ℝ) then rowV a (fun k => X4 (ix2 t k)) (fun l => X10 (ix2 t l)) X6 X7 X8 d else 0) →
      Z = X9 (ix2 t d) + if member G g.val t then rowV a (fun k => X4 (ix2 t k)) (fun l => X10 (ix2 t l)) X6 X7 X8 d else 0 := by
    intro m Z hm hZ
    rw [h0] at hZ
    refine add_cases _ _ _ _ _ _ hZ ?_ ?_
    · rw [in_block G P t i hg]
      constructor
      · intro h
        have := hs h
        by_cases h2 : seat G g.val t < 384 * (n / 384)
        · exact Or.inl ⟨h, h2⟩
        · exact Or.inr ⟨h, by omega, by omega⟩
      · rintro (⟨h, h1⟩ | ⟨h, h1, h2⟩)
        · exact h
        · exact h
    · rw [in_block G P t i hg]
      rintro ⟨⟨_, h1⟩, _, h2, _⟩
      omega
  by_cases c1 : 0 < n % 384 ∧ n % 384 ≤ 128
  · rw [if_pos (r1.2 c1), if_neg (fun h => by have := r3.1 h; omega), if_neg (fun h => by have := r2.1 h; omega)]
    exact fin 128 _ c1.2 (chunk128_apply P a (fullW (BitVec.ofNat 32 n)) X4 X6 X7 X8 X10 Y0 t d i hg (384 * (n / 384)) (by rw [hw]; exact hb))
  · rw [if_neg (fun h => c1 (r1.1 h))]
    by_cases c2 : 128 < n % 384 ∧ n % 384 ≤ 256
    · rw [if_pos (r2.2 c2), if_neg (fun h => by have := r3.1 h; omega)]
      exact fin 256 _ c2.2 (chunk256_apply P a (fullW (BitVec.ofNat 32 n)) X4 X6 X7 X8 X10 Y0 t d i hg (384 * (n / 384)) (by rw [hw]; exact hb))
    · rw [if_neg (fun h => c2 (r2.1 h))]
      by_cases c3 : 256 < n % 384
      · rw [if_pos (r3.2 c3)]
        exact fin 384 _ (by omega) (chunk384_apply P a (fullW (BitVec.ofNat 32 n)) X4 X6 X7 X8 X10 Y0 t d i hg (384 * (n / 384)) (by rw [hw]; exact hb))
      · rw [if_neg (fun h => c3 (r3.1 h))]
        refine fin 0 _ (by omega) ?_
        rw [if_neg (by rintro ⟨s, _⟩; exact s.elim0), add_zero]
end

end Cert.KernelIdeal.Moe
-- ==== Proof.Result.lean ====
module

public import proofs.«01_k».proof.Proof.Group
public import proofs.«01_k».proof.Proof.Tiles
public import Idealize.ShloMosaic.Lib.IdealHost
public import Idealize.ShloMosaic.Lib.Pointwise.IndexBridge

@[expose] public section

set_option maxRecDepth 16384
set_option maxHeartbeats 4000000

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable (m : (ℓ : Loc nD τ sig) → Buf (Elt Ideal) ℓ)

/-- The group of a point. -/
abbrev grpOf (t : Fin cfg0.N) : Fin 4 := ⟨t.val % 4, Nat.mod_lt _ (by omega)⟩

/-- The seating of a tile's tokens among those of the point's group, as the body holds it. -/
theorem tilePlaces (c : Dev nD) (t : Fin cfg0.N) : Places (grpOf t) (rankC (grid0.coords t) (rankV (gateB m c t))) (rankT (gateB m c t))
    (place (gateB m c t) (grpOf t).val) where
  col r := by rw [rankC_apply _ (grpOf t) (coord1 t), rankV_apply]
  row r t' := rankT_apply _ _ r t'
  inj t t' k := place_inj _ _ t t' k

open Classical in
/-- What one point's group adds to a token. -/
def grpAdd (c : Dev nD) (t : Fin cfg0.N) (r d : Fin 1024) : EReal :=
  if member (gateB m c t) (t.val % 4) r then
    rowV (BitVec.ofNat 32 (t.val % 4)) (fun k => h2B m c t (ix2 r k)) (fun l => packV (gateB m c t) (ix2 r l)) (w1B m c t) (w3B m c t) (w2B m c t) d
  else 0

open Classical in
theorem groupTile_apply (c : Dev nD) (t : Fin cfg0.N) (Y : Vec Ideal S1024x1024 .f32) (r d : Fin 1024) :
    groupY (grid0.coords t) (grpW t)
      (cntW (grid0.coords t) (cntV (gateB m c t))) (rankC (grid0.coords t) (rankV (gateB m c t)))
      (h2B m c t) (w1B m c t) (w3B m c t) (w2B m c t) (packV (gateB m c t)) (rankT (gateB m c t)) Y (ix2 r d) = Y (ix2 r d) + grpAdd m c t r d := by
  have hc : cntW (grid0.coords t) (cntV (gateB m c t)) = BitVec.ofNat 32 (total (gateB m c t) (grpOf t).val) :=
    cntW_apply _ (grpOf t) (coord1 t) _ _ (total_le _ _) (cntV_apply _ _)
  rw [hc, groupY_apply (gateB m c t) (tilePlaces m c t) _ _ _ _ _ _ _ r d _ (coord1 t)]
  unfold grpAdd grpW
  rw [coord1]

theorem last_iff (t : Fin cfg0.N) : grp (grpW t) 3#32 = 1#1 ↔ t.val % 4 = 3 := by
  unfold grpW
  rw [coord1]
  have h : ∀ k : Fin 4, grp (BitVec.ofNat 32 k.val) 3#32 = 1#1 ↔ k.val = 3 := by decide
  exact h ⟨t.val % 4, Nat.mod_lt _ (by omega)⟩

theorem stepY_mid (c : Dev nD) (t : Fin cfg0.N) (h : t.val % 4 ≠ 3) (Y : Vec Ideal S1024x1024 .f32) (r d : Fin 1024) :
    stepY m c t Y (ix2 r d) = Y (ix2 r d) + grpAdd m c t r d := by
  unfold stepY finY
  rw [if_neg (fun e => h ((last_iff t).mp e))]
  exact groupTile_apply m c t Y r d

theorem final_apply (X3 : Vec Ideal S1024x1024 .f32) (X2 : Vec Ideal S1x1x6144 .f32) (Y : Vec Ideal S1024x1024 .f32) (r d : Fin 1024) :
    k0_pay6 X3 (View.ld X2 (Rect.unit (s := S1x1x6144) ![0, 0, 5120] S1x1x1024.size (by decide))) Y (ix2 r d)
      = X3 (ix2 r d) + X2 (ix3 (0 : Fin 1) (0 : Fin 1) (⟨5120 + d.val, by omega⟩ : Fin 6144)) * Y (ix2 r d) := by
  unfold k0_pay6
  pointwise

theorem stepY_last (c : Dev nD) (t : Fin cfg0.N) (h : t.val % 4 = 3) (Y : Vec Ideal S1024x1024 .f32) (r d : Fin 1024) :
    stepY m c t Y (ix2 r d) = x1B m c t (ix2 r d)
      + modB m c t (ix3 (0 : Fin 1) (0 : Fin 1) (⟨5120 + d.val, by omega⟩ : Fin 6144)) * (Y (ix2 r d) + grpAdd m c t r d) := by
  unfold stepY finY
  rw [if_pos ((last_iff t).mpr h), final_apply, groupTile_apply]

theorem zero_apply (r d : Fin 1024) : (k0_pay7 : FVec Ideal S1024x1024 .f32) (ix2 r d) = 0 := by
  unfold k0_pay7
  pointwise

/-- The point of a tile working the given group. -/
abbrev ptOf (i : Fin 16) (g : Fin 4) : Fin cfg0.N := ⟨4 * i.val + g.val, lt_of_lt_of_eq (b := 64) (by have := i.isLt; have := g.isLt; omega) N_0.symm⟩

theorem outAt_eq (c : Dev nD) (n n' : ℕ) (h h') (e : n = n') : outAt m c n h = outAt m c n' h' := by subst e; rfl

/-- The result's block when it is written back. -/
theorem tile_apply (c : Dev nD) (i : Fin 16) (r d : Fin 1024) :
    outAt m c (ptOf i 3).val (ptOf i 3).isLt (ix2 r d) = x1B m c (ptOf i 3) (ix2 r d)
      + modB m c (ptOf i 3) (ix3 (0 : Fin 1) (0 : Fin 1) (⟨5120 + d.val, by omega⟩ : Fin 6144)) * ∑ g : Fin 4, grpAdd m c (ptOf i g) r d := by
  have m0 : (ptOf i 0).val % 4 = 0 := by show (4 * i.val + 0) % 4 = 0; omega
  have m1 : (ptOf i 1).val % 4 = 1 := by show (4 * i.val + 1) % 4 = 1; omega
  have m2 : (ptOf i 2).val % 4 = 2 := by show (4 * i.val + 2) % 4 = 2; omega
  have m3 : (ptOf i 3).val % 4 = 3 := by show (4 * i.val + 3) % 4 = 3; omega
  rw [outAt_later m c (ptOf i 3) (by omega), stepY_last m c _ m3,
    outAt_eq m c ((ptOf i 3).val - 1) (ptOf i 2).val _ (ptOf i 2).isLt rfl, outAt_later m c (ptOf i 2) (by omega), stepY_mid m c _ (by omega),
    outAt_eq m c ((ptOf i 2).val - 1) (ptOf i 1).val _ (ptOf i 1).isLt rfl, outAt_later m c (ptOf i 1) (by omega), stepY_mid m c _ (by omega),
    outAt_eq m c ((ptOf i 1).val - 1) (ptOf i 0).val _ (ptOf i 0).isLt rfl, outAt_first m c (ptOf i 0) m0, stepY_mid m c _ (by omega), zero_apply]
  rw [Fin.sum_univ_four, zero_add]

end Cert.KernelIdeal.Moe
-- ==== Proof.Blocks.lean ====
module

public import proofs.«01_k».proof.Proof.Tiles
public import Idealize.ShloMosaic.Lib.Pointwise
public import Idealize.ShloMosaic.Lib.Pointwise.IndexVar
public import Idealize.ShloMosaic.Lib.IdealHost
public import Idealize.ShloMosaic.Lib.Pipeline.ValueKit.Geometry
public import Idealize.ShloMosaic.Lib.Pointwise.IndexBridge

@[expose] public section

set_option maxRecDepth 16384
set_option maxHeartbeats 4000000

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable (m : (ℓ : Loc nD τ sig) → Buf (Elt Ideal) ℓ)

/-! ## The arrays the host prepares -/

theorem V_mod (c : Dev nD) : (V m c main_v0 : Vec Ideal S16x1x6144 .f32) = shapeCast _ (m ((c : Thread nD τ).loc main_arg3)) shapeCasts_S16x6144_S16x1x6144 := by
  show StableHlo.after hostOps0 _ _ = _
  unfold hostOps0
  after_results_simp <;> rfl

theorem V_w1 (c : Dev nD) : (V m c main_v1 : Vec Ideal S32x1024x256 .bf16) = m ((c : Thread nD τ).loc main_arg4) := by
  show StableHlo.after hostOps0 _ _ = _
  unfold hostOps0
  after_results_simp <;> rfl

theorem V_w3 (c : Dev nD) : (V m c main_v2 : Vec Ideal S32x1024x256 .bf16) = m ((c : Thread nD τ).loc main_arg5) := by
  show StableHlo.after hostOps0 _ _ = _
  unfold hostOps0
  after_results_simp <;> rfl

theorem V_w2 (c : Dev nD) : (V m c main_v3 : Vec Ideal S32x256x1024 .bf16) = m ((c : Thread nD τ).loc main_arg6) := by
  show StableHlo.after hostOps0 _ _ = _
  unfold hostOps0
  after_results_simp <;> rfl

theorem modCast_apply (X : Vec Ideal S16x6144 .f32) (b : Fin 16) (d : Fin 6144) :
    (shapeCast S16x1x6144 X shapeCasts_S16x6144_S16x1x6144) (ix3 b (0 : Fin 1) d) = X (ix2 b d) := by
  pointwise

/-! ## The blocks, element by element -/

theorem index_01 : ∀ t : Fin grid0.N, win0_0.index t = ![t.val / 8, 0, 0] ∧ win0_1.index t = ![t.val / 4, 0] ∧ win0_2.index t = ![t.val / 4, 0] := by decide +kernel
theorem index_w : ∀ t : Fin grid0.N, win0_4.index t = ![t.val % 4, 0, 0] ∧ win0_5.index t = ![t.val % 4, 0, 0] ∧ win0_6.index t = ![t.val % 4, 0, 0] ∧ win0_7.index t = ![t.val / 4, 0] := by decide +kernel

theorem modB_apply (c : Dev nD) (t : Fin cfg0.N) (d : Fin 6144) :
    modB m c t (ix3 (0 : Fin 1) (0 : Fin 1) d) = m ((c : Thread nD τ).loc main_arg3) (ix2 (⟨t.val / 8, by have := ptN t; omega⟩ : Fin 16) d) := by
  rw [← modCast_apply (m ((c : Thread nD τ).loc main_arg3)), ← V_mod m c]
  unfold modB iblk
  rw [View.read_apply]
  show V m c main_v0 _ = V m c main_v0 _
  congr 1
  funext a
  apply Fin.ext
  match a with
  | ⟨0, _⟩ => show win0_0.index t 0 * 1 + 1 * 0 = t.val / 8; rw [(index_01 t).1]; show t.val / 8 * 1 + 1 * 0 = _; omega
  | ⟨1, _⟩ => show win0_0.index t 1 * 1 + 1 * 0 = 0; rw [(index_01 t).1]; rfl
  | ⟨2, _⟩ => show win0_0.index t 2 * 6144 + 1 * d.val = d.val; rw [(index_01 t).1]; show 0 * 6144 + 1 * d.val = _; omega

/-- The row of the whole array a tile's row is. -/
abbrev rowOf (t : Fin cfg0.N) (r : Fin 1024) : Fin 16384 := ⟨t.val / 4 * 1024 + r.val, by have := ptN t; omega⟩

/-- The expert a group's block holds at a place. -/
abbrev expOf (t : Fin cfg0.N) (e : Fin 8) : Fin 32 := ⟨t.val % 4 * 8 + e.val, by omega⟩

theorem x1B_apply (c : Dev nD) (t : Fin cfg0.N) (r d : Fin 1024) :
    x1B m c t (ix2 r d) = m ((c : Thread nD τ).loc main_arg0) (ix2 (rowOf t r) d) := by
  rw [← V_main_arg0 m c]
  unfold x1B iblk
  rw [View.read_apply]
  show V m c main_arg0 _ = V m c main_arg0 _
  congr 1
  funext a
  apply Fin.ext
  match a with
  | ⟨0, _⟩ => show win0_1.index t 0 * 1024 + 1 * r.val = t.val / 4 * 1024 + r.val; rw [(index_01 t).2.1]; show t.val / 4 * 1024 + 1 * r.val = _; omega
  | ⟨1, _⟩ => show win0_1.index t 1 * 1024 + 1 * d.val = d.val; rw [(index_01 t).2.1]; show 0 * 1024 + 1 * d.val = _; omega

theorem h2B_apply (c : Dev nD) (t : Fin cfg0.N) (r d : Fin 1024) :
    h2B m c t (ix2 r d) = m ((c : Thread nD τ).loc main_arg1) (ix2 (rowOf t r) d) := by
  rw [← V_main_arg1 m c]
  unfold h2B iblk
  rw [View.read_apply]
  show V m c main_arg1 _ = V m c main_arg1 _
  congr 1
  funext a
  apply Fin.ext
  match a with
  | ⟨0, _⟩ => show win0_2.index t 0 * 1024 + 1 * r.val = t.val / 4 * 1024 + r.val; rw [(index_01 t).2.2]; show t.val / 4 * 1024 + 1 * r.val = _; omega
  | ⟨1, _⟩ => show win0_2.index t 1 * 1024 + 1 * d.val = d.val; rw [(index_01 t).2.2]; show 0 * 1024 + 1 * d.val = _; omega

theorem w1B_apply (c : Dev nD) (t : Fin cfg0.N) (e : Fin 8) (k : Fin 1024) (q : Fin 256) :
    w1B m c t (ix3 e k q) = m ((c : Thread nD τ).loc main_arg4) (ix3 (expOf t e) k q) := by
  rw [← V_w1 m c]
  unfold w1B iblk
  rw [View.read_apply]
  show V m c main_v1 _ = V m c main_v1 _
  congr 1
  funext a
  apply Fin.ext
  match a with
  | ⟨0, _⟩ => show win0_4.index t 0 * 8 + 1 * e.val = t.val % 4 * 8 + e.val; rw [(index_w t).1]; show t.val % 4 * 8 + 1 * e.val = _; omega
  | ⟨1, _⟩ => show win0_4.index t 1 * 1024 + 1 * k.val = k.val; rw [(index_w t).1]; show 0 * 1024 + 1 * k.val = _; omega
  | ⟨2, _⟩ => show win0_4.index t 2 * 256 + 1 * q.val = q.val; rw [(index_w t).1]; show 0 * 256 + 1 * q.val = _; omega

theorem w3B_apply (c : Dev nD) (t : Fin cfg0.N) (e : Fin 8) (k : Fin 1024) (q : Fin 256) :
    w3B m c t (ix3 e k q) = m ((c : Thread nD τ).loc main_arg5) (ix3 (expOf t e) k q) := by
  rw [← V_w3 m c]
  unfold w3B iblk
  rw [View.read_apply]
  show V m c main_v2 _ = V m c main_v2 _
  congr 1
  funext a
  apply Fin.ext
  match a with
  | ⟨0, _⟩ => show win0_5.index t 0 * 8 + 1 * e.val = t.val % 4 * 8 + e.val; rw [(index_w t).2.1]; show t.val % 4 * 8 + 1 * e.val = _; omega
  | ⟨1, _⟩ => show win0_5.index t 1 * 1024 + 1 * k.val = k.val; rw [(index_w t).2.1]; show 0 * 1024 + 1 * k.val = _; omega
  | ⟨2, _⟩ => show win0_5.index t 2 * 256 + 1 * q.val = q.val; rw [(index_w t).2.1]; show 0 * 256 + 1 * q.val = _; omega

theorem w2B_apply (c : Dev nD) (t : Fin cfg0.N) (e : Fin 8) (q : Fin 256) (d : Fin 1024) :
    w2B m c t (ix3 e q d) = m ((c : Thread nD τ).loc main_arg6) (ix3 (expOf t e) q d) := by
  rw [← V_w2 m c]
  unfold w2B iblk
  rw [View.read_apply]
  show V m c main_v3 _ = V m c main_v3 _
  congr 1
  funext a
  apply Fin.ext
  match a with
  | ⟨0, _⟩ => show win0_6.index t 0 * 8 + 1 * e.val = t.val % 4 * 8 + e.val; rw [(index_w t).2.2.1]; show t.val % 4 * 8 + 1 * e.val = _; omega
  | ⟨1, _⟩ => show win0_6.index t 1 * 256 + 1 * q.val = q.val; rw [(index_w t).2.2.1]; show 0 * 256 + 1 * q.val = _; omega
  | ⟨2, _⟩ => show win0_6.index t 2 * 1024 + 1 * d.val = d.val; rw [(index_w t).2.2.1]; show 0 * 1024 + 1 * d.val = _; omega

theorem gateB_at (c : Dev nD) (t : Fin cfg0.N) (r : Fin 1024) (l : Fin 128) :
    gateB m c t (ix2 r l) = m ((c : Thread nD τ).loc main_arg2) (ix2 (rowOf t r) l) := by
  exact (gateB_apply m c t (ix2 r l)).trans (congrArg _ (by funext a; match a with | ⟨0, _⟩ => rfl | ⟨1, _⟩ => rfl))

end Cert.KernelIdeal.Moe
-- ==== Proof.RefVal.lean ====
module

public import proofs.«01_k».proof.Proof.Gen.ReferenceIdeal.Run
public import Idealize.ShloMosaic.Lib.Pointwise
public import Idealize.ShloMosaic.Lib.Pointwise.IndexVar
public import Idealize.ShloMosaic.Lib.IdealHost
public import Idealize.ShloMosaic.Lib.Pointwise.IndexBridge

@[expose] public section

set_option maxRecDepth 16384
set_option maxHeartbeats 4000000

noncomputable section

namespace Cert.ReferenceIdeal.Moe

open Idealize.ShloMosaic Idealize.ShloMosaic.TcCoe Idealize.ShloMosaic.Tactic
open Idealize.SL.Sem
open Cert.ReferenceIdeal Cert.ReferenceIdeal.Gen

/-- One of the two products of every token with every expert. -/
def upR (h2 : FVec Ideal S16384x1024 .bf16) (w : FVec Ideal S32x1024x256 .f32) : FVec Ideal S16384x32x256 .f32 :=
  Host.dotGeneral dot_S16384x1024_S32x1024x256_S16384x32x256_1_1_0_02_n_n none (extf .f32 h2 bitsLt_bf16_f32) w

/-- The hidden layer of every expert, times its gate. -/
def hidR (h2 : FVec Ideal S16384x1024 .bf16) (G : FVec Ideal S16384x128 .f32) (w1 w3 : FVec Ideal S32x1024x256 .f32) : FVec Ideal S16384x32x256 .f32 :=
  mulf (mulf (mulf (upR h2 w1) (Host.divf (broadcastInDim S16384x32x256 ![] bcast_S_S16384x32x256 (constant S_ .f32 0x3F800000#32)) (addf (broadcastInDim S16384x32x256 ![] bcast_S_S16384x32x256 (constant S_ .f32 0x3F800000#32)) (Host.exp (Host.negf (upR h2 w1)))))) (upR h2 w3)) (broadcastInDim S16384x32x256 ![0, 1, 2] bcast_S16384x32x1_S16384x32x256_0_1_2 (broadcastInDim S16384x32x1 ![0, 1] bcast_S16384x32_S16384x32x1_0_1 (extractStridedSlice S16384x32 ![0, 0] G slices_S16384x128_S16384x32_0_0)))

/-- The reference's result. -/
def outR (x1 : FVec Ideal S16384x1024 .f32) (h2 : FVec Ideal S16384x1024 .bf16) (G : FVec Ideal S16384x128 .f32) (md : FVec Ideal S16x6144 .f32)
    (w1 w3 : FVec Ideal S32x1024x256 .f32) (w2 : FVec Ideal S32x256x1024 .f32) : FVec Ideal S16384x1024 .f32 :=
  shapeCast _ (addf (shapeCast _ x1 shapeCasts_S16384x1024_S8x2048x1024) (mulf (broadcastInDim S8x2048x1024 ![0, 1, 2] bcast_S8x1x1024_S8x2048x1024_0_1_2 (broadcastInDim S8x1x1024 ![0, 2] bcast_S8x1024_S8x1x1024_0_2 (extractStridedSlice S8x1024 ![0, 0] (extractStridedSlice S16x1024 ![0, 5120] md slices_S16x6144_S16x1024_0_5120) slices_S16x1024_S8x1024_0_0))) (shapeCast _ (Host.dotGeneral dot_S16384x32x256_S32x256x1024_S16384x1024_12_01_0_2_n_n none (hidR h2 G w1 w3) w2) shapeCasts_S16384x1024_S8x2048x1024))) shapeCasts_S8x2048x1024_S16384x1024

theorem upR_apply (h2 : FVec Ideal S16384x1024 .bf16) (w : FVec Ideal S32x1024x256 .f32) (t : Fin 16384) (e : Fin 32) (c : Fin 256) :
    upR h2 w (ix3 t e c) = ∑ k : Fin 1024, h2 (ix2 t k) * w (ix3 e k c) := by
  unfold upR
  pointwise

theorem hidR_apply (h2 : FVec Ideal S16384x1024 .bf16) (G : FVec Ideal S16384x128 .f32) (w1 w3 : FVec Ideal S32x1024x256 .f32)
    (t : Fin 16384) (e : Fin 32) (c : Fin 256) :
    hidR h2 G w1 w3 (ix3 t e c) = upR h2 w1 (ix3 t e c) * Ideal.div 1 (1 + Ideal.exp (0 - upR h2 w1 (ix3 t e c))) * upR h2 w3 (ix3 t e c)
      * G (ix2 t (⟨e.val, by omega⟩ : Fin 128)) := by
  unfold hidR
  generalize upR h2 w1 = a
  generalize upR h2 w3 = b
  have z : ∀ x : EReal, 0 - x = -x := fun x => by rw [sub_eq_add_neg, zero_add]
  pointwise [z]

theorem outR_apply (x1 : FVec Ideal S16384x1024 .f32) (h2 : FVec Ideal S16384x1024 .bf16) (G : FVec Ideal S16384x128 .f32) (md : FVec Ideal S16x6144 .f32)
    (w1 w3 : FVec Ideal S32x1024x256 .f32) (w2 : FVec Ideal S32x256x1024 .f32) (t : Fin 16384) (d : Fin 1024) :
    outR x1 h2 G md w1 w3 w2 (ix2 t d) = x1 (ix2 t d) + md (ix2 (⟨t.val / 2048, by omega⟩ : Fin 16) (⟨5120 + d.val, by omega⟩ : Fin 6144))
      * ∑ e : Fin 32, ∑ c : Fin 256, hidR h2 G w1 w3 (ix3 t e c) * w2 (ix3 e c d) := by
  unfold outR
  generalize hidR h2 G w1 w3 = a
  pointwise

end Cert.ReferenceIdeal.Moe
-- ==== Proof.Pre.lean ====
module

public import proofs.«01_k».proof.Pre_routed_gates
public import Idealize.ShloMosaic.Lib.Pointwise
public import Idealize.ShloMosaic.Lib.Pointwise.IndexVar
public import Idealize.ShloMosaic.Lib.IdealHost
public import Idealize.ShloMosaic.Lib.Pointwise.IndexBridge

@[expose] public section

set_option maxRecDepth 16384
set_option maxHeartbeats 4000000

noncomputable section

namespace Cert.Pre_routed_gates

open Idealize.ShloMosaic

/-- The shape relations of the precondition's operations. -/
theorem facts : Facts where
  slices_S16384x128_S16384x32_0_0 := by decide
  bcast_S_S16384x32 := by decide
  slices_S16384x128_S16384x1_0_32 := by decide
  bcast_S16384x1_S16384x32_0_1 := by decide

variable [Facts]

/-- A gate that is its token's own group's and finite, or is zero. -/
def Gate (G : FVec Ideal S16384x128 .f32) (t : Fin 16384) (e : Fin 32) : Prop :=
  (G (ix2 t (32 : Fin 128)) = (((e.val / 8 : ℕ) : ℝ) : EReal) ∧ G (ix2 t (⟨e.val, by omega⟩ : Fin 128)) ≠ ⊤ ∧ G (ix2 t (⟨e.val, by omega⟩ : Fin 128)) ≠ ⊥)
    ∨ G (ix2 t (⟨e.val, by omega⟩ : Fin 128)) = 0

theorem group_word (e : Fin 32) : (FloatOps.sitofp (F := Ideal) .f32 (IntOp.shrsi ArithUnit.host (BitVec.ofNat 32 e.val) 3#32) : EReal) = (((e.val / 8 : ℕ) : ℝ) : EReal) := by
  have h : ∀ e : Fin 32, IntOp.shrsi ArithUnit.host (BitVec.ofNat 32 e.val) 3#32 = BitVec.ofNat 32 (e.val / 8) := by decide
  have h' : ∀ e : Fin 32, (BitVec.ofNat 32 (e.val / 8)).toInt = ((e.val / 8 : ℕ) : ℤ) := by decide
  rw [h]
  show (((BitVec.ofNat 32 (e.val / 8)).toInt : ℝ) : EReal) = _
  rw [h']
  push_cast
  rfl

theorem abs_lt_top (x : EReal) (h : max x (-x) < ⊤) : x ≠ ⊤ ∧ x ≠ ⊥ := by
  rw [max_lt_iff] at h
  refine ⟨h.1.ne, fun e => ?_⟩
  rw [e, EReal.neg_bot] at h
  exact lt_irrefl _ h.2

/-- What the precondition says of one gate. -/
theorem fn_apply (x1 : FVec Ideal S16384x1024 .f32) (h2 : FVec Ideal S16384x1024 .bf16) (G : FVec Ideal S16384x128 .f32) (md : FVec Ideal S16x6144 .f32)
    (w1 w3 : FVec Ideal S32x1024x256 .f32) (w2 : FVec Ideal S32x256x1024 .f32) (h : fn x1 h2 G md w1 w3 w2 = fun _ => 1#1) (t : Fin 16384) (e : Fin 32) :
    Gate G t e := by
  have h := congrFun h (ix2 t e)
  unfold fn at h
  pointwise at h
  rw [group_word] at h
  have bits : ∀ p q r : Bool, IntOp.ori (IntOp.andi (BitVec.ofBool p) (BitVec.ofBool q)) (BitVec.ofBool r) = 1#1 → (p = true ∧ q = true) ∨ r = true := by decide
  have top : Ideal.ofBits .f32 2139095040#32 = ⊤ := by
    unfold Ideal.ofBits
    decide
  rcases bits _ _ _ h with ⟨a, b⟩ | a
  · refine .inl ⟨of_decide_eq_true a, ?_⟩
    have b := of_decide_eq_true b
    rw [top] at b
    exact abs_lt_top _ b
  · exact .inr (of_decide_eq_true a)

end Cert.Pre_routed_gates
-- ==== Proof.Final.lean ====
module

public import proofs.«01_k».proof.Proof.Result
public import proofs.«01_k».proof.Proof.Blocks
public import proofs.«01_k».proof.Proof.RefVal
public import proofs.«01_k».proof.Proof.Pre
public import proofs.«01_k».proof.Proof.Frames
public import Idealize.ShloMosaic.Lib.Pipeline.ValueKit
public import Idealize.ShloMosaic.Lib.IdealHost
public import Idealize.ShloMosaic.Lib.Pointwise.IndexBridge

@[expose] public section

set_option maxRecDepth 16384
set_option maxHeartbeats 4000000

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Cert.ReferenceIdeal.Moe (outR outR_apply hidR hidR_apply upR_apply)
open Cert.Pre_routed_gates (Gate)

/-! ## One expert's share of a token -/

theorem exp_pos_one (x : EReal) : (1 : EReal) + Ideal.exp x ≠ 0 := by
  have h : 0 ≤ Ideal.exp x := by
    induction x with
    | bot => exact le_refl _
    | top => exact le_top
    | coe x => exact EReal.coe_nonneg.mpr (Real.exp_pos x).le
  exact (lt_of_lt_of_le zero_lt_one (le_add_of_nonneg_right h)).ne'

theorem div_split (x y : EReal) (h : y ≠ 0) : x * Ideal.div 1 y = Ideal.div x y := by
  unfold Ideal.div
  rw [if_neg h, if_neg h, one_mul]

section
variable (h2 : FVec Ideal S16384x1024 .bf16) (G : FVec Ideal S16384x128 .f32) (w1 w3 : FVec Ideal S32x1024x256 .f32) (w2 : FVec Ideal S32x256x1024 .f32)

/-- What an expert gives a token, times its gate. -/
def share (t : Fin 16384) (d : Fin 1024) (e : Fin 32) : EReal :=
  expertV (fun k => h2 (ix2 t k)) (G (ix2 t (⟨e.val, by omega⟩ : Fin 128))) (fun k c => w1 (ix3 e k c)) (fun k c => w3 (ix3 e k c)) (fun c d => w2 (ix3 e c d)) d

theorem share_ref (t : Fin 16384) (d : Fin 1024) (e : Fin 32) : ∑ c : Fin 256, hidR h2 G w1 w3 (ix3 t e c) * w2 (ix3 e c d) = share h2 G w1 w3 w2 t d e := by
  unfold share expertV act
  refine Finset.sum_congr rfl fun c _ => ?_
  rw [hidR_apply, upR_apply, upR_apply, div_split _ _ (exp_pos_one _)]

theorem share_zero (t : Fin 16384) (d : Fin 1024) (e : Fin 32) (h : G (ix2 t (⟨e.val, by omega⟩ : Fin 128)) = 0) : share h2 G w1 w3 w2 t d e = 0 := by
  unfold share expertV
  rw [h]
  exact Finset.sum_eq_zero fun c _ => by rw [mul_zero, zero_mul]

end

/-- A sum over the experts, group by group. -/
theorem sum_groups (f : Fin 32 → EReal) : ∑ e, f e = ∑ g : Fin 4, ∑ e : Fin 8, f ⟨g.val * 8 + e.val, by omega⟩ := by
  rw [← (finProdFinEquiv (m := 4) (n := 8)).sum_comp f, Fintype.sum_prod_type]
  refine Finset.sum_congr rfl fun g _ => Finset.sum_congr rfl fun e _ => congrArg f (Fin.ext ?_)
  show e.val + 8 * g.val = g.val * 8 + e.val
  omega

/-! ## The kernel's result -/

section
variable (m : (ℓ : Loc nD τ sig) → Buf (Elt Ideal) ℓ)

/-- The reference's result of the kernel's arguments. -/
abbrev wantR (c : Dev nD) : FVec Ideal S16384x1024 .f32 :=
  outR (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

variable (c : Dev nD) (hG : ∀ t e, Gate (m ((c : Thread nD τ).loc main_arg2)) t e)
include hG

theorem routed_of (t : Fin cfg0.N) (r : Fin 1024) : Routed (gateB m c t) r := by
  intro l hl
  rw [gateB_at]
  rcases hG (rowOf t r) ⟨l.val, hl⟩ with ⟨_, h⟩ | h
  · exact h
  · rw [show (m ((c : Thread nD τ).loc main_arg2)) (ix2 (rowOf t r) l) = (0 : EReal) from h]
    exact ⟨EReal.zero_ne_top, EReal.zero_ne_bot⟩

theorem grpAdd_eq (t : Fin cfg0.N) (r d : Fin 1024) : grpAdd m c t r d = ∑ e : Fin 8,
    share (m ((c : Thread nD τ).loc main_arg1)) (m ((c : Thread nD τ).loc main_arg2)) (m ((c : Thread nD τ).loc main_arg4)) (m ((c : Thread nD τ).loc main_arg5))
      (m ((c : Thread nD τ).loc main_arg6)) (rowOf t r) d (expOf t e) := by
  unfold grpAdd
  split
  · unfold rowV share
    refine Finset.sum_congr rfl fun e _ => ?_
    rw [laneGate_apply (gateB m c t) (grpOf t) r (routed_of m c hG t r) e, gateB_at]
    simp only [h2B_apply, w1B_apply, w3B_apply, w2B_apply]
  · rename_i hm
    refine (Finset.sum_eq_zero fun e _ => share_zero _ _ _ _ _ _ _ _ ?_).symm
    rcases hG (rowOf t r) (expOf t e) with ⟨h, _⟩ | h
    · exfalso
      apply hm
      unfold member
      rw [gateB_at, h]
      have : (t.val % 4 * 8 + e.val) / 8 = t.val % 4 := by omega
      rw [this]
    · exact h

theorem tile_eq (i : Fin 16) (r d : Fin 1024) : outAt m c (ptOf i 3).val (ptOf i 3).isLt (ix2 r d) = wantR m c (ix2 (⟨i.val * 1024 + r.val, by omega⟩ : Fin 16384) d) := by
  rw [tile_apply, x1B_apply, modB_apply]
  refine Eq.trans ?_ (outR_apply _ _ _ _ _ _ _ _ _).symm
  have hr : ∀ g : Fin 4, rowOf (ptOf i g) r = (⟨i.val * 1024 + r.val, by omega⟩ : Fin 16384) := fun g =>
    Fin.ext (by show (4 * i.val + g.val) / 4 * 1024 + r.val = i.val * 1024 + r.val; omega)
  have hb : (⟨(ptOf i 3).val / 8, by have := ptN (ptOf i 3); omega⟩ : Fin 16) = ⟨(i.val * 1024 + r.val) / 2048, by omega⟩ :=
    Fin.ext (by show (4 * i.val + 3) / 8 = (i.val * 1024 + r.val) / 2048; omega)
  rw [hr, hb]
  congr 2
  rw [Finset.sum_congr rfl fun e _ => share_ref _ _ _ _ _ _ _ e, sum_groups]
  refine Finset.sum_congr rfl fun g _ => ?_
  rw [grpAdd_eq m c hG, hr]
  refine Finset.sum_congr rfl fun e _ => congrArg _ (Fin.ext ?_)
  show (4 * i.val + g.val) % 4 * 8 + e.val = g.val * 8 + e.val
  omega

theorem array_eq : (dats m 0 c).arrAt 7 cfg0.N = wantR m c := by
  refine (dats m 0 c).arrAt_eq_of_covers 7 _ (by decide +kernel) fun t hf y => ?_
  blk_simp
  have ht : t.val % 4 = 3 := flush0_7 t |>.mp hf
  have hN := ptN t
  have h0 : (y 0).val < 1024 := (y 0).isLt
  have h1 : (y 1).val < 1024 := (y 1).isLt
  have ey : (y : S1024x1024.Idx) = ix2 (⟨(y 0).val, h0⟩ : Fin 1024) (⟨(y 1).val, h1⟩ : Fin 1024) := by
    funext a; match a with | ⟨0, _⟩ => rfl | ⟨1, _⟩ => rfl
  have et : t = ptOf ⟨t.val / 4, by omega⟩ 3 := Fin.ext (by show t.val = 4 * (t.val / 4) + 3; omega)
  have h := tile_eq m c hG ⟨t.val / 4, by omega⟩ ⟨(y 0).val, h0⟩ ⟨(y 1).val, h1⟩
  rw [← et, ← ey] at h
  refine h.trans (congrArg _ ?_)
  funext a
  apply Fin.ext
  match a with
  | ⟨0, _⟩ => show t.val / 4 * 1024 + (y 0).val = win0_7.index t 0 * 1024 + 1 * (y 0).val; rw [(index_w t).2.2.2]; show _ = t.val / 4 * 1024 + 1 * (y 0).val; omega
  | ⟨1, _⟩ => show (y 1).val = win0_7.index t 1 * 1024 + 1 * (y 1).val; rw [(index_w t).2.2.2]; show _ = 0 * 1024 + 1 * (y 1).val; omega

end

end Cert.KernelIdeal.Moe
-- ==== Proof.Value.lean ====
module

public import proofs.«01_k».proof.Proof.Final
public import Idealize.ShloMosaic.Lib.IdealHost
public import Idealize.ShloMosaic.Lib.Pointwise.IndexBridge

@[expose] public section

set_option maxRecDepth 16384
set_option maxHeartbeats 4000000

noncomputable section

namespace Cert.Proof

open Idealize.ShloMosaic Idealize.ShloMosaic.TcCoe Idealize.SL.Sem
open Idealize.ShloMosaic.Pipeline (FramePost)

/-- The frames of the two ideal programs, asked again under the precondition, which they do not use. -/
theorem frame_ideal_routed [Cert.Pre_routed_gates.Facts] : Cert.quiescent_KernelIdeal_pre_routed_gates := fun m ρ _ => frame_any (F := Ideal) m ρ
theorem frame_reference_routed [Cert.Pre_routed_gates.Facts] : Cert.quiescent_ReferenceIdeal_pre_routed_gates := fun m ρ _ => frame_reference m ρ trivial

theorem algebraic [Cert.Pre_routed_gates.Facts] : Cert.algebraic_KernelIdeal_ReferenceIdeal_pre_routed_gates := by
  intro m g m' g' hpre hm
  refine ⟨fun c => KernelIdeal.Moe.wantR m c, ?_, ?_⟩
  · refine (θ_run KernelIdeal.defs _ _).mono (fun r h c => ?_) (KernelIdeal.Moe.run_main m g)
    exact ⟨((h.1 c).1 7).trans (KernelIdeal.Moe.array_eq m c fun t e => Cert.Pre_routed_gates.fn_apply _ _ _ _ _ _ _ (hpre c) t e),
      ((h.1 c).1 1).trans (((KernelIdeal.Moe.dats m 0 c).arrAt_in 1 rfl _).trans (KernelIdeal.Gen.V_main_arg0 m c)),
      ((h.1 c).1 2).trans (((KernelIdeal.Moe.dats m 0 c).arrAt_in 2 rfl _).trans (KernelIdeal.Gen.V_main_arg1 m c)),
      ((h.1 c).1 3).trans (((KernelIdeal.Moe.dats m 0 c).arrAt_in 3 rfl _).trans (KernelIdeal.Gen.V_main_arg2 m c)),
      ((h.1 c).2 KernelIdeal.main_arg3 (Pipeline.mem_restRefs_of KernelIdeal.main_arg3 (by decide) (by decide))).trans (KernelIdeal.Gen.V_main_arg3 m c),
      ((h.1 c).2 KernelIdeal.main_arg4 (Pipeline.mem_restRefs_of KernelIdeal.main_arg4 (by decide) (by decide))).trans (KernelIdeal.Gen.V_main_arg4 m c),
      ((h.1 c).2 KernelIdeal.main_arg5 (Pipeline.mem_restRefs_of KernelIdeal.main_arg5 (by decide) (by decide))).trans (KernelIdeal.Gen.V_main_arg5 m c),
      ((h.1 c).2 KernelIdeal.main_arg6 (Pipeline.mem_restRefs_of KernelIdeal.main_arg6 (by decide) (by decide))).trans (KernelIdeal.Gen.V_main_arg6 m c)⟩
  · refine (θ_run ReferenceIdeal.defs _ _).mono (fun r h c => ⟨(h c).1.trans ?_, (h c).2⟩) (Cert.ReferenceIdeal.Value.run (F := Ideal) m' g')
    obtain ⟨h0, h1, h2, h3, h4, h5, h6⟩ := hm c
    rw [h0, h1, h2, h3, h4, h5, h6]
    rfl

end Cert.Proof

end
-- ==== Proof.ProjHead.lean ====
module

public import proofs.«01_k».proof.Proof.Gen.Kernel2Ideal.Frame
public import Idealize.ShloMosaic.Lib.Pointwise
public import Idealize.ShloMosaic.Lib.Pointwise.IndexVar
public import Idealize.ShloMosaic.Lib.Pointwise.IndexBridge
public import Idealize.ShloMosaic.Lib.IdealHost
public import Idealize.ShloMosaic.Lib.Pipeline.ValueKit

@[expose] public section

set_option maxRecDepth 65536
set_option maxHeartbeats 4000000

noncomputable section

namespace Cert.Kernel2Ideal.Proj

open Idealize.ShloMosaic Idealize.ShloMosaic.TcCoe Idealize.ShloMosaic.Tactic
open Cert.Kernel2Ideal Cert.Kernel2Ideal.Gen

section
variable {F : FTy → Type} [FloatOps F]

/-! ## One head of a feature-major section, normalised and rotated -/

theorem head_slices (h : Fin 16) : Shape.Slices S1024x512 ![64 * h.val, 0] S64x512 := by
  revert h; decide

/-- Head `h` of a section, its 64 features over its own root mean square, times the gain. -/
def headNorm (A : FVec F S1024x512 .f32) (g : FVec F S64x512 .f32) (h : Fin 16) : FVec F S64x512 .f32 :=
  mulf (mulf (extractStridedSlice S64x512 ![64 * h.val, 0] A (head_slices h))
    (broadcastTo S64x512 (rsqrt (addf (divf (shapeCast S1x512 (multiReduction .add [0] S512
      (mulf (extractStridedSlice S64x512 ![64 * h.val, 0] A (head_slices h)) (extractStridedSlice S64x512 ![64 * h.val, 0] A (head_slices h)))
      0x00000000#32 reduces_S64x512_S512 (.inl rfl) rfl) shapeCasts_S512_S1x512)
      (broadcast S1x512 (Scalar.ofBits .f32 0x42800000#32))) (broadcast S1x512 (Scalar.ofBits .f32 0x358637BD#32)))) broadcasts_S1x512_S64x512)) g

/-- The first eight rotated features of a head. -/
def headLo (A : FVec F S1024x512 .f32) (g : FVec F S64x512 .f32) (c s : FVec F S8x512 .f32) (h : Fin 16) : FVec F S8x512 .f32 :=
  subf (mulf (extractStridedSlice S8x512 ![0, 0] (headNorm A g h) slices_S64x512_o0_0_S8x512) c)
    (mulf (extractStridedSlice S8x512 ![8, 0] (headNorm A g h) slices_S64x512_o8_0_S8x512) s)

/-- The second eight rotated features of a head. -/
def headHi (A : FVec F S1024x512 .f32) (g : FVec F S64x512 .f32) (c s : FVec F S8x512 .f32) (h : Fin 16) : FVec F S8x512 .f32 :=
  addf (mulf (extractStridedSlice S8x512 ![8, 0] (headNorm A g h) slices_S64x512_o8_0_S8x512) c)
    (mulf (extractStridedSlice S8x512 ![0, 0] (headNorm A g h) slices_S64x512_o0_0_S8x512) s)

/-- The other features of a head. -/
def headRest (A : FVec F S1024x512 .f32) (g : FVec F S64x512 .f32) (h : Fin 16) : FVec F S48x512 .f32 :=
  extractStridedSlice S48x512 ![16, 0] (headNorm A g h) slices_S64x512_o16_0_S48x512

/-- The pieces of a rotated section, head after head. -/
def piece (A : FVec F S1024x512 .f32) (g : FVec F S64x512 .f32) (c s : FVec F S8x512 .f32) (k : Fin 48) : (s : Shape) × (s.Idx → F .f32) :=
  if k.val % 3 = 0 then ⟨S8x512, headLo A g c s ⟨k.val / 3, by omega⟩⟩
  else if k.val % 3 = 1 then ⟨S8x512, headHi A g c s ⟨k.val / 3, by omega⟩⟩
  else ⟨S48x512, headRest A g ⟨k.val / 3, by omega⟩⟩

theorem pieces_fit (A : FVec F S1024x512 .f32) (g : FVec F S64x512 .f32) (c s : FVec F S8x512 .f32) :
    Shape.Concatenates ((List.ofFn (piece A g c s)).map (·.1)) S1024x512 0 :=
  concatenates_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S1024x512_d0

/-- A whole section, normalised and rotated head by head. -/
def roped (A : FVec F S1024x512 .f32) (g : FVec F S64x512 .f32) (c s : FVec F S8x512 .f32) : FVec F S1024x512 .f32 :=
  concatenate S1024x512 0 (List.ofFn (piece A g c s)) (pieces_fit A g c s)

end
end Cert.Kernel2Ideal.Proj
-- ==== Proof.ProjBody.lean ====
module

public import proofs.«01_k».proof.Proof.ProjHead

@[expose] public section

set_option maxRecDepth 65536
set_option maxHeartbeats 4000000

noncomputable section

namespace Cert.Kernel2Ideal.Proj

open Idealize.ShloMosaic Idealize.ShloMosaic.TcCoe Idealize.ShloMosaic.Tactic
open Cert.Kernel2Ideal Cert.Kernel2Ideal.Gen

section
variable {F : FTy → Type} [FloatOps F]
variable (m : (ℓ : Loc nD τ sig) → Buf (Elt F) ℓ)

/-! ## What a tile's run leaves in each output's buffer -/

/-- A tile's modulated rows. -/
def hB (c : Dev nD) (t : Fin cfg0.N) : FVec F S512x1024 .bf16 :=
  k0_pay2 (View.ld (iblk m c 0 t) (Rect.unit ![0, 0, 0] ![1, 1, 1024] inb_S1x1x6144_S1x1x1024_0_0_0))
    (View.ld (iblk m c 0 t) (Rect.unit ![0, 0, 1024] ![1, 1, 1024] inb_S1x1x6144_S1x1x1024_0_0_1024)) (iblk m c 1 t) (iblk m c 2 t)

theorem sec_inb (s : Fin 6) : ∀ a, (![0, 1024 * s.val] : Fin 2 → ℕ) a + (![1024, 1024] : Fin 2 → ℕ) a ≤ S1024x6144.size a := by
  revert s; decide

/-- A tile's projection onto one section of the weight's columns. -/
def secB (c : Dev nD) (t : Fin cfg0.N) (s : Fin 6) : FVec F S512x1024 .f32 :=
  k0_pay3 (hB m c t) (View.ld (X0_3 m c t) (Rect.unit ![0, 1024 * s.val] ![1024, 1024] (sec_inb s)))

/-- A section stored and read back, its features first. -/
def turnB (A : FVec F S512x1024 .f32) : FVec F S1024x512 .f32 := k0_pay5 (k0_pay4 A)

theorem after_va (c : Dev nD) (t : Fin cfg0.N) : (dats m 0 c).after 10 t = secB m c t 2 := by
  rw [after0_10]
  frame_out
  rfl

theorem after_vaT (c : Dev nD) (t : Fin cfg0.N) : (dats m 0 c).after 11 t
    = shapeCast S1x1024x512 (truncf .bf16 (turnB (secB m c t 2)) bitsLt_bf16_f32) shapeCasts_S1024x512_S1x1024x512 := by
  rw [after0_11]
  frame_out
  simp only [View.readCov_cons_toLoadRect]
  rfl

theorem after_qsT (c : Dev nD) (t : Fin cfg0.N) : (dats m 0 c).after 12 t
    = shapeCast S1x1024x512 (truncf .bf16 (mulf (turnB (secB m c t 3)) (broadcast S1024x512 (Scalar.ofBits .f32 0x3E000000#32))) bitsLt_bf16_f32) shapeCasts_S1024x512_S1x1024x512 := by
  rw [after0_12]
  frame_out
  simp only [View.readCov_cons_toLoadRect]
  rfl

theorem after_ksT (c : Dev nD) (t : Fin cfg0.N) : (dats m 0 c).after 13 t
    = shapeCast S1x1024x512 (turnB (secB m c t 4)) shapeCasts_S1024x512_S1x1024x512 := by
  rw [after0_13]
  frame_out
  simp only [View.readCov_cons_toLoadRect]
  rfl

theorem after_vsT (c : Dev nD) (t : Fin cfg0.N) : (dats m 0 c).after 14 t
    = shapeCast S1x1024x512 (turnB (secB m c t 5)) shapeCasts_S1024x512_S1x1024x512 := by
  rw [after0_14]
  frame_out
  simp only [View.readCov_cons_toLoadRect]
  rfl

theorem after_kaT (c : Dev nD) (t : Fin cfg0.N) : (dats m 0 c).after 9 t
    = shapeCast S1x1024x512 (roped (turnB (secB m c t 1)) (k0_pay6 (iblk m c 5 t)) (k0_pay7 (iblk m c 6 t)) (k0_pay8 (iblk m c 7 t))) shapeCasts_S1024x512_S1x1024x512 := by
  rw [after0_9]
  frame_out
  simp only [View.readCov_cons_toLoadRect]
  rfl

theorem after_qaT (c : Dev nD) (t : Fin cfg0.N) : (dats m 0 c).after 8 t
    = shapeCast S1x1024x512 (truncf .bf16 (mulf (roped (turnB (secB m c t 0)) (k0_pay6 (iblk m c 4 t)) (k0_pay7 (iblk m c 6 t)) (k0_pay8 (iblk m c 7 t)))
        (broadcast S1024x512 (Scalar.ofBits .f32 0x3E38AA3B#32))) bitsLt_bf16_f32) shapeCasts_S1024x512_S1x1024x512 := by
  rw [after0_8]
  frame_out
  simp only [View.readCov_cons_toLoadRect]
  rfl

end
end Cert.Kernel2Ideal.Proj
-- ==== Proof.ProjSpec.lean ====
module

public import Idealize.ShloMosaic.Lib.Pointwise
public import Idealize.ShloMosaic.Lib.Pointwise.IndexVar
public import Idealize.ShloMosaic.Lib.Pointwise.IndexBridge
public import Idealize.ShloMosaic.Lib.IdealHost

@[expose] public section

noncomputable section

/-! # The projection, number by number -/

namespace Cert.ProjSpec

open Idealize.ShloMosaic

/-- An entry of a vector over the vector's root mean square; `L` is the number of entries. -/
def rmsV {n : ℕ} (L : EReal) (x : Fin n → EReal) (d : Fin n) : EReal :=
  x d * Ideal.rsqrt (Ideal.div (∑ k, x k * x k) L + Ideal.ofBits FTy.f32 897988541#32)

/-- A token's row normalised, times the gain, scaled and shifted. -/
def modV (x g sc sh : Fin 1024 → EReal) (k : Fin 1024) : EReal :=
  rmsV (Ideal.ofBits FTy.f32 1149239296#32) x k * g k * (Ideal.ofBits FTy.f32 1065353216#32 + sc k) + sh k

/-- A head's 64 features normalised, times the gain. -/
def normV (x g : Fin 64 → EReal) (j : Fin 64) : EReal := rmsV (Ideal.ofBits FTy.f32 1115684864#32) x j * g j

/-- A head's features with the first sixteen rotated in pairs. -/
def ropeV (y : Fin 64 → EReal) (c s : Fin 8 → EReal) (j : Fin 64) : EReal :=
  if h : j.val < 8 then y j * c ⟨j.val, h⟩ - y ⟨8 + j.val, by omega⟩ * s ⟨j.val, h⟩
  else if h' : j.val < 16 then y j * c ⟨j.val - 8, by omega⟩ + y ⟨j.val - 8, by omega⟩ * s ⟨j.val - 8, by omega⟩
  else y j

/-- The angle a position turns a pair of features by. -/
def angV (n : Fin 2048) (k : Fin 8) : EReal :=
  Ideal.exp (Ideal.div (Ideal.ofBits FTy.f32 3251762483#32 * FloatOps.sitofp (F := Ideal) FTy.f32 (BitVec.ofNat 32 k.val)) (Ideal.ofBits FTy.f32 1098907648#32))
    * FloatOps.sitofp (F := Ideal) FTy.f32 (BitVec.ofNat 32 n.val)

section
variable (x : FVec Ideal ⟨3, ![8, 2048, 1024]⟩ .f32) (mod : FVec Ideal ⟨2, ![16, 6144]⟩ .f32) (g : FVec Ideal ⟨1, ![1024]⟩ .f32)
  (w : FVec Ideal ⟨2, ![1024, 8192]⟩ .f32)

/-- A token of the call's own batch, modulated. -/
def hidV (b : Fin 8) (n : Fin 2048) : Fin 1024 → EReal :=
  modV (fun d => x (ix3 b n d)) (fun d => g (ix1 d)) (fun d => mod (ix2 (⟨b.val, by omega⟩ : Fin 16) (⟨1024 + d.val, by omega⟩ : Fin 6144)))
    (fun d => mod (ix2 (⟨b.val, by omega⟩ : Fin 16) (⟨d.val, by omega⟩ : Fin 6144)))

/-- A token's projection onto a column of section `s`. -/
def secV (s : Fin 6) (b : Fin 8) (n : Fin 2048) (f : Fin 1024) : EReal :=
  ∑ k, hidV x mod g b n k * w (ix2 k (⟨1024 * s.val + f.val, by omega⟩ : Fin 8192))

/-- A token's head of section `s`, normalised with gain `gq` and rotated by the token's position. -/
def rotV (gq : FVec Ideal ⟨1, ![64]⟩ .f32) (s : Fin 6) (b : Fin 8) (n : Fin 2048) (h : Fin 16) : Fin 64 → EReal :=
  ropeV (normV (fun j => secV x mod g w s b n (⟨64 * h.val + j.val, by omega⟩ : Fin 1024)) (fun j => gq (ix1 j)))
    (fun k => Ideal.cos (angV n k)) (fun k => Ideal.sin (angV n k))

end

end Cert.ProjSpec
-- ==== Proof.ProjVal.lean ====
module

public import proofs.«01_k».proof.Proof.ProjBody
public import proofs.«01_k».proof.Proof.ProjSpec

@[expose] public section

set_option maxRecDepth 65536
set_option maxHeartbeats 4000000

noncomputable section

namespace Cert.Kernel2Ideal.Proj

open Idealize.ShloMosaic Idealize.ShloMosaic.TcCoe Idealize.ShloMosaic.Tactic
open Cert.ProjSpec
open Cert.Kernel2Ideal Cert.Kernel2Ideal.Gen

theorem one_bits : Ideal.ofBits FTy.f32 1065353216#32 = 1 := by
  pointwise

theorem headNorm_apply (A : FVec Ideal S1024x512 .f32) (g : FVec Ideal S64x512 .f32) (h : Fin 16) (j : Fin 64) (n : Fin 512) :
    headNorm A g h (ix2 j n) = normV (fun x => A (ix2 (⟨64 * h.val + x.val, by omega⟩ : Fin 1024) n)) (fun x => g (ix2 x n)) j := by
  pointwise [headNorm]
  rfl

theorem turn_apply (A : FVec Ideal S512x1024 .f32) (f : Fin 1024) (n : Fin 512) : turnB A (ix2 f n) = A (ix2 n f) := by
  pointwise [turnB, k0_pay5, k0_pay4]

theorem gain_apply (g : FVec Ideal S64x128 .f32) (G : Fin 64 → EReal) (hG : ∀ j k, g (ix2 j k) = G j) (j : Fin 64) (n : Fin 512) : (k0_pay6 (F := Ideal) g (ix2 j n) : EReal) = G j := by
  pointwise [k0_pay6]
  simp only [hG, dite_eq_ite, ite_self]

theorem tab_apply (g : FVec Ideal S8x512 .f32) : k0_pay7 g = g ∧ k0_pay8 g = g := by
  constructor <;> funext i <;> pointwise [k0_pay7, k0_pay8]

theorem mod_apply (v0 v2 : Vec Ideal S1x1x1024 .f32) (v4 : Vec Ideal S512x1024 .f32) (v6 : Vec Ideal S1x1024 .f32) (n : Fin 512) (k : Fin 1024) :
    k0_pay2 v0 v2 v4 v6 (ix2 n k) = modV (fun d => v4 (ix2 n d)) (fun d => v6 (ix2 (0 : Fin 1) d)) (fun d => v2 (ix3 (0 : Fin 1) (0 : Fin 1) d))
      (fun d => v0 (ix3 (0 : Fin 1) (0 : Fin 1) d)) k := by
  pointwise [k0_pay2]
  rw [modV, one_bits]
  rfl

theorem sec_apply (a : FVec Ideal S512x1024 .bf16) (b : Vec Ideal S1024x1024 .bf16) (n : Fin 512) (f : Fin 1024) :
    k0_pay3 a b (ix2 n f) = ∑ k, a (ix2 n k) * b (ix2 k f) := by
  pointwise [k0_pay3]

/-! ## A rotated section, head by head -/

section
variable (A : FVec Ideal S1024x512 .f32) (g : FVec Ideal S64x512 .f32) (c s : FVec Ideal S8x512 .f32)

/-- The rows before a piece. -/
theorem before : ∀ k : Fin 48, ((((List.ofFn (piece A g c s)).take k.val).map (·.1)).map fun s => if h : s.rank = S1024x512.rank then s.size ((0 : Fin S1024x512.rank).cast h.symm) else 0).sum
    = 64 * (k.val / 3) + 8 * (k.val % 3) := by
  intro k
  have : ((List.ofFn (piece A g c s)).take k.val).map (·.1) = ((List.ofFn fun k : Fin 48 => if k.val % 3 = 2 then S48x512 else S8x512).take k.val) := by
    rw [List.map_take, List.map_ofFn]
    rfl
  rw [this]
  clear this
  revert k
  decide

/-- A piece of the section, read where the section is. -/
theorem roped_piece (k : Fin 48) (e : ℕ) (x : FVec Ideal ⟨2, ![e, 512]⟩ .f32) (hk : piece A g c s k = ⟨⟨2, ![e, 512]⟩, x⟩) (j : Fin e) (n : Fin 512) (r : Fin 1024)
    (hr : 64 * (k.val / 3) + 8 * (k.val % 3) + j.val = r.val) : roped A g c s (ix2 r n) = x (ix2 j n) := by
  unfold roped
  refine concatenate_apply_piece _ _ _ (ix2 r n) k.val (by rw [List.length_ofFn]; exact k.isLt) _ x ?_ rfl _ (before A g c s k) (ix2 j n) ?_ hr
  · rw [List.getElem_ofFn]; exact hk
  · intro b hb
    match b with
    | ⟨0, _⟩ => exact absurd rfl hb
    | ⟨1, _⟩ => rfl

theorem roped_lo (h : Fin 16) (j : Fin 8) (n : Fin 512) (r : Fin 1024) (hr : r.val = 64 * h.val + j.val) : roped A g c s (ix2 r n) = headLo A g c s h (ix2 j n) :=
  roped_piece A g c s ⟨3 * h.val, by omega⟩ 8 _ (by
    unfold piece
    rw [if_pos (by show 3 * h.val % 3 = 0; omega), show (⟨3 * h.val / 3, by omega⟩ : Fin 16) = h from Fin.ext (by show 3 * h.val / 3 = h.val; omega)]) j n r (by
    show 64 * (3 * h.val / 3) + 8 * (3 * h.val % 3) + j.val = r.val; omega)

theorem roped_hi (h : Fin 16) (j : Fin 8) (n : Fin 512) (r : Fin 1024) (hr : r.val = 64 * h.val + 8 + j.val) : roped A g c s (ix2 r n) = headHi A g c s h (ix2 j n) :=
  roped_piece A g c s ⟨3 * h.val + 1, by omega⟩ 8 _ (by
    unfold piece
    rw [if_neg (by show ¬(3 * h.val + 1) % 3 = 0; omega), if_pos (by show (3 * h.val + 1) % 3 = 1; omega),
      show (⟨(3 * h.val + 1) / 3, by omega⟩ : Fin 16) = h from Fin.ext (by show (3 * h.val + 1) / 3 = h.val; omega)]) j n r (by
    show 64 * ((3 * h.val + 1) / 3) + 8 * ((3 * h.val + 1) % 3) + j.val = r.val; omega)

theorem roped_rest (h : Fin 16) (j : Fin 48) (n : Fin 512) (r : Fin 1024) (hr : r.val = 64 * h.val + 16 + j.val) : roped A g c s (ix2 r n) = headRest A g h (ix2 j n) :=
  roped_piece A g c s ⟨3 * h.val + 2, by omega⟩ 48 _ (by
    unfold piece
    rw [if_neg (by show ¬(3 * h.val + 2) % 3 = 0; omega), if_neg (by show ¬(3 * h.val + 2) % 3 = 1; omega),
      show (⟨(3 * h.val + 2) / 3, by omega⟩ : Fin 16) = h from Fin.ext (by show (3 * h.val + 2) / 3 = h.val; omega)]) j n r (by
    show 64 * ((3 * h.val + 2) / 3) + 8 * ((3 * h.val + 2) % 3) + j.val = r.val; omega)

/-- The rotated section, entry by entry. -/
theorem roped_apply (h : Fin 16) (j : Fin 64) (n : Fin 512) (r : Fin 1024) (hr : r.val = 64 * h.val + j.val) :
    roped A g c s (ix2 r n) = ropeV (normV (fun x => A (ix2 (⟨64 * h.val + x.val, by omega⟩ : Fin 1024) n)) (fun x => g (ix2 x n)))
      (fun k => c (ix2 k n)) (fun k => s (ix2 k n)) j := by
  unfold ropeV
  split
  next h1 =>
    rw [roped_lo A g c s h ⟨j.val, h1⟩ n r hr]
    pointwise [headLo, headNorm_apply]
  next h1 =>
    split
    next h2 =>
      rw [roped_hi A g c s h ⟨j.val - 8, by omega⟩ n r (by show r.val = 64 * h.val + 8 + (j.val - 8); omega)]
      pointwise [headHi, headNorm_apply]
      simp only [show 8 + (j.val - 8) = j.val from by omega, Fin.eta]
    next h2 =>
      rw [roped_rest A g c s h ⟨j.val - 16, by omega⟩ n r (by show r.val = 64 * h.val + 16 + (j.val - 16); omega)]
      pointwise [headRest, headNorm_apply]
      simp only [show 16 + (j.val - 16) = j.val from by omega, Fin.eta]

end
end Cert.Kernel2Ideal.Proj
-- ==== Proof.ProjBlocks.lean ====
module

public import proofs.«01_k».proof.Proof.ProjVal

@[expose] public section

set_option maxRecDepth 65536
set_option maxHeartbeats 4000000

noncomputable section

namespace Cert.Kernel2Ideal.Proj

open Idealize.ShloMosaic Idealize.ShloMosaic.TcCoe Idealize.ShloMosaic.Tactic
open Cert.ProjSpec
open Cert.Kernel2Ideal Cert.Kernel2Ideal.Gen

variable (m : (ℓ : Loc nD τ sig) → Buf (Elt Ideal) ℓ)

/-! ## The arrays the host prepares -/

theorem V_mod (c : Dev nD) : (V m c main_v0 : Vec Ideal S16x1x6144 .f32) = shapeCast _ (m ((c : Thread nD τ).loc main_arg1)) shapeCasts_S16x6144_S16x1x6144 := by
  show StableHlo.after hostOps0 _ _ = _
  unfold hostOps0
  after_results_simp <;> rfl

theorem V_x (c : Dev nD) : (V m c main_v1 : Vec Ideal S16384x1024 .f32) = shapeCast _ (m ((c : Thread nD τ).loc main_arg0)) shapeCasts_S8x2048x1024_S16384x1024 := by
  show StableHlo.after hostOps0 _ _ = _
  unfold hostOps0
  after_results_simp <;> rfl

theorem V_w (c : Dev nD) : (V m c main_v3 : Vec Ideal S1024x8192 .bf16) = m ((c : Thread nD τ).loc main_arg3) := by
  show StableHlo.after hostOps0 _ _ = _
  unfold hostOps0
  after_results_simp <;> rfl

theorem V_g (c : Dev nD) : (V m c main_v18 : Vec Ideal S1x1024 .f32) = shapeCast _ (m ((c : Thread nD τ).loc main_arg2)) shapeCasts_S1024_S1x1024 := by
  show StableHlo.after hostOps0 _ _ = _
  unfold hostOps0
  after_results_simp <;> rfl

theorem V_gq (c : Dev nD) : (V m c main_v20 : Vec Ideal S64x128 .f32)
    = broadcastInDim S64x128 ![0, 1] bcast_S64x1_S64x128_0_1 (shapeCast S64x1 (m ((c : Thread nD τ).loc main_arg4)) shapeCasts_S64_S64x1) := by
  show StableHlo.after hostOps0 _ _ = _
  unfold hostOps0
  after_results_simp <;> rfl

theorem V_gk (c : Dev nD) : (V m c main_v22 : Vec Ideal S64x128 .f32)
    = broadcastInDim S64x128 ![0, 1] bcast_S64x1_S64x128_0_1 (shapeCast S64x1 (m ((c : Thread nD τ).loc main_arg5)) shapeCasts_S64_S64x1) := by
  show StableHlo.after hostOps0 _ _ = _
  unfold hostOps0
  after_results_simp <;> rfl

/-- The rotation's angles, a row for each frequency. -/
def angles : FVec Ideal S8x2048 .f32 :=
  mulf (broadcastInDim S8x2048 ![0, 1] bcast_S8x1_S8x2048_0_1 (broadcastInDim S8x1 ![0] bcast_S8_S8x1_0 (Host.exp (Host.divf
    (mulf (broadcastInDim S8 ![] bcast_S_S8 (constant S_ .f32 0xC1D1F533#32)) (sitofp .f32 (iotaInDim S8 32 0)))
    (broadcastInDim S8 ![] bcast_S_S8 (constant S_ .f32 0x41800000#32))))))
    (broadcastInDim S8x2048 ![0, 1] bcast_S1x2048_S8x2048_0_1 (broadcastInDim S1x2048 ![1] bcast_S2048_S1x2048_1 (sitofp .f32 (iotaInDim S2048 32 0))))

theorem V_cos (c : Dev nD) : (V m c main_v16 : Vec Ideal S8x2048 .f32) = Host.cos angles := by
  show StableHlo.after hostOps0 _ _ = _
  unfold hostOps0
  after_results_simp <;> rfl

theorem V_sin (c : Dev nD) : (V m c main_v17 : Vec Ideal S8x2048 .f32) = Host.sin angles := by
  show StableHlo.after hostOps0 _ _ = _
  unfold hostOps0
  after_results_simp <;> rfl

theorem cos_apply (k : Fin 8) (n : Fin 2048) : Host.cos angles (ix2 k n) = Ideal.cos (angV n k) := by
  pointwise [angles]
  rfl

theorem sin_apply (k : Fin 8) (n : Fin 2048) : Host.sin angles (ix2 k n) = Ideal.sin (angV n k) := by
  pointwise [angles]
  rfl

theorem modCast_apply (X : Vec Ideal S16x6144 .f32) (b : Fin 16) (d : Fin 6144) :
    (shapeCast S16x1x6144 X shapeCasts_S16x6144_S16x1x6144) (ix3 b (0 : Fin 1) d) = X (ix2 b d) := by
  pointwise

theorem xCast_apply (X : Vec Ideal S8x2048x1024 .f32) (b : Fin 8) (n : Fin 2048) (d : Fin 1024) (r : Fin 16384) (hr : r.val = 2048 * b.val + n.val) :
    (shapeCast S16384x1024 X shapeCasts_S8x2048x1024_S16384x1024) (ix2 r d) = X (ix3 b n d) := by
  obtain rfl : r = ⟨2048 * b.val + n.val, by clear hr; omega⟩ := Fin.ext hr
  pointwise

theorem gCast_apply (X : Vec Ideal S1024 .f32) (d : Fin 1024) :
    (shapeCast S1x1024 X shapeCasts_S1024_S1x1024) (ix2 (0 : Fin 1) d) = X (ix1 d) := by
  pointwise

theorem gainCast_apply (X : Vec Ideal S64 .f32) (j : Fin 64) (k : Fin 128) :
    (broadcastInDim S64x128 ![0, 1] bcast_S64x1_S64x128_0_1 (shapeCast S64x1 X shapeCasts_S64_S64x1)) (ix2 j k) = X (ix1 j) := by
  pointwise

/-! ## The blocks, element by element -/

theorem ptN (t : Fin cfg0.N) : t.val < 32 := t.isLt

/-- The batch row a tile belongs to. -/
abbrev rowB (t : Fin cfg0.N) : Fin 8 := ⟨t.val / 4, by have := ptN t; omega⟩

/-- The token a tile's row is. -/
abbrev tokN (t : Fin cfg0.N) (n : Fin 512) : Fin 2048 := ⟨t.val % 4 * 512 + n.val, by omega⟩

theorem index_in : ∀ t : Fin grid0.N, win0_0.index t = ![t.val / 4, 0, 0] ∧ win0_1.index t = ![t.val, 0] ∧ win0_2.index t = ![0, 0] ∧ win0_3.index t = ![0, 0]
    ∧ win0_4.index t = ![0, 0] ∧ win0_5.index t = ![0, 0] ∧ win0_6.index t = ![0, t.val % 4] ∧ win0_7.index t = ![0, t.val % 4] := by decide +kernel

theorem modB_apply (c : Dev nD) (t : Fin cfg0.N) (d : Fin 6144) :
    iblk m c 0 t (ix3 (0 : Fin 1) (0 : Fin 1) d) = m ((c : Thread nD τ).loc main_arg1) (ix2 (⟨t.val / 4, by have := ptN t; omega⟩ : Fin 16) d) := by
  rw [← modCast_apply (m ((c : Thread nD τ).loc main_arg1)), ← V_mod m c]
  unfold iblk
  rw [View.read_apply]
  show V m c main_v0 _ = V m c main_v0 _
  congr 1
  funext a
  apply Fin.ext
  match a with
  | ⟨0, _⟩ => show win0_0.index t 0 * 1 + 1 * 0 = t.val / 4; rw [(index_in t).1]; show t.val / 4 * 1 + 1 * 0 = _; omega
  | ⟨1, _⟩ => show win0_0.index t 1 * 1 + 1 * 0 = 0; rw [(index_in t).1]; rfl
  | ⟨2, _⟩ => show win0_0.index t 2 * 6144 + 1 * d.val = d.val; rw [(index_in t).1]; show 0 * 6144 + 1 * d.val = _; omega

theorem shift_apply (c : Dev nD) (t : Fin cfg0.N) (d : Fin 1024) :
    View.ld (iblk m c 0 t) (Rect.unit ![0, 0, 0] ![1, 1, 1024] inb_S1x1x6144_S1x1x1024_0_0_0) (ix3 (0 : Fin 1) (0 : Fin 1) d)
      = m ((c : Thread nD τ).loc main_arg1) (ix2 (⟨t.val / 4, by have := ptN t; omega⟩ : Fin 16) (⟨d.val, by omega⟩ : Fin 6144)) := by
  rw [← modB_apply m c t]
  show iblk m c 0 t _ = iblk m c 0 t _
  congr 1
  funext a
  apply Fin.ext
  match a with
  | ⟨0, _⟩ => rfl
  | ⟨1, _⟩ => rfl
  | ⟨2, _⟩ => show 0 + 1 * d.val = d.val; omega

theorem scale_apply (c : Dev nD) (t : Fin cfg0.N) (d : Fin 1024) :
    View.ld (iblk m c 0 t) (Rect.unit ![0, 0, 1024] ![1, 1, 1024] inb_S1x1x6144_S1x1x1024_0_0_1024) (ix3 (0 : Fin 1) (0 : Fin 1) d)
      = m ((c : Thread nD τ).loc main_arg1) (ix2 (⟨t.val / 4, by have := ptN t; omega⟩ : Fin 16) (⟨1024 + d.val, by omega⟩ : Fin 6144)) := by
  rw [← modB_apply m c t]
  show iblk m c 0 t _ = iblk m c 0 t _
  congr 1
  funext a
  apply Fin.ext
  match a with
  | ⟨0, _⟩ => rfl
  | ⟨1, _⟩ => rfl
  | ⟨2, _⟩ => show 1024 + 1 * d.val = 1024 + d.val; omega

theorem xB_apply (c : Dev nD) (t : Fin cfg0.N) (n : Fin 512) (d : Fin 1024) :
    iblk m c 1 t (ix2 n d) = m ((c : Thread nD τ).loc main_arg0) (ix3 (rowB t) (tokN t n) d) := by
  have hN := ptN t
  rw [← xCast_apply (m ((c : Thread nD τ).loc main_arg0)) (rowB t) (tokN t n) d ⟨t.val * 512 + n.val, by omega⟩
    (by show t.val * 512 + n.val = 2048 * (t.val / 4) + (t.val % 4 * 512 + n.val); omega), ← V_x m c]
  unfold iblk
  rw [View.read_apply]
  show V m c main_v1 _ = V m c main_v1 _
  congr 1
  funext a
  apply Fin.ext
  match a with
  | ⟨0, _⟩ => show win0_1.index t 0 * 512 + 1 * n.val = t.val * 512 + n.val; rw [(index_in t).2.1]; show t.val * 512 + 1 * n.val = _; omega
  | ⟨1, _⟩ => show win0_1.index t 1 * 1024 + 1 * d.val = d.val; rw [(index_in t).2.1]; show 0 * 1024 + 1 * d.val = _; omega

theorem gB_apply (c : Dev nD) (t : Fin cfg0.N) (d : Fin 1024) : iblk m c 2 t (ix2 (0 : Fin 1) d) = m ((c : Thread nD τ).loc main_arg2) (ix1 d) := by
  rw [← gCast_apply (m ((c : Thread nD τ).loc main_arg2)), ← V_g m c]
  unfold iblk
  rw [View.read_apply]
  show V m c main_v18 _ = V m c main_v18 _
  congr 1
  funext a
  apply Fin.ext
  match a with
  | ⟨0, _⟩ => show win0_2.index t 0 * 1 + 1 * 0 = 0; rw [(index_in t).2.2.1]; rfl
  | ⟨1, _⟩ => show win0_2.index t 1 * 1024 + 1 * d.val = d.val; rw [(index_in t).2.2.1]; show 0 * 1024 + 1 * d.val = _; omega

theorem gqB_apply (c : Dev nD) (t : Fin cfg0.N) (j : Fin 64) (k : Fin 128) : iblk m c 4 t (ix2 j k) = m ((c : Thread nD τ).loc main_arg4) (ix1 j) := by
  rw [← gainCast_apply (m ((c : Thread nD τ).loc main_arg4)) j k, ← V_gq m c]
  unfold iblk
  rw [View.read_apply]
  show V m c main_v20 _ = V m c main_v20 _
  congr 1
  funext a
  apply Fin.ext
  match a with
  | ⟨0, _⟩ => show win0_4.index t 0 * 64 + 1 * j.val = j.val; rw [(index_in t).2.2.2.2.1]; show 0 * 64 + 1 * j.val = _; omega
  | ⟨1, _⟩ => show win0_4.index t 1 * 128 + 1 * k.val = k.val; rw [(index_in t).2.2.2.2.1]; show 0 * 128 + 1 * k.val = _; omega

theorem gkB_apply (c : Dev nD) (t : Fin cfg0.N) (j : Fin 64) (k : Fin 128) : iblk m c 5 t (ix2 j k) = m ((c : Thread nD τ).loc main_arg5) (ix1 j) := by
  rw [← gainCast_apply (m ((c : Thread nD τ).loc main_arg5)) j k, ← V_gk m c]
  unfold iblk
  rw [View.read_apply]
  show V m c main_v22 _ = V m c main_v22 _
  congr 1
  funext a
  apply Fin.ext
  match a with
  | ⟨0, _⟩ => show win0_5.index t 0 * 64 + 1 * j.val = j.val; rw [(index_in t).2.2.2.2.2.1]; show 0 * 64 + 1 * j.val = _; omega
  | ⟨1, _⟩ => show win0_5.index t 1 * 128 + 1 * k.val = k.val; rw [(index_in t).2.2.2.2.2.1]; show 0 * 128 + 1 * k.val = _; omega

theorem cosB_apply (c : Dev nD) (t : Fin cfg0.N) (k : Fin 8) (n : Fin 512) : iblk m c 6 t (ix2 k n) = Ideal.cos (angV (tokN t n) k) := by
  rw [← cos_apply, ← V_cos m c]
  unfold iblk
  rw [View.read_apply]
  show V m c main_v16 _ = V m c main_v16 _
  congr 1
  funext a
  apply Fin.ext
  match a with
  | ⟨0, _⟩ => show win0_6.index t 0 * 8 + 1 * k.val = k.val; rw [(index_in t).2.2.2.2.2.2.1]; show 0 * 8 + 1 * k.val = _; omega
  | ⟨1, _⟩ => show win0_6.index t 1 * 512 + 1 * n.val = t.val % 4 * 512 + n.val; rw [(index_in t).2.2.2.2.2.2.1]; show t.val % 4 * 512 + 1 * n.val = _; omega

theorem sinB_apply (c : Dev nD) (t : Fin cfg0.N) (k : Fin 8) (n : Fin 512) : iblk m c 7 t (ix2 k n) = Ideal.sin (angV (tokN t n) k) := by
  rw [← sin_apply, ← V_sin m c]
  unfold iblk
  rw [View.read_apply]
  show V m c main_v17 _ = V m c main_v17 _
  congr 1
  funext a
  apply Fin.ext
  match a with
  | ⟨0, _⟩ => show win0_7.index t 0 * 8 + 1 * k.val = k.val; rw [(index_in t).2.2.2.2.2.2.2]; show 0 * 8 + 1 * k.val = _; omega
  | ⟨1, _⟩ => show win0_7.index t 1 * 512 + 1 * n.val = t.val % 4 * 512 + n.val; rw [(index_in t).2.2.2.2.2.2.2]; show t.val % 4 * 512 + 1 * n.val = _; omega

theorem uncut : ∀ t : Fin grid0.N, ∀ a, win0_3.clip (grid0.coords t) a = none := by decide +kernel

theorem wB_apply (c : Dev nD) (t : Fin cfg0.N) (k : Fin 1024) (f : Fin 6144) :
    X0_3 m c t (ix2 k f) = m ((c : Thread nD τ).loc main_arg3) (ix2 k (⟨f.val, by omega⟩ : Fin 8192)) := by
  rw [← V_w m c]
  have hm : (cfg0.win 3).moved (grid0.coords t) (ix2 k f) = true :=
    ((cfg0.win 3).moved_iff _ _).mpr fun a => by
      have h := ((ix2 k f : S1024x6144.Idx) a).isLt
      unfold Pipeline.Window.xsize
      rw [uncut t a]
      exact h
  unfold X0_3 iblk Pipeline.Window.fill
  rw [dif_pos hm, View.read_apply]
  show V m c main_v3 _ = V m c main_v3 _
  congr 1
  funext a
  apply Fin.ext
  match a with
  | ⟨0, _⟩ => show win0_3.index t 0 * 1024 + 1 * k.val = k.val; rw [(index_in t).2.2.2.1]; show 0 * 1024 + 1 * k.val = _; omega
  | ⟨1, _⟩ => show win0_3.index t 1 * 6144 + 1 * f.val = f.val; rw [(index_in t).2.2.2.1]; show 0 * 6144 + 1 * f.val = _; omega

theorem wSec_apply (c : Dev nD) (t : Fin cfg0.N) (s : Fin 6) (k f : Fin 1024) :
    View.ld (X0_3 m c t) (Rect.unit ![0, 1024 * s.val] ![1024, 1024] (sec_inb s)) (ix2 k f)
      = m ((c : Thread nD τ).loc main_arg3) (ix2 k (⟨1024 * s.val + f.val, by omega⟩ : Fin 8192)) := by
  refine Eq.trans ?_ (wB_apply m c t k ⟨1024 * s.val + f.val, by omega⟩)
  show X0_3 m c t _ = X0_3 m c t _
  congr 1
  funext a
  apply Fin.ext
  match a with
  | ⟨0, _⟩ => show 0 + 1 * k.val = k.val; omega
  | ⟨1, _⟩ => show 1024 * s.val + 1 * f.val = 1024 * s.val + f.val; omega

/-! ## A tile's sections -/

section
variable (c : Dev nD)

/-- A section's entry for a token, over the call's arguments. -/
abbrev secM (s : Fin 6) (b : Fin 8) (n : Fin 2048) (f : Fin 1024) : EReal :=
  secV (m ((c : Thread nD τ).loc main_arg0)) (m ((c : Thread nD τ).loc main_arg1)) (m ((c : Thread nD τ).loc main_arg2)) (m ((c : Thread nD τ).loc main_arg3)) s b n f

/-- A rotated head of a section for a token, over the call's arguments. -/
abbrev rotM (gq : FVec Ideal S64 .f32) (s : Fin 6) (b : Fin 8) (n : Fin 2048) (h : Fin 16) (j : Fin 64) : EReal :=
  rotV (m ((c : Thread nD τ).loc main_arg0)) (m ((c : Thread nD τ).loc main_arg1)) (m ((c : Thread nD τ).loc main_arg2)) (m ((c : Thread nD τ).loc main_arg3)) gq s b n h j

theorem sec_block (t : Fin cfg0.N) (s : Fin 6) (n : Fin 512) (f : Fin 1024) : secB m c t s (ix2 n f) = secM m c s (rowB t) (tokN t n) f := by
  unfold secB
  rw [sec_apply]
  refine Finset.sum_congr rfl fun k _ => ?_
  rw [wSec_apply]
  congr 1
  unfold hB
  rw [mod_apply]
  simp only [shift_apply, scale_apply, xB_apply, gB_apply]
  rfl

theorem turn_block (t : Fin cfg0.N) (s : Fin 6) (n : Fin 512) (f : Fin 1024) : turnB (secB m c t s) (ix2 f n) = secM m c s (rowB t) (tokN t n) f := by
  rw [turn_apply, sec_block]

theorem roped_block (t : Fin cfg0.N) (s : Fin 6) (gB : Vec Ideal S64x128 .f32) (gq : FVec Ideal S64 .f32) (hg : ∀ j k, gB (ix2 j k) = gq (ix1 j)) (h : Fin 16) (j : Fin 64) (n : Fin 512)
    (r : Fin 1024) (hr : r.val = 64 * h.val + j.val) :
    roped (turnB (secB m c t s)) (k0_pay6 gB) (k0_pay7 (iblk m c 6 t)) (k0_pay8 (iblk m c 7 t)) (ix2 r n) = rotM m c gq s (rowB t) (tokN t n) h j := by
  rw [roped_apply _ _ _ _ h j n r hr]
  simp only [turn_block, fun x => gain_apply gB (fun j => gq (ix1 j)) hg x n, (tab_apply _).1, (tab_apply _).2, cosB_apply, sinB_apply]
  rfl

end

end Cert.Kernel2Ideal.Proj
-- ==== Proof.ProjArrays.lean ====
module

public import proofs.«01_k».proof.Proof.ProjBlocks

@[expose] public section

set_option maxRecDepth 65536
set_option maxHeartbeats 4000000

noncomputable section

namespace Cert.Kernel2Ideal.Proj

open Idealize.ShloMosaic Idealize.ShloMosaic.TcCoe Idealize.ShloMosaic.Tactic
open Cert.ProjSpec
open Cert.Kernel2Ideal Cert.Kernel2Ideal.Gen

variable (m : (ℓ : Loc nD τ sig) → Buf (Elt Ideal) ℓ) (c : Dev nD)

/-! ## The arrays the call leaves -/

/-- A section, token after token. -/
def rowsA (P : Fin 8 → Fin 2048 → Fin 1024 → EReal) : FVec Ideal S16384x1024 .f32 :=
  fun i => P (⟨(i 0).val / 2048, by have : (i 0).val < 16384 := (i 0).isLt; omega⟩ : Fin 8) (⟨(i 0).val % 2048, by omega⟩ : Fin 2048) (i 1)

/-- A section, feature after feature. -/
def colsA (P : Fin 8 → Fin 2048 → Fin 1024 → EReal) {e : FTy} : FVec Ideal S8x1024x2048 e := fun i => P (i 0) (i 2) (i 1)

theorem index_out : ∀ t : Fin grid0.N, win0_8.index t = ![t.val / 4, 0, t.val % 4] ∧ win0_9.index t = ![t.val / 4, 0, t.val % 4] ∧ win0_10.index t = ![t.val, 0]
    ∧ win0_11.index t = ![t.val / 4, 0, t.val % 4] ∧ win0_12.index t = ![t.val / 4, 0, t.val % 4] ∧ win0_13.index t = ![t.val / 4, 0, t.val % 4]
    ∧ win0_14.index t = ![t.val / 4, 0, t.val % 4] := by decide +kernel

theorem cols_cast {e : FTy} (A : FVec Ideal S1024x512 e) (f : Fin 1024) (n : Fin 512) : shapeCast S1x1024x512 A shapeCasts_S1024x512_S1x1024x512 (ix3 (0 : Fin 1) f n) = A (ix2 f n) := by
  pointwise

/-- An entry of a feature-major array at the place a tile's block puts it. -/
theorem cols_at (P : Fin 8 → Fin 2048 → Fin 1024 → EReal) {e : FTy} (t : Fin cfg0.N) (y : S1x1024x512.Idx) (z : S8x1024x2048.Idx)
    (h0 : (z 0).val = t.val / 4 * 1 + 1 * (y 0).val) (h1 : (z 1).val = 0 * 1024 + 1 * (y 1).val) (h2 : (z 2).val = t.val % 4 * 512 + 1 * (y 2).val) :
    (colsA P : FVec Ideal S8x1024x2048 e) z = P (rowB t) (tokN t (y 2)) (y 1) := by
  have hy : (y 0).val < 1 := (y 0).isLt
  have e0 : (z 0 : Fin 8) = rowB t := Fin.ext (by show (z 0).val = t.val / 4; omega)
  have e1 : (z 1 : Fin 1024) = y 1 := Fin.ext (by show (z 1).val = (y 1).val; omega)
  have e2 : (z 2 : Fin 2048) = tokN t (y 2) := Fin.ext (by show (z 2).val = t.val % 4 * 512 + (y 2).val; omega)
  show P (z 0) (z 2) (z 1) = _
  rw [e0, e1, e2]

theorem idx_eta (y : S1x1024x512.Idx) : y = ix3 (0 : Fin 1) (y 1) (y 2) := by
  funext a
  match a with
  | ⟨0, _⟩ => exact Fin.ext (by have : (y 0).val < 1 := (y 0).isLt; show (y 0).val = 0; omega)
  | ⟨1, _⟩ => rfl
  | ⟨2, _⟩ => rfl

/-- A feature-major output, one block: the block's own rows are the array's. -/
theorem cols_block (P : Fin 8 → Fin 2048 → Fin 1024 → EReal) {e : FTy} (t : Fin cfg0.N) (A : FVec Ideal S1024x512 e)
    (hA : ∀ f n, A (ix2 f n) = P (rowB t) (tokN t n) f) (y : S1x1024x512.Idx) (z : S8x1024x2048.Idx)
    (h0 : (z 0).val = t.val / 4 * 1 + 1 * (y 0).val) (h1 : (z 1).val = 0 * 1024 + 1 * (y 1).val) (h2 : (z 2).val = t.val % 4 * 512 + 1 * (y 2).val) :
    shapeCast S1x1024x512 A shapeCasts_S1024x512_S1x1024x512 y = (colsA P : FVec Ideal S8x1024x2048 e) z := by
  rw [cols_at P t y z h0 h1 h2]
  refine (congrArg (shapeCast S1x1024x512 A shapeCasts_S1024x512_S1x1024x512) (idx_eta y)).trans ?_
  exact (cols_cast A (y 1) (y 2)).trans (hA (y 1) (y 2))

theorem arr_va : (dats m 0 c).arrAt 10 cfg0.N = rowsA (secM m c 2) := by
  refine (dats m 0 c).arrAt_eq_of_covers 10 _ (by decide +kernel) fun t hf y => ?_
  blk_simp
  rw [after_va]
  have hN := ptN t
  have hy : (y : S512x1024.Idx) = ix2 (y 0) (y 1) := by
    funext a; match a with | ⟨0, _⟩ => rfl | ⟨1, _⟩ => rfl
  have b0 : (y 0).val < 512 := (y 0).isLt
  refine (congrArg (secB m c t 2) hy).trans ((sec_block m c t 2 (y 0) (y 1)).trans ?_)
  have z0 : ((win0_10.blk t).view.emb y 0).val = t.val * 512 + 1 * (y 0).val := by
    show win0_10.index t 0 * 512 + 1 * (y 0).val = _; rw [(index_out t).2.2.1]; rfl
  have z1 : ((win0_10.blk t).view.emb y 1).val = 0 * 1024 + 1 * (y 1).val := by
    show win0_10.index t 1 * 1024 + 1 * (y 1).val = _; rw [(index_out t).2.2.1]; rfl
  generalize (win0_10.blk t).view.emb y = z at z0 z1
  show _ = secM m c 2 ⟨(z 0).val / 2048, _⟩ ⟨(z 0).val % 2048, _⟩ (z 1)
  congr 1
  · exact Fin.ext (by show t.val / 4 = (z 0).val / 2048; omega)
  · exact Fin.ext (by show t.val % 4 * 512 + (y 0).val = (z 0).val % 2048; omega)
  · exact Fin.ext (by show (y 1).val = (z 1).val; omega)

theorem arr_vaT : (dats m 0 c).arrAt 11 cfg0.N = (colsA (secM m c 2) : FVec Ideal S8x1024x2048 .bf16) := by
  refine (dats m 0 c).arrAt_eq_of_covers 11 _ (by decide +kernel) fun t hf y => ?_
  blk_simp
  rw [after_vaT]
  refine cols_block (secM m c 2) t _ (fun f n => turn_block m c t 2 n f) y _ ?_ ?_ ?_
  · show win0_11.index t 0 * 1 + 1 * (y 0).val = _; rw [(index_out t).2.2.2.1]; rfl
  · show win0_11.index t 1 * 1024 + 1 * (y 1).val = _; rw [(index_out t).2.2.2.1]; rfl
  · show win0_11.index t 2 * 512 + 1 * (y 2).val = _; rw [(index_out t).2.2.2.1]; rfl

theorem arr_qsT : (dats m 0 c).arrAt 12 cfg0.N = (colsA (fun b n f => secM m c 3 b n f * Ideal.ofBits FTy.f32 0x3E000000#32) : FVec Ideal S8x1024x2048 .bf16) := by
  refine (dats m 0 c).arrAt_eq_of_covers 12 _ (by decide +kernel) fun t hf y => ?_
  blk_simp
  rw [after_qsT]
  refine cols_block (fun b n f => secM m c 3 b n f * Ideal.ofBits FTy.f32 0x3E000000#32) t _ (fun f n => congrArg (· * _) (turn_block m c t 3 n f)) y _ ?_ ?_ ?_
  · show win0_12.index t 0 * 1 + 1 * (y 0).val = _; rw [(index_out t).2.2.2.2.1]; rfl
  · show win0_12.index t 1 * 1024 + 1 * (y 1).val = _; rw [(index_out t).2.2.2.2.1]; rfl
  · show win0_12.index t 2 * 512 + 1 * (y 2).val = _; rw [(index_out t).2.2.2.2.1]; rfl

theorem arr_ksT : (dats m 0 c).arrAt 13 cfg0.N = (colsA (secM m c 4) : FVec Ideal S8x1024x2048 .f32) := by
  refine (dats m 0 c).arrAt_eq_of_covers 13 _ (by decide +kernel) fun t hf y => ?_
  blk_simp
  rw [after_ksT]
  refine cols_block (secM m c 4) t _ (fun f n => turn_block m c t 4 n f) y _ ?_ ?_ ?_
  · show win0_13.index t 0 * 1 + 1 * (y 0).val = _; rw [(index_out t).2.2.2.2.2.1]; rfl
  · show win0_13.index t 1 * 1024 + 1 * (y 1).val = _; rw [(index_out t).2.2.2.2.2.1]; rfl
  · show win0_13.index t 2 * 512 + 1 * (y 2).val = _; rw [(index_out t).2.2.2.2.2.1]; rfl

theorem arr_vsT : (dats m 0 c).arrAt 14 cfg0.N = (colsA (secM m c 5) : FVec Ideal S8x1024x2048 .f32) := by
  refine (dats m 0 c).arrAt_eq_of_covers 14 _ (by decide +kernel) fun t hf y => ?_
  blk_simp
  rw [after_vsT]
  refine cols_block (secM m c 5) t _ (fun f n => turn_block m c t 5 n f) y _ ?_ ?_ ?_
  · show win0_14.index t 0 * 1 + 1 * (y 0).val = _; rw [(index_out t).2.2.2.2.2.2]; rfl
  · show win0_14.index t 1 * 1024 + 1 * (y 1).val = _; rw [(index_out t).2.2.2.2.2.2]; rfl
  · show win0_14.index t 2 * 512 + 1 * (y 2).val = _; rw [(index_out t).2.2.2.2.2.2]; rfl

/-- A rotated section's entry at a feature of the whole row. -/
abbrev rotF (gq : FVec Ideal S64 .f32) (s : Fin 6) (b : Fin 8) (n : Fin 2048) (f : Fin 1024) : EReal :=
  rotM m c gq s b n ⟨f.val / 64, by omega⟩ ⟨f.val % 64, by omega⟩

theorem arr_kaT : (dats m 0 c).arrAt 9 cfg0.N = (colsA (rotF m c (m ((c : Thread nD τ).loc main_arg5)) 1) : FVec Ideal S8x1024x2048 .f32) := by
  refine (dats m 0 c).arrAt_eq_of_covers 9 _ (by decide +kernel) fun t hf y => ?_
  blk_simp
  rw [after_kaT]
  refine cols_block (rotF m c (m ((c : Thread nD τ).loc main_arg5)) 1) t _ (fun f n =>
    roped_block m c t 1 _ _ (gkB_apply m c t) ⟨f.val / 64, by omega⟩ ⟨f.val % 64, by omega⟩ n f (by show f.val = 64 * (f.val / 64) + f.val % 64; omega)) y _ ?_ ?_ ?_
  · show win0_9.index t 0 * 1 + 1 * (y 0).val = _; rw [(index_out t).2.1]; rfl
  · show win0_9.index t 1 * 1024 + 1 * (y 1).val = _; rw [(index_out t).2.1]; rfl
  · show win0_9.index t 2 * 512 + 1 * (y 2).val = _; rw [(index_out t).2.1]; rfl

theorem arr_qaT : (dats m 0 c).arrAt 8 cfg0.N
    = (colsA (fun b n f => rotF m c (m ((c : Thread nD τ).loc main_arg4)) 0 b n f * Ideal.ofBits FTy.f32 0x3E38AA3B#32) : FVec Ideal S8x1024x2048 .bf16) := by
  refine (dats m 0 c).arrAt_eq_of_covers 8 _ (by decide +kernel) fun t hf y => ?_
  blk_simp
  rw [after_qaT]
  refine cols_block (fun b n f => rotF m c (m ((c : Thread nD τ).loc main_arg4)) 0 b n f * Ideal.ofBits FTy.f32 0x3E38AA3B#32) t _ (fun f n => congrArg (· * _)
    (roped_block m c t 0 _ _ (gqB_apply m c t) ⟨f.val / 64, by omega⟩ ⟨f.val % 64, by omega⟩ n f (by show f.val = 64 * (f.val / 64) + f.val % 64; omega))) y _ ?_ ?_ ?_
  · show win0_8.index t 0 * 1 + 1 * (y 0).val = _; rw [(index_out t).1]; rfl
  · show win0_8.index t 1 * 1024 + 1 * (y 1).val = _; rw [(index_out t).1]; rfl
  · show win0_8.index t 2 * 512 + 1 * (y 2).val = _; rw [(index_out t).1]; rfl

end Cert.Kernel2Ideal.Proj
-- ==== Proof.ProjWant.lean ====
module

public import proofs.«01_k».proof.Proof.ProjSpec

@[expose] public section

noncomputable section

namespace Cert.ProjSpec

open Idealize.ShloMosaic

/-! ## The seven results -/

section
variable (x : FVec Ideal ⟨3, ![8, 2048, 1024]⟩ .f32) (mod : FVec Ideal ⟨2, ![16, 6144]⟩ .f32) (g : FVec Ideal ⟨1, ![1024]⟩ .f32)
  (w : FVec Ideal ⟨2, ![1024, 8192]⟩ .f32)

/-- A section in heads of 64 features. -/
def headsV (s : Fin 6) : FVec Ideal ⟨4, ![8, 2048, 16, 64]⟩ .f32 := fun i =>
  secV x mod g w s (i 0) (i 1) (⟨64 * (i 2).val + (i 3).val, by have h2 : (i 2).val < 16 := (i 2).isLt; have h3 : (i 3).val < 64 := (i 3).isLt; omega⟩ : Fin 1024)

/-- A section in heads of 128 features. -/
def widesV (s : Fin 6) : FVec Ideal ⟨4, ![8, 2048, 8, 128]⟩ .f32 := fun i =>
  secV x mod g w s (i 0) (i 1) (⟨128 * (i 2).val + (i 3).val, by have h2 : (i 2).val < 8 := (i 2).isLt; have h3 : (i 3).val < 128 := (i 3).isLt; omega⟩ : Fin 1024)

/-- A section's heads, normalised and rotated. -/
def turnedV (gq : FVec Ideal ⟨1, ![64]⟩ .f32) (s : Fin 6) : FVec Ideal ⟨4, ![8, 2048, 16, 64]⟩ .f32 := fun i => rotV x mod g w gq s (i 0) (i 1) (i 2) (i 3)

/-- The normalised and rotated heads, feature-major and scaled. -/
def turnedT (gq : FVec Ideal ⟨1, ![64]⟩ .f32) (s : Fin 6) (k : EReal) : FVec Ideal ⟨3, ![8, 1024, 2048]⟩ .bf16 := fun i =>
  rotV x mod g w gq s (i 0) (i 2) (⟨(i 1).val / 64, by have h1 : (i 1).val < 1024 := (i 1).isLt; omega⟩ : Fin 16) (⟨(i 1).val % 64, by omega⟩ : Fin 64) * k

/-- A section, feature-major. -/
def secT (s : Fin 6) : FVec Ideal ⟨3, ![8, 1024, 2048]⟩ .bf16 := fun i => secV x mod g w s (i 0) (i 2) (i 1)

/-- A section, feature-major and scaled. -/
def secK (s : Fin 6) (k : EReal) : FVec Ideal ⟨3, ![8, 1024, 2048]⟩ .bf16 := fun i => secV x mod g w s (i 0) (i 2) (i 1) * k

end

theorem ext3 {α : Type} {a b c : ℕ} {u v : (⟨3, ![a, b, c]⟩ : Shape).Idx → α} (h : ∀ (i : Fin a) (j : Fin b) (k : Fin c), u (ix3 i j k) = v (ix3 i j k)) : u = v := by
  funext i
  have hi : i = ix3 (i 0) (i 1) (i 2) := by funext z; match z with | ⟨0, _⟩ => rfl | ⟨1, _⟩ => rfl | ⟨2, _⟩ => rfl
  rw [hi]
  exact h _ _ _

theorem ext4 {α : Type} {a b c d : ℕ} {u v : (⟨4, ![a, b, c, d]⟩ : Shape).Idx → α} (h : ∀ (i : Fin a) (j : Fin b) (k : Fin c) (l : Fin d), u (ix4 i j k l) = v (ix4 i j k l)) : u = v := by
  funext i
  have hi : i = ix4 (i 0) (i 1) (i 2) (i 3) := by funext z; match z with | ⟨0, _⟩ => rfl | ⟨1, _⟩ => rfl | ⟨2, _⟩ => rfl | ⟨3, _⟩ => rfl
  rw [hi]
  exact h _ _ _ _

end Cert.ProjSpec

end
-- ==== Proof.ProjTail.lean ====
module

public import proofs.«01_k».proof.Proof.ProjArrays
public import proofs.«01_k».proof.Proof.ProjWant

@[expose] public section

set_option maxRecDepth 65536
set_option maxHeartbeats 4000000

noncomputable section

namespace Cert.Kernel2Ideal.Proj

open Idealize.ShloMosaic Idealize.ShloMosaic.TcCoe Idealize.ShloMosaic.Tactic
open Cert.ProjSpec
open Cert.Kernel2Ideal Cert.Kernel2Ideal.Gen

variable (m : (ℓ : Loc nD τ sig) → Buf (Elt Ideal) ℓ) (c : Dev nD)

/-! ## The lines after the call -/

/-- What the lines after the call find in the array of window `w`. -/
theorem exit_at (w : Fin 15) : Pipeline.withArrays (cfgs 0).spec c (V0 m c) (fun w => (dats m 0 c).arrAt w (cfgs 0).N) (Proc.devRef .tc (Pipeline.arrRef spec0 w))
    = (dats m 0 c).arrAt w cfg0.N :=
  Pipeline.withArrays_arr spec0 winFacts0.arr_inj c _ _ w

/-- The feature-major array in heads, token-major. -/
def headsOf (a : FVec Ideal S8x1024x2048 .f32) : FVec Ideal S8x2048x16x64 .f32 :=
  transpose S8x2048x16x64 [0, 3, 1, 2] (shapeCast S8x16x64x2048 a shapeCasts_S8x1024x2048_S8x16x64x2048) transposes_S8x16x64x2048_S8x2048x16x64_0_3_1_2

theorem tail_ka : Pipeline.afterTail₀ cfgs (dats m) 0 (V0 m) [hostOps1] c main_v25 = headsOf ((dats m 0 c).arrAt 9 cfg0.N) := by
  rw [← exit_at m c 9]
  unfold Pipeline.afterTail₀
  show StableHlo.after hostOps1 _ _ = _
  unfold hostOps1
  after_results_simp
  rfl

theorem tail_va : Pipeline.afterTail₀ cfgs (dats m) 0 (V0 m) [hostOps1] c main_v26
    = (shapeCast S8x2048x8x128 ((dats m 0 c).arrAt 10 cfg0.N : FVec Ideal S16384x1024 .f32) shapeCasts_S16384x1024_S8x2048x8x128 : FVec Ideal S8x2048x8x128 .f32) := by
  rw [← exit_at m c 10]
  unfold Pipeline.afterTail₀
  show StableHlo.after hostOps1 _ _ = _
  unfold hostOps1
  after_results_simp
  rfl

theorem tail_ks : Pipeline.afterTail₀ cfgs (dats m) 0 (V0 m) [hostOps1] c main_v28 = headsOf ((dats m 0 c).arrAt 13 cfg0.N) := by
  rw [← exit_at m c 13]
  unfold Pipeline.afterTail₀
  show StableHlo.after hostOps1 _ _ = _
  unfold hostOps1
  after_results_simp
  rfl

theorem tail_vs : Pipeline.afterTail₀ cfgs (dats m) 0 (V0 m) [hostOps1] c main_v30 = headsOf ((dats m 0 c).arrAt 14 cfg0.N) := by
  rw [← exit_at m c 14]
  unfold Pipeline.afterTail₀
  show StableHlo.after hostOps1 _ _ = _
  unfold hostOps1
  after_results_simp
  rfl

/-! ## The results -/

theorem headsOf_apply (P : Fin 8 → Fin 2048 → Fin 1024 → EReal) (b : Fin 8) (n : Fin 2048) (h : Fin 16) (j : Fin 64) :
    (headsOf (colsA P) (ix4 b n h j) : EReal) = P b n (⟨64 * h.val + j.val, by omega⟩ : Fin 1024) := by
  have hA : ∀ a : FVec Ideal S8x1024x2048 .f32, headsOf a (ix4 b n h j) = a (ix3 b (⟨64 * h.val + j.val, by omega⟩ : Fin 1024) n) := fun a => by
    pointwise [headsOf]
    simp only [Nat.mul_comm 64]
  exact hA _

theorem wides_apply (P : Fin 8 → Fin 2048 → Fin 1024 → EReal) (b : Fin 8) (n : Fin 2048) (h : Fin 8) (j : Fin 128) :
    (shapeCast S8x2048x8x128 (rowsA P) shapeCasts_S16384x1024_S8x2048x8x128 (ix4 b n h j) : EReal) = P b n (⟨128 * h.val + j.val, by omega⟩ : Fin 1024) := by
  have hA : ∀ a : FVec Ideal S16384x1024 .f32, shapeCast S8x2048x8x128 a shapeCasts_S16384x1024_S8x2048x8x128 (ix4 b n h j)
      = a (ix2 (⟨2048 * b.val + n.val, by omega⟩ : Fin 16384) (⟨128 * h.val + j.val, by omega⟩ : Fin 1024)) := fun a => by
    pointwise
    simp only [Nat.mul_comm 128, Nat.mul_comm 2048]
  refine (hA _).trans ?_
  show P ⟨(2048 * b.val + n.val) / 2048, _⟩ ⟨(2048 * b.val + n.val) % 2048, _⟩ ⟨128 * h.val + j.val, _⟩ = _
  congr 1
  · exact Fin.ext (by show (2048 * b.val + n.val) / 2048 = b.val; omega)
  · exact Fin.ext (by show (2048 * b.val + n.val) % 2048 = n.val; omega)

abbrev a0 : FVec Ideal S8x2048x1024 .f32 := m ((c : Thread nD τ).loc main_arg0)
abbrev a1 : FVec Ideal S16x6144 .f32 := m ((c : Thread nD τ).loc main_arg1)
abbrev a2 : FVec Ideal S1024 .f32 := m ((c : Thread nD τ).loc main_arg2)
abbrev a3 : FVec Ideal S1024x8192 .f32 := m ((c : Thread nD τ).loc main_arg3)
abbrev a4 : FVec Ideal S64 .f32 := m ((c : Thread nD τ).loc main_arg4)
abbrev a5 : FVec Ideal S64 .f32 := m ((c : Thread nD τ).loc main_arg5)

theorem res_ka : Pipeline.afterTail₀ cfgs (dats m) 0 (V0 m) [hostOps1] c main_v25 = turnedV (a0 m c) (a1 m c) (a2 m c) (a3 m c) (a5 m c) 1 := by
  rw [tail_ka, arr_kaT]
  refine ext4 fun b n h j => (headsOf_apply _ b n h j).trans ?_
  show rotM m c _ 1 b n ⟨(64 * h.val + j.val) / 64, _⟩ ⟨(64 * h.val + j.val) % 64, _⟩ = rotM m c (a5 m c) 1 b n h j
  congr 1
  · exact Fin.ext (by show (64 * h.val + j.val) / 64 = h.val; omega)
  · exact Fin.ext (by show (64 * h.val + j.val) % 64 = j.val; omega)

theorem res_va : Pipeline.afterTail₀ cfgs (dats m) 0 (V0 m) [hostOps1] c main_v26 = widesV (a0 m c) (a1 m c) (a2 m c) (a3 m c) 2 := by
  rw [tail_va, arr_va]
  exact ext4 fun b n h j => wides_apply _ b n h j

theorem res_ks : Pipeline.afterTail₀ cfgs (dats m) 0 (V0 m) [hostOps1] c main_v28 = headsV (a0 m c) (a1 m c) (a2 m c) (a3 m c) 4 := by
  rw [tail_ks, arr_ksT]
  exact ext4 fun b n h j => headsOf_apply _ b n h j

theorem res_vs : Pipeline.afterTail₀ cfgs (dats m) 0 (V0 m) [hostOps1] c main_v30 = headsV (a0 m c) (a1 m c) (a2 m c) (a3 m c) 5 := by
  rw [tail_vs, arr_vsT]
  exact ext4 fun b n h j => headsOf_apply _ b n h j

theorem res_qaT : (dats m 0 c).arrAt 8 cfg0.N = turnedT (a0 m c) (a1 m c) (a2 m c) (a3 m c) (a4 m c) 0 (Ideal.ofBits FTy.f32 0x3E38AA3B#32) :=
  (arr_qaT m c).trans rfl

theorem res_vaT : (dats m 0 c).arrAt 11 cfg0.N = secT (a0 m c) (a1 m c) (a2 m c) (a3 m c) 2 := (arr_vaT m c).trans rfl

theorem res_qsT : (dats m 0 c).arrAt 12 cfg0.N = secK (a0 m c) (a1 m c) (a2 m c) (a3 m c) 3 (Ideal.ofBits FTy.f32 0x3E000000#32) := (arr_qsT m c).trans rfl

end Cert.Kernel2Ideal.Proj

end
-- ==== Proof.ProjRef.lean ====
module

public import proofs.«01_k».proof.Proof.ProjWant
public import proofs.«01_k».proof.Proof.Gen.Reference2Ideal.Run
public import Idealize.ShloMosaic.Lib.IdealHost
public import Idealize.ShloMosaic.Lib.Pointwise.IndexBridge

@[expose] public section

set_option maxRecDepth 65536
set_option maxHeartbeats 4000000

noncomputable section

namespace Cert.Reference2Ideal.Proj

open Idealize.ShloMosaic Idealize.ShloMosaic.TcCoe Idealize.ShloMosaic.Tactic
open Cert.ProjSpec
open Cert.Reference2Ideal Cert.Reference2Ideal.Gen

variable (m : (ℓ : Loc nD τ sig) → Buf (Elt Ideal) ℓ) (c : Dev nD)

/-! ## The reference's results, by their own lines -/

/-- The modulated tokens. -/
def hidR (x : FVec Ideal S8x2048x1024 .f32) (mod : FVec Ideal S16x6144 .f32) (g : FVec Ideal S1024 .f32) : FVec Ideal S8x2048x1024 .f32 :=
  addf (mulf (mulf (mulf x (broadcastInDim S8x2048x1024 ![0, 1, 2] bcast_S8x2048x1_S8x2048x1024_0_1_2
      (Host.rsqrt (addf (Host.divf (broadcastInDim S8x2048x1 ![0, 1] bcast_S8x2048_S8x2048x1_0_1
          (Host.reduceAdd (mulf x x) (constant S_ .f32 0x00000000#32) reducesTo_S8x2048x1024_S8x2048_d2 h_S_))
        (broadcastInDim S8x2048x1 ![] bcast_S_S8x2048x1 (constant S_ .f32 0x44800000#32)))
        (broadcastInDim S8x2048x1 ![] bcast_S_S8x2048x1 (constant S_ .f32 0x358637BD#32))))))
      (broadcastInDim S8x2048x1024 ![0, 1, 2] bcast_S1x1x1024_S8x2048x1024_0_1_2 (broadcastInDim S1x1x1024 ![2] bcast_S1024_S1x1x1024_2 g)))
      (broadcastInDim S8x2048x1024 ![0, 1, 2] bcast_S8x1x1024_S8x2048x1024_0_1_2 (addf (broadcastInDim S8x1x1024 ![] bcast_S_S8x1x1024 (constant S_ .f32 0x3F800000#32))
        (broadcastInDim S8x1x1024 ![0, 2] bcast_S8x1024_S8x1x1024_0_2 (extractStridedSlice S8x1024 ![0, 0] (extractStridedSlice S16x1024 ![0, 1024] mod slices_S16x6144_S16x1024_0_1024) slices_S16x1024_S8x1024_0_0)))))
    (broadcastInDim S8x2048x1024 ![0, 1, 2] bcast_S8x1x1024_S8x2048x1024_0_1_2
      (broadcastInDim S8x1x1024 ![0, 2] bcast_S8x1024_S8x1x1024_0_2 (extractStridedSlice S8x1024 ![0, 0] (extractStridedSlice S16x1024 ![0, 0] mod slices_S16x6144_S16x1024_0_0) slices_S16x1024_S8x1024_0_0)))

/-- The projection, and a section of it. -/
def allR (h : FVec Ideal S8x2048x1024 .f32) (w : FVec Ideal S1024x8192 .f32) : FVec Ideal S8x2048x8192 .f32 :=
  Host.dotGeneral dot_S8x2048x1024_S1024x8192_S8x2048x8192_2_0_01_1_n_n none h w

def secR (off : ℕ) (hs : S8x2048x8192.Slices ![0, 0, off] S8x2048x1024) (a : FVec Ideal S8x2048x8192 .f32) : FVec Ideal S8x2048x1024 .f32 :=
  extractStridedSlice S8x2048x1024 ![0, 0, off] a hs

/-- The heads of a section, normalised. -/
def nrmR (a : FVec Ideal S8x2048x16x64 .f32) (g : FVec Ideal S64 .f32) : FVec Ideal S8x2048x16x64 .f32 :=
  mulf (mulf a (broadcastInDim S8x2048x16x64 ![0, 1, 2, 3] bcast_S8x2048x16x1_S8x2048x16x64_0_1_2_3
      (Host.rsqrt (addf (Host.divf (broadcastInDim S8x2048x16x1 ![0, 1, 2] bcast_S8x2048x16_S8x2048x16x1_0_1_2
          (Host.reduceAdd (mulf a a) (constant S_ .f32 0x00000000#32) reducesTo_S8x2048x16x64_S8x2048x16_d3 h_S_))
        (broadcastInDim S8x2048x16x1 ![] bcast_S_S8x2048x16x1 (constant S_ .f32 0x42800000#32)))
        (broadcastInDim S8x2048x16x1 ![] bcast_S_S8x2048x16x1 (constant S_ .f32 0x358637BD#32))))))
    (broadcastInDim S8x2048x16x64 ![0, 1, 2, 3] bcast_S1x1x1x64_S8x2048x16x64_0_1_2_3 (broadcastInDim S1x1x1x64 ![3] bcast_S64_S1x1x1x64_3 g))

/-- The angles. -/
def angR : FVec Ideal S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1
      (Host.exp (Host.divf (mulf (broadcastInDim S8 ![] bcast_S_S8 (constant S_ .f32 0xC1D1F533#32)) (sitofp .f32 (iotaInDim S8 32 0)))
        (broadcastInDim S8 ![] bcast_S_S8 (constant S_ .f32 0x41800000#32))))))

/-- A table of the angles, over the heads. -/
def tabR (t : FVec Ideal S2048x8 .f32) : FVec Ideal S8x2048x16x8 .f32 :=
  broadcastInDim S8x2048x16x8 ![0, 1, 2, 3] bcast_S1x2048x1x8_S8x2048x16x8_0_1_2_3 (broadcastInDim S1x2048x1x8 ![1, 3] bcast_S2048x8_S1x2048x1x8_1_3 t)

/-- The heads rotated. -/
def rotR (a : FVec Ideal S8x2048x16x64 .f32) (cs sn : FVec Ideal S8x2048x16x8 .f32) : FVec Ideal S8x2048x16x64 .f32 :=
  concatenate S8x2048x16x64 3
    [⟨S8x2048x16x8, subf (mulf (extractStridedSlice S8x2048x16x8 ![0, 0, 0, 0] a slices_S8x2048x16x64_S8x2048x16x8_0_0_0_0) cs)
        (mulf (extractStridedSlice S8x2048x16x8 ![0, 0, 0, 8] a slices_S8x2048x16x64_S8x2048x16x8_0_0_0_8) sn)⟩,
      ⟨S8x2048x16x8, addf (mulf (extractStridedSlice S8x2048x16x8 ![0, 0, 0, 8] a slices_S8x2048x16x64_S8x2048x16x8_0_0_0_8) cs)
        (mulf (extractStridedSlice S8x2048x16x8 ![0, 0, 0, 0] a slices_S8x2048x16x64_S8x2048x16x8_0_0_0_0) sn)⟩,
      ⟨S8x2048x16x48, extractStridedSlice S8x2048x16x48 ![0, 0, 0, 16] a slices_S8x2048x16x64_S8x2048x16x48_0_0_0_16⟩]
    concatenates_S8x2048x16x8_S8x2048x16x8_S8x2048x16x48_S8x2048x16x64_d3

/-- The whole projection of this launch. -/
def allM : FVec Ideal S8x2048x8192 .f32 :=
  allR (hidR (m ((c.tc : Thread nD τ).loc main_arg0)) (m ((c.tc : Thread nD τ).loc main_arg1)) (m ((c.tc : Thread nD τ).loc main_arg2))) (m ((c.tc : Thread nD τ).loc main_arg3))

/-- A section's heads, normalised and rotated. -/
def headsM (off : ℕ) (hs : S8x2048x8192.Slices ![0, 0, off] S8x2048x1024) (g : FVec Ideal S64 .f32) : FVec Ideal S8x2048x16x64 .f32 :=
  rotR (nrmR (shapeCast S8x2048x16x64 (secR off hs (allM m c)) shapeCasts_S8x2048x1024_S8x2048x16x64) g) (tabR (Host.cos angR)) (tabR (Host.sin angR))

theorem out0_eq : Value.res_main_v125 m c = headsM m c 1024 slices_S8x2048x8192_S8x2048x1024_0_0_1024 (m ((c.tc : Thread nD τ).loc main_arg5)) := by
  unfold Value.res_main_v125; rfl

theorem out4_eq : Value.res_main_v133 m c = truncf .bf16 (transpose S8x1024x2048 [0, 2, 1]
    (shapeCast S8x2048x1024 (mulf (headsM m c 0 slices_S8x2048x8192_S8x2048x1024_0_0_0 (m ((c.tc : Thread nD τ).loc main_arg4)))
      (broadcastInDim S8x2048x16x64 ![] bcast_S_S8x2048x16x64 (constant S_ .f32 0x3E38AA3B#32))) shapeCasts_S8x2048x16x64_S8x2048x1024)
    transposes_S8x2048x1024_S8x1024x2048_0_2_1) bitsLt_bf16_f32 := by
  unfold Value.res_main_v133; rfl

/-! ## Read at an index -/

theorem one_bits : Ideal.ofBits FTy.f32 1065353216#32 = 1 := by
  pointwise

theorem hidR_apply (x : FVec Ideal S8x2048x1024 .f32) (mod : FVec Ideal S16x6144 .f32) (g : FVec Ideal S1024 .f32) (b : Fin 8) (n : Fin 2048) (k : Fin 1024) :
    (hidR x mod g (ix3 b n k) : EReal) = hidV x mod g b n k := by
  pointwise [hidR]
  rw [hidV, modV, one_bits]
  rfl

theorem secR_apply (s : Fin 6) (off : ℕ) (ho : off = 1024 * s.val) (hs : S8x2048x8192.Slices ![0, 0, off] S8x2048x1024) (h : FVec Ideal S8x2048x1024 .f32) (w : FVec Ideal S1024x8192 .f32)
    (b : Fin 8) (n : Fin 2048) (f : Fin 1024) :
    (secR off hs (allR h w) (ix3 b n f) : EReal) = ∑ k, (h (ix3 b n k) : EReal) * (w (ix2 k (⟨1024 * s.val + f.val, by omega⟩ : Fin 8192)) : EReal) := by
  subst ho
  pointwise [secR, allR]

theorem nrmR_apply (a : FVec Ideal S8x2048x16x64 .f32) (g : FVec Ideal S64 .f32) (b : Fin 8) (n : Fin 2048) (h : Fin 16) (j : Fin 64) :
    (nrmR a g (ix4 b n h j) : EReal) = normV (fun j => a (ix4 b n h j)) (fun j => g (ix1 j)) j := by
  pointwise [nrmR]
  rfl

theorem tabR_apply (t : FVec Ideal S2048x8 .f32) (b : Fin 8) (n : Fin 2048) (h : Fin 16) (k : Fin 8) : tabR t (ix4 b n h k) = t (ix2 n k) := by
  pointwise [tabR]

theorem angR_apply (n : Fin 2048) (k : Fin 8) : (angR (ix2 n k) : EReal) = angV n k := by
  pointwise [angR]
  exact mul_comm _ _

theorem rotR_apply (a : FVec Ideal S8x2048x16x64 .f32) (cs sn : FVec Ideal S8x2048x16x8 .f32) (b : Fin 8) (n : Fin 2048) (h : Fin 16) (j : Fin 64) :
    (rotR a cs sn (ix4 b n h j) : EReal) = ropeV (fun j => a (ix4 b n h j)) (fun k => cs (ix4 b n h k)) (fun k => sn (ix4 b n h k)) j := by
  pointwise [rotR]
  have hj := j.isLt
  unfold ropeV
  by_cases h1 : j.val < 8
  · rw [dif_pos h1, dif_pos h1]
  · rw [dif_neg h1, dif_neg h1]
    by_cases h2 : j.val < 16
    · rw [dif_pos h2, dif_pos (by omega)]
      congr 4
      exact Fin.ext (by show 8 + (j.val - 8) = j.val; omega)
    · rw [dif_neg h2, dif_neg (by omega)]
      exact congrArg (fun q => (a (ix4 b n h q) : EReal)) (Fin.ext (by show 16 + (j.val - 8 - 8) = j.val; omega))

/-- A section's entry, in this launch. -/
abbrev secS (s : Fin 6) (b : Fin 8) (n : Fin 2048) (f : Fin 1024) : EReal :=
  secV (m ((c.tc : Thread nD τ).loc main_arg0)) (m ((c.tc : Thread nD τ).loc main_arg1)) (m ((c.tc : Thread nD τ).loc main_arg2)) (m ((c.tc : Thread nD τ).loc main_arg3)) s b n f

theorem sec_eq (s : Fin 6) (off : ℕ) (ho : off = 1024 * s.val) (hs : S8x2048x8192.Slices ![0, 0, off] S8x2048x1024) (b : Fin 8) (n : Fin 2048) (f : Fin 1024) :
    (secR off hs (allM m c) (ix3 b n f) : EReal) = secS m c s b n f := by
  refine (secR_apply s off ho hs _ _ b n f).trans (Finset.sum_congr rfl fun k _ => ?_)
  rw [hidR_apply]

theorem split64 (A : FVec Ideal S8x2048x1024 .f32) (b : Fin 8) (n : Fin 2048) (h : Fin 16) (j : Fin 64) :
    shapeCast S8x2048x16x64 A shapeCasts_S8x2048x1024_S8x2048x16x64 (ix4 b n h j) = A (ix3 b n (⟨64 * h.val + j.val, by omega⟩ : Fin 1024)) := by
  pointwise
  simp only [Nat.mul_comm 64]

theorem split128 (A : FVec Ideal S8x2048x1024 .f32) (b : Fin 8) (n : Fin 2048) (h : Fin 8) (j : Fin 128) :
    shapeCast S8x2048x8x128 A shapeCasts_S8x2048x1024_S8x2048x8x128 (ix4 b n h j) = A (ix3 b n (⟨128 * h.val + j.val, by omega⟩ : Fin 1024)) := by
  pointwise
  simp only [Nat.mul_comm 128]

theorem join64 (A : FVec Ideal S8x2048x16x64 .f32) (b : Fin 8) (n : Fin 2048) (f : Fin 1024) :
    shapeCast S8x2048x1024 A shapeCasts_S8x2048x16x64_S8x2048x1024 (ix3 b n f) = A (ix4 b n (⟨f.val / 64, by omega⟩ : Fin 16) (⟨f.val % 64, by omega⟩ : Fin 64)) := by
  pointwise

theorem headsM_apply (s : Fin 6) (off : ℕ) (ho : off = 1024 * s.val) (hs : S8x2048x8192.Slices ![0, 0, off] S8x2048x1024) (g : FVec Ideal S64 .f32)
    (b : Fin 8) (n : Fin 2048) (h : Fin 16) (j : Fin 64) :
    (headsM m c off hs g (ix4 b n h j) : EReal) = rotV (m ((c.tc : Thread nD τ).loc main_arg0)) (m ((c.tc : Thread nD τ).loc main_arg1)) (m ((c.tc : Thread nD τ).loc main_arg2))
      (m ((c.tc : Thread nD τ).loc main_arg3)) g s b n h j := by
  refine (rotR_apply _ _ _ b n h j).trans ?_
  have hc : ∀ k, (tabR (Host.cos angR) (ix4 b n h k) : EReal) = Ideal.cos (angV n k) := fun k =>
    (tabR_apply _ b n h k).trans (congrArg Ideal.cos (angR_apply n k))
  have hn : ∀ k, (tabR (Host.sin angR) (ix4 b n h k) : EReal) = Ideal.sin (angV n k) := fun k =>
    (tabR_apply _ b n h k).trans (congrArg Ideal.sin (angR_apply n k))
  have ha : ∀ j, (nrmR (shapeCast S8x2048x16x64 (secR off hs (allM m c)) shapeCasts_S8x2048x1024_S8x2048x16x64) g (ix4 b n h j) : EReal)
      = normV (fun j => secS m c s b n (⟨64 * h.val + j.val, by omega⟩ : Fin 1024)) (fun j => g (ix1 j)) j := fun j =>
    (nrmR_apply _ g b n h j).trans (congrArg (fun q => normV q (fun j => g (ix1 j)) j) (funext fun j => (split64 _ b n h j).trans (sec_eq m c s off ho hs b n _)))
  rw [funext ha, funext hc, funext hn]
  rfl

/-! ## The seven results -/

abbrev a0 : FVec Ideal S8x2048x1024 .f32 := m ((c.tc : Thread nD τ).loc main_arg0)
abbrev a1 : FVec Ideal S16x6144 .f32 := m ((c.tc : Thread nD τ).loc main_arg1)
abbrev a2 : FVec Ideal S1024 .f32 := m ((c.tc : Thread nD τ).loc main_arg2)
abbrev a3 : FVec Ideal S1024x8192 .f32 := m ((c.tc : Thread nD τ).loc main_arg3)
abbrev a4 : FVec Ideal S64 .f32 := m ((c.tc : Thread nD τ).loc main_arg4)
abbrev a5 : FVec Ideal S64 .f32 := m ((c.tc : Thread nD τ).loc main_arg5)

theorem out_ka : Value.res_main_v125 m c = turnedV (a0 m c) (a1 m c) (a2 m c) (a3 m c) (a5 m c) 1 :=
  (out0_eq m c).trans (ext4 fun b n h j => headsM_apply m c 1 1024 (by decide) _ _ b n h j)

theorem out_va : shapeCast S8x2048x8x128 (secR 2048 slices_S8x2048x8192_S8x2048x1024_0_0_2048 (allM m c)) shapeCasts_S8x2048x1024_S8x2048x8x128 = widesV (a0 m c) (a1 m c) (a2 m c) (a3 m c) 2 :=
  ext4 fun b n h j => (split128 _ b n h j).trans (sec_eq m c 2 2048 (by decide) _ b n _)

theorem out_heads (s : Fin 6) (off : ℕ) (ho : off = 1024 * s.val) (hs : S8x2048x8192.Slices ![0, 0, off] S8x2048x1024) :
    shapeCast S8x2048x16x64 (secR off hs (allM m c)) shapeCasts_S8x2048x1024_S8x2048x16x64 = headsV (a0 m c) (a1 m c) (a2 m c) (a3 m c) s :=
  ext4 fun b n h j => (split64 _ b n h j).trans (sec_eq m c s _ ho _ b n _)

theorem out_qaT : Value.res_main_v133 m c = turnedT (a0 m c) (a1 m c) (a2 m c) (a3 m c) (a4 m c) 0 (Ideal.ofBits FTy.f32 0x3E38AA3B#32) := by
  refine (out4_eq m c).trans (ext3 fun b f n => ?_)
  have hA : ∀ A : FVec Ideal S8x2048x16x64 .f32, (truncf (F := Ideal) .bf16 (transpose S8x1024x2048 [0, 2, 1]
      (shapeCast S8x2048x1024 (mulf A (broadcastInDim S8x2048x16x64 ![] bcast_S_S8x2048x16x64 (constant S_ .f32 0x3E38AA3B#32))) shapeCasts_S8x2048x16x64_S8x2048x1024)
      transposes_S8x2048x1024_S8x1024x2048_0_2_1) bitsLt_bf16_f32 (ix3 b f n) : EReal)
      = A (ix4 b n (⟨f.val / 64, by omega⟩ : Fin 16) (⟨f.val % 64, by omega⟩ : Fin 64)) * Ideal.ofBits FTy.f32 0x3E38AA3B#32 := fun A => by pointwise
  exact (hA _).trans (congrArg (· * _) (headsM_apply m c 0 0 (by decide) _ _ b n _ _))

theorem out_vaT : truncf .bf16 (transpose S8x1024x2048 [0, 2, 1] (secR 2048 slices_S8x2048x8192_S8x2048x1024_0_0_2048 (allM m c))
    transposes_S8x2048x1024_S8x1024x2048_0_2_1) bitsLt_bf16_f32 = secT (a0 m c) (a1 m c) (a2 m c) (a3 m c) 2 := by
  refine ext3 fun b f n => ?_
  have hA : ∀ A : FVec Ideal S8x2048x1024 .f32, (truncf (F := Ideal) .bf16 (transpose S8x1024x2048 [0, 2, 1] A transposes_S8x2048x1024_S8x1024x2048_0_2_1) bitsLt_bf16_f32 (ix3 b f n) : EReal)
      = A (ix3 b n f) := fun A => by pointwise
  exact (hA _).trans (sec_eq m c 2 2048 (by decide) _ b n f)

theorem out_qsT : truncf .bf16 (transpose S8x1024x2048 [0, 2, 1] (mulf (secR 3072 slices_S8x2048x8192_S8x2048x1024_0_0_3072 (allM m c))
    (broadcastInDim S8x2048x1024 ![] bcast_S_S8x2048x1024 (constant S_ .f32 0x3E000000#32)))
    transposes_S8x2048x1024_S8x1024x2048_0_2_1) bitsLt_bf16_f32 = secK (a0 m c) (a1 m c) (a2 m c) (a3 m c) 3 (Ideal.ofBits FTy.f32 0x3E000000#32) := by
  refine ext3 fun b f n => ?_
  have hA : ∀ A : FVec Ideal S8x2048x1024 .f32, (truncf (F := Ideal) .bf16 (transpose S8x1024x2048 [0, 2, 1]
      (mulf A (broadcastInDim S8x2048x1024 ![] bcast_S_S8x2048x1024 (constant S_ .f32 0x3E000000#32))) transposes_S8x2048x1024_S8x1024x2048_0_2_1) bitsLt_bf16_f32 (ix3 b f n) : EReal)
      = A (ix3 b n f) * Ideal.ofBits FTy.f32 0x3E000000#32 := fun A => by pointwise
  exact (hA _).trans (congrArg (· * _) (sec_eq m c 3 3072 (by decide) _ b n f))

end Cert.Reference2Ideal.Proj

end
-- ==== Proof.ProjFinal.lean ====
module

public import proofs.«01_k».proof.Proof.ProjTail
public import proofs.«01_k».proof.Proof.ProjRef
public import proofs.«01_k».proof.Proof.Frames

@[expose] public section

set_option maxRecDepth 16384
set_option maxHeartbeats 4000000

noncomputable section

namespace Cert.Proof

open Idealize.ShloMosaic Idealize.ShloMosaic.TcCoe Idealize.SL.Sem
open Idealize.ShloMosaic.Pipeline (FramePost)

/-- The projection's reference leaves its arguments and its counters as they were. -/
theorem frame_reference_proj : Cert.quiescent_Reference2Ideal := fun m ρ _ =>
  (θ_run Reference2Ideal.defs _ _).mono (fun r h => ⟨fun c => (h c).2.2.2.2.2.2.2, sem_eq_zero_of_no_sems (by decide) r.2⟩) (Cert.Reference2Ideal.Value.run (F := Ideal) m ρ)

/-- The projection's results are its reference's. -/
theorem algebraic_proj : Cert.algebraic_Kernel2Ideal_Reference2Ideal := by
  intro m g m' g' _ hm
  refine ⟨fun c => ProjSpec.turnedV (Kernel2Ideal.Proj.a0 m c) (Kernel2Ideal.Proj.a1 m c) (Kernel2Ideal.Proj.a2 m c) (Kernel2Ideal.Proj.a3 m c) (Kernel2Ideal.Proj.a5 m c) 1,
    fun c => ProjSpec.widesV (Kernel2Ideal.Proj.a0 m c) (Kernel2Ideal.Proj.a1 m c) (Kernel2Ideal.Proj.a2 m c) (Kernel2Ideal.Proj.a3 m c) 2,
    fun c => ProjSpec.headsV (Kernel2Ideal.Proj.a0 m c) (Kernel2Ideal.Proj.a1 m c) (Kernel2Ideal.Proj.a2 m c) (Kernel2Ideal.Proj.a3 m c) 4,
    fun c => ProjSpec.headsV (Kernel2Ideal.Proj.a0 m c) (Kernel2Ideal.Proj.a1 m c) (Kernel2Ideal.Proj.a2 m c) (Kernel2Ideal.Proj.a3 m c) 5,
    fun c => ProjSpec.turnedT (Kernel2Ideal.Proj.a0 m c) (Kernel2Ideal.Proj.a1 m c) (Kernel2Ideal.Proj.a2 m c) (Kernel2Ideal.Proj.a3 m c) (Kernel2Ideal.Proj.a4 m c) 0 (Ideal.ofBits FTy.f32 0x3E38AA3B#32),
    fun c => ProjSpec.secT (Kernel2Ideal.Proj.a0 m c) (Kernel2Ideal.Proj.a1 m c) (Kernel2Ideal.Proj.a2 m c) (Kernel2Ideal.Proj.a3 m c) 2,
    fun c => ProjSpec.secK (Kernel2Ideal.Proj.a0 m c) (Kernel2Ideal.Proj.a1 m c) (Kernel2Ideal.Proj.a2 m c) (Kernel2Ideal.Proj.a3 m c) 3 (Ideal.ofBits FTy.f32 0x3E000000#32), ?_, ?_⟩
  · refine (θ_run Kernel2Ideal.defs _ _).mono (fun r h c => ?_) (θ_run_and (Kernel2Ideal.Gen.unchanged m g) (Kernel2Ideal.Gen.run_main m g))
    exact ⟨((h.2 c).2 Kernel2Ideal.main_v25 (Pipeline.mem_restRefs_of Kernel2Ideal.main_v25 (by decide) (by decide))).trans (Kernel2Ideal.Proj.res_ka m c),
      ((h.2 c).2 Kernel2Ideal.main_v26 (Pipeline.mem_restRefs_of Kernel2Ideal.main_v26 (by decide) (by decide))).trans (Kernel2Ideal.Proj.res_va m c),
      ((h.2 c).2 Kernel2Ideal.main_v28 (Pipeline.mem_restRefs_of Kernel2Ideal.main_v28 (by decide) (by decide))).trans (Kernel2Ideal.Proj.res_ks m c),
      ((h.2 c).2 Kernel2Ideal.main_v30 (Pipeline.mem_restRefs_of Kernel2Ideal.main_v30 (by decide) (by decide))).trans (Kernel2Ideal.Proj.res_vs m c),
      ((h.2 c).1 8).trans (Kernel2Ideal.Proj.res_qaT m c), ((h.2 c).1 11).trans (Kernel2Ideal.Proj.res_vaT m c), ((h.2 c).1 12).trans (Kernel2Ideal.Proj.res_qsT m c), h.1 c⟩
  · refine (θ_run Reference2Ideal.defs _ _).mono (fun r h c => ?_) (Cert.Reference2Ideal.Value.run (F := Ideal) m' g')
    obtain ⟨h0, h1, h2, h3, h4, h5⟩ := hm c
    obtain ⟨r0, r1, r2, r3, r4, r5, r6, hu⟩ := h c
    refine ⟨(r0.trans (Reference2Ideal.Proj.out_ka m' c)).trans ?_, (r1.trans (Reference2Ideal.Proj.out_va m' c)).trans ?_,
      (r2.trans (Reference2Ideal.Proj.out_heads m' c 4 4096 (by decide) _)).trans ?_,
      (r3.trans (Reference2Ideal.Proj.out_heads m' c 5 5120 (by decide) _)).trans ?_,
      (r4.trans (Reference2Ideal.Proj.out_qaT m' c)).trans ?_, (r5.trans (Reference2Ideal.Proj.out_vaT m' c)).trans ?_, (r6.trans (Reference2Ideal.Proj.out_qsT m' c)).trans ?_, hu⟩ <;>
    simp only [Reference2Ideal.Proj.a0, Reference2Ideal.Proj.a1, Reference2Ideal.Proj.a2, Reference2Ideal.Proj.a3, Reference2Ideal.Proj.a4, Reference2Ideal.Proj.a5, h0, h1, h2, h3, h4, h5]

end Cert.Proof

end
-- ==== Proof.OutSpec.lean ====
module

public import proofs.«01_k».proof.Proof.ProjSpec

@[expose] public section

set_option maxRecDepth 65536
set_option maxHeartbeats 4000000

noncomputable section

namespace Cert.OutSpec

open Idealize.ShloMosaic
open Cert.ProjSpec

/-! ## One token through the output projection

The gates, the mix of the two attentions, the residual and the second modulation, for a token's rows. -/

/-- The logistic function of a token's product with a column. -/
def sigV (h w : Fin 1024 → EReal) : EReal := Ideal.div 1 (1 + Ideal.exp (-(∑ k, h k * w k)))

/-- The two attentions, each through its own weight and under its own gate, added. -/
def mixV (h : Fin 1024 → EReal) (wga wgb : Fin 1024 → Fin 1024 → EReal) (a b : Fin 1024 → EReal) (woa wob : Fin 1024 → Fin 1024 → EReal) (j : Fin 1024) : EReal :=
  sigV h (fun k => wga k j) * ∑ k, a k * woa k j + sigV h (fun k => wgb k j) * ∑ k, b k * wob k j

/-- The token with the projected mix added under the residual's gate. -/
def addV (x gm mix : Fin 1024 → EReal) (wout : Fin 1024 → Fin 1024 → EReal) (f : Fin 1024) : EReal := x f + gm f * ∑ j, mix j * wout j f

section
variable (x : FVec Ideal ⟨3, ![8, 2048, 1024]⟩ .f32) (oa ob : FVec Ideal ⟨2, ![16384, 1024]⟩ .bf16) (mod : FVec Ideal ⟨2, ![16, 6144]⟩ .f32)
  (g1 g2 : FVec Ideal ⟨1, ![1024]⟩ .f32) (w : FVec Ideal ⟨2, ![1024, 8192]⟩ .f32) (woa wob wout : FVec Ideal ⟨2, ![1024, 1024]⟩ .f32)

/-- The place of a token among all of them. -/
abbrev tokR (b : Fin 8) (n : Fin 2048) : Fin 16384 := ⟨2048 * b.val + n.val, by omega⟩

/-- A batch row's stretch of the modulation. -/
abbrev modC (b : Fin 8) (off : ℕ) (ho : off ≤ 5120) : Fin 1024 → EReal := fun d => mod (ix2 (⟨b.val, by omega⟩ : Fin 16) (⟨off + d.val, by omega⟩ : Fin 6144))

/-- The residual stream after the attentions. -/
def x1V (b : Fin 8) (n : Fin 2048) : Fin 1024 → EReal :=
  addV (fun d => x (ix3 b n d)) (modC mod b 2048 (by decide))
    (mixV (hidV x mod g1 b n) (fun k j => w (ix2 k (⟨6144 + j.val, by omega⟩ : Fin 8192))) (fun k j => w (ix2 k (⟨7168 + j.val, by omega⟩ : Fin 8192)))
      (fun k => oa (ix2 (tokR b n) k)) (fun k => ob (ix2 (tokR b n) k)) (fun k j => woa (ix2 k j)) (fun k j => wob (ix2 k j)))
    (fun j f => wout (ix2 j f))

/-- The stream modulated a second time. -/
def h2V (b : Fin 8) (n : Fin 2048) : Fin 1024 → EReal :=
  modV (x1V x oa ob mod g1 w woa wob wout b n) (fun d => g2 (ix1 d)) (modC mod b 4096 (by decide)) (modC mod b 3072 (by decide))

/-- Rows for every token, one under another. -/
def rowsV {w : ℕ} (P : Fin 8 → Fin 2048 → Fin w → EReal) {e : FTy} : FVec Ideal ⟨2, ![16384, w]⟩ e :=
  fun i => P (⟨(i 0).val / 2048, by have : (i 0).val < 16384 := (i 0).isLt; omega⟩ : Fin 8) (⟨(i 0).val % 2048, by omega⟩ : Fin 2048) (i 1)

/-- Two arrays of rows that agree token by token are the same. -/
theorem rows_ext {w : ℕ} (P : Fin 8 → Fin 2048 → Fin w → EReal) {e : FTy} (A : FVec Ideal ⟨2, ![16384, w]⟩ e) (h : ∀ b n f, (A (ix2 (tokR b n) f) : EReal) = P b n f) : A = rowsV P := by
  funext i
  refine Eq.trans (congrArg A ?_) (h (⟨(i 0).val / 2048, by have : (i 0).val < 16384 := (i 0).isLt; omega⟩ : Fin 8) (⟨(i 0).val % 2048, by omega⟩ : Fin 2048) (i 1))
  funext a
  match a with
  | ⟨0, _⟩ => exact Fin.ext (by show (i 0).val = 2048 * ((i 0).val / 2048) + (i 0).val % 2048; omega)
  | ⟨1, _⟩ => rfl

end

end Cert.OutSpec

end
-- ==== Proof.OutBody.lean ====
module

public import proofs.«01_k».proof.Proof.Gen.Kernel3Ideal.Frame
public import proofs.«01_k».proof.Proof.OutSpec
public import Idealize.ShloMosaic.Lib.Pointwise
public import Idealize.ShloMosaic.Lib.Pointwise.IndexVar
public import Idealize.ShloMosaic.Lib.Pointwise.IndexBridge
public import Idealize.ShloMosaic.Lib.IdealHost
public import Idealize.ShloMosaic.Lib.Pipeline.ValueKit

@[expose] public section

set_option maxRecDepth 65536
set_option maxHeartbeats 4000000

noncomputable section

namespace Cert.Kernel3Ideal.Out

open Idealize.ShloMosaic Idealize.ShloMosaic.TcCoe Idealize.ShloMosaic.Tactic
open Cert.ProjSpec Cert.OutSpec
open Cert.Kernel3Ideal Cert.Kernel3Ideal.Gen

section
variable {F : FTy → Type} [FloatOps F]
variable (m : (ℓ : Loc nD τ sig) → Buf (Elt F) ℓ)

/-! ## What a tile's run leaves in the two outputs' buffers -/

theorem mod_inb (off : ℕ) (ho : off ≤ 5120) : ∀ a, (![0, 0, off] : Fin 3 → ℕ) a + (![1, 1, 1024] : Fin 3 → ℕ) a ≤ S1x1x6144.size a := by
  intro a
  match a with
  | ⟨0, _⟩ => exact le_refl 1
  | ⟨1, _⟩ => exact le_refl 1
  | ⟨2, _⟩ => show off + 1024 ≤ 6144; omega

theorem wg_inb (off : ℕ) (ho : off ≤ 1024) : ∀ a, (![0, off] : Fin 2 → ℕ) a + (![1024, 1024] : Fin 2 → ℕ) a ≤ S1024x2048.size a := by
  intro a
  match a with
  | ⟨0, _⟩ => exact le_refl 1024
  | ⟨1, _⟩ => show off + 1024 ≤ 2048; omega

/-- A stretch of a tile's modulation row. -/
def modB (c : Dev nD) (t : Fin cfg0.N) (off : ℕ) (ho : off ≤ 5120) : Vec F S1x1x1024 .f32 :=
  View.ld (iblk m c 0 t) (Rect.unit ![0, 0, off] ![1, 1, 1024] (mod_inb off ho))

/-- The columns of one of the two gates. -/
def wgB (c : Dev nD) (t : Fin cfg0.N) (off : ℕ) (ho : off ≤ 1024) : Vec F S1024x1024 .bf16 :=
  View.ld (iblk m c 6 t) (Rect.unit ![0, off] ![1024, 1024] (wg_inb off ho))

/-- A tile's modulated rows. -/
def hB (c : Dev nD) (t : Fin cfg0.N) : FVec F S512x1024 .bf16 := k0_pay3 (iblk m c 1 t) (iblk m c 4 t) (modB m c t 1024 (by decide)) (modB m c t 0 (by decide))

/-- A tile's residual stream. -/
def x1B (c : Dev nD) (t : Fin cfg0.N) : FVec F S512x1024 .f32 :=
  k0_pay5 (k0_pay2 (iblk m c 1 t)) (hB m c t) (k0_pay4 (iblk m c 1 t) (iblk m c 4 t) (modB m c t 1024 (by decide)) (modB m c t 0 (by decide)) (wgB m c t 0 (by decide)))
    (wgB m c t 1024 (by decide)) (iblk m c 2 t) (iblk m c 7 t) (iblk m c 3 t) (iblk m c 8 t) (modB m c t 2048 (by decide)) (iblk m c 9 t)

theorem ld_rows {e : EltTy} (X : Vec F S512x1024 e) : View.ld X r0_0 = X := View.ld_unit_lit _ X (by decide)

theorem ld_row {e : EltTy} (X : Vec F S1x1024 e) : View.ld X r0_1 = X := View.ld_unit_lit _ X (by decide)

theorem ld_sq {e : EltTy} (X : Vec F S1024x1024 e) : View.ld X r0_6 = X := View.ld_unit_lit _ X (by decide)

theorem after_x1 (c : Dev nD) (t : Fin cfg0.N) : (dats m 0 c).after 13 t = x1B m c t := by
  rw [after0_13]
  frame_out
  simp only [k0_pay27, k0_pay28, k0_pay29, ld_rows, ld_row]
  rfl

theorem after_h2 (c : Dev nD) (t : Fin cfg0.N) : (dats m 0 c).after 14 t
    = k0_pay8 (x1B m c t) (k0_pay6 (iblk m c 5 t)) (modB m c t 4096 (by decide)) (modB m c t 3072 (by decide)) := by
  rw [after0_14]
  frame_out
  simp only [k0_pay27, k0_pay28, k0_pay29, k0_pay30, k0_pay31, ld_rows, ld_row, ld_sq]
  rfl

end

/-! ## The tile's operations, read at an index -/

theorem one_bits : Ideal.ofBits FTy.f32 1065353216#32 = 1 := by
  pointwise

theorem mod_apply (v0 : Vec Ideal S512x1024 .f32) (v2 : Vec Ideal S1x1024 .f32) (v4 v6 : Vec Ideal S1x1x1024 .f32) (n : Fin 512) (k : Fin 1024) :
    (k0_pay3 v0 v2 v4 v6 (ix2 n k) : EReal) = modV (fun d => v0 (ix2 n d)) (fun d => v2 (ix2 (0 : Fin 1) d)) (fun d => v4 (ix3 (0 : Fin 1) (0 : Fin 1) d))
      (fun d => v6 (ix3 (0 : Fin 1) (0 : Fin 1) d)) k := by
  pointwise [k0_pay3, k0_pay2]
  rw [modV, one_bits]
  rfl

theorem mod2_apply (v66 : FVec Ideal S512x1024 .f32) (v68 : Vec Ideal S1x1024 .f32) (v70 v72 : Vec Ideal S1x1x1024 .f32) (n : Fin 512) (k : Fin 1024) :
    (k0_pay8 v66 (k0_pay6 v68) v70 v72 (ix2 n k) : EReal) = modV (fun d => v66 (ix2 n d)) (fun d => v68 (ix2 (0 : Fin 1) d)) (fun d => v70 (ix3 (0 : Fin 1) (0 : Fin 1) d))
      (fun d => v72 (ix3 (0 : Fin 1) (0 : Fin 1) d)) k := by
  pointwise [k0_pay8, k0_pay7, k0_pay6]
  rw [modV, one_bits]
  rfl

theorem gate_apply (v0 : Vec Ideal S512x1024 .f32) (v2 : Vec Ideal S1x1024 .f32) (v4 v6 : Vec Ideal S1x1x1024 .f32) (v27 : Vec Ideal S1024x1024 .bf16) (n : Fin 512) (j : Fin 1024) :
    (k0_pay4 v0 v2 v4 v6 v27 (ix2 n j) : EReal) = sigV (fun k => k0_pay3 v0 v2 v4 v6 (ix2 n k)) (fun k => v27 (ix2 k j)) := by
  generalize hh : k0_pay3 v0 v2 v4 v6 = h
  unfold k0_pay4
  rw [hh]
  pointwise
  unfold sigV
  simp only [zero_sub]

theorem add_apply (v0 : Vec Ideal S512x1024 .f32) (v26 : FVec Ideal S512x1024 .bf16) (v36 : FVec Ideal S512x1024 .f32) (v37 : Vec Ideal S1024x1024 .bf16) (v47 : Vec Ideal S512x1024 .bf16)
    (v48 : Vec Ideal S1024x1024 .bf16) (v52 : Vec Ideal S512x1024 .bf16) (v53 : Vec Ideal S1024x1024 .bf16) (v58 : Vec Ideal S1x1x1024 .f32) (v61 : Vec Ideal S1024x1024 .bf16)
    (wga : Fin 1024 → Fin 1024 → EReal) (n : Fin 512) (hg : ∀ j, (v36 (ix2 n j) : EReal) = sigV (fun k => v26 (ix2 n k)) (fun k => wga k j)) (f : Fin 1024) :
    (k0_pay5 (k0_pay2 v0) v26 v36 v37 v47 v48 v52 v53 v58 v61 (ix2 n f) : EReal)
      = addV (fun d => v0 (ix2 n d)) (fun d => v58 (ix3 (0 : Fin 1) (0 : Fin 1) d))
        (mixV (fun k => v26 (ix2 n k)) wga (fun k j => v37 (ix2 k j)) (fun k => v47 (ix2 n k)) (fun k => v52 (ix2 n k)) (fun k j => v48 (ix2 k j)) (fun k j => v53 (ix2 k j)))
        (fun j f => v61 (ix2 j f)) f := by
  unfold addV mixV
  simp only [← hg]
  unfold sigV
  pointwise [k0_pay5, k0_pay2]
  simp only [zero_sub]

end Cert.Kernel3Ideal.Out

end
-- ==== Proof.OutBlocks.lean ====
module

public import proofs.«01_k».proof.Proof.OutBody

@[expose] public section

set_option maxRecDepth 65536
set_option maxHeartbeats 4000000

noncomputable section

namespace Cert.Kernel3Ideal.Out

open Idealize.ShloMosaic Idealize.ShloMosaic.TcCoe Idealize.ShloMosaic.Tactic
open Cert.ProjSpec Cert.OutSpec
open Cert.Kernel3Ideal Cert.Kernel3Ideal.Gen

variable (m : (ℓ : Loc nD τ sig) → Buf (Elt Ideal) ℓ) (c : Dev nD)

/-! ## The call's arguments, and the arrays the host prepares of them -/

abbrev aX : FVec Ideal S8x2048x1024 .f32 := m ((c : Thread nD τ).loc main_arg0)
abbrev aA : FVec Ideal S16384x1024 .bf16 := m ((c : Thread nD τ).loc main_arg1)
abbrev aB : FVec Ideal S16384x1024 .bf16 := m ((c : Thread nD τ).loc main_arg2)
abbrev aMod : FVec Ideal S16x6144 .f32 := m ((c : Thread nD τ).loc main_arg3)
abbrev aN1 : FVec Ideal S1024 .f32 := m ((c : Thread nD τ).loc main_arg4)
abbrev aN2 : FVec Ideal S1024 .f32 := m ((c : Thread nD τ).loc main_arg5)
abbrev aW : FVec Ideal S1024x8192 .f32 := m ((c : Thread nD τ).loc main_arg6)
abbrev aWa : FVec Ideal S1024x1024 .f32 := m ((c : Thread nD τ).loc main_arg7)
abbrev aWb : FVec Ideal S1024x1024 .f32 := m ((c : Thread nD τ).loc main_arg8)
abbrev aWo : FVec Ideal S1024x1024 .f32 := m ((c : Thread nD τ).loc main_arg9)

/-- The host's arrays, all at once: each is an argument, reshaped where the call asks for it. -/
theorem host_arrays : (V m c main_v0 : Vec Ideal S16x1x6144 .f32) = shapeCast S16x1x6144 (aMod m c) shapeCasts_S16x6144_S16x1x6144
    ∧ (V m c main_v6 : Vec Ideal S16384x1024 .f32) = shapeCast S16384x1024 (aX m c) shapeCasts_S8x2048x1024_S16384x1024
    ∧ (V m c main_v7 : Vec Ideal S1024x8192 .bf16) = aW m c
    ∧ (V m c main_v8 : Vec Ideal S1024x1024 .bf16) = aWa m c
    ∧ (V m c main_v9 : Vec Ideal S1024x1024 .bf16) = aWb m c
    ∧ (V m c main_v10 : Vec Ideal S1024x1024 .bf16) = aWo m c
    ∧ (V m c main_v15 : Vec Ideal S1x1024 .f32) = shapeCast S1x1024 (aN1 m c) shapeCasts_S1024_S1x1024
    ∧ (V m c main_v16 : Vec Ideal S1x1024 .f32) = shapeCast S1x1024 (aN2 m c) shapeCasts_S1024_S1x1024 := by
  refine ⟨?_, ?_, ?_, ?_, ?_, ?_, ?_, ?_⟩ <;>
  · show StableHlo.after (List.flatten [hostOps0, hostOps0_1, hostOps0_2, hostOps0_3, hostOps0_4]) _ _ = _
    simp only [hostOps0, hostOps0_1, hostOps0_2, hostOps0_3, hostOps0_4, List.flatten_cons, List.flatten_nil, List.append_nil, List.cons_append, List.nil_append]
    after_results_simp <;> rfl

theorem modCast_apply (X : Vec Ideal S16x6144 .f32) (b : Fin 16) (d : Fin 6144) :
    (shapeCast S16x1x6144 X shapeCasts_S16x6144_S16x1x6144) (ix3 b (0 : Fin 1) d) = X (ix2 b d) := by
  pointwise

theorem xCast_apply (X : Vec Ideal S8x2048x1024 .f32) (b : Fin 8) (n : Fin 2048) (d : Fin 1024) :
    (shapeCast S16384x1024 X shapeCasts_S8x2048x1024_S16384x1024) (ix2 (tokR b n) d) = X (ix3 b n d) := by
  pointwise
  exact congrArg₂ (fun p q => X (ix3 p q d)) (Fin.ext (by show (2048 * b.val + n.val) / 2048 = b.val; omega)) (Fin.ext (by show (2048 * b.val + n.val) % 2048 = n.val; omega))

theorem gCast_apply (X : Vec Ideal S1024 .f32) (d : Fin 1024) : (shapeCast S1x1024 X shapeCasts_S1024_S1x1024) (ix2 (0 : Fin 1) d) = X (ix1 d) := by
  pointwise

/-! ## The blocks, element by element -/

theorem ptN (t : Fin cfg0.N) : t.val < 32 := t.isLt

/-- The batch row a tile belongs to. -/
abbrev rowB (t : Fin cfg0.N) : Fin 8 := ⟨t.val / 4, by have := ptN t; omega⟩

/-- The token a tile's row is. -/
abbrev tokN (t : Fin cfg0.N) (n : Fin 512) : Fin 2048 := ⟨t.val % 4 * 512 + n.val, by omega⟩

theorem index_in : ∀ t : Fin grid0.N, win0_0.index t = ![t.val / 4, 0, 0] ∧ win0_1.index t = ![t.val, 0] ∧ win0_2.index t = ![t.val, 0] ∧ win0_3.index t = ![t.val, 0]
    ∧ win0_4.index t = ![0, 0] ∧ win0_5.index t = ![0, 0] ∧ win0_6.index t = ![0, 3] ∧ win0_7.index t = ![0, 0] ∧ win0_8.index t = ![0, 0] ∧ win0_9.index t = ![0, 0] := by decide +kernel

/-- A tile's row `n` is the row of its token. -/
theorem tok_row (t : Fin cfg0.N) (n : Fin 512) : t.val * 512 + 1 * n.val = (tokR (rowB t) (tokN t n)).val := by
  have := ptN t
  show t.val * 512 + 1 * n.val = 2048 * (t.val / 4) + (t.val % 4 * 512 + n.val)
  omega

/-- Two places of a two-dimensional array with the same coordinates. -/
theorem ix2_eq {p q : ℕ} (z : Shape.Idx ⟨2, ![p, q]⟩) (i : Fin p) (j : Fin q) (h0 : (z 0).val = i.val) (h1 : (z 1).val = j.val) : z = ix2 i j := by
  funext a
  match a with
  | ⟨0, _⟩ => exact Fin.ext h0
  | ⟨1, _⟩ => exact Fin.ext h1

theorem modRow_apply (t : Fin cfg0.N) (d : Fin 6144) :
    iblk m c 0 t (ix3 (0 : Fin 1) (0 : Fin 1) d) = aMod m c (ix2 (⟨t.val / 4, by have := ptN t; omega⟩ : Fin 16) d) := by
  rw [← modCast_apply (aMod m c), ← (host_arrays m c).1]
  unfold iblk
  rw [View.read_apply]
  show V m c main_v0 _ = V m c main_v0 _
  congr 1
  funext a
  apply Fin.ext
  match a with
  | ⟨0, _⟩ => show win0_0.index t 0 * 1 + 1 * 0 = t.val / 4; rw [(index_in t).1]; show t.val / 4 * 1 + 1 * 0 = _; omega
  | ⟨1, _⟩ => show win0_0.index t 1 * 1 + 1 * 0 = 0; rw [(index_in t).1]; rfl
  | ⟨2, _⟩ => show win0_0.index t 2 * 6144 + 1 * d.val = d.val; rw [(index_in t).1]; show 0 * 6144 + 1 * d.val = _; omega

theorem modB_apply (t : Fin cfg0.N) (off : ℕ) (ho : off ≤ 5120) (d : Fin 1024) : (modB m c t off ho (ix3 (0 : Fin 1) (0 : Fin 1) d) : EReal) = modC (aMod m c) (rowB t) off ho d := by
  refine Eq.trans ?_ (modRow_apply m c t ⟨off + d.val, by omega⟩)
  show iblk m c 0 t _ = iblk m c 0 t _
  congr 1
  funext a
  apply Fin.ext
  match a with
  | ⟨0, _⟩ => rfl
  | ⟨1, _⟩ => rfl
  | ⟨2, _⟩ => show off + 1 * d.val = off + d.val; omega

theorem xB_apply (t : Fin cfg0.N) (n : Fin 512) (d : Fin 1024) : (iblk m c 1 t (ix2 n d) : EReal) = aX m c (ix3 (rowB t) (tokN t n) d) := by
  rw [← xCast_apply (aX m c), ← (host_arrays m c).2.1]
  unfold iblk
  rw [View.read_apply]
  show V m c main_v6 _ = V m c main_v6 _
  refine congrArg (V m c main_v6) (ix2_eq _ _ _ ?_ ?_)
  · show win0_1.index t 0 * 512 + 1 * n.val = _; rw [(index_in t).2.1]; exact tok_row t n
  · show win0_1.index t 1 * 1024 + 1 * d.val = _; rw [(index_in t).2.1]; show 0 * 1024 + 1 * d.val = d.val; omega

theorem aB_apply (t : Fin cfg0.N) (n : Fin 512) (d : Fin 1024) : (iblk m c 2 t (ix2 n d) : EReal) = aA m c (ix2 (tokR (rowB t) (tokN t n)) d) := by
  show _ = (m ((c : Thread nD τ).loc main_arg1) (ix2 (tokR (rowB t) (tokN t n)) d) : EReal)
  rw [← V_main_arg1 m c]
  unfold iblk
  rw [View.read_apply]
  show V m c main_arg1 _ = V m c main_arg1 _
  refine congrArg (V m c main_arg1) (ix2_eq _ _ _ ?_ ?_)
  · show win0_2.index t 0 * 512 + 1 * n.val = _; rw [(index_in t).2.2.1]; exact tok_row t n
  · show win0_2.index t 1 * 1024 + 1 * d.val = _; rw [(index_in t).2.2.1]; show 0 * 1024 + 1 * d.val = d.val; omega

theorem bB_apply (t : Fin cfg0.N) (n : Fin 512) (d : Fin 1024) : (iblk m c 3 t (ix2 n d) : EReal) = aB m c (ix2 (tokR (rowB t) (tokN t n)) d) := by
  show _ = (m ((c : Thread nD τ).loc main_arg2) (ix2 (tokR (rowB t) (tokN t n)) d) : EReal)
  rw [← V_main_arg2 m c]
  unfold iblk
  rw [View.read_apply]
  show V m c main_arg2 _ = V m c main_arg2 _
  refine congrArg (V m c main_arg2) (ix2_eq _ _ _ ?_ ?_)
  · show win0_3.index t 0 * 512 + 1 * n.val = _; rw [(index_in t).2.2.2.1]; exact tok_row t n
  · show win0_3.index t 1 * 1024 + 1 * d.val = _; rw [(index_in t).2.2.2.1]; show 0 * 1024 + 1 * d.val = d.val; omega

theorem n1B_apply (t : Fin cfg0.N) (d : Fin 1024) : (iblk m c 4 t (ix2 (0 : Fin 1) d) : EReal) = aN1 m c (ix1 d) := by
  rw [← gCast_apply (aN1 m c), ← (host_arrays m c).2.2.2.2.2.2.1]
  unfold iblk
  rw [View.read_apply]
  show V m c main_v15 _ = V m c main_v15 _
  refine congrArg (V m c main_v15) (ix2_eq _ _ _ ?_ ?_)
  · show win0_4.index t 0 * 1 + 1 * 0 = _; rw [(index_in t).2.2.2.2.1]; rfl
  · show win0_4.index t 1 * 1024 + 1 * d.val = _; rw [(index_in t).2.2.2.2.1]; show 0 * 1024 + 1 * d.val = d.val; omega

theorem n2B_apply (t : Fin cfg0.N) (d : Fin 1024) : (iblk m c 5 t (ix2 (0 : Fin 1) d) : EReal) = aN2 m c (ix1 d) := by
  rw [← gCast_apply (aN2 m c), ← (host_arrays m c).2.2.2.2.2.2.2]
  unfold iblk
  rw [View.read_apply]
  show V m c main_v16 _ = V m c main_v16 _
  refine congrArg (V m c main_v16) (ix2_eq _ _ _ ?_ ?_)
  · show win0_5.index t 0 * 1 + 1 * 0 = _; rw [(index_in t).2.2.2.2.2.1]; rfl
  · show win0_5.index t 1 * 1024 + 1 * d.val = _; rw [(index_in t).2.2.2.2.2.1]; show 0 * 1024 + 1 * d.val = d.val; omega

theorem wRow_apply (t : Fin cfg0.N) (k : Fin 1024) (j : Fin 2048) : (iblk m c 6 t (ix2 k j) : EReal) = aW m c (ix2 k (⟨6144 + j.val, by omega⟩ : Fin 8192)) := by
  rw [← (host_arrays m c).2.2.1]
  unfold iblk
  rw [View.read_apply]
  show V m c main_v7 _ = V m c main_v7 _
  refine congrArg (V m c main_v7) (ix2_eq _ _ _ ?_ ?_)
  · show win0_6.index t 0 * 1024 + 1 * k.val = _; rw [(index_in t).2.2.2.2.2.2.1]; show 0 * 1024 + 1 * k.val = k.val; omega
  · show win0_6.index t 1 * 2048 + 1 * j.val = _; rw [(index_in t).2.2.2.2.2.2.1]; show 3 * 2048 + 1 * j.val = 6144 + j.val; omega

theorem waB_apply (t : Fin cfg0.N) (k j : Fin 1024) : (iblk m c 7 t (ix2 k j) : EReal) = aWa m c (ix2 k j) := by
  rw [← (host_arrays m c).2.2.2.1]
  unfold iblk
  rw [View.read_apply]
  show V m c main_v8 _ = V m c main_v8 _
  refine congrArg (V m c main_v8) (ix2_eq _ _ _ ?_ ?_)
  · show win0_7.index t 0 * 1024 + 1 * k.val = _; rw [(index_in t).2.2.2.2.2.2.2.1]; show 0 * 1024 + 1 * k.val = k.val; omega
  · show win0_7.index t 1 * 1024 + 1 * j.val = _; rw [(index_in t).2.2.2.2.2.2.2.1]; show 0 * 1024 + 1 * j.val = j.val; omega

theorem wbB_apply (t : Fin cfg0.N) (k j : Fin 1024) : (iblk m c 8 t (ix2 k j) : EReal) = aWb m c (ix2 k j) := by
  rw [← (host_arrays m c).2.2.2.2.1]
  unfold iblk
  rw [View.read_apply]
  show V m c main_v9 _ = V m c main_v9 _
  refine congrArg (V m c main_v9) (ix2_eq _ _ _ ?_ ?_)
  · show win0_8.index t 0 * 1024 + 1 * k.val = _; rw [(index_in t).2.2.2.2.2.2.2.2.1]; show 0 * 1024 + 1 * k.val = k.val; omega
  · show win0_8.index t 1 * 1024 + 1 * j.val = _; rw [(index_in t).2.2.2.2.2.2.2.2.1]; show 0 * 1024 + 1 * j.val = j.val; omega

theorem woB_apply (t : Fin cfg0.N) (k j : Fin 1024) : (iblk m c 9 t (ix2 k j) : EReal) = aWo m c (ix2 k j) := by
  rw [← (host_arrays m c).2.2.2.2.2.1]
  unfold iblk
  rw [View.read_apply]
  show V m c main_v10 _ = V m c main_v10 _
  refine congrArg (V m c main_v10) (ix2_eq _ _ _ ?_ ?_)
  · show win0_9.index t 0 * 1024 + 1 * k.val = _; rw [(index_in t).2.2.2.2.2.2.2.2.2]; show 0 * 1024 + 1 * k.val = k.val; omega
  · show win0_9.index t 1 * 1024 + 1 * j.val = _; rw [(index_in t).2.2.2.2.2.2.2.2.2]; show 0 * 1024 + 1 * j.val = j.val; omega

theorem wgB_apply (t : Fin cfg0.N) (off : ℕ) (ho : off ≤ 1024) (k j : Fin 1024) : (wgB m c t off ho (ix2 k j) : EReal) = aW m c (ix2 k (⟨6144 + (off + j.val), by omega⟩ : Fin 8192)) := by
  refine Eq.trans ?_ (wRow_apply m c t k ⟨off + j.val, by omega⟩)
  show iblk m c 6 t _ = iblk m c 6 t _
  refine congrArg (iblk m c 6 t) (ix2_eq _ _ _ ?_ ?_)
  · show 0 + 1 * k.val = k.val; omega
  · show off + 1 * j.val = off + j.val; omega

/-! ## A tile's two outputs, token by token -/

/-- The residual stream of this call. -/
abbrev x1M (b : Fin 8) (n : Fin 2048) (f : Fin 1024) : EReal := x1V (aX m c) (aA m c) (aB m c) (aMod m c) (aN1 m c) (aW m c) (aWa m c) (aWb m c) (aWo m c) b n f

/-- Its second modulation. -/
abbrev h2M (b : Fin 8) (n : Fin 2048) (f : Fin 1024) : EReal := h2V (aX m c) (aA m c) (aB m c) (aMod m c) (aN1 m c) (aN2 m c) (aW m c) (aWa m c) (aWb m c) (aWo m c) b n f

theorem hB_block (t : Fin cfg0.N) (n : Fin 512) (k : Fin 1024) : (hB m c t (ix2 n k) : EReal) = hidV (aX m c) (aMod m c) (aN1 m c) (rowB t) (tokN t n) k := by
  unfold hB
  rw [mod_apply]
  simp only [modB_apply, xB_apply, n1B_apply]
  unfold hidV
  refine congrArg (fun sh => modV _ _ _ sh k) (funext fun d => ?_)
  exact congrArg (fun q => (aMod m c (ix2 (⟨t.val / 4, by have := ptN t; omega⟩ : Fin 16) q) : EReal)) (Fin.ext (by show 0 + d.val = d.val; omega))

theorem gate_block (t : Fin cfg0.N) (n : Fin 512) (j : Fin 1024) :
    (k0_pay4 (iblk m c 1 t) (iblk m c 4 t) (modB m c t 1024 (by decide)) (modB m c t 0 (by decide)) (wgB m c t 0 (by decide)) (ix2 n j) : EReal)
      = sigV (fun k => hB m c t (ix2 n k)) (fun k => aW m c (ix2 k (⟨6144 + j.val, by omega⟩ : Fin 8192))) := by
  refine (gate_apply _ _ _ _ _ n j).trans (congrArg (sigV _) (funext fun k => ?_))
  refine (wgB_apply m c t 0 (by decide) k j).trans ?_
  exact congrArg (fun q => (aW m c (ix2 k q) : EReal)) (Fin.ext (by show 6144 + (0 + j.val) = 6144 + j.val; omega))

theorem x1_block (t : Fin cfg0.N) (n : Fin 512) (f : Fin 1024) : (x1B m c t (ix2 n f) : EReal) = x1M m c (rowB t) (tokN t n) f := by
  refine (add_apply _ _ _ _ _ _ _ _ _ _ (fun k j => aW m c (ix2 k (⟨6144 + j.val, by omega⟩ : Fin 8192))) n (fun j => gate_block m c t n j) f).trans ?_
  have hb : (fun k j => (wgB m c t 1024 (by decide) (ix2 k j) : EReal)) = fun k j => aW m c (ix2 k (⟨7168 + j.val, by omega⟩ : Fin 8192)) := by
    funext k j
    refine (wgB_apply m c t 1024 (by decide) k j).trans ?_
    exact congrArg (fun q => (aW m c (ix2 k q) : EReal)) (Fin.ext (by show 6144 + (1024 + j.val) = 7168 + j.val; omega))
  rw [hb, funext fun k => hB_block m c t n k, funext fun d => xB_apply m c t n d, funext fun d => modB_apply m c t 2048 (by decide) d, funext fun k => aB_apply m c t n k,
    funext fun k => bB_apply m c t n k, funext fun k => funext fun j => waB_apply m c t k j, funext fun k => funext fun j => wbB_apply m c t k j,
    funext fun k => funext fun j => woB_apply m c t k j]
  rfl

theorem h2_block (t : Fin cfg0.N) (n : Fin 512) (f : Fin 1024) :
    (k0_pay8 (x1B m c t) (k0_pay6 (iblk m c 5 t)) (modB m c t 4096 (by decide)) (modB m c t 3072 (by decide)) (ix2 n f) : EReal) = h2M m c (rowB t) (tokN t n) f := by
  rw [mod2_apply]
  simp only [x1_block, modB_apply, n2B_apply]
  rfl

/-! ## The arrays the call leaves -/

theorem index_out : ∀ t : Fin grid0.N, win0_13.index t = ![t.val, 0] ∧ win0_14.index t = ![t.val, 0] := by decide +kernel

/-- An entry of the rows of all tokens, at the place a tile's block puts it. -/
theorem rows_at {w : ℕ} (P : Fin 8 → Fin 2048 → Fin w → EReal) {e : FTy} (t : Fin cfg0.N) (A : FVec Ideal ⟨2, ![512, w]⟩ e) (hA : ∀ n f, (A (ix2 n f) : EReal) = P (rowB t) (tokN t n) f)
    (y : Shape.Idx ⟨2, ![512, w]⟩) (z : Shape.Idx ⟨2, ![16384, w]⟩) (h0 : (z 0).val = t.val * 512 + 1 * (y 0).val) (h1 : (z 1).val = 0 * w + 1 * (y 1).val) :
    (A y : EReal) = (rowsV P : FVec Ideal ⟨2, ![16384, w]⟩ e) z := by
  have hN := ptN t
  have b0 : (y 0).val < 512 := (y 0).isLt
  refine (congrArg A (ix2_eq y (y 0) (y 1) rfl rfl)).trans ((hA (y 0) (y 1)).trans ?_)
  show _ = P ⟨(z 0).val / 2048, _⟩ ⟨(z 0).val % 2048, _⟩ (z 1)
  congr 1
  · exact Fin.ext (by show t.val / 4 = (z 0).val / 2048; omega)
  · exact Fin.ext (by show t.val % 4 * 512 + (y 0).val = (z 0).val % 2048; omega)
  · exact Fin.ext (by show (y 1).val = (z 1).val; rw [h1, zero_mul, zero_add, one_mul])

theorem arr_x1 : (dats m 0 c).arrAt 13 cfg0.N = (rowsV (x1M m c) : FVec Ideal S16384x1024 .f32) := by
  refine (dats m 0 c).arrAt_eq_of_covers 13 _ (by decide +kernel) fun t hf y => ?_
  blk_simp
  rw [after_x1]
  refine rows_at (x1M m c) t _ (x1_block m c t) y _ ?_ ?_
  · show win0_13.index t 0 * 512 + 1 * (y 0).val = _; rw [(index_out t).1]; rfl
  · show win0_13.index t 1 * 1024 + 1 * (y 1).val = _; rw [(index_out t).1]; rfl

theorem arr_h2 : (dats m 0 c).arrAt 14 cfg0.N = (rowsV (h2M m c) : FVec Ideal S16384x1024 .bf16) := by
  refine (dats m 0 c).arrAt_eq_of_covers 14 _ (by decide +kernel) fun t hf y => ?_
  blk_simp
  rw [after_h2]
  refine rows_at (h2M m c) t _ (h2_block m c t) y _ ?_ ?_
  · show win0_14.index t 0 * 512 + 1 * (y 0).val = _; rw [(index_out t).2]; rfl
  · show win0_14.index t 1 * 1024 + 1 * (y 1).val = _; rw [(index_out t).2]; rfl

end Cert.Kernel3Ideal.Out

end
-- ==== Proof.RouteSpec.lean ====
module

public import proofs.«01_k».proof.Proof.OutSpec

@[expose] public section

set_option maxHeartbeats 1000000

noncomputable section

namespace Cert.RouteSpec

open Idealize.ShloMosaic
open Classical

/-! ## Greatest and first entries of a row -/

/-- The greatest entry of a row. -/
def maxV {n : ℕ} (f : Fin n → EReal) : EReal := Finset.fold max ⊥ f Finset.univ

/-- The least entry of a row. -/
def minV {n : ℕ} (f : Fin n → EReal) : EReal := Finset.fold min ⊤ f Finset.univ

/-- A lane's number. -/
def laneV {n : ℕ} (e : Fin n) : EReal := ((e.val : ℝ) : EReal)

theorem maxV_eq {n : ℕ} (f : Fin n → EReal) (a : EReal) (i : Fin n) (h : f i = a) (hle : ∀ j, f j ≤ a) : maxV f = a :=
  le_antisymm (Finset.sup_le (f := f) fun j _ => hle j) (h ▸ Finset.le_sup (f := f) (Finset.mem_univ i))

theorem minV_eq {n : ℕ} (f : Fin n → EReal) (a : EReal) (i : Fin n) (h : f i = a) (hle : ∀ j, a ≤ f j) : minV f = a :=
  le_antisymm (h ▸ Finset.inf_le (f := f) (Finset.mem_univ i)) (Finset.le_inf (f := f) fun j _ => hle j)

theorem le_maxV {n : ℕ} (f : Fin n → EReal) (i : Fin n) : f i ≤ maxV f := Finset.le_sup (f := f) (Finset.mem_univ i)

/-- A row's greatest entry is one of its entries. -/
theorem maxV_mem {n : ℕ} (f : Fin n → EReal) (i : Fin n) : ∃ j, maxV f = f j := by
  obtain ⟨j, -, hj⟩ := Finset.exists_mem_eq_sup (Finset.univ : Finset (Fin n)) ⟨i, Finset.mem_univ i⟩ f
  exact ⟨j, hj⟩

/-- The first place of a row's greatest entry. -/
theorem exists_first {n : ℕ} (p : Fin n → EReal) (i : Fin n) : ∃ g : Fin n, (∀ j, p j ≤ p g) ∧ ∀ j, p j = p g → g ≤ j := by
  obtain ⟨x, -, hx⟩ := Finset.exists_max_image (Finset.univ : Finset (Fin n)) p ⟨i, Finset.mem_univ i⟩
  obtain ⟨g, hg, hm⟩ := Finset.exists_min_image (Finset.univ.filter fun j => p j = p x) (fun j => j.val) ⟨x, by simp⟩
  have hgx : p g = p x := by simpa using hg
  refine ⟨g, fun j => hgx ▸ hx j (Finset.mem_univ j), fun j hj => hm j (by simp [hj, hgx])⟩

theorem laneV_inj {n : ℕ} (a b : Fin n) : laneV a = laneV b ↔ a = b := by
  unfold laneV
  rw [EReal.coe_eq_coe_iff, Nat.cast_inj, Fin.ext_iff]

/-! ## Shares of a row -/

/-- An entry's share of its row: its exponential over the row's. -/
def shareV {n : ℕ} (l : Fin n → EReal) (i : Fin n) : EReal := Ideal.div (Ideal.exp (l i - maxV l)) (∑ j, Ideal.exp (l j - maxV l))

/-- The share, with `c` taken off every entry before the exponential. -/
def shareAt {n : ℕ} (l : Fin n → EReal) (c : EReal) (i : Fin n) : EReal := Ideal.div (Ideal.exp (l i - c)) (∑ j, Ideal.exp (l j - c))

theorem coe_sum {n : ℕ} (f : Fin n → ℝ) : ((∑ j, f j : ℝ) : EReal) = ∑ j, (f j : EReal) := by
  induction (Finset.univ : Finset (Fin n)) using Finset.induction_on with
  | empty => simp
  | insert a s ha ih => rw [Finset.sum_insert ha, Finset.sum_insert ha, EReal.coe_add, ih]

/-- A row that has shares: none of its entries is above the reals, and not all are below. -/
def Live {n : ℕ} (l : Fin n → EReal) : Prop := (∀ i, l i ≠ ⊤) ∧ ∃ i, l i ≠ ⊥

/-- What may be taken off a row's entries: a real if the row has shares, and its greatest entry if that is above the reals. -/
structure Fit {n : ℕ} (l : Fin n → EReal) (c : EReal) : Prop where
  top : (∃ i, l i = ⊤) → c = ⊤
  real : Live l → ∃ r : ℝ, c = (r : EReal)

/-- A row's greatest entry may be taken off, also when the row is among other entries that are reals. -/
theorem fit_max {n k : ℕ} (l : Fin k → EReal) (f : Fin n → EReal) (h : ∀ i, ∃ e, f e = l i) (h' : ∀ e, (∃ i, f e = l i) ∨ ∃ r : ℝ, f e = (r : EReal)) : Fit l (maxV f) where
  top := by
    rintro ⟨i, hi⟩
    obtain ⟨e, he⟩ := h i
    exact top_le_iff.mp (hi ▸ he ▸ le_maxV f e)
  real := by
    rintro ⟨ht, i, hi⟩
    obtain ⟨e, he⟩ := h i
    obtain ⟨j, hj⟩ := maxV_mem f e
    have hb : f j ≠ ⊥ := fun hb => hi (he ▸ le_bot_iff.mp (hb ▸ hj ▸ le_maxV f e))
    have hn : f j ≠ ⊤ := by
      obtain ⟨a, ha⟩ | ⟨r, hr⟩ := h' j
      · exact ha ▸ ht a
      · exact hr ▸ EReal.coe_ne_top r
    exact ⟨(f j).toReal, hj.trans (EReal.coe_toReal hn hb).symm⟩

/-- An entry's exponential, over the reals. -/
def expW (x : EReal) : ℝ := if x = ⊥ then 0 else Real.exp x.toReal

theorem expW_nonneg (x : EReal) : 0 ≤ expW x := by
  unfold expW
  split
  · exact le_rfl
  · exact le_of_lt (Real.exp_pos _)

theorem expW_pos (x : EReal) (h : x ≠ ⊥) : 0 < expW x := by
  unfold expW
  rw [if_neg h]
  exact Real.exp_pos _

theorem exp_expW (x : EReal) (h : x ≠ ⊤) (c : ℝ) : Ideal.exp (x - (c : EReal)) = ((expW x * Real.exp (-c) : ℝ) : EReal) := by
  unfold expW
  by_cases hb : x = ⊥
  · rw [if_pos hb, hb, EReal.bot_sub, zero_mul]; rfl
  · rw [if_neg hb, ← EReal.coe_toReal h hb, ← EReal.coe_sub, EReal.toReal_coe, ← Real.exp_add, ← sub_eq_add_neg]; rfl

section
variable {n : ℕ} {l : Fin n → EReal}

theorem Live.sum_pos (h : Live l) : 0 < ∑ j, expW (l j) := by
  obtain ⟨i, hi⟩ := h.2
  exact Finset.sum_pos' (fun j _ => expW_nonneg _) ⟨i, Finset.mem_univ i, expW_pos _ hi⟩

theorem Live.sum_eq (h : Live l) (c : ℝ) : (∑ j, Ideal.exp (l j - (c : EReal))) = (((∑ j, expW (l j)) * Real.exp (-c) : ℝ) : EReal) := by
  simp only [fun j => exp_expW (l j) (h.1 j) c]
  rw [← coe_sum, Finset.sum_mul]

theorem Live.off (h : Live l) (c : ℝ) : Ideal.div 0 (∑ j, Ideal.exp (l j - (c : EReal))) = 0 := by
  rw [h.sum_eq, Ideal.div_coe (ne_of_gt (mul_pos h.sum_pos (Real.exp_pos _))), zero_mul]

/-- A row's shares do not depend on the real that is taken off. -/
theorem Live.share (h : Live l) (c : ℝ) (i : Fin n) : shareAt l c i = ((expW (l i) / ∑ j, expW (l j) : ℝ) : EReal) := by
  unfold shareAt
  rw [h.sum_eq, exp_expW _ (h.1 i), Ideal.div_coe (ne_of_gt (mul_pos h.sum_pos (Real.exp_pos _))), ← EReal.coe_mul, mul_one_div]
  congr 1
  exact mul_div_mul_right _ _ (ne_of_gt (Real.exp_pos _))

theorem dead_exp (h : ¬ Live l) {c : EReal} (hc : Fit l c) (i : Fin n) : Ideal.exp (l i - c) = 0 := by
  have hx : l i - c = ⊥ := by
    by_cases ht : ∃ j, l j = ⊤
    · rw [hc.top ht]; exact EReal.sub_top _
    · have hb : l i = ⊥ := by
        by_contra hb
        exact h ⟨fun j hj => ht ⟨j, hj⟩, i, hb⟩
      rw [hb]; exact EReal.bot_sub _
  rw [hx]; rfl

theorem dead_off (h : ¬ Live l) {c : EReal} (hc : Fit l c) : Ideal.div 0 (∑ j, Ideal.exp (l j - c)) = ⊥ := by
  simp only [dead_exp h hc, Finset.sum_const_zero]
  unfold Ideal.div
  rw [if_pos rfl, if_neg (lt_irrefl 0)]

/-- A row without shares has the same junk in place of every one. -/
theorem dead_share (h : ¬ Live l) {c : EReal} (hc : Fit l c) (i : Fin n) : shareAt l c i = ⊥ := by
  unfold shareAt
  rw [dead_exp h hc]
  exact dead_off h hc

theorem share_same {c d : EReal} (hc : Fit l c) (hd : Fit l d) (i : Fin n) : shareAt l c i = shareAt l d i := by
  by_cases h : Live l
  · obtain ⟨r, rfl⟩ := hc.real h
    obtain ⟨t, rfl⟩ := hd.real h
    rw [h.share, h.share]
  · rw [dead_share h hc, dead_share h hd]

theorem fit_self (l : Fin n → EReal) : Fit l (maxV l) := fit_max l l (fun i => ⟨i, rfl⟩) fun e => .inl ⟨e, rfl⟩

theorem Live.nonneg (h : Live l) (i : Fin n) : 0 ≤ shareV l i := by
  obtain ⟨r, hr⟩ := (fit_self l).real h
  show 0 ≤ shareAt l (maxV l) i
  rw [hr, h.share]
  exact EReal.coe_nonneg.mpr (div_nonneg (expW_nonneg _) (le_of_lt h.sum_pos))

theorem Live.pos (h : Live l) : ∃ i, 0 < shareV l i := by
  obtain ⟨r, hr⟩ := (fit_self l).real h
  obtain ⟨i, hi⟩ := h.2
  refine ⟨i, ?_⟩
  show 0 < shareAt l (maxV l) i
  rw [hr, h.share]
  exact EReal.coe_pos.mpr (div_pos (expW_pos _ hi) h.sum_pos)

theorem shareV_dead (h : ¬ Live l) (i : Fin n) : shareV l i = ⊥ := dead_share h (fit_self l) i

end

/-! ## The routing of a token

A token's logits name a group of experts, the first of the greatest shares, and within it two experts, the first
two of the greatest shares there. -/

/-- The first place at which a row holds `P`; past the row's end if there is none. -/
def firstV {n : ℕ} (p : Fin n → EReal) (P : EReal) : EReal := minV fun i => if p i = P then laneV i else ((n : ℝ) : EReal)

section
variable (lg : Fin 4 → EReal) (q : Fin 4 → Fin 8 → EReal)

/-- The chosen group. -/
def grpV : EReal := firstV (shareV lg) (maxV (shareV lg))

/-- The shares within the chosen group. -/
def inV : Fin 8 → EReal := shareV fun e => ∑ a : Fin 4, if laneV a = grpV lg then q a e else 0

/-- The first of the two experts. -/
def oneV : EReal := firstV (inV lg q) (maxV (inV lg q))

/-- The shares without the first expert's. -/
def restV (e : Fin 8) : EReal := if laneV e = oneV lg q then -1 else inV lg q e

/-- The second of the two experts. -/
def twoV : EReal := firstV (restV lg q) (maxV (restV lg q))

/-- An expert's weight within the chosen group. -/
def weightV (e : Fin 8) : EReal :=
  Ideal.div ((if laneV e = oneV lg q then maxV (inV lg q) else 0) + (if laneV e = twoV lg q then maxV (restV lg q) else 0)) (maxV (inV lg q) + maxV (restV lg q)) * maxV (shareV lg)

/-- A token's row of gates: a weight for each expert, then the group. -/
def gateV (e : Fin 128) : EReal :=
  if h : e.val < 32 then (if laneV (⟨e.val / 8, by omega⟩ : Fin 4) = grpV lg then weightV lg q (⟨e.val % 8, by omega⟩ : Fin 8) else 0) else if e.val = 32 then grpV lg else 0
end

/-- A token's logits: its product with a weight, and a bias. -/
def logitV {n : ℕ} (h : Fin 1024 → EReal) (w : FVec Ideal ⟨2, ![1024, n]⟩ .f32) (b : FVec Ideal ⟨1, ![n]⟩ .f32) (a : Fin n) : EReal := (∑ k, h k * (w (ix2 k a) : EReal)) + (b (ix1 a) : EReal)

/-- An expert's place among all of them. -/
abbrev expP (g : Fin 4) (e : Fin 8) : Fin 32 := ⟨8 * g.val + e.val, by omega⟩

/-- A token's gates. -/
def routeV (h : Fin 1024 → EReal) (wg : FVec Ideal ⟨2, ![1024, 4]⟩ .f32) (bg : FVec Ideal ⟨1, ![4]⟩ .f32) (we : FVec Ideal ⟨2, ![1024, 32]⟩ .f32) (be : FVec Ideal ⟨1, ![32]⟩ .f32) :
    Fin 128 → EReal := gateV (logitV h wg bg) fun g e => logitV h we be (expP g e)

/-- Neither infinity. -/
def Tame (x : EReal) : Prop := x ≠ ⊤ ∧ x ≠ ⊥

theorem Tame.coe {x : EReal} (h : Tame x) : ∃ r : ℝ, x = (r : EReal) := ⟨x.toReal, (EReal.coe_toReal h.1 h.2).symm⟩

/-- The tokens and the router's weights are finite. -/
structure Finite (h2 : Fin 8 → Fin 2048 → Fin 1024 → EReal) (wg : FVec Ideal ⟨2, ![1024, 4]⟩ .f32) (we : FVec Ideal ⟨2, ![1024, 32]⟩ .f32) : Prop where
  h2 : ∀ b n k, Tame (h2 b n k)
  wg : ∀ k a, Tame (wg (ix2 k a))
  we : ∀ k a, Tame (we (ix2 k a))

theorem firstV_eq {n : ℕ} (p : Fin n → EReal) (g : Fin n) (hm : ∀ j, p j = p g → g ≤ j) : firstV p (p g) = laneV g := by
  refine minV_eq _ _ g (if_pos rfl) fun j => ?_
  unfold laneV
  split
  · exact EReal.coe_le_coe_iff.mpr (Nat.cast_le.mpr (hm j ‹_›))
  · exact EReal.coe_le_coe_iff.mpr (Nat.cast_le.mpr (le_of_lt g.isLt))

/-- The shares without expert `i`'s. -/
def restE (s : Fin 8 → EReal) (i e : Fin 8) : EReal := if e = i then -1 else s e

/-- What the choices of the group and of the first expert come to. -/
structure Routed (lg : Fin 4 → EReal) (q : Fin 4 → Fin 8 → EReal) (g : Fin 4) (i : Fin 8) : Prop where
  grp : ∀ a, shareV lg a ≤ shareV lg g
  grp_first : ∀ a, shareV lg a = shareV lg g → g ≤ a
  one : ∀ e, shareV (q g) e ≤ shareV (q g) i
  one_first : ∀ e, shareV (q g) e = shareV (q g) i → i ≤ e

/-- What the choice of the second expert comes to. -/
structure Second (s : Fin 8 → EReal) (i j : Fin 8) : Prop where
  two : ∀ e, restE s i e ≤ restE s i j
  two_first : ∀ e, restE s i e = restE s i j → j ≤ e

theorem exists_routed (lg : Fin 4 → EReal) (q : Fin 4 → Fin 8 → EReal) : ∃ g i j, Routed lg q g i ∧ Second (shareV (q g)) i j := by
  obtain ⟨g, h1, h2⟩ := exists_first (shareV lg) 0
  obtain ⟨i, h3, h4⟩ := exists_first (shareV (q g)) 0
  obtain ⟨j, h5, h6⟩ := exists_first (restE (shareV (q g)) i) 0
  exact ⟨g, i, j, ⟨h1, h2, h3, h4⟩, h5, h6⟩

theorem neg_one_lt {x : EReal} (h : 0 ≤ x) : -1 < x := lt_of_lt_of_le (by rw [show (-1 : EReal) = ((-1 : ℝ) : EReal) by simp]; exact EReal.coe_neg'.mpr (by norm_num)) h

/-- Where there are shares, the second expert is another one. -/
theorem Second.ne {s : Fin 8 → EReal} {i j : Fin 8} (h : Second s i j) (hs : ∀ e, 0 ≤ s e) : j ≠ i := fun hji => by
  obtain ⟨e, he⟩ : ∃ e : Fin 8, e ≠ i := exists_ne i
  have := h.two e
  rw [hji, restE, restE, if_neg he, if_pos rfl] at this
  exact absurd this (not_le.mpr (neg_one_lt (hs e)))

/-- Where there are none, the second choice falls on the first expert. -/
theorem Second.dead {s : Fin 8 → EReal} {i j : Fin 8} (h : Second s i j) (hs : ∀ e, s e = ⊥) : j = i := by
  by_contra hne
  have := h.two i
  rw [restE, restE, if_pos rfl, if_neg hne, hs] at this
  rw [show (-1 : EReal) = ((-1 : ℝ) : EReal) by simp] at this
  exact EReal.coe_ne_bot _ (le_bot_iff.mp this)

section
variable {lg : Fin 4 → EReal} {q : Fin 4 → Fin 8 → EReal} {g : Fin 4} {i j : Fin 8} (h : Routed lg q g i) (h' : Second (shareV (q g)) i j)
include h

theorem Routed.share_max : maxV (shareV lg) = shareV lg g := maxV_eq _ _ g rfl h.grp

theorem Routed.grpV_eq : grpV lg = laneV g := by
  unfold grpV
  rw [h.share_max]
  exact firstV_eq _ g h.grp_first

theorem Routed.inV_eq : inV lg q = shareV (q g) := by
  unfold inV
  rw [h.grpV_eq]
  simp only [laneV_inj, Finset.sum_ite_eq', Finset.mem_univ, if_true]

theorem Routed.one_max : maxV (inV lg q) = shareV (q g) i := by
  rw [h.inV_eq]
  exact maxV_eq _ _ i rfl h.one

theorem Routed.oneV_eq : oneV lg q = laneV i := by
  unfold oneV
  rw [h.one_max, h.inV_eq]
  exact firstV_eq _ i h.one_first

theorem Routed.restV_eq : restV lg q = restE (shareV (q g)) i := by
  funext e
  unfold restV restE
  rw [h.oneV_eq, h.inV_eq]
  simp only [laneV_inj]

include h'

theorem Routed.two_max : maxV (restV lg q) = restE (shareV (q g)) i j := by
  rw [h.restV_eq]
  exact maxV_eq _ _ j rfl h'.two

theorem Routed.twoV_eq : twoV lg q = laneV j := by
  unfold twoV
  rw [h.two_max h', h.restV_eq]
  exact firstV_eq _ j h'.two_first

end

/-! ## The constants' words -/

theorem bits_bot : Ideal.ofBits FTy.f32 4286578688#32 = ⊥ := by
  unfold Ideal.ofBits
  decide

theorem bits_top : Ideal.ofBits FTy.f32 2139095040#32 = ⊤ := by
  unfold Ideal.ofBits
  decide

theorem bits_32 : Ideal.ofBits FTy.f32 1107296256#32 = ((32 : ℝ) : EReal) := by
  simp [Ideal.ofBits, Ideal.ieee, -EReal.coe_mul]
  norm_num

theorem bits_512 : Ideal.ofBits FTy.f32 1140850688#32 = ((512 : ℝ) : EReal) := by
  simp [Ideal.ofBits, Ideal.ieee, -EReal.coe_mul]
  norm_num

theorem bits_8 : Ideal.ofBits FTy.f32 1090519040#32 = ((8 : ℝ) : EReal) := by
  simp [Ideal.ofBits, Ideal.ieee, -EReal.coe_mul]
  norm_num

theorem bits_4 : Ideal.ofBits FTy.f32 1082130432#32 = ((4 : ℝ) : EReal) := by
  simp [Ideal.ofBits, Ideal.ieee, -EReal.coe_mul]
  norm_num

theorem bits_neg : Ideal.ofBits FTy.f32 3212836864#32 = -1 := by
  rw [show (-1 : EReal) = ((-(1 : ℝ) : ℝ) : EReal) by simp]
  simp [Ideal.ofBits, Ideal.ieee, -EReal.coe_mul, -EReal.coe_neg]
  norm_num

end Cert.RouteSpec

end
-- ==== Proof.RouteLanes.lean ====
module

public import proofs.«01_k».proof.Proof.RouteSpec

@[expose] public section

set_option maxHeartbeats 1000000

noncomputable section

namespace Cert.RouteSpec

open Idealize.ShloMosaic
open Classical

/-! ## The routing on lanes

The kernel holds a token's logits on 128 lanes, the experts' on the first 32 and the groups' on the next 4, and masks the lanes
that do not take part. -/

section
variable (M : Fin 128 → Prop) (N : EReal) (L : Fin 128 → EReal)

/-- The logits where the mask holds. -/
def keepL (e : Fin 128) : EReal := if M e then L e else N

/-- The exponentials where the mask holds. -/
def expL (e : Fin 128) : EReal := if M e then Ideal.exp (keepL M N L e - maxV (keepL M N L)) else 0

/-- The shares of the lanes where the mask holds. -/
def shareL (e : Fin 128) : EReal := Ideal.div (expL M N L e) (∑ x, expL M N L x)

end

/-- A mask holds on `k` lanes, those from `off` on. -/
def Lanes {k : ℕ} (M : Fin 128 → Prop) (ι : Fin k → Fin 128) : Prop := Function.Injective ι ∧ ∀ e, M e ↔ ∃ i, ι i = e

section
variable {k : ℕ} {M : Fin 128 → Prop} {ι : Fin k → Fin 128} (hM : Lanes M ι) {N : ℝ} {L : Fin 128 → EReal} {l : Fin k → EReal} (hL : ∀ i, L (ι i) = l i)
include hM

theorem Lanes.on (i : Fin k) : M (ι i) := (hM.2 _).mpr ⟨i, rfl⟩

theorem Lanes.sum_eq (f : Fin 128 → EReal) (hf : ∀ e, ¬ M e → f e = 0) : ∑ e, f e = ∑ i, f (ι i) := by
  rw [← Finset.sum_image (g := ι) (f := f) (s := Finset.univ) fun a _ b _ hab => hM.1 hab]
  refine (Finset.sum_subset (Finset.subset_univ _) fun e _ he => hf e fun hm => he ?_).symm
  obtain ⟨i, hi⟩ := (hM.2 e).mp hm
  exact Finset.mem_image.mpr ⟨i, Finset.mem_univ i, hi⟩

include hL

theorem Lanes.fit : Fit l (maxV (keepL M N L)) := by
  refine fit_max l _ (fun i => ⟨ι i, ?_⟩) fun e => ?_
  · unfold keepL
    rw [if_pos (hM.on i), hL]
  · unfold keepL
    by_cases h : M e
    · obtain ⟨a, ha⟩ := (hM.2 e).mp h
      exact .inl ⟨a, by rw [if_pos h, ← ha, hL]⟩
    · exact .inr ⟨N, if_neg h⟩

theorem Lanes.exp_on (a : Fin k) : expL M N L (ι a) = Ideal.exp (l a - maxV (keepL M N L)) := by
  unfold expL
  rw [if_pos (hM.on a)]
  congr 2
  rw [keepL, if_pos (hM.on a), hL]

theorem Lanes.share_on (i : Fin k) : shareL M N L (ι i) = shareV l i := by
  refine Eq.trans ?_ (share_same (hM.fit (N := N) hL) (fit_self l) i)
  unfold shareL shareAt
  rw [hM.sum_eq (expL M N L) fun e h => if_neg h]
  simp only [hM.exp_on hL]

theorem Lanes.share_out (e : Fin 128) (h : ¬ M e) : shareL M N L e = Ideal.div 0 (∑ i, Ideal.exp (l i - maxV (keepL M N L))) := by
  unfold shareL
  rw [hM.sum_eq (expL M N L) fun e h => if_neg h]
  simp only [hM.exp_on hL]
  rw [expL, if_neg h]

theorem Lanes.share_max (g : Fin k) (hg : ∀ a, shareV l a ≤ shareV l g) : maxV (shareL M N L) = shareV l g := by
  refine maxV_eq _ _ (ι g) (hM.share_on hL g) fun e => ?_
  by_cases h : M e
  · obtain ⟨a, rfl⟩ := (hM.2 e).mp h
    rw [hM.share_on hL a]
    exact hg a
  · rw [hM.share_out hL e h]
    have hf := hM.fit (N := N) hL
    by_cases hl : Live l
    · obtain ⟨c, hc⟩ := hf.real hl
      rw [hc, hl.off]
      exact hl.nonneg g
    · rw [dead_off hl hf]
      exact bot_le

end

/-- The first lane at which the mask holds and a row is `P`, counted from `off`. -/
def firstL (M : Fin 128 → Prop) (p : Fin 128 → EReal) (P : EReal) (v : Fin 128 → EReal) : EReal := minV fun e => if M e ∧ p e = P then v e else ((512 : ℝ) : EReal)

theorem firstL_eq (M : Fin 128 → Prop) (p : Fin 128 → EReal) (P : EReal) (v : Fin 128 → EReal) (g : Fin 128) (hg : M g ∧ p g = P) (hb : v g ≤ ((512 : ℝ) : EReal))
    (hm : ∀ e, M e → p e = P → v g ≤ v e) : firstL M p P v = v g := by
  refine minV_eq _ _ g (if_pos hg) fun e => ?_
  split
  · exact hm e (‹M e ∧ p e = P›).1 (‹M e ∧ p e = P›).2
  · exact hb

section
variable (N : EReal) (L : Fin 128 → EReal)

/-- The lanes of the groups. -/
def grpM (e : Fin 128) : Prop := 32 ≤ e.val ∧ e.val < 36

/-- The lanes of a group's experts. -/
def inM (G : EReal) (e : Fin 128) : Prop := e.val < 32 ∧ laneV (⟨e.val / 8, by omega⟩ : Fin 16) = G

/-- The chosen group. -/
def grpL : EReal := firstL grpM (shareL grpM N L) (maxV (shareL grpM N L)) fun e => laneV e - ((32 : ℝ) : EReal)

/-- The shares within the chosen group. -/
def inL : Fin 128 → EReal := shareL (inM (grpL N L)) N L

/-- The first expert's lane. -/
def oneL : EReal := firstL (inM (grpL N L)) (inL N L) (maxV (inL N L)) laneV

/-- The lanes of the group's other experts. -/
def restM (e : Fin 128) : Prop := inM (grpL N L) e ∧ laneV e ≠ oneL N L

/-- The greatest share among them. -/
def twoP : EReal := maxV fun e => if restM N L e then inL N L e else -1

/-- The second expert's lane. -/
def twoL : EReal := firstL (restM N L) (inL N L) (twoP N L) laneV

/-- The row of gates. -/
def gateL (e : Fin 128) : EReal :=
  if e.val = 32 then grpL N L
  else (if laneV e = oneL N L then Ideal.div (maxV (inL N L)) (maxV (inL N L) + twoP N L) * maxV (shareL grpM N L) else 0)
    + (if laneV e = twoL N L then Ideal.div (twoP N L) (maxV (inL N L) + twoP N L) * maxV (shareL grpM N L) else 0)

end

/-- A group's lane. -/
def grpI (a : Fin 4) : Fin 128 := ⟨32 + a.val, by omega⟩

/-- An expert's lane. -/
def expI (g : Fin 4) (e : Fin 8) : Fin 128 := ⟨8 * g.val + e.val, by omega⟩

theorem grp_lanes : Lanes grpM grpI := by
  refine ⟨fun a b h => Fin.ext (by have := congrArg Fin.val h; simp only [grpI] at this; omega), fun e => ⟨fun h => ⟨⟨e.val - 32, by have := h.2; omega⟩, Fin.ext ?_⟩, ?_⟩⟩
  · have := h.1; show 32 + (e.val - 32) = e.val; omega
  · rintro ⟨a, rfl⟩; exact ⟨Nat.le_add_right 32 a.val, by show 32 + a.val < 36; omega⟩

theorem laneV_val {n k : ℕ} (a : Fin n) (b : Fin k) : laneV a = laneV b ↔ a.val = b.val := by
  unfold laneV
  rw [EReal.coe_eq_coe_iff, Nat.cast_inj]

theorem laneV_le {n : ℕ} (a b : Fin n) : laneV a ≤ laneV b ↔ a.val ≤ b.val := by
  unfold laneV
  rw [EReal.coe_le_coe_iff, Nat.cast_le]

theorem laneV_le_512 (e : Fin 128) : laneV e ≤ ((512 : ℝ) : EReal) := by
  unfold laneV
  rw [EReal.coe_le_coe_iff]
  exact_mod_cast (by omega : e.val ≤ 512)

theorem in_lanes (g : Fin 4) : Lanes (inM (laneV g)) (expI g) := by
  refine ⟨fun a b h => Fin.ext (by have := congrArg Fin.val h; simp only [expI] at this; omega), fun e => ⟨fun h => ⟨⟨e.val % 8, by omega⟩, Fin.ext ?_⟩, ?_⟩⟩
  · have := (laneV_val _ _).mp h.2
    show 8 * g.val + e.val % 8 = e.val
    simp only at this; omega
  · rintro ⟨a, rfl⟩
    exact ⟨by show 8 * g.val + a.val < 32; omega, (laneV_val _ _).mpr (by show (8 * g.val + a.val) / 8 = g.val; omega)⟩

section
variable {lg : Fin 4 → EReal} {q : Fin 4 → Fin 8 → EReal} {g : Fin 4} {i j : Fin 8} (h : Routed lg q g i) (h' : Second (shareV (q g)) i j) {N : ℝ} {L : Fin 128 → EReal}
  (hg : ∀ a, L (grpI a) = lg a) (hq : ∀ a e, L (expI a e) = q a e)
include h hg

theorem Routed.share_maxL : maxV (shareL grpM N L) = shareV lg g := grp_lanes.share_max hg g h.grp

theorem Routed.grpL_eq : grpL N L = laneV g := by
  have hv : ∀ a : Fin 4, laneV (grpI a) - ((32 : ℝ) : EReal) = laneV a := fun a => by
    unfold laneV grpI
    rw [← EReal.coe_sub]
    congr 1
    push_cast
    ring
  unfold grpL
  rw [h.share_maxL hg, firstL_eq _ _ _ _ (grpI g) ⟨grp_lanes.on g, grp_lanes.share_on hg g⟩ ?_ ?_, hv]
  · rw [hv]; exact laneV_le_512 ⟨g.val, by omega⟩
  · intro e he hp
    obtain ⟨a, rfl⟩ := (grp_lanes.2 e).mp he
    rw [grp_lanes.share_on hg] at hp
    rw [hv, hv, laneV_le]
    exact h.grp_first a hp

include hq

theorem Routed.inL_on (e : Fin 8) : inL N L (expI g e) = shareV (q g) e := by
  unfold inL
  rw [h.grpL_eq hg]
  exact (in_lanes g).share_on (hq g) e

theorem Routed.one_maxL : maxV (inL N L) = shareV (q g) i := by
  unfold inL
  rw [h.grpL_eq hg]
  exact (in_lanes g).share_max (hq g) i h.one

theorem Routed.oneL_eq : oneL N L = laneV (expI g i) := by
  unfold oneL
  rw [h.one_maxL hg hq]
  refine firstL_eq _ _ _ _ (expI g i) ⟨by rw [h.grpL_eq hg]; exact (in_lanes g).on i, h.inL_on hg hq i⟩ (laneV_le_512 _) fun e he hp => ?_
  rw [h.grpL_eq hg] at he
  obtain ⟨a, rfl⟩ := ((in_lanes g).2 e).mp he
  rw [h.inL_on hg hq] at hp
  rw [laneV_le]
  exact Nat.add_le_add_left (h.one_first a hp) _

theorem Routed.restM_iff (e : Fin 128) : restM N L e ↔ ∃ a, a ≠ i ∧ expI g a = e := by
  unfold restM
  rw [h.grpL_eq hg, h.oneL_eq hg hq, (in_lanes g).2 e]
  constructor
  · rintro ⟨⟨a, rfl⟩, hne⟩
    exact ⟨a, fun ha => hne (ha ▸ rfl), rfl⟩
  · rintro ⟨a, ha, rfl⟩
    exact ⟨⟨a, rfl⟩, fun he => ha ((in_lanes g).1 ((laneV_inj _ _).mp he))⟩

/-- Without shares, the second choice is the floor. -/
theorem Routed.twoP_dead (hs : ∀ e, shareV (q g) e = ⊥) : twoP N L = -1 := by
  refine maxV_eq _ _ (expI g i) (if_neg fun hr => ?_) fun e => ?_
  · obtain ⟨a, ha, he⟩ := (h.restM_iff hg hq _).mp hr
    exact ha ((in_lanes g).1 he)
  · split
    · obtain ⟨a, ha, rfl⟩ := (h.restM_iff hg hq _).mp ‹_›
      rw [h.inL_on hg hq, hs]
      exact bot_le
    · exact le_rfl

theorem Routed.twoL_dead (hs : ∀ e, shareV (q g) e = ⊥) : twoL N L = ((512 : ℝ) : EReal) := by
  unfold twoL
  rw [h.twoP_dead hg hq hs]
  have hn : ∀ e, ¬ (restM N L e ∧ inL N L e = -1) := by
    rintro e ⟨hr, hp⟩
    obtain ⟨a, ha, rfl⟩ := (h.restM_iff hg hq _).mp hr
    rw [h.inL_on hg hq, hs, show (-1 : EReal) = ((-1 : ℝ) : EReal) by simp] at hp
    exact EReal.coe_ne_bot _ hp.symm
  exact minV_eq _ _ 0 (if_neg (hn 0)) fun e => le_of_eq (if_neg (hn e)).symm

include h'

theorem Routed.twoP_eq (hs : ∀ e, 0 ≤ shareV (q g) e) : twoP N L = shareV (q g) j := by
  have hji := h'.ne hs
  refine maxV_eq _ _ (expI g j) ?_ fun e => ?_
  · rw [if_pos ((h.restM_iff hg hq _).mpr ⟨j, hji, rfl⟩), h.inL_on hg hq]
  · split
    · obtain ⟨a, ha, rfl⟩ := (h.restM_iff hg hq _).mp ‹_›
      have := h'.two a
      rw [restE, restE, if_neg hji, if_neg ha] at this
      rw [h.inL_on hg hq]
      exact this
    · exact le_of_lt (neg_one_lt (hs j))

theorem Routed.twoL_eq (hs : ∀ e, 0 ≤ shareV (q g) e) : twoL N L = laneV (expI g j) := by
  have hji := h'.ne hs
  unfold twoL
  rw [h.twoP_eq h' hg hq hs]
  refine firstL_eq _ _ _ _ (expI g j) ⟨(h.restM_iff hg hq _).mpr ⟨j, hji, rfl⟩, h.inL_on hg hq j⟩ (laneV_le_512 _) fun e he hp => ?_
  obtain ⟨a, ha, rfl⟩ := (h.restM_iff hg hq _).mp he
  rw [h.inL_on hg hq] at hp
  rw [laneV_le]
  exact Nat.add_le_add_left (h'.two_first a (by rw [restE, restE, if_neg ha, if_neg hji, hp])) _

end

theorem div_zero_left {x : EReal} (h : x ≠ 0) : Ideal.div 0 x = 0 := by
  unfold Ideal.div
  rw [if_neg h, zero_mul]

theorem div_bot (x : EReal) : Ideal.div x ⊥ = 0 := by
  unfold Ideal.div
  rw [if_neg EReal.bot_ne_zero, EReal.inv_bot, mul_zero]

/-- The kernel's row of gates is the routing's. -/
theorem gate_eq {lg : Fin 4 → EReal} {q : Fin 4 → Fin 8 → EReal} {N : ℝ} {L : Fin 128 → EReal} (hg : ∀ a, L (grpI a) = lg a) (hq : ∀ a e, L (expI a e) = q a e) (e : Fin 128) :
    gateL N L e = gateV lg q e := by
  obtain ⟨g, i, j, h, h'⟩ := exists_routed lg q
  unfold gateL gateV weightV
  rw [h.grpL_eq hg, h.oneL_eq hg hq, h.one_maxL hg hq, h.share_maxL hg, h.grpV_eq, h.oneV_eq, h.twoV_eq h', h.one_max, h.two_max h', h.share_max]
  by_cases hl : Live (q g)
  · have hs := fun e => hl.nonneg e
    have hji := h'.ne hs
    have ht : shareV (q g) i + shareV (q g) j ≠ 0 := by
      obtain ⟨a, ha⟩ := hl.pos
      exact ne_of_gt (lt_of_lt_of_le (lt_of_lt_of_le ha (h.one a)) (le_add_of_nonneg_right (hs j)))
    rw [h.twoL_eq h' hg hq hs, h.twoP_eq h' hg hq hs, restE, if_neg hji]
    simp only [laneV_val, expI]
    have hne : j.val ≠ i.val := fun hji' => hji (Fin.ext hji')
    by_cases h32 : e.val = 32
    · rw [if_pos h32, dif_neg (by omega), if_pos h32]
    · rw [if_neg h32]
      by_cases hlt : e.val < 32
      · rw [dif_pos hlt]
        by_cases hgr : e.val / 8 = g.val
        · rw [if_pos hgr]
          by_cases hi : e.val % 8 = i.val
          · rw [if_pos hi, if_pos (by omega), if_neg (by omega), if_neg (by omega), add_zero, add_zero]
          · rw [if_neg hi, if_neg (by omega), zero_add, zero_add]
            by_cases hj : e.val % 8 = j.val
            · rw [if_pos hj, if_pos (by omega)]
            · rw [if_neg hj, if_neg (by omega), div_zero_left ht, zero_mul]
        · rw [if_neg hgr, if_neg (by omega), if_neg (by omega), add_zero]
      · rw [dif_neg hlt, if_neg h32, if_neg (by omega), if_neg (by omega), add_zero]
  · have hs := fun e => shareV_dead hl e
    obtain rfl := h'.dead hs
    have hb : laneV e ≠ ((512 : ℝ) : EReal) := fun he => by
      unfold laneV at he
      rw [EReal.coe_eq_coe_iff] at he
      have : e.val = 512 := by exact_mod_cast he
      omega
    rw [h.twoL_dead hg hq hs, h.twoP_dead hg hq hs, if_neg hb, hs, EReal.bot_add, div_bot, zero_mul, ite_self, add_zero]
    by_cases h32 : e.val = 32
    · rw [if_pos h32, dif_neg (by omega)]
    · rw [if_neg h32]
      by_cases hlt : e.val < 32
      · rw [dif_pos hlt, EReal.bot_add, div_bot, zero_mul, ite_self]
      · rw [dif_neg hlt]

end Cert.RouteSpec

end
-- ==== Proof.RouteBody.lean ====
module

public import proofs.«01_k».proof.Proof.OutBody
public import proofs.«01_k».proof.Proof.RouteLanes

@[expose] public section

set_option maxRecDepth 65536
set_option maxHeartbeats 4000000

noncomputable section

namespace Cert.Kernel3Ideal.Out

open Idealize.ShloMosaic Idealize.ShloMosaic.TcCoe Idealize.ShloMosaic.Tactic
open Cert.ProjSpec Cert.OutSpec Cert.RouteSpec
open Cert.Kernel3Ideal Cert.Kernel3Ideal.Gen

/-! ## Words and masks of the router -/

theorem sel_eq {α : Type} (p : Prop) [Decidable p] (x y : α) : Scalar.select (BitVec.ofBool (decide p)) x y = @ite α p (Classical.propDecidable p) x y := by
  by_cases h : p <;> simp [h, Scalar.select]

theorem and_eq (p q : Prop) [Decidable p] [Decidable q] : IntOp.andi (BitVec.ofBool (decide p)) (BitVec.ofBool (decide q)) = BitVec.ofBool (@decide (p ∧ q) (Classical.propDecidable (p ∧ q))) := by
  by_cases h : p <;> by_cases h' : q <;> simp [h, h', IntOp.andi]

theorem lane_eq (e : Fin 128) : (FloatOps.sitofp (F := Ideal) FTy.f32 (BitVec.ofNat 32 e.val) : EReal) = laneV e := by
  have h : ∀ e : Fin 128, (BitVec.ofNat 32 e.val).toInt = (e.val : ℤ) := by decide +kernel
  show (((BitVec.ofNat 32 e.val).toInt : ℝ) : EReal) = _
  rw [h e]
  unfold laneV
  norm_cast

theorem shift_eq (e : Fin 128) : (FloatOps.sitofp (F := Ideal) FTy.f32 (IntOp.shrsi ArithUnit.vector (BitVec.ofNat 32 e.val) 3#32) : EReal) = laneV (⟨e.val / 8, by omega⟩ : Fin 16) := by
  have h : ∀ e : Fin 128, (IntOp.shrsi ArithUnit.vector (BitVec.ofNat 32 e.val) 3#32).toInt = ((e.val / 8 : ℕ) : ℤ) := by decide +kernel
  show (((IntOp.shrsi ArithUnit.vector (BitVec.ofNat 32 e.val) 3#32).toInt : ℝ) : EReal) = _
  rw [h e]
  unfold laneV
  norm_cast

theorem ge_eq (e : Fin 128) : IntOp.cmpi CmpIPredicate.sge (BitVec.ofNat 32 e.val) 32#32 = BitVec.ofBool (decide (32 ≤ e.val)) := by revert e; decide +kernel
theorem lt_eq (e : Fin 128) : IntOp.cmpi CmpIPredicate.slt (BitVec.ofNat 32 e.val) 36#32 = BitVec.ofBool (decide (e.val < 36)) := by revert e; decide +kernel
theorem lt32_eq (e : Fin 128) : IntOp.cmpi CmpIPredicate.slt (BitVec.ofNat 32 e.val) 32#32 = BitVec.ofBool (decide (e.val < 32)) := by revert e; decide +kernel
theorem eq32_eq (e : Fin 128) : IntOp.cmpi CmpIPredicate.eq (BitVec.ofNat 32 e.val) 32#32 = BitVec.ofBool (decide (e.val = 32)) := by revert e; decide +kernel

/-- The value on the lanes that a mask leaves out. -/
theorem masked : ∃ r : ℝ, Ideal.ofBits FTy.f32 4048155338#32 = (r : EReal) := by
  unfold Ideal.ofBits
  exact ⟨_, rfl⟩

theorem firstL_eq_fold (M : Fin 128 → Prop) (p : Fin 128 → EReal) (P : EReal) (v : Fin 128 → EReal) :
    Finset.fold min ⊤ (fun x => @ite EReal (M x ∧ p x = P) (Classical.propDecidable _) (v x) ((512 : ℝ) : EReal)) Finset.univ = firstL M p P v := by
  unfold firstL minV
  congr
  funext x
  congr

/-! ## The tile's routing, read at an index -/

section
variable (v108 : FVec Ideal S512x128 .f32) (v109 : Vec Ideal S1x128 .f32) (n : Fin 512)

/-- A row's logits, and the value on masked lanes. -/
abbrev rowL : Fin 128 → EReal := fun e => k0_pay10 v108 v109 (ix2 n e)
abbrev negL : EReal := Ideal.ofBits FTy.f32 4048155338#32

theorem pay11_apply (e : Fin 128) : (k0_pay11 (F := Ideal) (ix2 n e) : EReal) = laneV e := by
  unfold k0_pay11
  pointwise
  exact lane_eq e

theorem pay12_apply (e : Fin 128) : k0_pay12 (ix2 n e) = BitVec.ofBool (@decide (grpM e) (Classical.propDecidable _)) := by
  unfold k0_pay12
  pointwise
  rw [ge_eq, lt_eq, and_eq]
  rfl

theorem pay13_apply (e : Fin 128) : (k0_pay13 v108 v109 (ix2 n e) : EReal) = shareL grpM negL (rowL v108 v109 n) e := by
  unfold k0_pay13
  pointwise
  simp only [pay12_apply, sel_eq, bits_bot]
  rfl

theorem pay14_apply : (k0_pay14 v108 v109 (ix2 n (0 : Fin 1)) : EReal) = maxV (shareL grpM negL (rowL v108 v109 n)) := by
  unfold k0_pay14
  pointwise
  simp only [pay13_apply, bits_bot]
  rfl

theorem pay15_apply : (k0_pay15 v108 v109 (ix2 n (0 : Fin 1)) : EReal) = grpL negL (rowL v108 v109 n) := by
  unfold k0_pay15
  pointwise
  simp only [pay12_apply, pay13_apply, pay14_apply, pay11_apply, and_eq, sel_eq, bits_top, bits_32, bits_512]
  exact firstL_eq_fold grpM _ _ _

theorem pay16_apply (e : Fin 128) : k0_pay16 v108 v109 (ix2 n e) = BitVec.ofBool (@decide (inM (grpL negL (rowL v108 v109 n)) e) (Classical.propDecidable _)) := by
  unfold k0_pay16
  pointwise
  rw [lt32_eq, shift_eq, pay15_apply, and_eq]
  rfl

theorem pay17_apply (e : Fin 128) : (k0_pay17 v108 v109 (ix2 n e) : EReal) = keepL (inM (grpL negL (rowL v108 v109 n))) negL (rowL v108 v109 n) e := by
  unfold k0_pay17
  pointwise
  rw [pay16_apply, sel_eq]
  rfl

theorem pay18_apply (e : Fin 128) : (k0_pay18 (k0_pay16 v108 v109) (k0_pay17 v108 v109) (ix2 n e) : EReal) = inL negL (rowL v108 v109 n) e := by
  unfold k0_pay18
  pointwise
  simp only [pay16_apply, pay17_apply, sel_eq, bits_bot]
  rfl

theorem pay19_apply : (k0_pay19 (k0_pay16 v108 v109) (k0_pay17 v108 v109) (ix2 n (0 : Fin 1)) : EReal) = maxV (inL negL (rowL v108 v109 n)) := by
  unfold k0_pay19
  pointwise
  simp only [pay18_apply, bits_bot]
  rfl

theorem pay20_apply : (k0_pay20 k0_pay11 (k0_pay16 v108 v109) (k0_pay17 v108 v109) (ix2 n (0 : Fin 1)) : EReal) = oneL negL (rowL v108 v109 n) := by
  unfold k0_pay20
  pointwise
  simp only [pay16_apply, pay18_apply, pay19_apply, pay11_apply, and_eq, sel_eq, bits_top, bits_512]
  exact firstL_eq_fold (inM (grpL negL (rowL v108 v109 n))) _ _ laneV

theorem pay21_apply (e : Fin 128) :
    k0_pay21 k0_pay11 (k0_pay16 v108 v109) (k0_pay17 v108 v109) (ix2 n e) = BitVec.ofBool (@decide (restM negL (rowL v108 v109 n) e) (Classical.propDecidable _)) := by
  unfold k0_pay21
  pointwise
  rw [pay16_apply, pay20_apply, pay11_apply, and_eq]
  rfl

theorem pay22_apply : (k0_pay22 k0_pay11 (k0_pay16 v108 v109) (k0_pay17 v108 v109) (ix2 n (0 : Fin 1)) : EReal) = twoP negL (rowL v108 v109 n) := by
  unfold k0_pay22
  pointwise
  simp only [pay21_apply, pay18_apply, sel_eq, bits_bot, bits_neg]
  rfl

theorem pay25_apply (e : Fin 128) : k0_pay25 k0_pay11 (k0_pay16 v108 v109) (k0_pay17 v108 v109) (ix2 n e)
    = BitVec.ofBool (@decide (laneV e = twoL negL (rowL v108 v109 n)) (Classical.propDecidable _)) := by
  unfold k0_pay25
  pointwise
  simp only [pay21_apply, pay18_apply, pay22_apply, pay11_apply, and_eq, sel_eq, bits_top, bits_512]
  rw [firstL_eq_fold (restM negL (rowL v108 v109 n)) _ _ laneV]
  unfold twoL
  congr

/-- The tile's gates, token by token. -/
theorem pay1_apply (e : Fin 128) :
    (k0_pay1 (F := Ideal) (iota .tc S512x128 32 [1] iota_S512x128_d1_w32) (k0_pay15 v108 v109) (k0_pay24 k0_pay11 (k0_pay14 v108 v109) (k0_pay16 v108 v109) (k0_pay17 v108 v109))
      (k0_pay25 k0_pay11 (k0_pay16 v108 v109) (k0_pay17 v108 v109)) (Scalar.ofBits .f32 0x00000000#32) (k0_pay26 k0_pay11 (k0_pay14 v108 v109) (k0_pay16 v108 v109) (k0_pay17 v108 v109)) (ix2 n e)
      : EReal) = gateL negL (rowL v108 v109 n) e := by
  unfold k0_pay1 k0_pay24 k0_pay26 k0_pay23
  pointwise
  simp only [eq32_eq, pay15_apply, pay25_apply, pay22_apply, pay19_apply, pay14_apply, pay11_apply, pay20_apply, sel_eq]
  unfold gateL
  congr
end

/-- Logits: the product of the tokens and the weight, each in two parts. -/
theorem pay9_apply (v66 : FVec Ideal S512x1024 .f32) (v69 : FVec Ideal S1x1024 .f32) (v70 v72 : Vec Ideal S1x1x1024 .f32) (v98 v101 v104 : Vec Ideal S1024x128 .bf16) (n : Fin 512) (e : Fin 128)
    (hf : ∀ k, (k0_pay8 v66 v69 v70 v72 (ix2 n k) : EReal) ≠ ⊤ ∧ (k0_pay8 v66 v69 v70 v72 (ix2 n k) : EReal) ≠ ⊥) (h0 : ∀ k, (v101 (ix2 k e) : EReal) = 0) :
    (k0_pay9 v66 v69 v70 v72 v98 v101 v104 (ix2 n e) : EReal) = ∑ k, (k0_pay8 v66 v69 v70 v72 (ix2 n k) : EReal) * v98 (ix2 k e) := by
  unfold k0_pay8 at hf
  unfold k0_pay9 k0_pay8
  generalize k0_pay7 v66 v69 v70 v72 = h at hf ⊢
  pointwise at hf
  pointwise
  have hs : ∀ k, (h (ix2 n k) : EReal) - h (ix2 n k) = 0 := fun k => EReal.sub_self (hf k).1 (hf k).2
  simp only [h0, hs, mul_zero, zero_mul, Finset.sum_const_zero, add_zero]

end Cert.Kernel3Ideal.Out

end
-- ==== Proof.RouteBlocks.lean ====
module

public import proofs.«01_k».proof.Proof.OutBlocks
public import proofs.«01_k».proof.Proof.RouteBody

@[expose] public section

set_option maxRecDepth 65536
set_option maxHeartbeats 4000000

noncomputable section

namespace Cert.Kernel3Ideal.Out

open Idealize.ShloMosaic Idealize.ShloMosaic.TcCoe Idealize.ShloMosaic.Tactic
open Cert.ProjSpec Cert.OutSpec Cert.RouteSpec
open Cert.Kernel3Ideal Cert.Kernel3Ideal.Gen

variable (m : (ℓ : Loc nD τ sig) → Buf (Elt Ideal) ℓ) (c : Dev nD)

/-! ## The router's weight and bias -/

abbrev aWg : FVec Ideal S1024x4 .f32 := m ((c : Thread nD τ).loc main_arg10)
abbrev aBg : FVec Ideal S4 .f32 := m ((c : Thread nD τ).loc main_arg11)
abbrev aWe : FVec Ideal S1024x32 .f32 := m ((c : Thread nD τ).loc main_arg12)
abbrev aBe : FVec Ideal S32 .f32 := m ((c : Thread nD τ).loc main_arg13)

/-- The router's weight as the host lays it on lanes: the experts', the groups', then nothing. -/
def wR : FVec Ideal S1024x128 .f32 :=
  pad S1024x128 ![0, 0] ![0, 92] ![0, 0] (concatenate S1024x36 1 [⟨S1024x32, aWe m c⟩, ⟨S1024x4, aWg m c⟩] concatenates_S1024x32_S1024x4_S1024x36_d1)
    (sitofp .f32 (constantI S_ 32 0#32)) pads_S1024x36_S1024x128_000_0920 h_S_

/-- The router's bias on lanes. -/
def bR : FVec Ideal S1x128 .f32 :=
  shapeCast S1x128 (pad S128 ![0] ![92] ![0] (concatenate S36 0 [⟨S32, aBe m c⟩, ⟨S4, aBg m c⟩] concatenates_S32_S4_S36_d0)
    (sitofp .f32 (constantI S_ 32 0#32)) pads_S36_S128_0920 h_S_) shapeCasts_S128_S1x128

/-- What the host leaves in the router's three arrays. -/
theorem host_router : (V m c main_v11 : Vec Ideal S1024x128 .bf16) = truncf .bf16 (wR m c) bitsLt_bf16_f32
    ∧ (V m c main_v14 : Vec Ideal S1024x128 .bf16) = truncf .bf16 (subf (wR m c) (extf .f32 (truncf .bf16 (wR m c) bitsLt_bf16_f32) bitsLt_bf16_f32)) bitsLt_bf16_f32
    ∧ (V m c main_v5 : Vec Ideal S1x128 .f32) = bR m c := by
  refine ⟨?_, ?_, ?_⟩ <;>
  · show StableHlo.after (List.flatten [hostOps0, hostOps0_1, hostOps0_2, hostOps0_3, hostOps0_4]) _ _ = _
    simp only [hostOps0, hostOps0_1, hostOps0_2, hostOps0_3, hostOps0_4, List.flatten_cons, List.flatten_nil, List.append_nil, List.cons_append, List.nil_append]
    after_results_simp <;> rfl

theorem wR_exp (k : Fin 1024) (g : Fin 4) (e : Fin 8) : (wR m c (ix2 k (expI g e)) : EReal) = aWe m c (ix2 k (expP g e)) := by
  pointwise [wR]
  have : 8 * g.val + e.val < 32 := by omega
  rw [dif_pos (show (expI g e).val < 36 by show 8 * g.val + e.val < 36; omega), dif_pos (show (expI g e).val < 32 from this)]
  rfl

theorem wR_grp (k : Fin 1024) (a : Fin 4) : (wR m c (ix2 k (grpI a)) : EReal) = aWg m c (ix2 k a) := by
  pointwise [wR]
  rw [dif_pos (show (grpI a).val < 36 by show 32 + a.val < 36; omega), dif_neg (show ¬ (grpI a).val < 32 by show ¬ 32 + a.val < 32; omega)]
  exact congrArg (fun q => (aWg m c (ix2 k q) : EReal)) (Fin.ext (by show 32 + a.val - 32 = a.val; omega))

theorem bR_exp (g : Fin 4) (e : Fin 8) : (bR m c (ix2 (0 : Fin 1) (expI g e)) : EReal) = aBe m c (ix1 (expP g e)) := by
  pointwise [bR]
  have : 8 * g.val + e.val < 32 := by omega
  rw [dif_pos (show (expI g e).val < 36 by show 8 * g.val + e.val < 36; omega), dif_pos (show (expI g e).val < 32 from this)]
  rfl

theorem bR_grp (a : Fin 4) : (bR m c (ix2 (0 : Fin 1) (grpI a)) : EReal) = aBg m c (ix1 a) := by
  pointwise [bR]
  rw [dif_pos (show (grpI a).val < 36 by show 32 + a.val < 36; omega), dif_neg (show ¬ (grpI a).val < 32 by show ¬ 32 + a.val < 32; omega)]
  exact congrArg (fun q => (aBg m c (ix1 q) : EReal)) (Fin.ext (by show 32 + a.val - 32 = a.val; omega))

theorem index_router : ∀ t : Fin grid0.N, win0_10.index t = ![0, 0] ∧ win0_11.index t = ![0, 0] ∧ win0_12.index t = ![0, 0] ∧ win0_15.index t = ![t.val, 0] := by decide +kernel

theorem hiB_apply (t : Fin cfg0.N) (k : Fin 1024) (e : Fin 128) : (iblk m c 10 t (ix2 k e) : EReal) = wR m c (ix2 k e) := by
  refine Eq.trans ?_ (congrFun (host_router m c).1 (ix2 k e))
  unfold iblk
  rw [View.read_apply]
  show V m c main_v11 _ = V m c main_v11 _
  refine congrArg (V m c main_v11) (ix2_eq _ _ _ ?_ ?_)
  · show win0_10.index t 0 * 1024 + 1 * k.val = _; rw [(index_router t).1]; show 0 * 1024 + 1 * k.val = k.val; omega
  · show win0_10.index t 1 * 128 + 1 * e.val = _; rw [(index_router t).1]; show 0 * 128 + 1 * e.val = e.val; omega

theorem loB_apply (t : Fin cfg0.N) (k : Fin 1024) (e : Fin 128) (hf : Tame (wR m c (ix2 k e))) : (iblk m c 11 t (ix2 k e) : EReal) = (0 : EReal) := by
  refine Eq.trans ?_ ((congrFun (host_router m c).2.1 (ix2 k e)).trans (EReal.sub_self hf.1 hf.2))
  unfold iblk
  rw [View.read_apply]
  show V m c main_v14 _ = V m c main_v14 _
  refine congrArg (V m c main_v14) (ix2_eq _ _ _ ?_ ?_)
  · show win0_11.index t 0 * 1024 + 1 * k.val = _; rw [(index_router t).2.1]; show 0 * 1024 + 1 * k.val = k.val; omega
  · show win0_11.index t 1 * 128 + 1 * e.val = _; rw [(index_router t).2.1]; show 0 * 128 + 1 * e.val = e.val; omega

theorem biasB_apply (t : Fin cfg0.N) (e : Fin 128) : (iblk m c 12 t (ix2 (0 : Fin 1) e) : EReal) = bR m c (ix2 (0 : Fin 1) e) := by
  refine Eq.trans ?_ (congrFun (host_router m c).2.2 (ix2 (0 : Fin 1) e))
  unfold iblk
  rw [View.read_apply]
  show V m c main_v5 _ = V m c main_v5 _
  refine congrArg (V m c main_v5) (ix2_eq _ _ _ ?_ ?_)
  · show win0_12.index t 0 * 1 + 1 * 0 = _; rw [(index_router t).2.2.1]; rfl
  · show win0_12.index t 1 * 128 + 1 * e.val = _; rw [(index_router t).2.2.1]; show 0 * 128 + 1 * e.val = e.val; omega

/-! ## A tile's gates -/

/-- A tile's products with the router's weight. -/
def logB (t : Fin cfg0.N) : FVec Ideal S512x128 .f32 :=
  k0_pay9 (x1B m c t) (k0_pay6 (iblk m c 5 t)) (modB m c t 4096 (by decide)) (modB m c t 3072 (by decide)) (iblk m c 10 t) (iblk m c 11 t) (iblk m c 10 t)

/-- A tile's gates. -/
def gateB (t : Fin cfg0.N) : FVec Ideal S512x128 .f32 :=
  k0_pay1 (iota .tc S512x128 32 [1] iota_S512x128_d1_w32) (k0_pay15 (logB m c t) (iblk m c 12 t))
    (k0_pay24 k0_pay11 (k0_pay14 (logB m c t) (iblk m c 12 t)) (k0_pay16 (logB m c t) (iblk m c 12 t)) (k0_pay17 (logB m c t) (iblk m c 12 t)))
    (k0_pay25 k0_pay11 (k0_pay16 (logB m c t) (iblk m c 12 t)) (k0_pay17 (logB m c t) (iblk m c 12 t))) (Scalar.ofBits .f32 0x00000000#32)
    (k0_pay26 k0_pay11 (k0_pay14 (logB m c t) (iblk m c 12 t)) (k0_pay16 (logB m c t) (iblk m c 12 t)) (k0_pay17 (logB m c t) (iblk m c 12 t)))

theorem ld_wr {e : EltTy} (X : Vec Ideal S1024x128 e) : View.ld X r0_10 = X := View.ld_unit_lit _ X (by decide)

theorem ld_br {e : EltTy} (X : Vec Ideal S1x128 e) : View.ld X r0_11 = X := View.ld_unit_lit _ X (by decide)

theorem after_gate (t : Fin cfg0.N) : (dats m 0 c).after 15 t = gateB m c t := by
  rw [after0_15]
  frame_out
  simp only [k0_pay27, k0_pay28, k0_pay29, k0_pay30, k0_pay31, k0_pay32, k0_pay33, k0_pay34, k0_pay35, k0_pay36, ld_rows, ld_row, ld_sq, ld_wr, ld_br]
  rfl

/-- The gates of this call. -/
abbrev gateM (b : Fin 8) (n : Fin 2048) : Fin 128 → EReal := routeV (h2M m c b n) (aWg m c) (aBg m c) (aWe m c) (aBe m c)

section
variable (hf : Finite (h2M m c) (aWg m c) (aWe m c))
include hf

theorem row_apply (t : Fin cfg0.N) (n : Fin 512) (e : Fin 128) (hw : ∀ k, Tame (wR m c (ix2 k e))) :
    rowL (logB m c t) (iblk m c 12 t) n e = (∑ k, h2M m c (rowB t) (tokN t n) k * (wR m c (ix2 k e) : EReal)) + bR m c (ix2 (0 : Fin 1) e) := by
  have h2 := fun k => h2_block m c t n k
  have hp : rowL (logB m c t) (iblk m c 12 t) n e = (logB m c t (ix2 n e) : EReal) + iblk m c 12 t (ix2 (0 : Fin 1) e) := by
    unfold rowL k0_pay10
    pointwise
  rw [hp, biasB_apply]
  unfold logB
  rw [pay9_apply _ _ _ _ _ _ _ n e (fun k => by rw [h2]; exact hf.h2 _ _ k) fun k => loB_apply m c t k e (hw k)]
  simp only [h2, hiB_apply]

theorem gate_row (t : Fin cfg0.N) (n : Fin 512) (e : Fin 128) : (gateB m c t (ix2 n e) : EReal) = gateM m c (rowB t) (tokN t n) e := by
  obtain ⟨N, hN⟩ := masked
  unfold gateB
  refine (pay1_apply _ _ n e).trans ?_
  unfold negL
  rw [hN]
  refine gate_eq (lg := logitV (h2M m c (rowB t) (tokN t n)) (aWg m c) (aBg m c)) (q := fun g e => logitV (h2M m c (rowB t) (tokN t n)) (aWe m c) (aBe m c) (expP g e)) (fun a => ?_) (fun g e => ?_) e
  · rw [row_apply m c hf t n (grpI a) fun k => by rw [wR_grp]; exact hf.wg k a, bR_grp]
    simp only [wR_grp]
    rfl
  · rw [row_apply m c hf t n (expI g e) fun k => by rw [wR_exp]; exact hf.we k _, bR_exp]
    simp only [wR_exp]
    rfl

theorem arr_gate : (dats m 0 c).arrAt 15 cfg0.N = (rowsV (gateM m c) : FVec Ideal S16384x128 .f32) := by
  refine (dats m 0 c).arrAt_eq_of_covers 15 _ (by decide +kernel) fun t ht y => ?_
  blk_simp
  rw [after_gate]
  refine rows_at (gateM m c) t _ (gate_row m c hf t) y _ ?_ ?_
  · show win0_15.index t 0 * 512 + 1 * (y 0).val = _; rw [(index_router t).2.2.2]; rfl
  · show win0_15.index t 1 * 128 + 1 * (y 1).val = _; rw [(index_router t).2.2.2]; rfl

end

end Cert.Kernel3Ideal.Out

end
-- ==== Proof.AdaSpec.lean ====
module

public import proofs.«01_k».proof.Proof.ProjSpec
public import Idealize.ShloMosaic.Lib.IdealHost

@[expose] public section

set_option maxRecDepth 65536
set_option maxHeartbeats 4000000

noncomputable section

namespace Cert.AdaSpec

open Idealize.ShloMosaic

/-! ## The conditioning vectors through the modulation's weight, and the two attentions' difference factor -/

/-- A conditioning entry times its own logistic function. -/
def siluV (x : EReal) : EReal := Ideal.div x (1 + Ideal.exp (-x))

/-- A row of the modulation at a column: the conditioning row through the weight, and the bias. -/
def adaV (c w : Fin 1024 → EReal) (b : EReal) : EReal := ∑ k, siluV (c k) * w k + b

/-- The factor of the second attention of a pair. -/
def lamV (q1 k1 q2 k2 : Fin 64 → EReal) : EReal := Ideal.exp (∑ i, q1 i * k1 i) - Ideal.exp (∑ i, q2 i * k2 i) + Ideal.ofBits .f32 0x3E4CCCCD#32

/-- The logistic function's denominator is never zero. -/
theorem den_ne (x : EReal) : 1 + Ideal.exp (-x) ≠ 0 := by
  have h : (0 : EReal) ≤ Ideal.exp (-x) := by
    generalize -x = y
    induction y with
    | bot => exact le_refl _
    | top => exact le_top
    | coe r => exact EReal.coe_nonneg.mpr (Real.exp_pos r).le
  have : (0 : EReal) < 1 + Ideal.exp (-x) := lt_of_lt_of_le zero_lt_one (le_add_of_nonneg_right h)
  exact this.ne'

/-- Times the reciprocal is the quotient. -/
theorem silu_mul (x : EReal) : x * Ideal.div 1 (1 + Ideal.exp (-x)) = siluV x := Ideal.mul_one_div (den_ne x)

/-- A real conditioning entry stays a real. -/
theorem silu_real (x : EReal) (ht : x ≠ ⊤) (hb : x ≠ ⊥) : ∃ r : ℝ, siluV x = r := by
  lift x to ℝ using ⟨ht, hb⟩
  have h : (1 : EReal) + Ideal.exp (-(x : EReal)) = ((1 + Real.exp (-x) : ℝ) : EReal) := by
    rw [← EReal.coe_neg]
    show (1 : EReal) + ((Real.exp (-x) : ℝ) : EReal) = _
    rw [EReal.coe_add, EReal.coe_one]
  refine ⟨x * (1 + Real.exp (-x))⁻¹, ?_⟩
  unfold siluV Ideal.div
  rw [if_neg (den_ne _), h, EReal.coe_mul, EReal.coe_inv]

theorem sub_self_real (x : EReal) (ht : x ≠ ⊤) (hb : x ≠ ⊥) : x - x = 0 := by
  lift x to ℝ using ⟨ht, hb⟩
  rw [← EReal.coe_sub, sub_self, EReal.coe_zero]

/-- The product taken in three pieces, of the entries and of what the entries lack, is the product. -/
theorem pieces (c w : Fin 1024 → EReal) (b : EReal) (hc : ∀ k, c k ≠ ⊤ ∧ c k ≠ ⊥) (hw : ∀ k, w k ≠ ⊤ ∧ w k ≠ ⊥) :
    (∑ k, siluV (c k) * w k + (∑ k, siluV (c k) * (w k - w k) + ∑ k, (siluV (c k) - siluV (c k)) * w k)) + b = adaV c w b := by
  have h1 : ∑ k, siluV (c k) * (w k - w k) = 0 := Finset.sum_eq_zero fun k _ => by rw [sub_self_real _ (hw k).1 (hw k).2, mul_zero]
  have h2 : ∑ k, (siluV (c k) - siluV (c k)) * w k = 0 := Finset.sum_eq_zero fun k _ => by
    obtain ⟨r, hr⟩ := silu_real (c k) (hc k).1 (hc k).2
    rw [hr, sub_self_real _ (EReal.coe_ne_top r) (EReal.coe_ne_bot r), zero_mul]
  rw [h1, h2, add_zero, add_zero]
  rfl

section
variable (cp cs : FVec Ideal ⟨2, ![8, 1024]⟩ .f32)

/-- The conditioning rows of the two batches, the prompt's first. -/
def condV (r : Fin 16) (k : Fin 1024) : EReal := if h : r.val < 8 then cp (ix2 (⟨r.val, h⟩ : Fin 8) k) else cs (ix2 (⟨r.val - 8, by omega⟩ : Fin 8) k)

variable (w : FVec Ideal ⟨2, ![1024, 6144]⟩ .f32) (b : FVec Ideal ⟨1, ![6144]⟩ .f32)

/-- The whole modulation. -/
def modAll : FVec Ideal ⟨2, ![16, 6144]⟩ .f32 := fun i => adaV (condV cp cs (i 0)) (fun k => w (ix2 k (i 1))) (b (ix1 (i 1)))

/-- The factor, in every place of its tile. -/
def lamAll (q1 k1 q2 k2 : FVec Ideal ⟨1, ![64]⟩ .f32) : FVec Ideal ⟨2, ![8, 128]⟩ .f32 :=
  fun _ => lamV (fun i => q1 (ix1 i)) (fun i => k1 (ix1 i)) (fun i => q2 (ix1 i)) (fun i => k2 (ix1 i))

end

end Cert.AdaSpec

end
-- ==== Proof.AdaPre.lean ====
module

public import proofs.«01_k».proof.Pre_finite_modulation
public import proofs.«01_k».proof.Proof.Pre
public import proofs.«01_k».proof.Proof.AdaSpec

@[expose] public section

set_option maxRecDepth 65536
set_option maxHeartbeats 4000000

noncomputable section

namespace Cert.Pre_finite_modulation

open Idealize.ShloMosaic

/-- The shape relations of the precondition's operations. -/
theorem facts : Facts where
  transposes_S8x1024_S1024x8_1_0 := by decide
  concatenates_S1024x8_S1024x8_S1024x6144_S1024x6160_d1 := by decide
  bcast_S_S1024x6160 := by decide

variable [Facts]

variable (cp cs : FVec Ideal S8x1024 .f32) (w : FVec Ideal S1024x6144 .f32) (b : FVec Ideal S6144 .f32) (q1 k1 q2 k2 : FVec Ideal S64 .f32)

theorem fin_of_bit (x : EReal) (h : BitVec.ofBool (decide (max x (-x) < Ideal.ofBits .f32 2139095040#32)) = 1#1) : x ≠ ⊤ ∧ x ≠ ⊥ := by
  have bit : ∀ p : Bool, BitVec.ofBool p = 1#1 → p = true := by decide
  have top : Ideal.ofBits .f32 2139095040#32 = ⊤ := by
    unfold Ideal.ofBits
    decide
  have h := of_decide_eq_true (bit _ h)
  rw [top] at h
  exact (haveI := Cert.Pre_routed_gates.facts; Cert.Pre_routed_gates.abs_lt_top x h)

theorem fn_prompt (h : fn cp cs w b q1 k1 q2 k2 = fun _ => 1#1) (r : Fin 8) (k : Fin 1024) : cp (ix2 r k) ≠ ⊤ ∧ cp (ix2 r k) ≠ ⊥ := by
  have h := congrFun h (ix2 k (⟨r.val, by omega⟩ : Fin 6160))
  unfold fn at h
  pointwise at h
  exact fin_of_bit _ h

theorem fn_sample (h : fn cp cs w b q1 k1 q2 k2 = fun _ => 1#1) (r : Fin 8) (k : Fin 1024) : cs (ix2 r k) ≠ ⊤ ∧ cs (ix2 r k) ≠ ⊥ := by
  have h := congrFun h (ix2 k (⟨8 + r.val, by omega⟩ : Fin 6160))
  unfold fn at h
  pointwise at h
  exact fin_of_bit _ h

theorem fn_weight (h : fn cp cs w b q1 k1 q2 k2 = fun _ => 1#1) (k : Fin 1024) (f : Fin 6144) : w (ix2 k f) ≠ ⊤ ∧ w (ix2 k f) ≠ ⊥ := by
  have h := congrFun h (ix2 k (⟨16 + f.val, by omega⟩ : Fin 6160))
  unfold fn at h
  pointwise at h
  rw [dif_neg (by omega), dif_neg (by omega)] at h
  rw [show (⟨16 + f.val - 8 - 8, by omega⟩ : Fin 6144) = f from Fin.ext (by show 16 + f.val - 8 - 8 = f.val; omega)] at h
  exact fin_of_bit _ h

/-- What the precondition says of the conditioning rows. -/
theorem fn_cond (h : fn cp cs w b q1 k1 q2 k2 = fun _ => 1#1) (r : Fin 16) (k : Fin 1024) : Cert.AdaSpec.condV cp cs r k ≠ ⊤ ∧ Cert.AdaSpec.condV cp cs r k ≠ ⊥ := by
  unfold Cert.AdaSpec.condV
  split
  · exact fn_prompt cp cs w b q1 k1 q2 k2 h _ k
  · exact fn_sample cp cs w b q1 k1 q2 k2 h _ k

end Cert.Pre_finite_modulation

end
-- ==== Proof.OutRef.lean ====
module

public import proofs.«01_k».proof.Proof.OutSpec
public import proofs.«01_k».proof.Proof.Gen.Reference3Ideal.Run
public import Idealize.ShloMosaic.Lib.Pointwise
public import Idealize.ShloMosaic.Lib.Pointwise.IndexVar
public import Idealize.ShloMosaic.Lib.Pointwise.IndexBridge
public import Idealize.ShloMosaic.Lib.IdealHost

@[expose] public section

set_option maxRecDepth 65536
set_option maxHeartbeats 4000000

noncomputable section

namespace Cert.Reference3Ideal.Out

open Idealize.ShloMosaic Idealize.ShloMosaic.TcCoe Idealize.ShloMosaic.Tactic
open Cert.ProjSpec Cert.OutSpec
open Cert.Reference3Ideal Cert.Reference3Ideal.Gen

variable (m : (ℓ : Loc nD τ sig) → Buf (Elt Ideal) ℓ) (c : Dev nD)

/-! ## The reference's results, by their own lines -/

abbrev aX : FVec Ideal S8x2048x1024 .f32 := m ((c.tc : Thread nD τ).loc main_arg0)
abbrev aA : FVec Ideal S16384x1024 .bf16 := m ((c.tc : Thread nD τ).loc main_arg1)
abbrev aB : FVec Ideal S16384x1024 .bf16 := m ((c.tc : Thread nD τ).loc main_arg2)
abbrev aMod : FVec Ideal S16x6144 .f32 := m ((c.tc : Thread nD τ).loc main_arg3)
abbrev aN1 : FVec Ideal S1024 .f32 := m ((c.tc : Thread nD τ).loc main_arg4)
abbrev aN2 : FVec Ideal S1024 .f32 := m ((c.tc : Thread nD τ).loc main_arg5)
abbrev aW : FVec Ideal S1024x8192 .f32 := m ((c.tc : Thread nD τ).loc main_arg6)
abbrev aWa : FVec Ideal S1024x1024 .f32 := m ((c.tc : Thread nD τ).loc main_arg7)
abbrev aWb : FVec Ideal S1024x1024 .f32 := m ((c.tc : Thread nD τ).loc main_arg8)
abbrev aWo : FVec Ideal S1024x1024 .f32 := m ((c.tc : Thread nD τ).loc main_arg9)

/-- A stretch of the modulation, a row for each of the call's batch rows. -/
def modR (mod : FVec Ideal S16x6144 .f32) (off : ℕ) (hs : S16x6144.Slices ![0, off] S16x1024) : FVec Ideal S8x1x1024 .f32 :=
  broadcastInDim S8x1x1024 ![0, 2] bcast_S8x1024_S8x1x1024_0_2 (extractStridedSlice S8x1024 ![0, 0] (extractStridedSlice S16x1024 ![0, off] mod hs) slices_S16x1024_S8x1024_0_0)

/-- Tokens normalised, scaled and shifted. -/
def hidR (x : FVec Ideal S8x2048x1024 .f32) (g : FVec Ideal S1024 .f32) (sc sh : FVec Ideal S8x1x1024 .f32) : FVec Ideal S8x2048x1024 .f32 :=
  addf (mulf (mulf (mulf x (broadcastInDim S8x2048x1024 ![0, 1, 2] bcast_S8x2048x1_S8x2048x1024_0_1_2
      (Host.rsqrt (addf (Host.divf (broadcastInDim S8x2048x1 ![0, 1] bcast_S8x2048_S8x2048x1_0_1
          (Host.reduceAdd (mulf x x) (constant S_ .f32 0x00000000#32) reducesTo_S8x2048x1024_S8x2048_d2 h_S_))
        (broadcastInDim S8x2048x1 ![] bcast_S_S8x2048x1 (constant S_ .f32 0x44800000#32)))
        (broadcastInDim S8x2048x1 ![] bcast_S_S8x2048x1 (constant S_ .f32 0x358637BD#32))))))
      (broadcastInDim S8x2048x1024 ![0, 1, 2] bcast_S1x1x1024_S8x2048x1024_0_1_2 (broadcastInDim S1x1x1024 ![2] bcast_S1024_S1x1x1024_2 g)))
      (broadcastInDim S8x2048x1024 ![0, 1, 2] bcast_S8x1x1024_S8x2048x1024_0_1_2 (addf (broadcastInDim S8x1x1024 ![] bcast_S_S8x1x1024 (constant S_ .f32 0x3F800000#32)) sc)))
    (broadcastInDim S8x2048x1024 ![0, 1, 2] bcast_S8x1x1024_S8x2048x1024_0_1_2 sh)

/-- A gate: the logistic function of the projection's columns from `off` on. -/
def gateR (h : FVec Ideal S8x2048x1024 .f32) (w : FVec Ideal S1024x8192 .f32) (off : ℕ) (hs : S8x2048x8192.Slices ![0, 0, off] S8x2048x1024) : FVec Ideal S8x2048x1024 .f32 :=
  Host.divf (broadcastInDim S8x2048x1024 ![] bcast_S_S8x2048x1024 (constant S_ .f32 0x3F800000#32))
    (addf (broadcastInDim S8x2048x1024 ![] bcast_S_S8x2048x1024 (constant S_ .f32 0x3F800000#32))
      (Host.exp (Host.negf (extractStridedSlice S8x2048x1024 ![0, 0, off] (Host.dotGeneral dot_S8x2048x1024_S1024x8192_S8x2048x8192_2_0_01_1_n_n none h w) hs))))

/-- An attention's tokens through their weight. -/
def attR (a : FVec Ideal S16384x1024 .bf16) (w : FVec Ideal S1024x1024 .f32) : FVec Ideal S8x2048x1024 .f32 :=
  Host.dotGeneral dot_S8x2048x1024_S1024x1024_S8x2048x1024_2_0_01_1_n_n none (shapeCast S8x2048x1024 (extf .f32 a bitsLt_bf16_f32) shapeCasts_S16384x1024_S8x2048x1024) w

/-- The residual stream, of the stream before, its modulated tokens `h` and the residual's gate. -/
def sumR (x h : FVec Ideal S8x2048x1024 .f32) (gm : FVec Ideal S8x1x1024 .f32) (oa ob : FVec Ideal S16384x1024 .bf16) (w : FVec Ideal S1024x8192 .f32) (wa wb wo : FVec Ideal S1024x1024 .f32) :
    FVec Ideal S8x2048x1024 .f32 :=
  addf x (mulf (broadcastInDim S8x2048x1024 ![0, 1, 2] bcast_S8x1x1024_S8x2048x1024_0_1_2 gm)
    (Host.dotGeneral dot_S8x2048x1024_S1024x1024_S8x2048x1024_2_0_01_1_n_n none
      (addf (mulf (gateR h w 6144 slices_S8x2048x8192_S8x2048x1024_0_0_6144) (attR oa wa)) (mulf (gateR h w 7168 slices_S8x2048x8192_S8x2048x1024_0_0_7168) (attR ob wb))) wo))

/-- The residual stream of this launch. -/
def x1R : FVec Ideal S8x2048x1024 .f32 :=
  sumR (aX m c) (hidR (aX m c) (aN1 m c) (modR (aMod m c) 1024 slices_S16x6144_S16x1024_0_1024) (modR (aMod m c) 0 slices_S16x6144_S16x1024_0_0))
    (modR (aMod m c) 2048 slices_S16x6144_S16x1024_0_2048) (aA m c) (aB m c) (aW m c) (aWa m c) (aWb m c) (aWo m c)

theorem v62_eq : Value.res_main_v62 (StableHlo.launchContents m c) = x1R m c := by
  unfold Value.res_main_v62; rfl

theorem v82_eq : Value.res_main_v82 (StableHlo.launchContents m c) = shapeCast S16384x1024
    (hidR (x1R m c) (aN2 m c) (modR (aMod m c) 4096 slices_S16x6144_S16x1024_0_4096) (modR (aMod m c) 3072 slices_S16x6144_S16x1024_0_3072))
    shapeCasts_S8x2048x1024_S16384x1024 := by
  unfold Value.res_main_v82
  rw [v62_eq]; rfl

/-! ## Read at an index -/

theorem one_bits : Ideal.ofBits FTy.f32 1065353216#32 = 1 := by
  pointwise

theorem modR_apply (mod : FVec Ideal S16x6144 .f32) (off : ℕ) (ho : off ≤ 5120) (hs : S16x6144.Slices ![0, off] S16x1024) (b : Fin 8) (d : Fin 1024) :
    (modR mod off hs (ix3 b (0 : Fin 1) d) : EReal) = modC mod b off ho d := by
  pointwise [modR]

theorem hidR_apply (x : FVec Ideal S8x2048x1024 .f32) (g : FVec Ideal S1024 .f32) (sc sh : FVec Ideal S8x1x1024 .f32) (b : Fin 8) (n : Fin 2048) (k : Fin 1024) :
    (hidR x g sc sh (ix3 b n k) : EReal) = modV (fun d => x (ix3 b n d)) (fun d => g (ix1 d)) (fun d => sc (ix3 b (0 : Fin 1) d)) (fun d => sh (ix3 b (0 : Fin 1) d)) k := by
  pointwise [hidR]
  rw [modV, one_bits]
  rfl

theorem gateR_apply (h : FVec Ideal S8x2048x1024 .f32) (w : FVec Ideal S1024x8192 .f32) (off : ℕ) (ho : off ≤ 7168) (hs : S8x2048x8192.Slices ![0, 0, off] S8x2048x1024) (b : Fin 8) (n : Fin 2048)
    (j : Fin 1024) : (gateR h w off hs (ix3 b n j) : EReal) = sigV (fun k => h (ix3 b n k)) (fun k => w (ix2 k (⟨off + j.val, by omega⟩ : Fin 8192))) := by
  pointwise [gateR]
  rfl

theorem attR_apply (a : FVec Ideal S16384x1024 .bf16) (w : FVec Ideal S1024x1024 .f32) (b : Fin 8) (n : Fin 2048) (j : Fin 1024) :
    (attR a w (ix3 b n j) : EReal) = ∑ k, (a (ix2 (tokR b n) k) : EReal) * (w (ix2 k j) : EReal) := by
  pointwise [attR]
  simp only [Nat.mul_comm b.val 2048]

theorem sumR_apply (x h : FVec Ideal S8x2048x1024 .f32) (gm : FVec Ideal S8x1x1024 .f32) (oa ob : FVec Ideal S16384x1024 .bf16) (w : FVec Ideal S1024x8192 .f32)
    (wa wb wo : FVec Ideal S1024x1024 .f32) (b : Fin 8) (n : Fin 2048) (f : Fin 1024) :
    (sumR x h gm oa ob w wa wb wo (ix3 b n f) : EReal) = addV (fun d => x (ix3 b n d)) (fun d => gm (ix3 b (0 : Fin 1) d))
      (mixV (fun k => h (ix3 b n k)) (fun k j => w (ix2 k (⟨6144 + j.val, by omega⟩ : Fin 8192))) (fun k j => w (ix2 k (⟨7168 + j.val, by omega⟩ : Fin 8192)))
        (fun k => oa (ix2 (tokR b n) k)) (fun k => ob (ix2 (tokR b n) k)) (fun k j => wa (ix2 k j)) (fun k j => wb (ix2 k j)))
      (fun j f => wo (ix2 j f)) f := by
  have ha := fun j => gateR_apply h w 6144 (by decide) slices_S8x2048x8192_S8x2048x1024_0_0_6144 b n j
  have hb := fun j => gateR_apply h w 7168 (by decide) slices_S8x2048x8192_S8x2048x1024_0_0_7168 b n j
  have ta := fun j => attR_apply oa wa b n j
  have tb := fun j => attR_apply ob wb b n j
  unfold addV mixV
  simp only [← ha, ← hb, ← ta, ← tb]
  pointwise [sumR]

theorem x1R_apply (b : Fin 8) (n : Fin 2048) (f : Fin 1024) :
    (x1R m c (ix3 b n f) : EReal) = x1V (aX m c) (aA m c) (aB m c) (aMod m c) (aN1 m c) (aW m c) (aWa m c) (aWb m c) (aWo m c) b n f := by
  unfold x1R
  refine (sumR_apply _ _ _ _ _ _ _ _ _ b n f).trans ?_
  have hh : (fun k => (hidR (aX m c) (aN1 m c) (modR (aMod m c) 1024 slices_S16x6144_S16x1024_0_1024) (modR (aMod m c) 0 slices_S16x6144_S16x1024_0_0) (ix3 b n k) : EReal))
      = hidV (aX m c) (aMod m c) (aN1 m c) b n := by
    funext k
    refine (hidR_apply _ _ _ _ b n k).trans ?_
    rw [funext fun d => modR_apply (aMod m c) 1024 (by decide) _ b d, funext fun d => modR_apply (aMod m c) 0 (by decide) _ b d]
    unfold hidV
    refine congrArg (fun sh => modV _ _ _ sh k) (funext fun d => ?_)
    exact congrArg (fun q => (aMod m c (ix2 (⟨b.val, by omega⟩ : Fin 16) q) : EReal)) (Fin.ext (by show 0 + d.val = d.val; omega))
  rw [hh, funext fun d => modR_apply (aMod m c) 2048 (by decide) _ b d]
  rfl

theorem cast_apply (X : FVec Ideal S8x2048x1024 .f32) (b : Fin 8) (n : Fin 2048) (d : Fin 1024) :
    (shapeCast S16384x1024 X shapeCasts_S8x2048x1024_S16384x1024) (ix2 (tokR b n) d) = X (ix3 b n d) := by
  pointwise
  exact congrArg₂ (fun p q => X (ix3 p q d)) (Fin.ext (by show (2048 * b.val + n.val) / 2048 = b.val; omega)) (Fin.ext (by show (2048 * b.val + n.val) % 2048 = n.val; omega))

theorem out_x1 : shapeCast S16384x1024 (Value.res_main_v62 (StableHlo.launchContents m c)) shapeCasts_S8x2048x1024_S16384x1024
    = (rowsV (x1V (aX m c) (aA m c) (aB m c) (aMod m c) (aN1 m c) (aW m c) (aWa m c) (aWb m c) (aWo m c)) : FVec Ideal S16384x1024 .f32) := by
  rw [v62_eq]
  exact rows_ext _ _ fun b n f => (cast_apply (x1R m c) b n f).trans (x1R_apply m c b n f)

/-- The second modulation of this launch. -/
abbrev h2M : Fin 8 → Fin 2048 → Fin 1024 → EReal := h2V (aX m c) (aA m c) (aB m c) (aMod m c) (aN1 m c) (aN2 m c) (aW m c) (aWa m c) (aWb m c) (aWo m c)

theorem h2R_apply (b : Fin 8) (n : Fin 2048) (f : Fin 1024) :
    (hidR (x1R m c) (aN2 m c) (modR (aMod m c) 4096 slices_S16x6144_S16x1024_0_4096) (modR (aMod m c) 3072 slices_S16x6144_S16x1024_0_3072) (ix3 b n f) : EReal) = h2M m c b n f := by
  refine (hidR_apply _ _ _ _ b n f).trans ?_
  rw [funext fun d => modR_apply (aMod m c) 4096 (by decide) _ b d, funext fun d => modR_apply (aMod m c) 3072 (by decide) _ b d, funext fun d => x1R_apply m c b n d]
  rfl

theorem v82_apply (b : Fin 8) (n : Fin 2048) (f : Fin 1024) : (Value.res_main_v82 (StableHlo.launchContents m c) (ix2 (tokR b n) f) : EReal) = h2M m c b n f := by
  rw [v82_eq]
  exact (cast_apply _ b n f).trans (h2R_apply m c b n f)

theorem out_h2 : truncf .bf16 (Value.res_main_v82 (StableHlo.launchContents m c)) bitsLt_bf16_f32 = (rowsV (h2M m c) : FVec Ideal S16384x1024 .bf16) :=
  rows_ext _ _ fun b n f => v82_apply m c b n f

end Cert.Reference3Ideal.Out

end
-- ==== Proof.RouteRef.lean ====
module

public import proofs.«01_k».proof.Proof.OutRef
public import proofs.«01_k».proof.Proof.RouteSpec
public import Idealize.ShloMosaic.Lib.KernelVsHost

@[expose] public section

set_option maxRecDepth 65536
set_option maxHeartbeats 4000000

noncomputable section

namespace Cert.Reference3Ideal.Out

open Idealize.ShloMosaic Idealize.ShloMosaic.TcCoe Idealize.ShloMosaic.Tactic
open Cert.ProjSpec Cert.OutSpec Cert.RouteSpec
open Cert.Reference3Ideal Cert.Reference3Ideal.Gen

variable (m : (ℓ : Loc nD τ sig) → Buf (Elt Ideal) ℓ) (c : Dev nD)

/-! ## The reference's routing, read at an index -/

abbrev aWg : FVec Ideal S1024x4 .f32 := m ((c.tc : Thread nD τ).loc main_arg10)
abbrev aBg : FVec Ideal S4 .f32 := m ((c.tc : Thread nD τ).loc main_arg11)
abbrev aWe : FVec Ideal S1024x32 .f32 := m ((c.tc : Thread nD τ).loc main_arg12)
abbrev aBe : FVec Ideal S32 .f32 := m ((c.tc : Thread nD τ).loc main_arg13)

theorem sel_eq {α : Type} (p : Prop) [Decidable p] (x y : α) : Scalar.select (BitVec.ofBool (decide p)) x y = @ite α p (Classical.propDecidable p) x y := by
  by_cases h : p <;> simp [h, Scalar.select]

theorem lane4_eq (a : Fin 4) : (FloatOps.sitofp (F := Ideal) FTy.f32 (BitVec.ofNat 32 a.val) : EReal) = laneV a := by
  have h : ∀ a : Fin 4, (BitVec.ofNat 32 a.val).toInt = (a.val : ℤ) := by decide +kernel
  show (((BitVec.ofNat 32 a.val).toInt : ℝ) : EReal) = _
  rw [h a]
  unfold laneV
  norm_cast

theorem lane8_eq (a : Fin 8) : (FloatOps.sitofp (F := Ideal) FTy.f32 (BitVec.ofNat 32 a.val) : EReal) = laneV a := by
  have h : ∀ a : Fin 8, (BitVec.ofNat 32 a.val).toInt = (a.val : ℤ) := by decide +kernel
  show (((BitVec.ofNat 32 a.val).toInt : ℝ) : EReal) = _
  rw [h a]
  unfold laneV
  norm_cast

/-- The lines' tokens, their logits for the groups, and those for the experts. -/
abbrev W : Valuation τ sig (Elt Ideal) := StableHlo.launchContents m c
abbrev hV (r : Fin 16384) : Fin 1024 → EReal := fun k => Value.res_main_v82 (W m c) (ix2 r k)
abbrev lgV (r : Fin 16384) : Fin 4 → EReal := logitV (hV m c r) (aWg m c) (aBg m c)
abbrev leV (r : Fin 16384) : Fin 4 → Fin 8 → EReal := fun g e => logitV (hV m c r) (aWe m c) (aBe m c) (expP g e)

/-! The greatest and the least entry of a row, as the reference's lines take them. -/

theorem max4_apply (x : FVec Ideal S16384x4 .f32) (r : Fin 16384) :
    ((Host.reduce FloatOps.maximumf x (constant S_ .f32 0xFF800000#32) reducesTo_S16384x4_S16384_d1 h_S_ : FVec Ideal S16384 .f32) (ix1 r) : EReal) = maxV fun a => x (ix2 r a) := by
  refine (congrFun (hostReduce_maximumf_eq_multiReduction x 0xFF800000#32 _ h_S_ (by decide) (.inl rfl) rfl) (ix1 r)).trans ?_
  pointwise
  rw [bits_bot]
  rfl

theorem max8_apply (x : FVec Ideal S16384x8 .f32) (r : Fin 16384) :
    ((Host.reduce FloatOps.maximumf x (constant S_ .f32 0xFF800000#32) reducesTo_S16384x8_S16384_d1 h_S_ : FVec Ideal S16384 .f32) (ix1 r) : EReal) = maxV fun a => x (ix2 r a) := by
  refine (congrFun (hostReduce_maximumf_eq_multiReduction x 0xFF800000#32 _ h_S_ (by decide) (.inl rfl) rfl) (ix1 r)).trans ?_
  pointwise
  rw [bits_bot]
  rfl

theorem min4_apply (x : FVec Ideal S16384x4 .f32) (r : Fin 16384) :
    ((Host.reduce FloatOps.minimumf x (constant S_ .f32 0x7F800000#32) reducesTo_S16384x4_S16384_d1 h_S_ : FVec Ideal S16384 .f32) (ix1 r) : EReal) = minV fun a => x (ix2 r a) := by
  refine (congrFun (hostReduce_minimumf_eq_multiReduction x 0x7F800000#32 _ h_S_ (by decide) (.inl rfl) rfl) (ix1 r)).trans ?_
  pointwise
  rw [bits_top]
  rfl

theorem min8_apply (x : FVec Ideal S16384x8 .f32) (r : Fin 16384) :
    ((Host.reduce FloatOps.minimumf x (constant S_ .f32 0x7F800000#32) reducesTo_S16384x8_S16384_d1 h_S_ : FVec Ideal S16384 .f32) (ix1 r) : EReal) = minV fun a => x (ix2 r a) := by
  refine (congrFun (hostReduce_minimumf_eq_multiReduction x 0x7F800000#32 _ h_S_ (by decide) (.inl rfl) rfl) (ix1 r)).trans ?_
  pointwise
  rw [bits_top]
  rfl

/-- A row's greatest or least entry, spread over a column. -/
theorem col_apply (x : FVec Ideal S16384 .f32) (r : Fin 16384) : (broadcastInDim S16384x1 ![0] bcast_S16384_S16384x1_0 x (ix2 r (0 : Fin 1)) : EReal) = x (ix1 r) := by
  pointwise

theorem spread4_apply (x : FVec Ideal S16384x1 .f32) (r : Fin 16384) (a : Fin 4) : (broadcastInDim S16384x4 ![0, 1] bcast_S16384x1_S16384x4_0_1 x (ix2 r a) : EReal) = x (ix2 r (0 : Fin 1)) := by
  pointwise

theorem spread8_apply (x : FVec Ideal S16384x1 .f32) (r : Fin 16384) (a : Fin 8) : (broadcastInDim S16384x8 ![0, 1] bcast_S16384x1_S16384x8_0_1 x (ix2 r a) : EReal) = x (ix2 r (0 : Fin 1)) := by
  pointwise

theorem cst_apply (b : BitVec 32) : (id (constant S_ .f32 b : FVec Ideal S_ .f32) ix0 : EReal) = Ideal.ofBits .f32 b := rfl

theorem ite_eq {p : Prop} (i : Decidable p) (a b : EReal) : @ite EReal p i a b = @ite EReal p (Classical.propDecidable p) a b := by
  congr

theorem sum_ite_eq {n : ℕ} (P : Fin n → Prop) (i : ∀ a, Decidable (P a)) (f : Fin n → EReal) : (∑ a, @ite EReal (P a) (i a) (f a) 0) = ∑ a, @ite EReal (P a) (Classical.propDecidable _) (f a) 0 :=
  Finset.sum_congr rfl fun a _ => ite_eq _ _ _

theorem nat4 : Ideal.ofBits .f32 1082130432#32 = (((4 : ℕ) : ℝ) : EReal) := by
  rw [bits_4]
  norm_num

theorem nat8 : Ideal.ofBits .f32 1090519040#32 = (((8 : ℕ) : ℝ) : EReal) := by
  rw [bits_8]
  norm_num

theorem firstV_eq_fold {n : ℕ} (p : Fin n → EReal) (P : EReal) : (minV fun x => @ite EReal (p x = P) (Classical.propDecidable _) (laneV x) ((n : ℝ) : EReal)) = firstV p P := by
  unfold firstV
  congr
  funext x
  congr

theorem v83_apply (a : Fin 4) : (Value.res_main_v83 (W m c) (ix1 a) : EReal) = laneV a := by
  unfold Value.res_main_v83
  pointwise
  exact lane4_eq a

theorem v84_apply (a : Fin 8) : (Value.res_main_v84 (W m c) (ix1 a) : EReal) = laneV a := by
  unfold Value.res_main_v84
  pointwise
  exact lane8_eq a

theorem v88_apply (r : Fin 16384) (a : Fin 4) : (Value.res_main_v88 (W m c) (ix2 r a) : EReal) = lgV m c r a := by
  unfold Value.res_main_v88 lgV logitV
  pointwise

theorem v93_apply (r : Fin 16384) (a : Fin 4) : (Value.res_main_v93 (W m c) (ix2 r a) : EReal) = Ideal.exp (lgV m c r a - maxV (lgV m c r)) := by
  unfold Value.res_main_v93
  refine congrArg Ideal.exp (congrArg₂ (fun x y : EReal => x - y) (v88_apply m c r a) ?_)
  rw [spread4_apply, col_apply, max4_apply]
  simp only [v88_apply]

theorem v97_apply (r : Fin 16384) (a : Fin 4) : (Value.res_main_v97 (W m c) (ix2 r a) : EReal) = shareV (lgV m c r) a := by
  unfold Value.res_main_v97
  pointwise
  simp only [v93_apply]
  rfl

theorem v99_apply (r : Fin 16384) : (Value.res_main_v99 (W m c) (ix2 r (0 : Fin 1)) : EReal) = maxV (shareV (lgV m c r)) := by
  unfold Value.res_main_v99
  rw [col_apply, max4_apply]
  simp only [v97_apply]

theorem v104_apply (r : Fin 16384) : (Value.res_main_v104 (W m c) (ix2 r (0 : Fin 1)) : EReal) = grpV (lgV m c r) := by
  unfold Value.res_main_v104
  rw [col_apply, min4_apply]
  refine Eq.trans ?_ (firstV_eq_fold (n := 4) _ _)
  congr
  funext a
  pointwise
  simp only [v97_apply, v99_apply, v83_apply, sel_eq, cst_apply, nat4]
  exact ite_eq _ _ _

/-- The logits within the chosen group. -/
abbrev sV (r : Fin 16384) (e : Fin 8) : EReal := ∑ a : Fin 4, @ite EReal (laneV a = grpV (lgV m c r)) (Classical.propDecidable _) (leV m c r a e) 0

theorem v116_apply (r : Fin 16384) (e : Fin 8) : (Value.res_main_v116 (W m c) (ix2 r e) : EReal) = sV m c r e := by
  unfold Value.res_main_v116
  pointwise
  simp only [v104_apply, v83_apply, sel_eq, cst_apply, Ideal.ofBits_zero_f32, Nat.mul_comm _ 8]
  exact sum_ite_eq _ _ _

theorem v121_apply (r : Fin 16384) (e : Fin 8) : (Value.res_main_v121 (W m c) (ix2 r e) : EReal) = Ideal.exp (sV m c r e - maxV (sV m c r)) := by
  unfold Value.res_main_v121
  refine congrArg Ideal.exp (congrArg₂ (fun x y : EReal => x - y) (v116_apply m c r e) ?_)
  rw [spread8_apply, col_apply, max8_apply]
  simp only [v116_apply]

theorem v125_apply (r : Fin 16384) (e : Fin 8) : (Value.res_main_v125 (W m c) (ix2 r e) : EReal) = inV (lgV m c r) (leV m c r) e := by
  unfold Value.res_main_v125
  pointwise
  simp only [v121_apply]
  have hs : sV m c r = fun e => ∑ a : Fin 4, if laneV a = grpV (lgV m c r) then leV m c r a e else 0 :=
    funext fun e => (sum_ite_eq _ _ _).symm
  show shareV (sV m c r) e = _
  rw [hs]
  rfl

theorem v127_apply (r : Fin 16384) : (Value.res_main_v127 (W m c) (ix2 r (0 : Fin 1)) : EReal) = maxV (inV (lgV m c r) (leV m c r)) := by
  unfold Value.res_main_v127
  rw [col_apply, max8_apply]
  simp only [v125_apply]

theorem v132_apply (r : Fin 16384) : (Value.res_main_v132 (W m c) (ix2 r (0 : Fin 1)) : EReal) = oneV (lgV m c r) (leV m c r) := by
  unfold Value.res_main_v132
  rw [col_apply, min8_apply]
  refine Eq.trans ?_ (firstV_eq_fold (n := 8) _ _)
  congr
  funext a
  pointwise
  simp only [v125_apply, v127_apply, v84_apply, sel_eq, cst_apply, nat8]
  exact ite_eq _ _ _

theorem v137_apply (r : Fin 16384) (e : Fin 8) : (Value.res_main_v137 (W m c) (ix2 r e) : EReal) = restV (lgV m c r) (leV m c r) e := by
  unfold Value.res_main_v137
  pointwise
  simp only [v125_apply, v132_apply, v84_apply, sel_eq, cst_apply, bits_neg]
  rfl

theorem v139_apply (r : Fin 16384) : (Value.res_main_v139 (W m c) (ix2 r (0 : Fin 1)) : EReal) = maxV (restV (lgV m c r) (leV m c r)) := by
  unfold Value.res_main_v139
  rw [col_apply, max8_apply]
  simp only [v137_apply]

theorem two_apply (r : Fin 16384) : ((Host.reduce FloatOps.minimumf (select
        (cmpf CmpFPredicate.oeq (Value.res_main_v137 (W m c)) (broadcastInDim S16384x8 ![0, 1] bcast_S16384x1_S16384x8_0_1 (Value.res_main_v139 (W m c))))
        (broadcastInDim S16384x8 ![1] bcast_S8_S16384x8_1 (Value.res_main_v84 (W m c)))
        (broadcastInDim S16384x8 ![] bcast_S_S16384x8 (id (constant S_ FTy.f32 1090519040#32))))
      (constant S_ FTy.f32 2139095040#32) reducesTo_S16384x8_S16384_d1 h_S_ : FVec Ideal S16384 .f32) (ix1 r) : EReal) = twoV (lgV m c r) (leV m c r) := by
  rw [min8_apply]
  refine Eq.trans ?_ (firstV_eq_fold (n := 8) (restV (lgV m c r) (leV m c r)) (maxV (restV (lgV m c r) (leV m c r))))
  refine congrArg minV (funext fun a => ?_)
  pointwise
  simp only [v137_apply, v139_apply, v84_apply, sel_eq, cst_apply, nat8]
  exact ite_eq _ _ _

theorem gate_apply (r : Fin 16384) (e : Fin 128) : (Value.val4 (W m c) (Proc.devRef .tc main_v170) (ix2 r e) : EReal) = gateV (lgV m c r) (leV m c r) e := by
  have h2 := two_apply m c r
  pointwise at h2
  rw [Value.val4_main_v170]
  pointwise
  rw [h2]
  simp only [v104_apply, v132_apply, v127_apply, v139_apply, v99_apply, v83_apply, v84_apply, sel_eq, cst_apply, Ideal.ofBits_zero_f32]
  unfold gateV
  split
  · rfl
  · by_cases he : e.val = 32
    · rw [dif_pos (by omega), if_pos he, show (⟨e.val - 32, by omega⟩ : Fin 1) = 0 from Subsingleton.elim _ _]
      exact v104_apply m c r
    · rw [dif_neg (by omega), if_neg he]

/-- The reference's third result. -/
abbrev gateM (m : (ℓ : Loc nD τ sig) → Buf (Elt Ideal) ℓ) (c : Dev nD) (b : Fin 8) (n : Fin 2048) : Fin 128 → EReal := routeV (h2M m c b n) (aWg m c) (aBg m c) (aWe m c) (aBe m c)

theorem out_gate : Value.val4 (W m c) (Proc.devRef .tc main_v170) = (rowsV (gateM m c) : FVec Ideal S16384x128 .f32) := by
  refine rows_ext (gateM m c) (e := .f32) _ fun b n e => (gate_apply m c (tokR b n) e).trans ?_
  have hh : hV m c (tokR b n) = h2M m c b n := funext fun f => v82_apply m c b n f
  unfold gateM routeV lgV leV
  rw [hh]

end Cert.Reference3Ideal.Out

end
-- ==== Proof.RoutePre.lean ====
module

public import proofs.«01_k».proof.Pre_finite_router
public import proofs.«01_k».proof.Proof.AdaPre
public import proofs.«01_k».proof.Proof.RouteRef

@[expose] public section

set_option maxRecDepth 65536
set_option maxHeartbeats 4000000

noncomputable section

namespace Cert.Pre_finite_router

open Idealize.ShloMosaic Idealize.ShloMosaic.TcCoe
open Cert.OutSpec Cert.RouteSpec
open Facts

/-- The shape relations of the precondition's operations. -/
theorem facts : Facts := by
  constructor <;> decide

theorem tame_of_bit (x : EReal) (h : BitVec.ofBool (decide (max x (-x) < Ideal.ofBits .f32 2139095040#32)) = 1#1) : Tame x :=
  haveI := Cert.Pre_finite_modulation.facts
  Cert.Pre_finite_modulation.fin_of_bit x h

variable [Facts]

/-- The rows the precondition asks to be finite: the tokens and the router's two weights. -/
def rowsR (h : FVec Ideal S16384x1024 .f32) (wg : FVec Ideal S1024x4 .f32) (we : FVec Ideal S1024x32 .f32) : FVec Ideal S16420x1024 .f32 :=
  concatenate S16420x1024 0 [⟨S16384x1024, extf .f32 (truncf .bf16 h bitsLt_bf16_f32) bitsLt_bf16_f32⟩, ⟨S4x1024, transpose S4x1024 [1, 0] wg transposes_S1024x4_S4x1024_1_0⟩,
    ⟨S32x1024, transpose S32x1024 [1, 0] we transposes_S1024x32_S32x1024_1_0⟩] concatenates_S16384x1024_S4x1024_S32x1024_S16420x1024_d0

/-- All of the rows are finite. -/
def finR (h : FVec Ideal S16384x1024 .f32) (wg : FVec Ideal S1024x4 .f32) (we : FVec Ideal S1024x32 .f32) : IVec S16420x1024 1 :=
  cmpf .olt (Host.absf (rowsR h wg we)) (broadcastInDim S16420x1024 ![] bcast_S_S16420x1024 (constant S_ .f32 0x7F800000#32))

section
variable (h : FVec Ideal S16384x1024 .f32) (wg : FVec Ideal S1024x4 .f32) (we : FVec Ideal S1024x32 .f32) (hf : finR h wg we = fun _ => 1#1)
include hf

theorem fin_tok (r : Fin 16384) (k : Fin 1024) : Tame (h (ix2 r k)) := by
  have hf := congrFun hf (ix2 (⟨r.val, by omega⟩ : Fin 16420) k)
  unfold finR rowsR at hf
  pointwise at hf
  exact tame_of_bit _ hf

theorem fin_wg (k : Fin 1024) (a : Fin 4) : Tame (wg (ix2 k a)) := by
  have hf := congrFun hf (ix2 (⟨16384 + a.val, by omega⟩ : Fin 16420) k)
  unfold finR rowsR at hf
  pointwise at hf
  exact tame_of_bit _ hf

theorem fin_we (k : Fin 1024) (a : Fin 32) : Tame (we (ix2 k a)) := by
  have hf := congrFun hf (ix2 (⟨16388 + a.val, by omega⟩ : Fin 16420) k)
  unfold finR rowsR at hf
  pointwise at hf
  rw [dif_neg (by omega), dif_neg (by omega)] at hf
  rw [show (⟨16388 + a.val - 16384 - 4, by omega⟩ : Fin 32) = a from Fin.ext (by show 16388 + a.val - 16384 - 4 = a.val; omega)] at hf
  exact tame_of_bit _ hf
end

section
open Cert.Reference3Ideal.Out
variable (m : (ℓ : Loc Cert.Reference3Ideal.nD Cert.Reference3Ideal.τ Cert.Reference3Ideal.sig) → Buf (Elt Ideal) ℓ) (c : Dev Cert.Reference3Ideal.nD)

/-- The precondition's tokens are the reference's own. -/
theorem fn_eq : fn (F := Ideal) (aX m c) (aA m c) (aB m c) (aMod m c) (aN1 m c) (aN2 m c) (aW m c) (aWa m c) (aWb m c) (aWo m c) (aWg m c) (aBg m c) (aWe m c) (aBe m c)
    = finR (Cert.Reference3Ideal.Value.res_main_v82 (StableHlo.launchContents m c)) (aWg m c) (aWe m c) := by
  rw [v82_eq]
  rfl

/-- What the precondition says of the routing. -/
theorem fn_finite (h : fn (F := Ideal) (aX m c) (aA m c) (aB m c) (aMod m c) (aN1 m c) (aN2 m c) (aW m c) (aWa m c) (aWb m c) (aWo m c) (aWg m c) (aBg m c) (aWe m c) (aBe m c) = fun _ => 1#1) :
    Finite (h2M m c) (aWg m c) (aWe m c) := by
  rw [fn_eq m c] at h
  refine ⟨fun b n k => ?_, fin_wg _ _ _ h, fin_we _ _ _ h⟩
  have ht := fin_tok _ _ _ h (tokR b n) k
  have hv := v82_apply m c b n k
  exact hv ▸ ht
end

end Cert.Pre_finite_router

end
-- ==== Proof.OutFinal.lean ====
module

public import proofs.«01_k».proof.Proof.RouteBlocks
public import proofs.«01_k».proof.Proof.RoutePre
public import proofs.«01_k».proof.Proof.Frames

@[expose] public section

set_option maxRecDepth 16384
set_option maxHeartbeats 4000000

noncomputable section

namespace Cert.Proof

open Idealize.ShloMosaic Idealize.ShloMosaic.TcCoe Idealize.SL.Sem
open Idealize.ShloMosaic.Pipeline (FramePost)

/-- The output projection's reference leaves its arguments and its counters as they were. -/
theorem frame_reference_out : Cert.quiescent_Reference3Ideal := fun m ρ _ =>
  (θ_run Reference3Ideal.defs _ _).mono (fun r h => ⟨fun c => (h c).2.2.2, sem_eq_zero_of_no_sems (by decide) r.2⟩) (Cert.Reference3Ideal.Value.run (F := Ideal) m ρ)

variable [Cert.Pre_finite_router.Facts]

theorem frame_ideal_router : Cert.quiescent_Kernel3Ideal_pre_finite_router := fun m ρ _ => Cert.Kernel3Ideal.Gen.frame m ρ

theorem frame_reference_router : Cert.quiescent_Reference3Ideal_pre_finite_router := fun m ρ _ => frame_reference_out m ρ trivial

section
variable (m : (ℓ : Loc Kernel3Ideal.nD Kernel3Ideal.τ Kernel3Ideal.sig) → Buf (Elt Ideal) ℓ) (m' : (ℓ : Loc Reference3Ideal.nD Reference3Ideal.τ Reference3Ideal.sig) → Buf (Elt Ideal) ℓ)
  (c : Dev Kernel3Ideal.nD)

/-- The two programs start from the same arguments. -/
structure SameArgs : Prop where
  x : Reference3Ideal.Out.aX m' c = Kernel3Ideal.Out.aX m c
  a : Reference3Ideal.Out.aA m' c = Kernel3Ideal.Out.aA m c
  b : Reference3Ideal.Out.aB m' c = Kernel3Ideal.Out.aB m c
  mod : Reference3Ideal.Out.aMod m' c = Kernel3Ideal.Out.aMod m c
  n1 : Reference3Ideal.Out.aN1 m' c = Kernel3Ideal.Out.aN1 m c
  n2 : Reference3Ideal.Out.aN2 m' c = Kernel3Ideal.Out.aN2 m c
  w : Reference3Ideal.Out.aW m' c = Kernel3Ideal.Out.aW m c
  wa : Reference3Ideal.Out.aWa m' c = Kernel3Ideal.Out.aWa m c
  wb : Reference3Ideal.Out.aWb m' c = Kernel3Ideal.Out.aWb m c
  wo : Reference3Ideal.Out.aWo m' c = Kernel3Ideal.Out.aWo m c
  wg : Reference3Ideal.Out.aWg m' c = Kernel3Ideal.Out.aWg m c
  bg : Reference3Ideal.Out.aBg m' c = Kernel3Ideal.Out.aBg m c
  we : Reference3Ideal.Out.aWe m' c = Kernel3Ideal.Out.aWe m c
  be : Reference3Ideal.Out.aBe m' c = Kernel3Ideal.Out.aBe m c

variable {m m' c} (s : SameArgs m m' c)
include s

theorem h2_same : Reference3Ideal.Out.h2M m' c = Kernel3Ideal.Out.h2M m c := by
  funext b n f
  show OutSpec.h2V _ _ _ _ _ _ _ _ _ _ b n f = OutSpec.h2V _ _ _ _ _ _ _ _ _ _ b n f
  rw [s.x, s.a, s.b, s.mod, s.n1, s.n2, s.w, s.wa, s.wb, s.wo]

theorem gate_same : Reference3Ideal.Out.gateM m' c = Kernel3Ideal.Out.gateM m c := by
  funext b n
  unfold Reference3Ideal.Out.gateM Kernel3Ideal.Out.gateM
  rw [h2_same s, s.wg, s.bg, s.we, s.be]

/-- What the precondition says of the kernel's routing. -/
theorem finite_same (hp : Cert.Pre_finite_router.fn (F := Ideal) (Kernel3Ideal.Out.aX m c) (Kernel3Ideal.Out.aA m c) (Kernel3Ideal.Out.aB m c) (Kernel3Ideal.Out.aMod m c) (Kernel3Ideal.Out.aN1 m c)
    (Kernel3Ideal.Out.aN2 m c) (Kernel3Ideal.Out.aW m c) (Kernel3Ideal.Out.aWa m c) (Kernel3Ideal.Out.aWb m c) (Kernel3Ideal.Out.aWo m c) (Kernel3Ideal.Out.aWg m c) (Kernel3Ideal.Out.aBg m c)
    (Kernel3Ideal.Out.aWe m c) (Kernel3Ideal.Out.aBe m c) = fun _ => 1#1) :
    RouteSpec.Finite (Kernel3Ideal.Out.h2M m c) (Kernel3Ideal.Out.aWg m c) (Kernel3Ideal.Out.aWe m c) := by
  have hq := Cert.Pre_finite_router.fn_finite m' c
  rw [s.x, s.a, s.b, s.mod, s.n1, s.n2, s.w, s.wa, s.wb, s.wo, s.wg, s.bg, s.we, s.be, h2_same s] at hq
  exact hq hp
end

/-- The output projection's three results are its reference's, where its tokens and its router's weights are finite. -/
theorem algebraic_out : Cert.algebraic_Kernel3Ideal_Reference3Ideal_pre_finite_router := by
  intro m g m' g' hpre hm
  have hs : ∀ c, SameArgs m m' c := fun c => by
    obtain ⟨h0, h1, h2, h3, h4, h5, h6, h7, h8, h9, h10, h11, h12, h13⟩ := hm c
    exact ⟨h0, h1, h2, h3, h4, h5, h6, h7, h8, h9, h10, h11, h12, h13⟩
  refine ⟨fun c => (OutSpec.rowsV (Kernel3Ideal.Out.x1M m c) : FVec Ideal Kernel3Ideal.S16384x1024 .f32),
    fun c => (OutSpec.rowsV (Kernel3Ideal.Out.h2M m c) : FVec Ideal Kernel3Ideal.S16384x1024 .bf16),
    fun c => (OutSpec.rowsV (Kernel3Ideal.Out.gateM m c) : FVec Ideal Kernel3Ideal.S16384x128 .f32), ?_, ?_⟩
  · refine (θ_run Kernel3Ideal.defs _ _).mono (fun r h c => ?_) (θ_run_and (Kernel3Ideal.Gen.unchanged m g) (Kernel3Ideal.Gen.run_main m g))
    exact ⟨((h.2 c).1 13).trans (Kernel3Ideal.Out.arr_x1 m c), ((h.2 c).1 14).trans (Kernel3Ideal.Out.arr_h2 m c),
      ((h.2 c).1 15).trans (Kernel3Ideal.Out.arr_gate m c (finite_same (hs c) (hpre c))), h.1 c⟩
  · refine (θ_run Reference3Ideal.defs _ _).mono (fun r h c => ?_) (Cert.Reference3Ideal.Value.run (F := Ideal) m' g')
    obtain ⟨r0, r1, r2, hu⟩ := h c
    have s := hs c
    refine ⟨(r0.trans (Reference3Ideal.Out.out_x1 m' c)).trans ?_, (r1.trans (Reference3Ideal.Out.out_h2 m' c)).trans ?_,
      (r2.trans ((Reference3Ideal.Value.val4_main_v170 (StableHlo.launchContents m' c)).symm.trans (Reference3Ideal.Out.out_gate m' c))).trans ?_, hu⟩
    · rw [s.x, s.a, s.b, s.mod, s.n1, s.w, s.wa, s.wb, s.wo]
    · rw [h2_same s]
    · rw [gate_same s]

end Cert.Proof

end
-- ==== Proof.AdaBody.lean ====
module

public import proofs.«01_k».proof.Proof.Gen.Kernel4Ideal.Frame
public import proofs.«01_k».proof.Proof.AdaSpec
public import Idealize.ShloMosaic.Lib.Pointwise
public import Idealize.ShloMosaic.Lib.Pointwise.IndexVar
public import Idealize.ShloMosaic.Lib.Pointwise.IndexBridge
public import Idealize.ShloMosaic.Lib.IdealHost
public import Idealize.ShloMosaic.Lib.Pipeline.ValueKit

@[expose] public section

set_option maxRecDepth 65536
set_option maxHeartbeats 4000000

noncomputable section

namespace Cert.Kernel4Ideal.Ada

open Idealize.ShloMosaic Idealize.ShloMosaic.TcCoe Idealize.ShloMosaic.Tactic
open Cert.AdaSpec
open Cert.Kernel4Ideal Cert.Kernel4Ideal.Gen

section
variable {F : FTy → Type} [FloatOps F]
variable (m : (ℓ : Loc nD τ sig) → Buf (Elt F) ℓ)

/-! ## What a tile's run leaves in the two outputs' buffers -/

theorem ld_c (X : Vec F S16x1024 .f32) : View.ld X r0_0 = X := View.ld_unit_lit _ X (by decide)

theorem ld_w (X : Vec F S1024x1024 .f32) : View.ld X r0_1 = X := View.ld_unit_lit _ X (by decide)

theorem ld_b (X : Vec F S1x1024 .f32) : View.ld X r0_2 = X := View.ld_unit_lit _ X (by decide)

theorem ld_l (X : Vec F S4x64 .f32) : View.ld X r0_3 = X := View.ld_unit_lit _ X (by decide)

theorem after_mod (c : Dev nD) (t : Fin cfg0.N) : (dats m 0 c).after 4 t = k0_pay2 (iblk m c 0 t) (iblk m c 1 t) (iblk m c 2 t) := by
  rw [after0_4]
  frame_out

theorem after_lam (c : Dev nD) (t : Fin cfg0.N) : (dats m 0 c).after 5 t = k0_pay1 (k0_pay4 (iblk m c 3 t)) (k0_pay5 (iblk m c 3 t)) := by
  rw [after0_5]
  frame_out

end

/-! ## The tile's operations, read at an index -/

theorem mod_apply (v0 : Vec Ideal S16x1024 .f32) (v8 : Vec Ideal S1024x1024 .f32) (v22 : Vec Ideal S1x1024 .f32) (r : Fin 16) (j : Fin 1024)
    (hc : ∀ k, (v0 (ix2 r k) : EReal) ≠ ⊤ ∧ (v0 (ix2 r k) : EReal) ≠ ⊥) (hw : ∀ k, (v8 (ix2 k j) : EReal) ≠ ⊤ ∧ (v8 (ix2 k j) : EReal) ≠ ⊥) :
    (k0_pay2 v0 v8 v22 (ix2 r j) : EReal) = adaV (fun k => v0 (ix2 r k)) (fun k => v8 (ix2 k j)) (v22 (ix2 (0 : Fin 1) j)) := by
  refine Eq.trans ?_ (pieces _ _ _ hc hw)
  unfold siluV
  pointwise [k0_pay2]
  simp only [zero_sub]

theorem lam_apply (v : Vec Ideal S4x64 .f32) (r : Fin 8) (j : Fin 128) :
    (k0_pay1 (k0_pay4 v) (k0_pay5 v) (ix2 r j) : EReal)
      = lamV (fun i => v (ix2 (0 : Fin 4) i)) (fun i => v (ix2 (1 : Fin 4) i)) (fun i => v (ix2 (2 : Fin 4) i)) (fun i => v (ix2 (3 : Fin 4) i)) := by
  unfold lamV
  pointwise [k0_pay1, k0_pay4, k0_pay5, k0_pay3]

end Cert.Kernel4Ideal.Ada

end
-- ==== Proof.AdaBlocks.lean ====
module

public import proofs.«01_k».proof.Proof.AdaBody

@[expose] public section

set_option maxRecDepth 65536
set_option maxHeartbeats 4000000

noncomputable section

namespace Cert.Kernel4Ideal.Ada

open Idealize.ShloMosaic Idealize.ShloMosaic.TcCoe Idealize.ShloMosaic.Tactic
open Cert.AdaSpec
open Cert.Kernel4Ideal Cert.Kernel4Ideal.Gen

variable (m : (ℓ : Loc nD τ sig) → Buf (Elt Ideal) ℓ) (c : Dev nD)

/-! ## The call's arguments, and the arrays the host prepares of them -/

abbrev aP : FVec Ideal S8x1024 .f32 := m ((c : Thread nD τ).loc main_arg0)
abbrev aS : FVec Ideal S8x1024 .f32 := m ((c : Thread nD τ).loc main_arg1)
abbrev aW : FVec Ideal S1024x6144 .f32 := m ((c : Thread nD τ).loc main_arg2)
abbrev aB : FVec Ideal S6144 .f32 := m ((c : Thread nD τ).loc main_arg3)
abbrev aQ1 : FVec Ideal S64 .f32 := m ((c : Thread nD τ).loc main_arg4)
abbrev aK1 : FVec Ideal S64 .f32 := m ((c : Thread nD τ).loc main_arg5)
abbrev aQ2 : FVec Ideal S64 .f32 := m ((c : Thread nD τ).loc main_arg6)
abbrev aK2 : FVec Ideal S64 .f32 := m ((c : Thread nD τ).loc main_arg7)

/-- The four vectors of the factor, one under another. -/
abbrev lamRows (q1 k1 q2 k2 : FVec Ideal S64 .f32) : FVec Ideal S4x64 .f32 :=
  concatenate S4x64 0 [⟨S1x64, broadcastInDim S1x64 ![1] bcast_S64_S1x64_1 q1⟩, ⟨S1x64, broadcastInDim S1x64 ![1] bcast_S64_S1x64_1 k1⟩,
    ⟨S1x64, broadcastInDim S1x64 ![1] bcast_S64_S1x64_1 q2⟩, ⟨S1x64, broadcastInDim S1x64 ![1] bcast_S64_S1x64_1 k2⟩] concatenates_S1x64_S1x64_S1x64_S1x64_S4x64_d0

/-- The host's arrays, all at once. -/
theorem host_arrays : (V m c main_v0 : Vec Ideal S16x1024 .f32) = concatenate S16x1024 0 [⟨S8x1024, aP m c⟩, ⟨S8x1024, aS m c⟩] concatenates_S8x1024_S8x1024_S16x1024_d0
    ∧ (V m c main_v5 : Vec Ideal S4x64 .f32) = lamRows (aQ1 m c) (aK1 m c) (aQ2 m c) (aK2 m c)
    ∧ (V m c main_v6 : Vec Ideal S1x6144 .f32) = shapeCast S1x6144 (aB m c) shapeCasts_S6144_S1x6144 := by
  refine ⟨?_, ?_, ?_⟩ <;>
  · show StableHlo.after hostOps0 _ _ = _
    unfold hostOps0
    after_results_simp <;> rfl

theorem cond_apply (cp cs : FVec Ideal S8x1024 .f32) (r : Fin 16) (k : Fin 1024) :
    (concatenate S16x1024 0 [⟨S8x1024, cp⟩, ⟨S8x1024, cs⟩] concatenates_S8x1024_S8x1024_S16x1024_d0 (ix2 r k) : EReal) = condV cp cs r k := by
  unfold condV
  pointwise

theorem bCast_apply (X : FVec Ideal S6144 .f32) (f : Fin 6144) : (shapeCast S1x6144 X shapeCasts_S6144_S1x6144) (ix2 (0 : Fin 1) f) = X (ix1 f) := by
  pointwise

theorem lamRows_apply (q1 k1 q2 k2 : FVec Ideal S64 .f32) (i : Fin 64) : lamRows q1 k1 q2 k2 (ix2 (0 : Fin 4) i) = q1 (ix1 i) ∧ lamRows q1 k1 q2 k2 (ix2 (1 : Fin 4) i) = k1 (ix1 i)
    ∧ lamRows q1 k1 q2 k2 (ix2 (2 : Fin 4) i) = q2 (ix1 i) ∧ lamRows q1 k1 q2 k2 (ix2 (3 : Fin 4) i) = k2 (ix1 i) := by
  unfold lamRows
  refine ⟨?_, ?_, ?_, ?_⟩ <;> pointwise

/-! ## The blocks, element by element -/

theorem ptN (t : Fin cfg0.N) : t.val < 6 := t.isLt

/-- The column of the modulation a tile's column is. -/
abbrev colN (t : Fin cfg0.N) (j : Fin 1024) : Fin 6144 := ⟨t.val * 1024 + j.val, by have := ptN t; omega⟩

theorem index_all : ∀ t : Fin grid0.N, win0_0.index t = ![0, 0] ∧ win0_1.index t = ![0, t.val] ∧ win0_2.index t = ![0, t.val] ∧ win0_3.index t = ![0, 0]
    ∧ win0_4.index t = ![0, t.val] ∧ win0_5.index t = ![0, 0] := by decide +kernel

/-- Two places of a two-dimensional array with the same coordinates. -/
theorem idx_eq {p q : ℕ} (z : Shape.Idx ⟨2, ![p, q]⟩) (i : Fin p) (j : Fin q) (h0 : (z 0).val = i.val) (h1 : (z 1).val = j.val) : z = ix2 i j := by
  funext a
  match a with
  | ⟨0, _⟩ => exact Fin.ext h0
  | ⟨1, _⟩ => exact Fin.ext h1

theorem cB_apply (t : Fin cfg0.N) (r : Fin 16) (k : Fin 1024) : (iblk m c 0 t (ix2 r k) : EReal) = condV (aP m c) (aS m c) r k := by
  rw [← cond_apply (aP m c) (aS m c), ← (host_arrays m c).1]
  unfold iblk
  rw [View.read_apply]
  show V m c main_v0 _ = V m c main_v0 _
  refine congrArg (V m c main_v0) (idx_eq _ _ _ ?_ ?_)
  · show win0_0.index t 0 * 16 + 1 * r.val = _; rw [(index_all t).1]; show 0 * 16 + 1 * r.val = r.val; omega
  · show win0_0.index t 1 * 1024 + 1 * k.val = _; rw [(index_all t).1]; show 0 * 1024 + 1 * k.val = k.val; omega

theorem wB_apply (t : Fin cfg0.N) (k j : Fin 1024) : (iblk m c 1 t (ix2 k j) : EReal) = aW m c (ix2 k (colN t j)) := by
  show _ = (m ((c : Thread nD τ).loc main_arg2) (ix2 k (colN t j)) : EReal)
  rw [← V_main_arg2 m c]
  unfold iblk
  rw [View.read_apply]
  show V m c main_arg2 _ = V m c main_arg2 _
  refine congrArg (V m c main_arg2) (idx_eq _ _ _ ?_ ?_)
  · show win0_1.index t 0 * 1024 + 1 * k.val = _; rw [(index_all t).2.1]; show 0 * 1024 + 1 * k.val = k.val; omega
  · show win0_1.index t 1 * 1024 + 1 * j.val = _; rw [(index_all t).2.1]; show t.val * 1024 + 1 * j.val = t.val * 1024 + j.val; omega

theorem bB_apply (t : Fin cfg0.N) (j : Fin 1024) : (iblk m c 2 t (ix2 (0 : Fin 1) j) : EReal) = aB m c (ix1 (colN t j)) := by
  rw [← bCast_apply (aB m c), ← (host_arrays m c).2.2]
  unfold iblk
  rw [View.read_apply]
  show V m c main_v6 _ = V m c main_v6 _
  refine congrArg (V m c main_v6) (idx_eq _ _ _ ?_ ?_)
  · show win0_2.index t 0 * 1 + 1 * 0 = _; rw [(index_all t).2.2.1]; rfl
  · show win0_2.index t 1 * 1024 + 1 * j.val = _; rw [(index_all t).2.2.1]; show t.val * 1024 + 1 * j.val = t.val * 1024 + j.val; omega

theorem lB_apply (t : Fin cfg0.N) (p : Fin 4) (i : Fin 64) : (iblk m c 3 t (ix2 p i) : EReal) = lamRows (aQ1 m c) (aK1 m c) (aQ2 m c) (aK2 m c) (ix2 p i) := by
  rw [← (host_arrays m c).2.1]
  unfold iblk
  rw [View.read_apply]
  show V m c main_v5 _ = V m c main_v5 _
  refine congrArg (V m c main_v5) (idx_eq _ _ _ ?_ ?_)
  · show win0_3.index t 0 * 4 + 1 * p.val = _; rw [(index_all t).2.2.2.1]; show 0 * 4 + 1 * p.val = p.val; omega
  · show win0_3.index t 1 * 64 + 1 * i.val = _; rw [(index_all t).2.2.2.1]; show 0 * 64 + 1 * i.val = i.val; omega

/-! ## A tile's two outputs, and the arrays the call leaves -/

/-- The modulation of this call. -/
abbrev modM : FVec Ideal S16x6144 .f32 := modAll (aP m c) (aS m c) (aW m c) (aB m c)

/-- The factor of this call. -/
abbrev lamM : FVec Ideal S8x128 .f32 := lamAll (aQ1 m c) (aK1 m c) (aQ2 m c) (aK2 m c)

section
variable (hc : ∀ r k, condV (aP m c) (aS m c) r k ≠ ⊤ ∧ condV (aP m c) (aS m c) r k ≠ ⊥) (hw : ∀ k f, aW m c (ix2 k f) ≠ ⊤ ∧ aW m c (ix2 k f) ≠ ⊥)
include hc hw

theorem mod_block (t : Fin cfg0.N) (r : Fin 16) (j : Fin 1024) : (k0_pay2 (iblk m c 0 t) (iblk m c 1 t) (iblk m c 2 t) (ix2 r j) : EReal) = modM m c (ix2 r (colN t j)) := by
  refine (mod_apply _ _ _ r j (fun k => ?_) (fun k => ?_)).trans ?_
  · rw [cB_apply]; exact hc r k
  · rw [wB_apply]; exact hw k (colN t j)
  rw [funext fun k => cB_apply m c t r k, funext fun k => wB_apply m c t k j, bB_apply]
  rfl

theorem arr_mod : (dats m 0 c).arrAt 4 cfg0.N = modM m c := by
  refine (dats m 0 c).arrAt_eq_of_covers 4 _ (by decide +kernel) fun t hf y => ?_
  blk_simp
  rw [after_mod]
  refine (congrArg (k0_pay2 (iblk m c 0 t) (iblk m c 1 t) (iblk m c 2 t)) (idx_eq y (y 0) (y 1) rfl rfl)).trans ((mod_block m c hc hw t (y 0) (y 1)).trans ?_)
  refine congrArg (modM m c) (idx_eq _ _ _ ?_ ?_).symm
  · show win0_4.index t 0 * 16 + 1 * (y 0).val = _; rw [(index_all t).2.2.2.2.1]; show 0 * 16 + 1 * (y 0).val = (y 0).val; omega
  · show win0_4.index t 1 * 1024 + 1 * (y 1).val = _; rw [(index_all t).2.2.2.2.1]; show t.val * 1024 + 1 * (y 1).val = t.val * 1024 + (y 1).val; omega

end

theorem lam_block (t : Fin cfg0.N) (r : Fin 8) (j : Fin 128) : (k0_pay1 (k0_pay4 (iblk m c 3 t)) (k0_pay5 (iblk m c 3 t)) (ix2 r j) : EReal) = lamM m c (ix2 r j) := by
  refine (lam_apply _ r j).trans ?_
  simp only [lB_apply, (lamRows_apply _ _ _ _ _).1, (lamRows_apply _ _ _ _ _).2.1, (lamRows_apply _ _ _ _ _).2.2.1, (lamRows_apply _ _ _ _ _).2.2.2]
  rfl

theorem arr_lam : (dats m 0 c).arrAt 5 cfg0.N = lamM m c := by
  refine (dats m 0 c).arrAt_eq_of_covers 5 _ (by decide +kernel) fun t hf y => ?_
  blk_simp
  rw [after_lam]
  refine (congrArg (k0_pay1 (k0_pay4 (iblk m c 3 t)) (k0_pay5 (iblk m c 3 t))) (idx_eq y (y 0) (y 1) rfl rfl)).trans ((lam_block m c t (y 0) (y 1)).trans ?_)
  rfl

end Cert.Kernel4Ideal.Ada

end
-- ==== Proof.AdaRef.lean ====
module

public import proofs.«01_k».proof.Proof.AdaSpec
public import proofs.«01_k».proof.Proof.Gen.Reference4Ideal.Run
public import Idealize.ShloMosaic.Lib.Pointwise
public import Idealize.ShloMosaic.Lib.Pointwise.IndexVar
public import Idealize.ShloMosaic.Lib.Pointwise.IndexBridge
public import Idealize.ShloMosaic.Lib.IdealHost

@[expose] public section

set_option maxRecDepth 65536
set_option maxHeartbeats 4000000

noncomputable section

namespace Cert.Reference4Ideal.Ada

open Idealize.ShloMosaic Idealize.ShloMosaic.TcCoe Idealize.ShloMosaic.Tactic
open Cert.AdaSpec
open Cert.Reference4Ideal Cert.Reference4Ideal.Gen

/-! ## The reference's results, by their own lines, read at an index -/

theorem one_bits : Ideal.ofBits FTy.f32 1065353216#32 = 1 := by
  pointwise

/-- The modulation of one batch's rows. -/
def halfR (c : FVec Ideal S8x1024 .f32) (w : FVec Ideal S1024x6144 .f32) (b : FVec Ideal S6144 .f32) : FVec Ideal S8x6144 .f32 :=
  addf (Host.dotGeneral dot_S8x1024_S1024x6144_S8x6144_1_0_0_1_n_n none
    (mulf c (Host.divf (broadcastInDim S8x1024 ![] bcast_S_S8x1024 (constant S_ .f32 0x3F800000#32))
      (addf (broadcastInDim S8x1024 ![] bcast_S_S8x1024 (constant S_ .f32 0x3F800000#32)) (Host.exp (Host.negf c))))) w)
    (broadcastInDim S8x6144 ![0, 1] bcast_S1x6144_S8x6144_0_1 (broadcastInDim S1x6144 ![1] bcast_S6144_S1x6144_1 b))

/-- Both batches' rows, the prompt's first. -/
def modR (cp cs : FVec Ideal S8x1024 .f32) (w : FVec Ideal S1024x6144 .f32) (b : FVec Ideal S6144 .f32) : FVec Ideal S16x6144 .f32 :=
  concatenate S16x6144 0 [⟨S8x6144, halfR cp w b⟩, ⟨S8x6144, halfR cs w b⟩] concatenates_S8x6144_S8x6144_S16x6144_d0

/-- The factor's tile. -/
def lamR (q1 k1 q2 k2 : FVec Ideal S64 .f32) : FVec Ideal S8x128 .f32 :=
  broadcastInDim S8x128 ![] bcast_S_S8x128 (addf (subf (Host.exp (Host.reduceAdd (mulf q1 k1) (constant S_ .f32 0x00000000#32) reducesTo_S64_S_d0 h_S_))
    (Host.exp (Host.reduceAdd (mulf q2 k2) (constant S_ .f32 0x00000000#32) reducesTo_S64_S_d0 h_S_))) (constant S_ .f32 0x3E4CCCCD#32))

theorem halfR_apply (c : FVec Ideal S8x1024 .f32) (w : FVec Ideal S1024x6144 .f32) (b : FVec Ideal S6144 .f32) (r : Fin 8) (f : Fin 6144) :
    (halfR c w b (ix2 r f) : EReal) = adaV (fun k => c (ix2 r k)) (fun k => w (ix2 k f)) (b (ix1 f)) := by
  unfold adaV
  simp only [← silu_mul]
  pointwise [halfR]

theorem modR_low (cp cs : FVec Ideal S8x1024 .f32) (w : FVec Ideal S1024x6144 .f32) (b : FVec Ideal S6144 .f32) (r : Fin 8) (f : Fin 6144) :
    modR cp cs w b (ix2 (⟨r.val, by omega⟩ : Fin 16) f) = halfR cp w b (ix2 r f) := by
  unfold modR
  generalize halfR cp w b = A
  pointwise

theorem modR_high (cp cs : FVec Ideal S8x1024 .f32) (w : FVec Ideal S1024x6144 .f32) (b : FVec Ideal S6144 .f32) (r : Fin 8) (f : Fin 6144) :
    modR cp cs w b (ix2 (⟨8 + r.val, by omega⟩ : Fin 16) f) = halfR cs w b (ix2 r f) := by
  unfold modR
  generalize halfR cs w b = A
  pointwise

theorem lamR_apply (q1 k1 q2 k2 : FVec Ideal S64 .f32) (r : Fin 8) (f : Fin 128) :
    (lamR q1 k1 q2 k2 (ix2 r f) : EReal) = lamV (fun i => q1 (ix1 i)) (fun i => k1 (ix1 i)) (fun i => q2 (ix1 i)) (fun i => k2 (ix1 i)) := by
  unfold lamV
  pointwise [lamR]

/-- The whole modulation. -/
theorem modR_eq (cp cs : FVec Ideal S8x1024 .f32) (w : FVec Ideal S1024x6144 .f32) (b : FVec Ideal S6144 .f32) : modR cp cs w b = modAll cp cs w b := by
  funext i
  have hi : (i 0).val < 16 := (i 0).isLt
  by_cases h : (i 0).val < 8
  · refine (congrArg (modR cp cs w b) ?_).trans ((modR_low cp cs w b ⟨(i 0).val, h⟩ (i 1)).trans ((halfR_apply cp w b ⟨(i 0).val, h⟩ (i 1)).trans ?_))
    · funext a
      match a with
      | ⟨0, _⟩ => rfl
      | ⟨1, _⟩ => rfl
    · refine congrArg (fun p => adaV p _ _) (funext fun k => ?_)
      unfold condV
      rw [dif_pos h]
  · refine (congrArg (modR cp cs w b) ?_).trans ((modR_high cp cs w b ⟨(i 0).val - 8, by omega⟩ (i 1)).trans ((halfR_apply cs w b ⟨(i 0).val - 8, by omega⟩ (i 1)).trans ?_))
    · funext a
      match a with
      | ⟨0, _⟩ => exact Fin.ext (by show (i 0).val = 8 + ((i 0).val - 8); omega)
      | ⟨1, _⟩ => rfl
    · refine congrArg (fun p => adaV p _ _) (funext fun k => ?_)
      unfold condV
      rw [dif_neg h]

/-- The whole tile of the factor. -/
theorem lamR_eq (q1 k1 q2 k2 : FVec Ideal S64 .f32) : lamR q1 k1 q2 k2 = lamAll q1 k1 q2 k2 := by
  funext i
  refine (congrArg (lamR q1 k1 q2 k2) ?_).trans (lamR_apply q1 k1 q2 k2 (i 0) (i 1))
  funext a
  match a with
  | ⟨0, _⟩ => rfl
  | ⟨1, _⟩ => rfl

end Cert.Reference4Ideal.Ada

end
-- ==== Proof.AdaFinal.lean ====
module

public import proofs.«01_k».proof.Proof.AdaPre
public import proofs.«01_k».proof.Proof.AdaBlocks
public import proofs.«01_k».proof.Proof.AdaRef
public import proofs.«01_k».proof.Proof.Frames
public import proofs.«01_k».proof.Proof.Gen.Kernel4.Frame

@[expose] public section

set_option maxRecDepth 65536
set_option maxHeartbeats 4000000

noncomputable section

namespace Cert.Proof

open Idealize.ShloMosaic Idealize.ShloMosaic.TcCoe Idealize.SL.Sem
open Idealize.ShloMosaic.Pipeline (FramePost)

/-- The modulation's reference leaves its arguments and its counters as they were. -/
theorem frame_reference_ada : Cert.quiescent_Reference4Ideal := fun m ρ _ =>
  (θ_run Reference4Ideal.defs _ _).mono (fun r h => ⟨fun c => (h c).2.2, sem_eq_zero_of_no_sems (by decide) r.2⟩) (Cert.Reference4Ideal.Value.run (F := Ideal) m ρ)

variable [Cert.Pre_finite_modulation.Facts]

theorem frame_ideal_finite : Cert.quiescent_Kernel4Ideal_pre_finite_modulation := fun m ρ _ => Cert.Kernel4Ideal.Gen.frame m ρ

theorem frame_reference_finite : Cert.quiescent_Reference4Ideal_pre_finite_modulation := fun m ρ _ => frame_reference_ada m ρ trivial

/-- The modulation and the factor are the reference's, where the conditioning and the weight are finite. -/
theorem algebraic_ada : Cert.algebraic_Kernel4Ideal_Reference4Ideal_pre_finite_modulation := by
  intro m g m' g' hpre hm
  refine ⟨fun c => Kernel4Ideal.Ada.modM m c, fun c => Kernel4Ideal.Ada.lamM m c, ?_, ?_⟩
  · refine (θ_run Kernel4Ideal.defs _ _).mono (fun r h c => ?_) (θ_run_and (Kernel4Ideal.Gen.unchanged m g) (Kernel4Ideal.Gen.run_main m g))
    exact ⟨((h.2 c).1 4).trans (Kernel4Ideal.Ada.arr_mod m c (Cert.Pre_finite_modulation.fn_cond _ _ _ _ _ _ _ _ (hpre c)) (Cert.Pre_finite_modulation.fn_weight _ _ _ _ _ _ _ _ (hpre c))),
      ((h.2 c).1 5).trans (Kernel4Ideal.Ada.arr_lam m c), h.1 c⟩
  · refine (θ_run Reference4Ideal.defs _ _).mono (fun r h c => ?_) (Cert.Reference4Ideal.Value.run (F := Ideal) m' g')
    obtain ⟨h0, h1, h2, h3, h4, h5, h6, h7⟩ := hm c
    obtain ⟨r0, r1, hu⟩ := h c
    refine ⟨(r0.trans (Reference4Ideal.Ada.modR_eq _ _ _ _)).trans ?_, (r1.trans (Reference4Ideal.Ada.lamR_eq _ _ _ _)).trans ?_, hu⟩ <;>
    simp only [h0, h1, h2, h3, h4, h5, h6, h7]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Frames
public import proofs.«01_k».proof.Proof.Value
public import proofs.«01_k».proof.Proof.ProjFinal
public import proofs.«01_k».proof.Proof.OutFinal
public import proofs.«01_k».proof.Proof.AdaFinal
public import Idealize.ShloMosaic.Adequacy
public import Idealize.ShloMosaic.Init

@[expose] public section

noncomputable section

namespace Cert.Proof

open Idealize.ShloMosaic Idealize.SL.Sem Cert.Kernel

theorem claim : Cert.Claim :=
  haveI := Cert.Pre_routed_gates.facts
  haveI := Cert.Pre_finite_modulation.facts
  haveI := Cert.Pre_finite_router.facts
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_routed_gates.facts, Cert.Pre_finite_router.facts, Cert.Pre_finite_modulation.facts,
    frame_kernel, frame_ideal, frame_ideal_routed, frame_reference, frame_reference_routed,
    fun m ρ _ => Cert.Kernel2.Gen.frame m ρ, fun m ρ _ => Cert.Kernel2Ideal.Gen.frame m ρ, frame_reference_proj,
    fun m ρ _ => Cert.Kernel3.Gen.frame m ρ, fun m ρ _ => Cert.Kernel3Ideal.Gen.frame m ρ, frame_ideal_router, frame_reference_out, frame_reference_router,
    fun m ρ _ => Cert.Kernel4.Gen.frame m ρ, fun m ρ _ => Cert.Kernel4Ideal.Gen.frame m ρ, frame_ideal_finite, frame_reference_ada, frame_reference_finite,
    trivial, algebraic, trivial, algebraic_proj, trivial, algebraic_out, trivial, algebraic_ada⟩

end Cert.Proof

end
